-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "freq_step" .f32 0xBE935D8E#32 (((-(32⁻¹)) * (Real.log 10000) : ℝ) : EReal)
  ∧ IdealRules.named_const.Statement Cert.KernelIdeal.κ "scale_log2_e" .f32 0x3E38AA3B#32 ((8⁻¹ * (Real.log 2)⁻¹ : ℝ) : EReal)
  ∧ IdealRules.named_const.Statement Cert.KernelIdeal.κ "masked" .f32 0xF149F2CA#32 ⊥
  ∧ IdealRules.named_const.Statement Cert.KernelIdeal.κ "log2_e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S32768x10752 : Shape := ⟨2, ![32768, 10752]⟩
abbrev S4x8192 : Shape := ⟨2, ![4, 8192]⟩
abbrev S1x32 : Shape := ⟨2, ![1, 32]⟩
abbrev S1x2048x2048 : Shape := ⟨3, ![1, 2048, 2048]⟩
abbrev S32768x2304 : Shape := ⟨2, ![32768, 2304]⟩
abbrev S_ : Shape := ⟨0, ![]⟩

class Facts : Prop where
  slices_S32768x10752_S32768x2304_0_4096 : S32768x10752.Slices ![0, 4096] S32768x2304
  bitsLt_bf16_f32 : FTy.bits .bf16 < FTy.bits .f32
  bcast_S_S32768x2304 : S_.BroadcastsInDim S32768x2304 (![] : Fin 0 → Fin S32768x2304.rank)
  reducesTo_S32768x2304_S_d0_1 : S32768x2304.ReducesTo [0, 1] S_
  h_S_ : 0 < S_.numel
  bcast_S_S1x32 : S_.BroadcastsInDim S1x32 (![] : Fin 0 → Fin S1x32.rank)
  reducesTo_S1x32_S_d0_1 : S1x32.ReducesTo [0, 1] S_

variable [Facts]

def fn {F : FTy → Type} [FloatOps F] (main_arg0 : FVec F S32768x10752 .bf16) (main_arg1 : IVec S4x8192 32) (main_arg2 : FVec F S1x32 .f32) (main_arg3 : FVec F S1x2048x2048 .f32) : IVec S_ 1 :=
  let main_v0 : FVec F S32768x2304 .bf16 := (extractStridedSlice S32768x2304 ![0, 4096] · slices_S32768x10752_S32768x2304_0_4096) main_arg0
  let main_v1 : FVec F S32768x2304 .f32 := (extf .f32 · bitsLt_bf16_f32) main_v0
  let main_v2 : FVec F S32768x2304 .f32 := Host.absf main_v1
  let main_cst : FVec F S_ .f32 := constant S_ .f32 0x7F800000#32
  let main_v3 : FVec F S32768x2304 .f32 := broadcastInDim S32768x2304 ![] bcast_S_S32768x2304 main_cst
  let main_v4 : IVec S32768x2304 1 := cmpf .olt main_v2 main_v3
  let main_c : IVec S_ 1 := constantI S_ 1 1#1
  let main_v5 : IVec S_ 1 := (fun x v => Host.reduce IntOp.andi x v reducesTo_S32768x2304_S_d0_1 h_S_) main_v4 main_c
  let main_v6 : FVec F S1x32 .f32 := Host.absf main_arg2
  let main_cst_0 : FVec F S_ .f32 := constant S_ .f32 0x7F800000#32
  let main_v7 : FVec F S1x32 .f32 := broadcastInDim S1x32 ![] bcast_S_S1x32 main_cst_0
  let main_v8 : IVec S1x32 1 := cmpf .olt main_v6 main_v7
  let main_c_1 : IVec S_ 1 := constantI S_ 1 1#1
  let main_v9 : IVec S_ 1 := (fun x v => Host.reduce IntOp.andi x v reducesTo_S1x32_S_d0_1 h_S_) main_v8 main_c_1
  let main_v10 : IVec S_ 1 := andi main_v5 main_v9
  main_v10
-- ==== Kernel.lean ====
abbrev S32768x10752 : Shape := ⟨2, ![32768, 10752]⟩
abbrev S4x8192 : Shape := ⟨2, ![4, 8192]⟩
abbrev S1x32 : Shape := ⟨2, ![1, 32]⟩
abbrev S1x2048x2048 : Shape := ⟨3, ![1, 2048, 2048]⟩
abbrev S32768x1 : Shape := ⟨2, ![32768, 1]⟩
abbrev S32 : Shape := ⟨1, ![32]⟩
abbrev S2048x2048 : Shape := ⟨2, ![2048, 2048]⟩
abbrev S32768x2048 : Shape := ⟨2, ![32768, 2048]⟩
abbrev S256x2048 : Shape := ⟨2, ![256, 2048]⟩
abbrev S256x512 : Shape := ⟨2, ![256, 512]⟩
abbrev S128x512 : Shape := ⟨2, ![128, 512]⟩
abbrev S256x1 : Shape := ⟨2, ![256, 1]⟩
abbrev S128x256 : Shape := ⟨2, ![128, 256]⟩
abbrev S2x256x2048 : Shape := ⟨3, ![2, 256, 2048]⟩
abbrev S1x256x2048 : Shape := ⟨3, ![1, 256, 2048]⟩
abbrev S1x128 : Shape := ⟨2, ![1, 128]⟩
abbrev S256x128 : Shape := ⟨2, ![256, 128]⟩
abbrev S512x128 : Shape := ⟨2, ![512, 128]⟩
abbrev S128x128 : Shape := ⟨2, ![128, 128]⟩
abbrev S4608x128 : Shape := ⟨2, ![4608, 128]⟩
abbrev S2048x512 : Shape := ⟨2, ![2048, 512]⟩
abbrev S128x1 : Shape := ⟨2, ![128, 1]⟩
abbrev S512x512 : Shape := ⟨2, ![512, 512]⟩
abbrev S1 : Shape := ⟨1, ![1]⟩
abbrev S128 : Shape := ⟨1, ![128]⟩
abbrev S512x256 : Shape := ⟨2, ![512, 256]⟩
abbrev S1x128x128 : Shape := ⟨3, ![1, 128, 128]⟩

abbrev nBuf : Space → Nat
  | .hbm => 9
  | .vmem => 21
  | .smem => 1
  | _ => 0

abbrev bufTy : (tb : Table) → Fin (tcTables nBuf tb) → BufTy
  | .hbm, ⟨0, _⟩ => ⟨S32768x10752, .bf16⟩
  | .hbm, ⟨1, _⟩ => ⟨S4x8192, .i32⟩
  | .hbm, ⟨2, _⟩ => ⟨S1x32, .f32⟩
  | .hbm, ⟨3, _⟩ => ⟨S1x2048x2048, .f32⟩
  | .hbm, ⟨4, _⟩ => ⟨S32768x1, .i32⟩
  | .hbm, ⟨5, _⟩ => ⟨S32, .f32⟩
  | .hbm, ⟨6, _⟩ => ⟨S2048x2048, .f32⟩
  | .hbm, ⟨7, _⟩ => ⟨S2048x2048, .bf16⟩
  | .hbm, ⟨8, _⟩ => ⟨S32768x2048, .bf16⟩
  | .local _ .vmem, ⟨0, _⟩ => ⟨S256x2048, .bf16⟩
  | .local _ .vmem, ⟨1, _⟩ => ⟨S256x2048, .bf16⟩
  | .local _ .vmem, ⟨2, _⟩ => ⟨S256x512, .bf16⟩
  | .local _ .vmem, ⟨3, _⟩ => ⟨S256x512, .bf16⟩
  | .local _ .vmem, ⟨4, _⟩ => ⟨S128x512, .bf16⟩
  | .local _ .vmem, ⟨5, _⟩ => ⟨S128x512, .bf16⟩
  | .local _ .vmem, ⟨6, _⟩ => ⟨S256x1, .i32⟩
  | .local _ .vmem, ⟨7, _⟩ => ⟨S256x1, .i32⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S2048x2048, .bf16⟩
  | .local _ .vmem, ⟨17, _⟩ => ⟨S256x2048, .bf16⟩
  | .local _ .vmem, ⟨18, _⟩ => ⟨S256x2048, .bf16⟩
  | .local _ .vmem, ⟨19, _⟩ => ⟨S128x256, .f32⟩
  | .local _ .vmem, ⟨20, _⟩ => ⟨S2x256x2048, .bf16⟩
  | .local _ .smem, ⟨0, _⟩ => ⟨S32, .f32⟩
  | _, _ => ⟨S32768x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![129], ![false]⟩

def k0_off1 (i : grid0.Coords) : Fin 3 → Nat :=
  let c1_i32_13 : BitVec 32 := 1#32
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v27 : BitVec 32 := Scalar.subi c1_i32_13 v26
  let v28 : Index := Scalar.indexCast v27
  let c0 : Index := 0#32
  let c0_14 : Index := 0#32
  ![v28.toNat, 0, 0]
def k0_off2 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v489 : Index := Scalar.indexCast v26
  let c0_147 : Index := 0#32
  let c0_148 : Index := 0#32
  ![v489.toNat, 0, 0]
def k0_off3 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v498 : Index := Scalar.indexCast v26
  let c0_149 : Index := 0#32
  let c128_150 : Index := 128#32
  ![v498.toNat, 0, 128]
def k0_off4 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v507 : Index := Scalar.indexCast v26
  let c0_151 : Index := 0#32
  let c256_152 : Index := 256#32
  ![v507.toNat, 0, 256]
def k0_off5 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v516 : Index := Scalar.indexCast v26
  let c0_153 : Index := 0#32
  let c384_154 : Index := 384#32
  ![v516.toNat, 0, 384]
def k0_off6 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v711 : Index := Scalar.indexCast v26
  let c0_180 : Index := 0#32
  let c512_181 : Index := 512#32
  ![v711.toNat, 0, 512]
def k0_off7 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v720 : Index := Scalar.indexCast v26
  let c0_182 : Index := 0#32
  let c640_183 : Index := 640#32
  ![v720.toNat, 0, 640]
def k0_off8 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v729 : Index := Scalar.indexCast v26
  let c0_184 : Index := 0#32
  let c768_185 : Index := 768#32
  ![v729.toNat, 0, 768]
def k0_off9 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v738 : Index := Scalar.indexCast v26
  let c0_186 : Index := 0#32
  let c896_187 : Index := 896#32
  ![v738.toNat, 0, 896]
def k0_off10 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v924 : Index := Scalar.indexCast v26
  let c0_206 : Index := 0#32
  let c1024_207 : Index := 1024#32
  ![v924.toNat, 0, 1024]
def k0_off11 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v933 : Index := Scalar.indexCast v26
  let c0_208 : Index := 0#32
  let c1152_209 : Index := 1152#32
  ![v933.toNat, 0, 1152]
def k0_off12 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v942 : Index := Scalar.indexCast v26
  let c0_210 : Index := 0#32
  let c1280_211 : Index := 1280#32
  ![v942.toNat, 0, 1280]
def k0_off13 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v951 : Index := Scalar.indexCast v26
  let c0_212 : Index := 0#32
  let c1408_213 : Index := 1408#32
  ![v951.toNat, 0, 1408]
def k0_off14 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v1124 : Index := Scalar.indexCast v26
  let c0_238 : Index := 0#32
  let c1536_239 : Index := 1536#32
  ![v1124.toNat, 0, 1536]
def k0_off15 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v1133 : Index := Scalar.indexCast v26
  let c0_240 : Index := 0#32
  let c1664_241 : Index := 1664#32
  ![v1133.toNat, 0, 1664]
def k0_off16 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v1142 : Index := Scalar.indexCast v26
  let c0_242 : Index := 0#32
  let c1792_243 : Index := 1792#32
  ![v1142.toNat, 0, 1792]
def k0_off17 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v1151 : Index := Scalar.indexCast v26
  let c0_244 : Index := 0#32
  let c1920_245 : Index := 1920#32
  ![v1151.toNat, 0, 1920]
def k0_off18 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v1497 : Index := Scalar.indexCast v26
  let c128_314 : Index := 128#32
  let c0_315 : Index := 0#32
  ![v1497.toNat, 128, 0]
def k0_off19 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v1506 : Index := Scalar.indexCast v26
  let c128_316 : Index := 128#32
  let c128_317 : Index := 128#32
  ![v1506.toNat, 128, 128]
def k0_off20 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v1515 : Index := Scalar.indexCast v26
  let c128_318 : Index := 128#32
  let c256_319 : Index := 256#32
  ![v1515.toNat, 128, 256]
def k0_off21 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v1524 : Index := Scalar.indexCast v26
  let c128_320 : Index := 128#32
  let c384_321 : Index := 384#32
  ![v1524.toNat, 128, 384]
def k0_off22 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v1719 : Index := Scalar.indexCast v26
  let c128_355 : Index := 128#32
  let c512_356 : Index := 512#32
  ![v1719.toNat, 128, 512]
def k0_off23 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v1728 : Index := Scalar.indexCast v26
  let c128_357 : Index := 128#32
  let c640_358 : Index := 640#32
  ![v1728.toNat, 128, 640]
def k0_off24 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v1737 : Index := Scalar.indexCast v26
  let c128_359 : Index := 128#32
  let c768_360 : Index := 768#32
  ![v1737.toNat, 128, 768]
def k0_off25 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v1746 : Index := Scalar.indexCast v26
  let c128_361 : Index := 128#32
  let c896_362 : Index := 896#32
  ![v1746.toNat, 128, 896]
def k0_off26 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v1932 : Index := Scalar.indexCast v26
  let c128_389 : Index := 128#32
  let c1024_390 : Index := 1024#32
  ![v1932.toNat, 128, 1024]
def k0_off27 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v1941 : Index := Scalar.indexCast v26
  let c128_391 : Index := 128#32
  let c1152_392 : Index := 1152#32
  ![v1941.toNat, 128, 1152]
def k0_off28 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v1950 : Index := Scalar.indexCast v26
  let c128_393 : Index := 128#32
  let c1280_394 : Index := 1280#32
  ![v1950.toNat, 128, 1280]
def k0_off29 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v1959 : Index := Scalar.indexCast v26
  let c128_395 : Index := 128#32
  let c1408_396 : Index := 1408#32
  ![v1959.toNat, 128, 1408]
def k0_off30 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v2123 : Index := Scalar.indexCast v26
  let c128_422 : Index := 128#32
  let c1536_423 : Index := 1536#32
  ![v2123.toNat, 128, 1536]
def k0_off31 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v2132 : Index := Scalar.indexCast v26
  let c128_424 : Index := 128#32
  let c1664_425 : Index := 1664#32
  ![v2132.toNat, 128, 1664]
def k0_off32 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v2141 : Index := Scalar.indexCast v26
  let c128_426 : Index := 128#32
  let c1792_427 : Index := 1792#32
  ![v2141.toNat, 128, 1792]
def k0_off33 (i : grid0.Coords) : Fin 3 → Nat :=
  let arg0 : BitVec 32 := BitVec.ofNat 32 (i 0).val
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi arg0 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let v2150 : Index := Scalar.indexCast v26
  let c128_428 : Index := 128#32
  let c1920_429 : Index := 1920#32
  ![v2150.toNat, 128, 1920]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c127_i32 : BitVec 32 := 127#32
  let v0 : BitVec 32 := Scalar.minsi arg0 c127_i32
  let c2_i32 : BitVec 32 := 2#32
  let c0_i32 : BitVec 32 := 0#32
  ![v0.toNat, c2_i32.toNat]

def cc0_transform_2 (i : grid0.Coords) : Fin 2 → Nat :=
  let arg0 : BitVec 32 := BitVec.ofNat 32 (i 0).val
  let c127_i32 : BitVec 32 := 127#32
  let v0 : BitVec 32 := Scalar.minsi arg0 c127_i32
  let c12_i32 : BitVec 32 := 12#32
  let c0_i32 : BitVec 32 := 0#32
  ![v0.toNat, c12_i32.toNat]

def cc0_transform_3 (i : grid0.Coords) : Fin 2 → Nat :=
  let arg0 : BitVec 32 := BitVec.ofNat 32 (i 0).val
  let c127_i32 : BitVec 32 := 127#32
  let v0 : BitVec 32 := Scalar.minsi arg0 c127_i32
  let c2_i32 : BitVec 32 := 2#32
  let v1 : BitVec 32 := Scalar.muli v0 c2_i32
  let c1_i32 : BitVec 32 := 1#32
  let v2 : BitVec 32 := Scalar.subi v1 c1_i32
  let c0_i32 : BitVec 32 := 0#32
  let v3 : BitVec 32 := Scalar.maxsi v2 c0_i32
  let c12_i32 : BitVec 32 := 12#32
  let c0_i32_0 : BitVec 32 := 0#32
  ![v3.toNat, c12_i32.toNat]

def cc0_transform_4 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c17_i32 : BitVec 32 := 17#32
  let c0_i32_0 : BitVec 32 := 0#32
  ![v1.toNat, c17_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c18_i32 : BitVec 32 := 18#32
  let c0_i32_0 : BitVec 32 := 0#32
  ![v1.toNat, c18_i32.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c19_i32 : BitVec 32 := 19#32
  let c0_i32_0 : BitVec 32 := 0#32
  ![v1.toNat, c19_i32.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c20_i32 : BitVec 32 := 20#32
  let c0_i32_0 : BitVec 32 := 0#32
  ![v1.toNat, c20_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "freq_step" => some (((-(32⁻¹)) * (Real.log 10000) : ℝ) : EReal)
  | "log2_e" => some (((Real.log 2)⁻¹ : ℝ) : EReal)
  | "masked" => some ⊥
  | "scale_log2_e" => some ((8⁻¹ * (Real.log 2)⁻¹ : ℝ) : EReal)
  | _ => none
-- ==== ReferenceIdeal.lean ====
abbrev S32768x10752 : Shape := ⟨2, ![32768, 10752]⟩
abbrev S4x8192 : Shape := ⟨2, ![4, 8192]⟩
abbrev S1x32 : Shape := ⟨2, ![1, 32]⟩
abbrev S1x2048x2048 : Shape := ⟨3, ![1, 2048, 2048]⟩
abbrev S4x8192x10752 : Shape := ⟨3, ![4, 8192, 10752]⟩
abbrev S4x8192x2048 : Shape := ⟨3, ![4, 8192, 2048]⟩
abbrev S4x8192x256 : Shape := ⟨3, ![4, 8192, 256]⟩
abbrev S4x8192x32x64 : Shape := ⟨4, ![4, 8192, 32, 64]⟩
abbrev S32 : Shape := ⟨1, ![32]⟩
abbrev S_ : Shape := ⟨0, ![]⟩
abbrev S4x8192x1 : Shape := ⟨3, ![4, 8192, 1]⟩
abbrev S1x1x32 : Shape := ⟨3, ![1, 1, 32]⟩
abbrev S4x8192x32 : Shape := ⟨3, ![4, 8192, 32]⟩
abbrev S4x8192x1x32 : Shape := ⟨4, ![4, 8192, 1, 32]⟩
abbrev S4x8192x32x32 : Shape := ⟨4, ![4, 8192, 32, 32]⟩
abbrev S4x8192x4x64 : Shape := ⟨4, ![4, 8192, 4, 64]⟩
abbrev S4x8192x4x32 : Shape := ⟨4, ![4, 8192, 4, 32]⟩
abbrev S4x64x128x4x8x64 : Shape := ⟨6, ![4, 64, 128, 4, 8, 64]⟩
abbrev S4x64x128x4x64 : Shape := ⟨5, ![4, 64, 128, 4, 64]⟩
abbrev S4x65x128x4x64 : Shape := ⟨5, ![4, 65, 128, 4, 64]⟩
abbrev S4x64x256x4x64 : Shape := ⟨5, ![4, 64, 256, 4, 64]⟩
abbrev S4x64x4x256x128x8 : Shape := ⟨6, ![4, 64, 4, 256, 128, 8]⟩
abbrev S4x64x4x8x128x256 : Shape := ⟨6, ![4, 64, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x1x1x128x256 : Shape := ⟨6, ![1, 64, 1, 1, 128, 256]⟩
abbrev S4x8 : Shape := ⟨2, ![4, 8]⟩
abbrev S1x1x4x8x1x1 : Shape := ⟨6, ![1, 1, 4, 8, 1, 1]⟩
abbrev S4x64x4x8x128 : Shape := ⟨5, ![4, 64, 4, 8, 128]⟩
abbrev S4x64x4x8x128x1 : Shape := ⟨6, ![4, 64, 4, 8, 128, 1]⟩
abbrev S4x64x4x64x8x128 : Shape := ⟨6, ![4, 64, 4, 64, 8, 128]⟩
abbrev S2048x2048 : Shape := ⟨2, ![2048, 2048]⟩
abbrev S32768x2048 : Shape := ⟨2, ![32768, 2048]⟩

abbrev nBuf : Space → Nat
  | .hbm => 183
  | .vmem => 0
  | .smem => 0
  | _ => 0

abbrev hbmTy0_0 (i : Nat) : BufTy := match i % 128 with
  | 0 => ⟨S32768x10752, .bf16⟩
  | 1 => ⟨S4x8192, .i32⟩
  | 2 => ⟨S1x32, .f32⟩
  | 3 => ⟨S1x2048x2048, .f32⟩
  | 4 => ⟨S4x8192x10752, .bf16⟩
  | 5 => ⟨S4x8192x10752, .f32⟩
  | 6 => ⟨S4x8192x2048, .f32⟩
  | 7 => ⟨S4x8192x2048, .f32⟩
  | 8 => ⟨S4x8192x2048, .f32⟩
  | 9 => ⟨S4x8192x256, .f32⟩
  | 10 => ⟨S4x8192x256, .f32⟩
  | 11 => ⟨S4x8192x2048, .f32⟩
  | 12 => ⟨S4x8192x2048, .f32⟩
  | 13 => ⟨S4x8192x32x64, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S4x8192, .f32⟩
  | 29 => ⟨S4x8192x1, .f32⟩
  | 30 => ⟨S1x1x32, .f32⟩
  | 31 => ⟨S4x8192x32, .f32⟩
  | 32 => ⟨S4x8192x32, .f32⟩
  | 33 => ⟨S4x8192x32, .f32⟩
  | 34 => ⟨S4x8192x32, .f32⟩
  | 35 => ⟨S4x8192x1x32, .f32⟩
  | 36 => ⟨S4x8192x32, .f32⟩
  | 37 => ⟨S4x8192x1x32, .f32⟩
  | 38 => ⟨S4x8192x32x32, .f32⟩
  | 39 => ⟨S4x8192x32x32, .f32⟩
  | 40 => ⟨S4x8192x32x32, .f32⟩
  | 41 => ⟨S4x8192x32x32, .f32⟩
  | 42 => ⟨S4x8192x32x32, .f32⟩
  | 43 => ⟨S4x8192x32x32, .f32⟩
  | 44 => ⟨S4x8192x32x32, .f32⟩
  | 45 => ⟨S4x8192x32x32, .f32⟩
  | 46 => ⟨S4x8192x32x32, .f32⟩
  | 47 => ⟨S4x8192x32x32, .f32⟩
  | 48 => ⟨S4x8192x32x32, .f32⟩
  | 49 => ⟨S4x8192x32x32, .f32⟩
  | 50 => ⟨S4x8192x32x64, .f32⟩
  | 51 => ⟨S4x8192x4x64, .f32⟩
  | 52 => ⟨S32, .f32⟩
  | 53 => ⟨S_, .f32⟩
  | 54 => ⟨S32, .f32⟩
  | 55 => ⟨S32, .f32⟩
  | 56 => ⟨S_, .f32⟩
  | 57 => ⟨S32, .f32⟩
  | 58 => ⟨S32, .f32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S4x8192, .f32⟩
  | 67 => ⟨S4x8192x1, .f32⟩
  | 68 => ⟨S1x1x32, .f32⟩
  | 69 => ⟨S4x8192x32, .f32⟩
  | 70 => ⟨S4x8192x32, .f32⟩
  | 71 => ⟨S4x8192x32, .f32⟩
  | 72 => ⟨S4x8192x32, .f32⟩
  | 73 => ⟨S4x8192x1x32, .f32⟩
  | 74 => ⟨S4x8192x32, .f32⟩
  | 75 => ⟨S4x8192x1x32, .f32⟩
  | 76 => ⟨S4x8192x4x32, .f32⟩
  | 77 => ⟨S4x8192x4x32, .f32⟩
  | 78 => ⟨S4x8192x4x32, .f32⟩
  | 79 => ⟨S4x8192x4x32, .f32⟩
  | 80 => ⟨S4x8192x4x32, .f32⟩
  | 81 => ⟨S4x8192x4x32, .f32⟩
  | 82 => ⟨S4x8192x4x32, .f32⟩
  | 83 => ⟨S4x8192x4x32, .f32⟩
  | 84 => ⟨S4x8192x4x32, .f32⟩
  | 85 => ⟨S4x8192x4x32, .f32⟩
  | 86 => ⟨S4x8192x4x32, .f32⟩
  | 87 => ⟨S4x8192x4x32, .f32⟩
  | 88 => ⟨S4x8192x4x64, .f32⟩
  | 89 => ⟨S4x8192x4x64, .f32⟩
  | 90 => ⟨S32, .f32⟩
  | 91 => ⟨S4x64x128x4x8x64, .f32⟩
  | 92 => ⟨S_, .f32⟩
  | 93 => ⟨S4x64x128x4x8x64, .f32⟩
  | 94 => ⟨S4x64x128x4x8x64, .f32⟩
  | 95 => ⟨S4x64x128x4x64, .f32⟩
  | 96 => ⟨S4x64x128x4x64, .f32⟩
  | 97 => ⟨S_, .i32⟩
  | 98 => ⟨S_, .f32⟩
  | 99 => ⟨S4x65x128x4x64, .f32⟩
  | 100 => ⟨S4x64x128x4x64, .f32⟩
  | 101 => ⟨S4x64x256x4x64, .f32⟩
  | 102 => ⟨S_, .i32⟩
  | 103 => ⟨S_, .f32⟩
  | 104 => ⟨S4x65x128x4x64, .f32⟩
  | 105 => ⟨S4x64x128x4x64, .f32⟩
  | 106 => ⟨S4x64x256x4x64, .f32⟩
  | 107 => ⟨S4x64x4x256x128x8, .f32⟩
  | 108 => ⟨S4x64x4x8x128x256, .f32⟩
  | 109 => ⟨S128, .i32⟩
  | 110 => ⟨S128x1, .i32⟩
  | 111 => ⟨S256, .i32⟩
  | 112 => ⟨S1x256, .i32⟩
  | 113 => ⟨S_, .i32⟩
  | 114 => ⟨S128x1, .i32⟩
  | 115 => ⟨S128x1, .i32⟩
  | 116 => ⟨S128x256, .i32⟩
  | 117 => ⟨S128x256, .i32⟩
  | 118 => ⟨S128x256, .i32⟩
  | 119 => ⟨S_, .i32⟩
  | 120 => ⟨S128x256, .i32⟩
  | 121 => ⟨S128x256, .i1⟩
  | 122 => ⟨S_, .i32⟩
  | 123 => ⟨S128x256, .i32⟩
  | 124 => ⟨S128x256, .i1⟩
  | 125 => ⟨S128x256, .i1⟩
  | 126 => ⟨S64, .i32⟩
  | 127 => ⟨S64x1x1, .i32⟩
  | _ => ⟨S32768x10752, .bf16⟩

abbrev hbmTy0_1 (i : Nat) : BufTy := match i % 128 with
  | 0 => ⟨S_, .i32⟩
  | 1 => ⟨S64x1x1, .i32⟩
  | 2 => ⟨S64x1x1, .i1⟩
  | 3 => ⟨S_, .i32⟩
  | 4 => ⟨S1x256, .i32⟩
  | 5 => ⟨S1x256, .i1⟩
  | 6 => ⟨S1x1x256, .i1⟩
  | 7 => ⟨S64x1x256, .i1⟩
  | 8 => ⟨S64x1x256, .i1⟩
  | 9 => ⟨S64x1x256, .i1⟩
  | 10 => ⟨S1x128x256, .i1⟩
  | 11 => ⟨S64x128x256, .i1⟩
  | 12 => ⟨S64x128x256, .i1⟩
  | 13 => ⟨S64x128x256, .i1⟩
  | 14 => ⟨S1x64x1x1x128x256, .i1⟩
  | 15 => ⟨S_, .f32⟩
  | 16 => ⟨S_, .f32⟩
  | 17 => ⟨S4x64x4x8x128x256, .i1⟩
  | 18 => ⟨S4x64x4x8x128x256, .f32⟩
  | 19 => ⟨S4x64x4x8x128x256, .f32⟩
  | 20 => ⟨S4x8, .f32⟩
  | 21 => ⟨S1x1x4x8x1x1, .f32⟩
  | 22 => ⟨S_, .f32⟩
  | 23 => ⟨S4x64x4x8x128, .f32⟩
  | 24 => ⟨S4x64x4x8x128x1, .f32⟩
  | 25 => ⟨S4x64x4x8x128x1, .f32⟩
  | 26 => ⟨S4x64x4x8x128x1, .f32⟩
  | 27 => ⟨S4x64x4x8x128x256, .f32⟩
  | 28 => ⟨S4x64x4x8x128x256, .f32⟩
  | 29 => ⟨S4x64x4x8x128x256, .f32⟩
  | 30 => ⟨S_, .f32⟩
  | 31 => ⟨S4x64x4x8x128, .f32⟩
  | 32 => ⟨S4x64x4x8x128x1, .f32⟩
  | 33 => ⟨S4x64x4x8x128x1, .f32⟩
  | 34 => ⟨S4x64x4x8x128x1, .f32⟩
  | 35 => ⟨S4x64x4x8x128x1, .f32⟩
  | 36 => ⟨S4x64x4x8x128x1, .f32⟩
  | 37 => ⟨S4x64x4x8x128x256, .f32⟩
  | 38 => ⟨S4x64x4x8x128x256, .f32⟩
  | 39 => ⟨S4x64x4x64x8x128, .f32⟩
  | 40 => ⟨S4x64x128x4x8x64, .f32⟩
  | 41 => ⟨S4x8192x2048, .f32⟩
  | 42 => ⟨S4x8192x2048, .f32⟩
  | 43 => ⟨S4x8192x2048, .f32⟩
  | 44 => ⟨S_, .f32⟩
  | 45 => ⟨S4x8192x2048, .f32⟩
  | 46 => ⟨S4x8192x2048, .f32⟩
  | 47 => ⟨S_, .f32⟩
  | 48 => ⟨S4x8192x2048, .f32⟩
  | 49 => ⟨S4x8192x2048, .f32⟩
  | 50 => ⟨S2048x2048, .f32⟩
  | 51 => ⟨S4x8192x2048, .f32⟩
  | 52 => ⟨S4x8192x2048, .f32⟩
  | 53 => ⟨S32768x2048, .f32⟩
  | 54 => ⟨S32768x2048, .bf16⟩
  | _ => ⟨S32768x10752, .bf16⟩

abbrev hbmTy (i : Nat) : BufTy := match i / 128 with
  | 0 => hbmTy0_0 i
  | 1 => hbmTy0_1 i
  | _ => ⟨S32768x10752, .bf16⟩

abbrev bufTy : (tb : Table) → Fin (tcTables nBuf tb) → BufTy
  | .hbm, ⟨i, _⟩ => hbmTy i
  | _, _ => ⟨S32768x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_3 : Ref sig .tc := ⟨.hbm, 53, rfl⟩
abbrev main_v45 : Ref sig .tc := ⟨.hbm, 54, rfl⟩
abbrev main_v46 : Ref sig .tc := ⟨.hbm, 55, rfl⟩
abbrev main_cst_4 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_5 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_cst_7 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_c : Ref sig .tc := ⟨.hbm, 97, rfl⟩
abbrev main_call0_v0 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_c_8 : Ref sig .tc := ⟨.hbm, 102, rfl⟩
abbrev main_call1_v0 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_c_9 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_c_10 : Ref sig .tc := ⟨.hbm, 119, rfl⟩
abbrev main_v101 : Ref sig .tc := ⟨.hbm, 120, rfl⟩
abbrev main_v102 : Ref sig .tc := ⟨.hbm, 121, rfl⟩
abbrev main_c_11 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_c_12 : Ref sig .tc := ⟨.hbm, 128, rfl⟩
abbrev main_v108 : Ref sig .tc := ⟨.hbm, 129, rfl⟩
abbrev main_v109 : Ref sig .tc := ⟨.hbm, 130, rfl⟩
abbrev main_c_13 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_cst_14 : Ref sig .tc := ⟨.hbm, 143, rfl⟩
abbrev main_call2_v0 : Ref sig .tc := ⟨.hbm, 144, rfl⟩
abbrev main_call2_v1 : Ref sig .tc := ⟨.hbm, 145, rfl⟩
abbrev main_call2_v2 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_cst_15 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_cst_16 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_cst_17 : Ref sig .tc := ⟨.hbm, 172, rfl⟩
abbrev main_v144 : Ref sig .tc := ⟨.hbm, 173, rfl⟩
abbrev main_v145 : Ref sig .tc := ⟨.hbm, 174, rfl⟩
abbrev main_cst_18 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩

abbrev nD : Nat := 1
abbrev τ : Topo := Topo.v7x

variable {F : FTy → Type} [FloatOps F]
-- ==== Kernel2.lean ====
abbrev S32768x2048 : Shape := ⟨2, ![32768, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S2048x8192 : Shape := ⟨2, ![2048, 8192]⟩
abbrev S8192x2048 : Shape := ⟨2, ![8192, 2048]⟩
abbrev S2048x1024 : Shape := ⟨2, ![2048, 1024]⟩
abbrev S1024x2048 : Shape := ⟨2, ![1024, 2048]⟩
abbrev S8 : Shape := ⟨1, ![8]⟩
abbrev S1 : Shape := ⟨1, ![1]⟩
abbrev S_ : Shape := ⟨0, ![]⟩
abbrev S128x2048 : Shape := ⟨2, ![128, 2048]⟩
abbrev S1024 : Shape := ⟨1, ![1024]⟩
abbrev S1024x1 : Shape := ⟨2, ![1024, 1]⟩
abbrev S1024x1024 : Shape := ⟨2, ![1024, 1024]⟩
abbrev S1024x512 : Shape := ⟨2, ![1024, 512]⟩
abbrev S128 : Shape := ⟨1, ![128]⟩
abbrev S128x1 : Shape := ⟨2, ![128, 1]⟩

abbrev nBuf : Space → Nat
  | .hbm => 14
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S2048x8192, .f32⟩
  | .hbm, ⟨8, _⟩ => ⟨S2048x8192, .bf16⟩
  | .hbm, ⟨9, _⟩ => ⟨S8192x2048, .f32⟩
  | .hbm, ⟨10, _⟩ => ⟨S8192x2048, .bf16⟩
  | .hbm, ⟨11, _⟩ => ⟨S2048, .f32⟩
  | .hbm, ⟨12, _⟩ => ⟨S1x2048, .f32⟩
  | .hbm, ⟨13, _⟩ => ⟨S32768x2048, .f32⟩
  | .local _ .vmem, ⟨0, _⟩ => ⟨S1x2048, .f32⟩
  | .local _ .vmem, ⟨1, _⟩ => ⟨S2048x1024, .bf16⟩
  | .local _ .vmem, ⟨2, _⟩ => ⟨S2048x1024, .bf16⟩
  | .local _ .vmem, ⟨3, _⟩ => ⟨S1024x2048, .bf16⟩
  | .local _ .vmem, ⟨4, _⟩ => ⟨S1024x2048, .bf16⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .bf16⟩
  | .local _ .vmem, ⟨9, _⟩ => ⟨S1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (c0_i32_33 : BitVec 32) : Fin 2 → Nat :=
  let arg0 : BitVec 32 := BitVec.ofNat 32 (i 0).val
  let c1024_i32 : BitVec 32 := 1024#32
  let v45 : BitVec 32 := Scalar.muli arg0 c1024_i32
  let v46 : BitVec 32 := Scalar.addi v45 c0_i32_33
  let c0_i32_37 : BitVec 32 := 0#32
  ![v46.toNat, 0]
def k0_cond3 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_30 : BitVec 32 := 0#32
  let v41 : BitVec 1 := Scalar.cmpi .ne v40 c0_i32_30
  v41

def k0_cond4 (i : grid0.Coords) : BitVec 1 :=
  let arg0 : BitVec 32 := BitVec.ofNat 32 (i 0).val
  let c1_i32 : BitVec 32 := 1#32
  let v61 : BitVec 32 := Scalar.addi arg0 c1_i32
  let c32_i32 : BitVec 32 := 32#32
  let v62 : BitVec 1 := Scalar.cmpi .slt v61 c32_i32
  let v63 : BitVec 32 := Scalar.extui v62
  let c0_i32_42 : BitVec 32 := 0#32
  let v64 : BitVec 1 := Scalar.cmpi .ne v63 c0_i32_42
  v64

def k0_off2 (i : grid0.Coords) : Fin 2 → Nat :=
  let arg0 : BitVec 32 := BitVec.ofNat 32 (i 0).val
  let c1_i32_135 : BitVec 32 := 1#32
  let v226 : BitVec 32 := Scalar.addi arg0 c1_i32_135
  let c1024_i32 : BitVec 32 := 1024#32
  let v227 : BitVec 32 := Scalar.muli v226 c1024_i32
  let c0_i32_136 : BitVec 32 := 0#32
  let v228 : BitVec 32 := Scalar.addi v227 c0_i32_136
  let c0_i32_140 : BitVec 32 := 0#32
  ![v228.toNat, 0]
def k0_cond5 (i : grid0.Coords) : BitVec 1 :=
  let arg0 : BitVec 32 := BitVec.ofNat 32 (i 0).val
  let c1_i32_53 : BitVec 32 := 1#32
  let v84 : BitVec 32 := Scalar.addi arg0 c1_i32_53
  let c32_i32_54 : BitVec 32 := 32#32
  let v85 : BitVec 1 := Scalar.cmpi .slt v84 c32_i32_54
  let v86 : BitVec 32 := Scalar.extui v85
  let c0_i32_55 : BitVec 32 := 0#32
  let v87 : BitVec 1 := Scalar.cmpi .ne v86 c0_i32_55
  v87

def k0_off3 (i : grid0.Coords) : Fin 2 → Nat :=
  let arg0 : BitVec 32 := BitVec.ofNat 32 (i 0).val
  let c1_i32_135 : BitVec 32 := 1#32
  let v226 : BitVec 32 := Scalar.addi arg0 c1_i32_135
  let c1024_i32 : BitVec 32 := 1024#32
  let v227 : BitVec 32 := Scalar.muli v226 c1024_i32
  let c128_i32 : BitVec 32 := 128#32
  let v228 : BitVec 32 := Scalar.addi v227 c128_i32
  let c0_i32_139 : BitVec 32 := 0#32
  ![v228.toNat, 0]
def k0_cond6 (i : grid0.Coords) : BitVec 1 :=
  let arg0 : BitVec 32 := BitVec.ofNat 32 (i 0).val
  let c1_i32_66 : BitVec 32 := 1#32
  let v107 : BitVec 32 := Scalar.addi arg0 c1_i32_66
  let c32_i32_67 : BitVec 32 := 32#32
  let v108 : BitVec 1 := Scalar.cmpi .slt v107 c32_i32_67
  let v109 : BitVec 32 := Scalar.extui v108
  let c0_i32_68 : BitVec 32 := 0#32
  let v110 : BitVec 1 := Scalar.cmpi .ne v109 c0_i32_68
  v110

def k0_off4 (i : grid0.Coords) : Fin 2 → Nat :=
  let arg0 : BitVec 32 := BitVec.ofNat 32 (i 0).val
  let c1_i32_135 : BitVec 32 := 1#32
  let v226 : BitVec 32 := Scalar.addi arg0 c1_i32_135
  let c1024_i32 : BitVec 32 := 1024#32
  let v227 : BitVec 32 := Scalar.muli v226 c1024_i32
  let c256_i32 : BitVec 32 := 256#32
  let v228 : BitVec 32 := Scalar.addi v227 c256_i32
  let c0_i32_138 : BitVec 32 := 0#32
  ![v228.toNat, 0]
def k0_cond7 (i : grid0.Coords) : BitVec 1 :=
  let arg0 : BitVec 32 := BitVec.ofNat 32 (i 0).val
  let c1_i32_79 : BitVec 32 := 1#32
  let v130 : BitVec 32 := Scalar.addi arg0 c1_i32_79
  let c32_i32_80 : BitVec 32 := 32#32
  let v131 : BitVec 1 := Scalar.cmpi .slt v130 c32_i32_80
  let v132 : BitVec 32 := Scalar.extui v131
  let c0_i32_81 : BitVec 32 := 0#32
  let v133 : BitVec 1 := Scalar.cmpi .ne v132 c0_i32_81
  v133

def k0_off5 (i : grid0.Coords) : Fin 2 → Nat :=
  let arg0 : BitVec 32 := BitVec.ofNat 32 (i 0).val
  let c1_i32_135 : BitVec 32 := 1#32
  let v226 : BitVec 32 := Scalar.addi arg0 c1_i32_135
  let c1024_i32 : BitVec 32 := 1024#32
  let v227 : BitVec 32 := Scalar.muli v226 c1024_i32
  let c384_i32 : BitVec 32 := 384#32
  let v228 : BitVec 32 := Scalar.addi v227 c384_i32
  let c0_i32_138 : BitVec 32 := 0#32
  ![v228.toNat, 0]
def k0_cond8 (i : grid0.Coords) : BitVec 1 :=
  let arg0 : BitVec 32 := BitVec.ofNat 32 (i 0).val
  let c1_i32_93 : BitVec 32 := 1#32
  let v153 : BitVec 32 := Scalar.addi arg0 c1_i32_93
  let c32_i32_94 : BitVec 32 := 32#32
  let v154 : BitVec 1 := Scalar.cmpi .slt v153 c32_i32_94
  let v155 : BitVec 32 := Scalar.extui v154
  let c0_i32_95 : BitVec 32 := 0#32
  let v156 : BitVec 1 := Scalar.cmpi .ne v155 c0_i32_95
  v156

def k0_off6 (i : grid0.Coords) : Fin 2 → Nat :=
  let arg0 : BitVec 32 := BitVec.ofNat 32 (i 0).val
  let c1_i32_135 : BitVec 32 := 1#32
  let v226 : BitVec 32 := Scalar.addi arg0 c1_i32_135
  let c1024_i32 : BitVec 32 := 1024#32
  let v227 : BitVec 32 := Scalar.muli v226 c1024_i32
  let c512_i32 : BitVec 32 := 512#32
  let v228 : BitVec 32 := Scalar.addi v227 c512_i32
  let c0_i32_138 : BitVec 32 := 0#32
  ![v228.toNat, 0]
def k0_cond9 (i : grid0.Coords) : BitVec 1 :=
  let arg0 : BitVec 32 := BitVec.ofNat 32 (i 0).val
  let c1_i32_106 : BitVec 32 := 1#32
  let v176 : BitVec 32 := Scalar.addi arg0 c1_i32_106
  let c32_i32_107 : BitVec 32 := 32#32
  let v177 : BitVec 1 := Scalar.cmpi .slt v176 c32_i32_107
  let v178 : BitVec 32 := Scalar.extui v177
  let c0_i32_108 : BitVec 32 := 0#32
  let v179 : BitVec 1 := Scalar.cmpi .ne v178 c0_i32_108
  v179

def k0_off7 (i : grid0.Coords) : Fin 2 → Nat :=
  let arg0 : BitVec 32 := BitVec.ofNat 32 (i 0).val
  let c1_i32_135 : BitVec 32 := 1#32
  let v226 : BitVec 32 := Scalar.addi arg0 c1_i32_135
  let c1024_i32 : BitVec 32 := 1024#32
  let v227 : BitVec 32 := Scalar.muli v226 c1024_i32
  let c640_i32 : BitVec 32 := 640#32
  let v228 : BitVec 32 := Scalar.addi v227 c640_i32
  let c0_i32_138 : BitVec 32 := 0#32
  ![v228.toNat, 0]
def k0_cond10 (i : grid0.Coords) : BitVec 1 :=
  let arg0 : BitVec 32 := BitVec.ofNat 32 (i 0).val
  let c1_i32_119 : BitVec 32 := 1#32
  let v199 : BitVec 32 := Scalar.addi arg0 c1_i32_119
  let c32_i32_120 : BitVec 32 := 32#32
  let v200 : BitVec 1 := Scalar.cmpi .slt v199 c32_i32_120
  let v201 : BitVec 32 := Scalar.extui v200
  let c0_i32_121 : BitVec 32 := 0#32
  let v202 : BitVec 1 := Scalar.cmpi .ne v201 c0_i32_121
  v202

def k0_off8 (i : grid0.Coords) : Fin 2 → Nat :=
  let arg0 : BitVec 32 := BitVec.ofNat 32 (i 0).val
  let c1_i32_135 : BitVec 32 := 1#32
  let v226 : BitVec 32 := Scalar.addi arg0 c1_i32_135
  let c1024_i32 : BitVec 32 := 1024#32
  let v227 : BitVec 32 := Scalar.muli v226 c1024_i32
  let c768_i32 : BitVec 32 := 768#32
  let v228 : BitVec 32 := Scalar.addi v227 c768_i32
  let c0_i32_138 : BitVec 32 := 0#32
  ![v228.toNat, 0]
def k0_cond11 (i : grid0.Coords) : BitVec 1 :=
  let arg0 : BitVec 32 := BitVec.ofNat 32 (i 0).val
  let c1_i32_132 : BitVec 32 := 1#32
  let v222 : BitVec 32 := Scalar.addi arg0 c1_i32_132
  let c32_i32_133 : BitVec 32 := 32#32
  let v223 : BitVec 1 := Scalar.cmpi .slt v222 c32_i32_133
  let v224 : BitVec 32 := Scalar.extui v223
  let c0_i32_134 : BitVec 32 := 0#32
  let v225 : BitVec 1 := Scalar.cmpi .ne v224 c0_i32_134
  v225

def k0_off9 (i : grid0.Coords) : Fin 2 → Nat :=
  let arg0 : BitVec 32 := BitVec.ofNat 32 (i 0).val
  let c1_i32_135 : BitVec 32 := 1#32
  let v226 : BitVec 32 := Scalar.addi arg0 c1_i32_135
  let c1024_i32 : BitVec 32 := 1024#32
  let v227 : BitVec 32 := Scalar.muli v226 c1024_i32
  let c896_i32 : BitVec 32 := 896#32
  let v228 : BitVec 32 := Scalar.addi v227 c896_i32
  let c0_i32_139 : BitVec 32 := 0#32
  ![v228.toNat, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S32768x2048 : Shape := ⟨2, ![32768, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S2048x8192 : Shape := ⟨2, ![2048, 8192]⟩
abbrev S32768x8192 : Shape := ⟨2, ![32768, 8192]⟩
abbrev S8192x2048 : Shape := ⟨2, ![8192, 2048]⟩

abbrev nBuf : Space → Nat
  | .hbm => 48
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S1x2048, .f32⟩
  | .hbm, ⟨5, _⟩ => ⟨S2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S1x2048, .f32⟩
  | .hbm, ⟨20, _⟩ => ⟨S32768x2048, .f32⟩
  | .hbm, ⟨21, _⟩ => ⟨S32768x2048, .f32⟩
  | .hbm, ⟨22, _⟩ => ⟨S2048x8192, .f32⟩
  | .hbm, ⟨23, _⟩ => ⟨S32768x8192, .f32⟩
  | .hbm, ⟨24, _⟩ => ⟨S_, .f32⟩
  | .hbm, ⟨25, _⟩ => ⟨S32768x8192, .f32⟩
  | .hbm, ⟨26, _⟩ => ⟨S32768x8192, .f32⟩
  | .hbm, ⟨27, _⟩ => ⟨S32768x8192, .f32⟩
  | .hbm, ⟨28, _⟩ => ⟨S8192x2048, .f32⟩
  | .hbm, ⟨29, _⟩ => ⟨S32768x2048, .f32⟩
  | .hbm, ⟨30, _⟩ => ⟨S2048, .f32⟩
  | .hbm, ⟨31, _⟩ => ⟨S32768x2048, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1, .f32⟩
  | .hbm, ⟨42, _⟩ => ⟨S32768x2048, .f32⟩
  | .hbm, ⟨43, _⟩ => ⟨S32768x2048, .f32⟩
  | .hbm, ⟨44, _⟩ => ⟨S1x2048, .f32⟩
  | .hbm, ⟨45, _⟩ => ⟨S32768x2048, .f32⟩
  | .hbm, ⟨46, _⟩ => ⟨S32768x2048, .f32⟩
  | .hbm, ⟨47, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel3.lean ====
abbrev S32768x2048 : Shape := ⟨2, ![32768, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S1x2048x2048, .f32⟩
  | .hbm, ⟨3, _⟩ => ⟨S32768x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S2048, .f32⟩
  | .hbm, ⟨8, _⟩ => ⟨S1x2048, .f32⟩
  | .hbm, ⟨9, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S32768x2048 : Shape := ⟨2, ![32768, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩

abbrev nBuf : Space → Nat
  | .hbm => 28
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S1x2048x2048, .f32⟩
  | .hbm, ⟨3, _⟩ => ⟨S32768x2048, .f32⟩
  | .hbm, ⟨4, _⟩ => ⟨S1x2048, .f32⟩
  | .hbm, ⟨5, _⟩ => ⟨S32768x2048, .f32⟩
  | .hbm, ⟨6, _⟩ => ⟨S32768x2048, .f32⟩
  | .hbm, ⟨7, _⟩ => ⟨S32768x2048, .f32⟩
  | .hbm, ⟨8, _⟩ => ⟨S2048x2048, .f32⟩
  | .hbm, ⟨9, _⟩ => ⟨S32768x2048, .f32⟩
  | .hbm, ⟨10, _⟩ => ⟨S2048, .f32⟩
  | .hbm, ⟨11, _⟩ => ⟨S32768x2048, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x2048, .f32⟩
  | .hbm, ⟨23, _⟩ => ⟨S32768x2048, .f32⟩
  | .hbm, ⟨24, _⟩ => ⟨S1x2048, .f32⟩
  | .hbm, ⟨25, _⟩ => ⟨S32768x2048, .f32⟩
  | .hbm, ⟨26, _⟩ => ⟨S32768x2048, .f32⟩
  | .hbm, ⟨27, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel4.lean ====
abbrev S32768x2048 : Shape := ⟨2, ![32768, 2048]⟩
abbrev S1x2048 : Shape := ⟨2, ![1, 2048]⟩
abbrev S1x2048x10752 : Shape := ⟨3, ![1, 2048, 10752]⟩
abbrev S2048 : Shape := ⟨1, ![2048]⟩
abbrev S2048x10752 : Shape := ⟨2, ![2048, 10752]⟩
abbrev S32768x10752 : Shape := ⟨2, ![32768, 10752]⟩
abbrev S2048x1536 : Shape := ⟨2, ![2048, 1536]⟩
abbrev S2048x2048 : Shape := ⟨2, ![2048, 2048]⟩
abbrev S8 : Shape := ⟨1, ![8]⟩
abbrev S1 : Shape := ⟨1, ![1]⟩
abbrev S_ : Shape := ⟨0, ![]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩

abbrev nBuf : Space → Nat
  | .hbm => 8
  | .vmem => 7
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x10752, .f32⟩
  | .hbm, ⟨3, _⟩ => ⟨S2048, .f32⟩
  | .hbm, ⟨4, _⟩ => ⟨S1x2048, .f32⟩
  | .hbm, ⟨5, _⟩ => ⟨S2048x10752, .f32⟩
  | .hbm, ⟨6, _⟩ => ⟨S2048x10752, .bf16⟩
  | .hbm, ⟨7, _⟩ => ⟨S32768x10752, .bf16⟩
  | .local _ .vmem, ⟨0, _⟩ => ⟨S1x2048, .f32⟩
  | .local _ .vmem, ⟨1, _⟩ => ⟨S2048x1536, .bf16⟩
  | .local _ .vmem, ⟨2, _⟩ => ⟨S2048x1536, .bf16⟩
  | .local _ .vmem, ⟨3, _⟩ => ⟨S2048x1536, .bf16⟩
  | .local _ .vmem, ⟨4, _⟩ => ⟨S2048x1536, .bf16⟩
  | .local _ .vmem, ⟨5, _⟩ => ⟨S2048x2048, .bf16⟩
  | .local _ .vmem, ⟨6, _⟩ => ⟨S2048x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (c0_i32_20 : BitVec 32) : Fin 2 → Nat :=
  let arg0 : BitVec 32 := BitVec.ofNat 32 (i 0).val
  let c2048_i32 : BitVec 32 := 2048#32
  let v24 : BitVec 32 := Scalar.muli arg0 c2048_i32
  let v25 : BitVec 32 := Scalar.addi v24 c0_i32_20
  let c0_i32_24 : BitVec 32 := 0#32
  ![v25.toNat, 0]
def k0_cond3 (i : grid0.Coords) : BitVec 1 :=
  let arg0 : BitVec 32 := BitVec.ofNat 32 (i 0).val
  let c1_i32 : BitVec 32 := 1#32
  let v49 : BitVec 32 := Scalar.addi arg0 c1_i32
  let c16_i32 : BitVec 32 := 16#32
  let v50 : BitVec 1 := Scalar.cmpi .slt v49 c16_i32
  let v51 : BitVec 32 := Scalar.extui v50
  let c0_i32_34 : BitVec 32 := 0#32
  let v52 : BitVec 1 := Scalar.cmpi .ne v51 c0_i32_34
  v52

def k0_off2 (i : grid0.Coords) : Fin 2 → Nat :=
  let arg0 : BitVec 32 := BitVec.ofNat 32 (i 0).val
  let c1_i32_143 : BitVec 32 := 1#32
  let v256 : BitVec 32 := Scalar.addi arg0 c1_i32_143
  let c2048_i32_144 : BitVec 32 := 2048#32
  let v257 : BitVec 32 := Scalar.muli v256 c2048_i32_144
  let c0_i32_145 : BitVec 32 := 0#32
  let v258 : BitVec 32 := Scalar.addi v257 c0_i32_145
  let c0_i32_149 : BitVec 32 := 0#32
  ![v258.toNat, 0]
def k0_cond4 (i : grid0.Coords) : BitVec 1 :=
  let arg0 : BitVec 32 := BitVec.ofNat 32 (i 0).val
  let c1_i32_48 : BitVec 32 := 1#32
  let v78 : BitVec 32 := Scalar.addi arg0 c1_i32_48
  let c16_i32_49 : BitVec 32 := 16#32
  let v79 : BitVec 1 := Scalar.cmpi .slt v78 c16_i32_49
  let v80 : BitVec 32 := Scalar.extui v79
  let c0_i32_50 : BitVec 32 := 0#32
  let v81 : BitVec 1 := Scalar.cmpi .ne v80 c0_i32_50
  v81

def k0_off3 (i : grid0.Coords) : Fin 2 → Nat :=
  let arg0 : BitVec 32 := BitVec.ofNat 32 (i 0).val
  let c1_i32_143 : BitVec 32 := 1#32
  let v256 : BitVec 32 := Scalar.addi arg0 c1_i32_143
  let c2048_i32_144 : BitVec 32 := 2048#32
  let v257 : BitVec 32 := Scalar.muli v256 c2048_i32_144
  let c256_i32_145 : BitVec 32 := 256#32
  let v258 : BitVec 32 := Scalar.addi v257 c256_i32_145
  let c0_i32_149 : BitVec 32 := 0#32
  ![v258.toNat, 0]
def k0_cond5 (i : grid0.Coords) : BitVec 1 :=
  let arg0 : BitVec 32 := BitVec.ofNat 32 (i 0).val
  let c1_i32_64 : BitVec 32 := 1#32
  let v107 : BitVec 32 := Scalar.addi arg0 c1_i32_64
  let c16_i32_65 : BitVec 32 := 16#32
  let v108 : BitVec 1 := Scalar.cmpi .slt v107 c16_i32_65
  let v109 : BitVec 32 := Scalar.extui v108
  let c0_i32_66 : BitVec 32 := 0#32
  let v110 : BitVec 1 := Scalar.cmpi .ne v109 c0_i32_66
  v110

def k0_off4 (i : grid0.Coords) : Fin 2 → Nat :=
  let arg0 : BitVec 32 := BitVec.ofNat 32 (i 0).val
  let c1_i32_143 : BitVec 32 := 1#32
  let v256 : BitVec 32 := Scalar.addi arg0 c1_i32_143
  let c2048_i32_144 : BitVec 32 := 2048#32
  let v257 : BitVec 32 := Scalar.muli v256 c2048_i32_144
  let c512_i32_145 : BitVec 32 := 512#32
  let v258 : BitVec 32 := Scalar.addi v257 c512_i32_145
  let c0_i32_149 : BitVec 32 := 0#32
  ![v258.toNat, 0]
def k0_cond6 (i : grid0.Coords) : BitVec 1 :=
  let arg0 : BitVec 32 := BitVec.ofNat 32 (i 0).val
  let c1_i32_79 : BitVec 32 := 1#32
  let v136 : BitVec 32 := Scalar.addi arg0 c1_i32_79
  let c16_i32_80 : BitVec 32 := 16#32
  let v137 : BitVec 1 := Scalar.cmpi .slt v136 c16_i32_80
  let v138 : BitVec 32 := Scalar.extui v137
  let c0_i32_81 : BitVec 32 := 0#32
  let v139 : BitVec 1 := Scalar.cmpi .ne v138 c0_i32_81
  v139

def k0_off5 (i : grid0.Coords) : Fin 2 → Nat :=
  let arg0 : BitVec 32 := BitVec.ofNat 32 (i 0).val
  let c1_i32_143 : BitVec 32 := 1#32
  let v256 : BitVec 32 := Scalar.addi arg0 c1_i32_143
  let c2048_i32_144 : BitVec 32 := 2048#32
  let v257 : BitVec 32 := Scalar.muli v256 c2048_i32_144
  let c768_i32_145 : BitVec 32 := 768#32
  let v258 : BitVec 32 := Scalar.addi v257 c768_i32_145
  let c0_i32_149 : BitVec 32 := 0#32
  ![v258.toNat, 0]
def k0_cond7 (i : grid0.Coords) : BitVec 1 :=
  let arg0 : BitVec 32 := BitVec.ofNat 32 (i 0).val
  let c1_i32_95 : BitVec 32 := 1#32
  let v165 : BitVec 32 := Scalar.addi arg0 c1_i32_95
  let c16_i32_96 : BitVec 32 := 16#32
  let v166 : BitVec 1 := Scalar.cmpi .slt v165 c16_i32_96
  let v167 : BitVec 32 := Scalar.extui v166
  let c0_i32_97 : BitVec 32 := 0#32
  let v168 : BitVec 1 := Scalar.cmpi .ne v167 c0_i32_97
  v168

def k0_off6 (i : grid0.Coords) : Fin 2 → Nat :=
  let arg0 : BitVec 32 := BitVec.ofNat 32 (i 0).val
  let c1_i32_143 : BitVec 32 := 1#32
  let v256 : BitVec 32 := Scalar.addi arg0 c1_i32_143
  let c2048_i32_144 : BitVec 32 := 2048#32
  let v257 : BitVec 32 := Scalar.muli v256 c2048_i32_144
  let c1024_i32_145 : BitVec 32 := 1024#32
  let v258 : BitVec 32 := Scalar.addi v257 c1024_i32_145
  let c0_i32_149 : BitVec 32 := 0#32
  ![v258.toNat, 0]
def k0_cond8 (i : grid0.Coords) : BitVec 1 :=
  let arg0 : BitVec 32 := BitVec.ofNat 32 (i 0).val
  let c1_i32_110 : BitVec 32 := 1#32
  let v194 : BitVec 32 := Scalar.addi arg0 c1_i32_110
  let c16_i32_111 : BitVec 32 := 16#32
  let v195 : BitVec 1 := Scalar.cmpi .slt v194 c16_i32_111
  let v196 : BitVec 32 := Scalar.extui v195
  let c0_i32_112 : BitVec 32 := 0#32
  let v197 : BitVec 1 := Scalar.cmpi .ne v196 c0_i32_112
  v197

def k0_off7 (i : grid0.Coords) : Fin 2 → Nat :=
  let arg0 : BitVec 32 := BitVec.ofNat 32 (i 0).val
  let c1_i32_143 : BitVec 32 := 1#32
  let v256 : BitVec 32 := Scalar.addi arg0 c1_i32_143
  let c2048_i32_144 : BitVec 32 := 2048#32
  let v257 : BitVec 32 := Scalar.muli v256 c2048_i32_144
  let c1280_i32_145 : BitVec 32 := 1280#32
  let v258 : BitVec 32 := Scalar.addi v257 c1280_i32_145
  let c0_i32_149 : BitVec 32 := 0#32
  ![v258.toNat, 0]
def k0_cond9 (i : grid0.Coords) : BitVec 1 :=
  let arg0 : BitVec 32 := BitVec.ofNat 32 (i 0).val
  let c1_i32_125 : BitVec 32 := 1#32
  let v223 : BitVec 32 := Scalar.addi arg0 c1_i32_125
  let c16_i32_126 : BitVec 32 := 16#32
  let v224 : BitVec 1 := Scalar.cmpi .slt v223 c16_i32_126
  let v225 : BitVec 32 := Scalar.extui v224
  let c0_i32_127 : BitVec 32 := 0#32
  let v226 : BitVec 1 := Scalar.cmpi .ne v225 c0_i32_127
  v226

def k0_off8 (i : grid0.Coords) : Fin 2 → Nat :=
  let arg0 : BitVec 32 := BitVec.ofNat 32 (i 0).val
  let c1_i32_143 : BitVec 32 := 1#32
  let v256 : BitVec 32 := Scalar.addi arg0 c1_i32_143
  let c2048_i32_144 : BitVec 32 := 2048#32
  let v257 : BitVec 32 := Scalar.muli v256 c2048_i32_144
  let c1536_i32_145 : BitVec 32 := 1536#32
  let v258 : BitVec 32 := Scalar.addi v257 c1536_i32_145
  let c0_i32_149 : BitVec 32 := 0#32
  ![v258.toNat, 0]
def k0_cond10 (i : grid0.Coords) : BitVec 1 :=
  let arg0 : BitVec 32 := BitVec.ofNat 32 (i 0).val
  let c1_i32_140 : BitVec 32 := 1#32
  let v252 : BitVec 32 := Scalar.addi arg0 c1_i32_140
  let c16_i32_141 : BitVec 32 := 16#32
  let v253 : BitVec 1 := Scalar.cmpi .slt v252 c16_i32_141
  let v254 : BitVec 32 := Scalar.extui v253
  let c0_i32_142 : BitVec 32 := 0#32
  let v255 : BitVec 1 := Scalar.cmpi .ne v254 c0_i32_142
  v255

def k0_off9 (i : grid0.Coords) : Fin 2 → Nat :=
  let arg0 : BitVec 32 := BitVec.ofNat 32 (i 0).val
  let c1_i32_143 : BitVec 32 := 1#32
  let v256 : BitVec 32 := Scalar.addi arg0 c1_i32_143
  let c2048_i32_144 : BitVec 32 := 2048#32
  let v257 : BitVec 32 := Scalar.muli v256 c2048_i32_144
  let c1792_i32_145 : BitVec 32 := 1792#32
  let v258 : BitVec 32 := Scalar.addi v257 c1792_i32_145
  let c0_i32_149 : BitVec 32 := 0#32
  ![v258.toNat, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S32768x2048 : Shape := ⟨2, ![32768, 2048]⟩
abbrev S1x2048 : Shape := ⟨2, ![1, 2048]⟩
abbrev S1x2048x10752 : Shape := ⟨3, ![1, 2048, 10752]⟩
abbrev S2048 : Shape := ⟨1, ![2048]⟩
abbrev S_ : Shape := ⟨0, ![]⟩
abbrev S32768 : Shape := ⟨1, ![32768]⟩
abbrev S32768x1 : Shape := ⟨2, ![32768, 1]⟩
abbrev S2048x10752 : Shape := ⟨2, ![2048, 10752]⟩
abbrev S32768x10752 : Shape := ⟨2, ![32768, 10752]⟩

abbrev nBuf : Space → Nat
  | .hbm => 23
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x10752, .f32⟩
  | .hbm, ⟨3, _⟩ => ⟨S2048, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S2048x10752, .f32⟩
  | .hbm, ⟨21, _⟩ => ⟨S32768x10752, .f32⟩
  | .hbm, ⟨22, _⟩ => ⟨S32768x10752, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.KernelIdeal.Kit.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The body's first condition: the grid step is step 0. -/
abbrev cond0 (i : grid0.Coords) : Prop := (Scalar.cmpi .ne (Scalar.extui (Scalar.cmpi .eq (BitVec.ofNat 32 (i 0).val) 0#32)) 0#32) = 1#1
/-- The body's first condition, at the point `t`: `t = 0`. -/
theorem hcond0 : ∀ t : Fin cfg0.N, cond0 (grid0.coords t) ↔ t.val = 0 :=
  (by decide +kernel : ∀ t : Fin grid0.N, cond0 (grid0.coords t) ↔ t.val = 0)

/-- The body's second condition: the step is the first of its row (32 steps a row). -/
abbrev cond1 (i : grid0.Coords) : Prop := (Scalar.cmpi .ne (Scalar.extui (Scalar.cmpi .eq (Scalar.select (Scalar.andi (Scalar.xori (Scalar.cmpi .slt (Scalar.remsi (Scalar.muli (BitVec.ofNat 32 (i 0).val) 2#32) (Scalar.select (Scalar.cmpi .eq 64#32 0#32) 1#32 64#32)) 0#32) (Scalar.cmpi .slt (Scalar.select (Scalar.cmpi .eq 64#32 0#32) 1#32 64#32) 0#32)) (Scalar.cmpi .ne (Scalar.remsi (Scalar.muli (BitVec.ofNat 32 (i 0).val) 2#32) (Scalar.select (Scalar.cmpi .eq 64#32 0#32) 1#32 64#32)) 0#32)) (Scalar.addi (Scalar.remsi (Scalar.muli (BitVec.ofNat 32 (i 0).val) 2#32) (Scalar.select (Scalar.cmpi .eq 64#32 0#32) 1#32 64#32)) (Scalar.select (Scalar.cmpi .eq 64#32 0#32) 1#32 64#32)) (Scalar.remsi (Scalar.muli (BitVec.ofNat 32 (i 0).val) 2#32) (Scalar.select (Scalar.cmpi .eq 64#32 0#32) 1#32 64#32))) 0#32)) 0#32) = 1#1
/-- The body's second condition, at the point `t`: `t` is a multiple of 32. -/
theorem hcond1 : ∀ t : Fin cfg0.N, cond1 (grid0.coords t) ↔ t.val % 32 = 0 :=
  (by decide +kernel : ∀ t : Fin grid0.N, cond1 (grid0.coords t) ↔ t.val % 32 = 0)

/-- The offsets of the output scratch's read, in closed form: the other slot. -/
instance closed1 (i : grid0.Coords) : ClosedOff (k0_off1 i) := ⟨![((i 0).val + 1) % 2, 0, 0], (by decide +kernel : ∀ i : grid0.Coords, k0_off1 i = ![((i 0).val + 1) % 2, 0, 0]) i⟩
instance closed2 (i : grid0.Coords) : ClosedOff (k0_off2 i) := ⟨![(i 0).val % 2, 0, 0], (by decide +kernel : ∀ i : grid0.Coords, k0_off2 i = ![(i 0).val % 2, 0, 0]) i⟩
instance closed3 (i : grid0.Coords) : ClosedOff (k0_off3 i) := ⟨![(i 0).val % 2, 0, 128], (by decide +kernel : ∀ i : grid0.Coords, k0_off3 i = ![(i 0).val % 2, 0, 128]) i⟩
instance closed4 (i : grid0.Coords) : ClosedOff (k0_off4 i) := ⟨![(i 0).val % 2, 0, 256], (by decide +kernel : ∀ i : grid0.Coords, k0_off4 i = ![(i 0).val % 2, 0, 256]) i⟩
instance closed5 (i : grid0.Coords) : ClosedOff (k0_off5 i) := ⟨![(i 0).val % 2, 0, 384], (by decide +kernel : ∀ i : grid0.Coords, k0_off5 i = ![(i 0).val % 2, 0, 384]) i⟩
instance closed6 (i : grid0.Coords) : ClosedOff (k0_off6 i) := ⟨![(i 0).val % 2, 0, 512], (by decide +kernel : ∀ i : grid0.Coords, k0_off6 i = ![(i 0).val % 2, 0, 512]) i⟩
instance closed7 (i : grid0.Coords) : ClosedOff (k0_off7 i) := ⟨![(i 0).val % 2, 0, 640], (by decide +kernel : ∀ i : grid0.Coords, k0_off7 i = ![(i 0).val % 2, 0, 640]) i⟩
instance closed8 (i : grid0.Coords) : ClosedOff (k0_off8 i) := ⟨![(i 0).val % 2, 0, 768], (by decide +kernel : ∀ i : grid0.Coords, k0_off8 i = ![(i 0).val % 2, 0, 768]) i⟩
instance closed9 (i : grid0.Coords) : ClosedOff (k0_off9 i) := ⟨![(i 0).val % 2, 0, 896], (by decide +kernel : ∀ i : grid0.Coords, k0_off9 i = ![(i 0).val % 2, 0, 896]) i⟩
instance closed10 (i : grid0.Coords) : ClosedOff (k0_off10 i) := ⟨![(i 0).val % 2, 0, 1024], (by decide +kernel : ∀ i : grid0.Coords, k0_off10 i = ![(i 0).val % 2, 0, 1024]) i⟩
instance closed11 (i : grid0.Coords) : ClosedOff (k0_off11 i) := ⟨![(i 0).val % 2, 0, 1152], (by decide +kernel : ∀ i : grid0.Coords, k0_off11 i = ![(i 0).val % 2, 0, 1152]) i⟩
instance closed12 (i : grid0.Coords) : ClosedOff (k0_off12 i) := ⟨![(i 0).val % 2, 0, 1280], (by decide +kernel : ∀ i : grid0.Coords, k0_off12 i = ![(i 0).val % 2, 0, 1280]) i⟩
instance closed13 (i : grid0.Coords) : ClosedOff (k0_off13 i) := ⟨![(i 0).val % 2, 0, 1408], (by decide +kernel : ∀ i : grid0.Coords, k0_off13 i = ![(i 0).val % 2, 0, 1408]) i⟩
instance closed14 (i : grid0.Coords) : ClosedOff (k0_off14 i) := ⟨![(i 0).val % 2, 0, 1536], (by decide +kernel : ∀ i : grid0.Coords, k0_off14 i = ![(i 0).val % 2, 0, 1536]) i⟩
instance closed15 (i : grid0.Coords) : ClosedOff (k0_off15 i) := ⟨![(i 0).val % 2, 0, 1664], (by decide +kernel : ∀ i : grid0.Coords, k0_off15 i = ![(i 0).val % 2, 0, 1664]) i⟩
instance closed16 (i : grid0.Coords) : ClosedOff (k0_off16 i) := ⟨![(i 0).val % 2, 0, 1792], (by decide +kernel : ∀ i : grid0.Coords, k0_off16 i = ![(i 0).val % 2, 0, 1792]) i⟩
instance closed17 (i : grid0.Coords) : ClosedOff (k0_off17 i) := ⟨![(i 0).val % 2, 0, 1920], (by decide +kernel : ∀ i : grid0.Coords, k0_off17 i = ![(i 0).val % 2, 0, 1920]) i⟩
instance closed18 (i : grid0.Coords) : ClosedOff (k0_off18 i) := ⟨![(i 0).val % 2, 128, 0], (by decide +kernel : ∀ i : grid0.Coords, k0_off18 i = ![(i 0).val % 2, 128, 0]) i⟩
instance closed19 (i : grid0.Coords) : ClosedOff (k0_off19 i) := ⟨![(i 0).val % 2, 128, 128], (by decide +kernel : ∀ i : grid0.Coords, k0_off19 i = ![(i 0).val % 2, 128, 128]) i⟩
instance closed20 (i : grid0.Coords) : ClosedOff (k0_off20 i) := ⟨![(i 0).val % 2, 128, 256], (by decide +kernel : ∀ i : grid0.Coords, k0_off20 i = ![(i 0).val % 2, 128, 256]) i⟩
instance closed21 (i : grid0.Coords) : ClosedOff (k0_off21 i) := ⟨![(i 0).val % 2, 128, 384], (by decide +kernel : ∀ i : grid0.Coords, k0_off21 i = ![(i 0).val % 2, 128, 384]) i⟩
instance closed22 (i : grid0.Coords) : ClosedOff (k0_off22 i) := ⟨![(i 0).val % 2, 128, 512], (by decide +kernel : ∀ i : grid0.Coords, k0_off22 i = ![(i 0).val % 2, 128, 512]) i⟩
instance closed23 (i : grid0.Coords) : ClosedOff (k0_off23 i) := ⟨![(i 0).val % 2, 128, 640], (by decide +kernel : ∀ i : grid0.Coords, k0_off23 i = ![(i 0).val % 2, 128, 640]) i⟩
instance closed24 (i : grid0.Coords) : ClosedOff (k0_off24 i) := ⟨![(i 0).val % 2, 128, 768], (by decide +kernel : ∀ i : grid0.Coords, k0_off24 i = ![(i 0).val % 2, 128, 768]) i⟩
instance closed25 (i : grid0.Coords) : ClosedOff (k0_off25 i) := ⟨![(i 0).val % 2, 128, 896], (by decide +kernel : ∀ i : grid0.Coords, k0_off25 i = ![(i 0).val % 2, 128, 896]) i⟩
instance closed26 (i : grid0.Coords) : ClosedOff (k0_off26 i) := ⟨![(i 0).val % 2, 128, 1024], (by decide +kernel : ∀ i : grid0.Coords, k0_off26 i = ![(i 0).val % 2, 128, 1024]) i⟩
instance closed27 (i : grid0.Coords) : ClosedOff (k0_off27 i) := ⟨![(i 0).val % 2, 128, 1152], (by decide +kernel : ∀ i : grid0.Coords, k0_off27 i = ![(i 0).val % 2, 128, 1152]) i⟩
instance closed28 (i : grid0.Coords) : ClosedOff (k0_off28 i) := ⟨![(i 0).val % 2, 128, 1280], (by decide +kernel : ∀ i : grid0.Coords, k0_off28 i = ![(i 0).val % 2, 128, 1280]) i⟩
instance closed29 (i : grid0.Coords) : ClosedOff (k0_off29 i) := ⟨![(i 0).val % 2, 128, 1408], (by decide +kernel : ∀ i : grid0.Coords, k0_off29 i = ![(i 0).val % 2, 128, 1408]) i⟩
instance closed30 (i : grid0.Coords) : ClosedOff (k0_off30 i) := ⟨![(i 0).val % 2, 128, 1536], (by decide +kernel : ∀ i : grid0.Coords, k0_off30 i = ![(i 0).val % 2, 128, 1536]) i⟩
instance closed31 (i : grid0.Coords) : ClosedOff (k0_off31 i) := ⟨![(i 0).val % 2, 128, 1664], (by decide +kernel : ∀ i : grid0.Coords, k0_off31 i = ![(i 0).val % 2, 128, 1664]) i⟩
instance closed32 (i : grid0.Coords) : ClosedOff (k0_off32 i) := ⟨![(i 0).val % 2, 128, 1792], (by decide +kernel : ∀ i : grid0.Coords, k0_off32 i = ![(i 0).val % 2, 128, 1792]) i⟩
instance closed33 (i : grid0.Coords) : ClosedOff (k0_off33 i) := ⟨![(i 0).val % 2, 128, 1920], (by decide +kernel : ∀ i : grid0.Coords, k0_off33 i = ![(i 0).val % 2, 128, 1920]) i⟩

/-- Window 0's staging memref at point `t`, and that it is a whole buffer. -/
abbrev st0 (t : Fin cfg0.N) : Memref sig .tc .smem S32 .f32 := win0_0.stage (cfg0.slots t 0)
theorem hst0 (t : Fin cfg0.N) : (st0 t).IsWhole := hstage0_0 ((cfg0.slots t 0).cast nbuf0_0)
/-- Window 1's staging memref at point `t`, and that it is a whole buffer. -/
abbrev st1 (t : Fin cfg0.N) : Memref sig .tc .vmem S256x2048 .bf16 := win0_1.stage (cfg0.slots t 1)
theorem hst1 (t : Fin cfg0.N) : (st1 t).IsWhole := hstage0_1 ((cfg0.slots t 1).cast nbuf0_1)
/-- Window 2's staging memref at point `t`, and that it is a whole buffer. -/
abbrev st2 (t : Fin cfg0.N) : Memref sig .tc .vmem S256x512 .bf16 := win0_2.stage (cfg0.slots t 2)
theorem hst2 (t : Fin cfg0.N) : (st2 t).IsWhole := hstage0_2 ((cfg0.slots t 2).cast nbuf0_2)
/-- Window 3's staging memref at point `t`, and that it is a whole buffer. -/
abbrev st3 (t : Fin cfg0.N) : Memref sig .tc .vmem S128x512 .bf16 := win0_3.stage (cfg0.slots t 3)
theorem hst3 (t : Fin cfg0.N) : (st3 t).IsWhole := hstage0_3 ((cfg0.slots t 3).cast nbuf0_3)
/-- Window 4's staging memref at point `t`, and that it is a whole buffer. -/
abbrev st4 (t : Fin cfg0.N) : Memref sig .tc .vmem S256x1 .i32 := win0_4.stage (cfg0.slots t 4)
theorem hst4 (t : Fin cfg0.N) : (st4 t).IsWhole := hstage0_4 ((cfg0.slots t 4).cast nbuf0_4)
/-- Window 5's staging memref at point `t`, and that it is a whole buffer. -/
abbrev st5 (t : Fin cfg0.N) : Memref sig .tc .vmem S256x512 .bf16 := win0_5.stage (cfg0.slots t 5)
theorem hst5 (t : Fin cfg0.N) : (st5 t).IsWhole := hstage0_5 ((cfg0.slots t 5).cast nbuf0_5)
/-- Window 6's staging memref at point `t`, and that it is a whole buffer. -/
abbrev st6 (t : Fin cfg0.N) : Memref sig .tc .vmem S256x512 .bf16 := win0_6.stage (cfg0.slots t 6)
theorem hst6 (t : Fin cfg0.N) : (st6 t).IsWhole := hstage0_6 ((cfg0.slots t 6).cast nbuf0_6)
/-- Window 7's staging memref at point `t`, and that it is a whole buffer. -/
abbrev st7 (t : Fin cfg0.N) : Memref sig .tc .vmem S256x512 .bf16 := win0_7.stage (cfg0.slots t 7)
theorem hst7 (t : Fin cfg0.N) : (st7 t).IsWhole := hstage0_7 ((cfg0.slots t 7).cast nbuf0_7)
/-- Window 8's staging memref at point `t`, and that it is a whole buffer. -/
abbrev st8 (t : Fin cfg0.N) : Memref sig .tc .vmem S256x512 .bf16 := win0_8.stage (cfg0.slots t 8)
theorem hst8 (t : Fin cfg0.N) : (st8 t).IsWhole := hstage0_8 ((cfg0.slots t 8).cast nbuf0_8)
/-- Window 9's staging memref at point `t`, and that it is a whole buffer. -/
abbrev st9 (t : Fin cfg0.N) : Memref sig .tc .vmem S2048x2048 .bf16 := win0_9.stage (cfg0.slots t 9)
theorem hst9 (t : Fin cfg0.N) : (st9 t).IsWhole := hstage0_9 ((cfg0.slots t 9).cast nbuf0_9)
/-- Window 10's staging memref at point `t`, and that it is a whole buffer. -/
abbrev st10 (t : Fin cfg0.N) : Memref sig .tc .vmem S256x2048 .bf16 := win0_10.stage (cfg0.slots t 10)
theorem hst10 (t : Fin cfg0.N) : (st10 t).IsWhole := hstage0_10 ((cfg0.slots t 10).cast nbuf0_10)
/-- The scratch that carries the rotated keys of the block before. -/
abbrev scK : Memref sig .tc .vmem S128x256 .f32 := Memref.whole cc0_scratch0
/-- The scratch of two slots that carries the attention's output to the next step. -/
abbrev scY : Memref sig .tc .vmem S2x256x2048 .bf16 := Memref.whole cc0_scratch1

/-- The kit's invariant, with the two scratch buffers owned at some contents. -/
theorem phiA_eq (c : Dev nD) :
    (Pipeline.ΦA spec0 c : sProp 𝕄)
      = iprop(iprop((∃ d, owns (c : Thread nD τ) scK fullShare d) ∗ (∃ d, owns (c : Thread nD τ) scY fullShare d)) ∗ (∃ r, prngReg c r)) := by
  unfold Pipeline.ΦA; rw [scopedRest0_eq]; simp only [scK, scY, owns_whole]; try rfl

end Cert.KernelIdeal.Swa

end
-- ==== Proof.KernelIdeal.RunA.lean ====
module

public import proofs.«01_k».proof.Proof.KernelIdeal.Kit

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 6000000 in
/-- The stores of one run of the body, and the run: at step 0, where both scratch buffers are cleared first. It starts from whole staging buffers at their contents and the scratch at `xs0` and `xs1`, and ends with the inputs as they were and the stores `L10`, `LS0`, `LS1` in the output block and the scratch. -/
noncomputable def runA (c : Dev nD) (i : grid0.Coords) (arg1 : Memref sig .tc .smem S32 .f32) (harg1 : arg1.IsWhole) (arg2 : Memref sig .tc .vmem S256x2048 .bf16) (harg2 : arg2.IsWhole) (arg3 : Memref sig .tc .vmem S256x512 .bf16) (harg3 : arg3.IsWhole) (arg4 : Memref sig .tc .vmem S128x512 .bf16) (harg4 : arg4.IsWhole) (arg5 : Memref sig .tc .vmem S256x1 .i32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S2048x2048 .bf16) (harg10 : arg10.IsWhole) (arg11 : Memref sig .tc .vmem S256x2048 .bf16) (harg11 : arg11.IsWhole) (arg12 : Memref sig .tc .vmem S128x256 .f32) (harg12 : arg12.IsWhole) (arg13 : Memref sig .tc .vmem S2x256x2048 .bf16) (harg13 : arg13.IsWhole)
    (hc0 : cond0 i) (hc1 : cond1 i)
    (x0 : Vec F S32 .f32) (x1 : Vec F S256x2048 .bf16) (x2 : Vec F S256x512 .bf16) (x3 : Vec F S128x512 .bf16) (x4 : Vec F S256x1 .i32) (x5 : Vec F S256x512 .bf16) (x6 : Vec F S256x512 .bf16) (x7 : Vec F S256x512 .bf16) (x8 : Vec F S256x512 .bf16) (x9 : Vec F S2048x2048 .bf16) :
    Σ' (L10 : List (View.Piece (Elt F) S256x2048 .bf16)), Σ' (LS0 : List (View.Piece (Elt F) S128x256 .f32)), { LS1 : List (View.Piece (Elt F) S2x256x2048 .bf16) //
      ∀ (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ (∃ d, owns (c : Thread nD τ) arg11 fullShare d)
          ∗ (∃ d, owns (c : Thread nD τ) arg12 fullShare d)
          ∗ (∃ d, owns (c : Thread nD τ) arg13 fullShare d)
          ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ (∃ f, arg11.view.loc (c : Thread nD τ) ↦[arg11.view.set]{fullShare} arg11.view.writes (Elt F) f L10)
          ∗ (∃ f, arg12.view.loc (c : Thread nD τ) ↦[arg12.view.set]{fullShare} arg12.view.writes (Elt F) f LS0)
          ∗ (∃ f, arg13.view.loc (c : Thread nD τ) ↦[arg13.view.set]{fullShare} arg13.view.writes (Elt F) f LS1)) -∗ K ⟨⟩))
          ⊢ wp frame (wpE (defs₀ (F := F)) Variants.none c none) E (cc0_swa i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_swa_eq_skeleton]; unfold cc0_swa_skel
    simp only [k0_part45_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
    unfold owns
    iintro ⟨⟨%farg1, %hfarg1, Harg1⟩, ⟨%farg2, %hfarg2, Harg2⟩, ⟨%farg3, %hfarg3, Harg3⟩, ⟨%farg4, %hfarg4, Harg4⟩, ⟨%farg5, %hfarg5, Harg5⟩, ⟨%farg6, %hfarg6, Harg6⟩, ⟨%farg7, %hfarg7, Harg7⟩, ⟨%farg8, %hfarg8, Harg8⟩, ⟨%farg9, %hfarg9, Harg9⟩, ⟨%farg10, %hfarg10, Harg10⟩, ⟨%darg11, %farg11, -, Harg11⟩, ⟨%darg12, %farg12, -, Harg12⟩, ⟨%darg13, %farg13, -, Harg13⟩, Hk⟩
    obtain rfl := harg1.eq_unread hfarg1; obtain rfl := harg2.eq_unread hfarg2; obtain rfl := harg3.eq_unread hfarg3; obtain rfl := harg4.eq_unread hfarg4; obtain rfl := harg5.eq_unread hfarg5; obtain rfl := harg6.eq_unread hfarg6; obtain rfl := harg7.eq_unread hfarg7; obtain rfl := harg8.eq_unread hfarg8; obtain rfl := harg9.eq_unread hfarg9; obtain rfl := harg10.eq_unread hfarg10
    sl_exec (disch := first | sl_exact hc0 | sl_exact hc1)
    sl_step
    iapply Hk
    isplitl [Harg1]
    · iexists _; isplitr; · ipureintro; exact harg1.read_unread _
      iexact Harg1
    isplitl [Harg2]
    · iexists _; isplitr; · ipureintro; exact harg2.read_unread _
      iexact Harg2
    isplitl [Harg3]
    · iexists _; isplitr; · ipureintro; exact harg3.read_unread _
      iexact Harg3
    isplitl [Harg4]
    · iexists _; isplitr; · ipureintro; exact harg4.read_unread _
      iexact Harg4
    isplitl [Harg5]
    · iexists _; isplitr; · ipureintro; exact harg5.read_unread _
      iexact Harg5
    isplitl [Harg6]
    · iexists _; isplitr; · ipureintro; exact harg6.read_unread _
      iexact Harg6
    isplitl [Harg7]
    · iexists _; isplitr; · ipureintro; exact harg7.read_unread _
      iexact Harg7
    isplitl [Harg8]
    · iexists _; isplitr; · ipureintro; exact harg8.read_unread _
      iexact Harg8
    isplitl [Harg9]
    · iexists _; isplitr; · ipureintro; exact harg9.read_unread _
      iexact Harg9
    isplitl [Harg10]
    · iexists _; isplitr; · ipureintro; exact harg10.read_unread _
      iexact Harg10
    isplitl [Harg11]; · iexists _; iexact Harg11
    isplitl [Harg12]; · iexists _; iexact Harg12
    iexists _; iexact Harg13

end Cert.KernelIdeal.Swa

end
-- ==== Proof.KernelIdeal.RunB.lean ====
module

public import proofs.«01_k».proof.Proof.KernelIdeal.RunA

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 6000000 in
/-- The stores of one run of the body, and the run: at a step that clears no scratch. It starts from whole staging buffers at their contents and the scratch at `xs0` and `xs1`, and ends with the inputs as they were and the stores `L10`, `LS0`, `LS1` in the output block and the scratch. -/
noncomputable def runB (c : Dev nD) (i : grid0.Coords) (arg1 : Memref sig .tc .smem S32 .f32) (harg1 : arg1.IsWhole) (arg2 : Memref sig .tc .vmem S256x2048 .bf16) (harg2 : arg2.IsWhole) (arg3 : Memref sig .tc .vmem S256x512 .bf16) (harg3 : arg3.IsWhole) (arg4 : Memref sig .tc .vmem S128x512 .bf16) (harg4 : arg4.IsWhole) (arg5 : Memref sig .tc .vmem S256x1 .i32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S2048x2048 .bf16) (harg10 : arg10.IsWhole) (arg11 : Memref sig .tc .vmem S256x2048 .bf16) (harg11 : arg11.IsWhole) (arg12 : Memref sig .tc .vmem S128x256 .f32) (harg12 : arg12.IsWhole) (arg13 : Memref sig .tc .vmem S2x256x2048 .bf16) (harg13 : arg13.IsWhole)
    (hc0 : ¬cond0 i) (hc1 : ¬cond1 i)
    (x0 : Vec F S32 .f32) (x1 : Vec F S256x2048 .bf16) (x2 : Vec F S256x512 .bf16) (x3 : Vec F S128x512 .bf16) (x4 : Vec F S256x1 .i32) (x5 : Vec F S256x512 .bf16) (x6 : Vec F S256x512 .bf16) (x7 : Vec F S256x512 .bf16) (x8 : Vec F S256x512 .bf16) (x9 : Vec F S2048x2048 .bf16) (xs0 : Vec F S128x256 .f32) (xs1 : Vec F S2x256x2048 .bf16) :
    Σ' (L10 : List (View.Piece (Elt F) S256x2048 .bf16)), Σ' (LS0 : List (View.Piece (Elt F) S128x256 .f32)), { LS1 : List (View.Piece (Elt F) S2x256x2048 .bf16) //
      ∀ (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ (∃ d, owns (c : Thread nD τ) arg11 fullShare d)
          ∗ owns (c : Thread nD τ) arg12 fullShare xs0
          ∗ owns (c : Thread nD τ) arg13 fullShare xs1
          ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ (∃ f, arg11.view.loc (c : Thread nD τ) ↦[arg11.view.set]{fullShare} arg11.view.writes (Elt F) f L10)
          ∗ (∃ f, arg12.view.loc (c : Thread nD τ) ↦[arg12.view.set]{fullShare} arg12.view.writes (Elt F) f LS0)
          ∗ (arg13.view.loc (c : Thread nD τ) ↦[arg13.view.set]{fullShare} arg13.view.writes (Elt F) (harg13.unread xs1) LS1)) -∗ K ⟨⟩))
          ⊢ wp frame (wpE (defs₀ (F := F)) Variants.none c none) E (cc0_swa i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_swa_eq_skeleton]; unfold cc0_swa_skel
    simp only [k0_part45_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
    unfold owns
    iintro ⟨⟨%farg1, %hfarg1, Harg1⟩, ⟨%farg2, %hfarg2, Harg2⟩, ⟨%farg3, %hfarg3, Harg3⟩, ⟨%farg4, %hfarg4, Harg4⟩, ⟨%farg5, %hfarg5, Harg5⟩, ⟨%farg6, %hfarg6, Harg6⟩, ⟨%farg7, %hfarg7, Harg7⟩, ⟨%farg8, %hfarg8, Harg8⟩, ⟨%farg9, %hfarg9, Harg9⟩, ⟨%farg10, %hfarg10, Harg10⟩, ⟨%darg11, %farg11, -, Harg11⟩, ⟨%farg12, %hfarg12, Harg12⟩, ⟨%farg13, %hfarg13, Harg13⟩, Hk⟩
    obtain rfl := harg1.eq_unread hfarg1; obtain rfl := harg2.eq_unread hfarg2; obtain rfl := harg3.eq_unread hfarg3; obtain rfl := harg4.eq_unread hfarg4; obtain rfl := harg5.eq_unread hfarg5; obtain rfl := harg6.eq_unread hfarg6; obtain rfl := harg7.eq_unread hfarg7; obtain rfl := harg8.eq_unread hfarg8; obtain rfl := harg9.eq_unread hfarg9; obtain rfl := harg10.eq_unread hfarg10; obtain rfl := harg12.eq_unread hfarg12; obtain rfl := harg13.eq_unread hfarg13
    sl_exec (disch := first | sl_exact hc0 | sl_exact hc1)
    sl_step
    iapply Hk
    isplitl [Harg1]
    · iexists _; isplitr; · ipureintro; exact harg1.read_unread _
      iexact Harg1
    isplitl [Harg2]
    · iexists _; isplitr; · ipureintro; exact harg2.read_unread _
      iexact Harg2
    isplitl [Harg3]
    · iexists _; isplitr; · ipureintro; exact harg3.read_unread _
      iexact Harg3
    isplitl [Harg4]
    · iexists _; isplitr; · ipureintro; exact harg4.read_unread _
      iexact Harg4
    isplitl [Harg5]
    · iexists _; isplitr; · ipureintro; exact harg5.read_unread _
      iexact Harg5
    isplitl [Harg6]
    · iexists _; isplitr; · ipureintro; exact harg6.read_unread _
      iexact Harg6
    isplitl [Harg7]
    · iexists _; isplitr; · ipureintro; exact harg7.read_unread _
      iexact Harg7
    isplitl [Harg8]
    · iexists _; isplitr; · ipureintro; exact harg8.read_unread _
      iexact Harg8
    isplitl [Harg9]
    · iexists _; isplitr; · ipureintro; exact harg9.read_unread _
      iexact Harg9
    isplitl [Harg10]
    · iexists _; isplitr; · ipureintro; exact harg10.read_unread _
      iexact Harg10
    isplitl [Harg11]; · iexists _; iexact Harg11
    isplitl [Harg12]; · iexists _; iexact Harg12
    iexact Harg13

end Cert.KernelIdeal.Swa

end
-- ==== Proof.KernelIdeal.RunC.lean ====
module

public import proofs.«01_k».proof.Proof.KernelIdeal.RunB

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 6000000 in
/-- The stores of one run of the body, and the run: at a row's first step after step 0, where the key scratch is cleared first. It starts from whole staging buffers at their contents and the scratch at `xs0` and `xs1`, and ends with the inputs as they were and the stores `L10`, `LS0`, `LS1` in the output block and the scratch. -/
noncomputable def runC (c : Dev nD) (i : grid0.Coords) (arg1 : Memref sig .tc .smem S32 .f32) (harg1 : arg1.IsWhole) (arg2 : Memref sig .tc .vmem S256x2048 .bf16) (harg2 : arg2.IsWhole) (arg3 : Memref sig .tc .vmem S256x512 .bf16) (harg3 : arg3.IsWhole) (arg4 : Memref sig .tc .vmem S128x512 .bf16) (harg4 : arg4.IsWhole) (arg5 : Memref sig .tc .vmem S256x1 .i32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S2048x2048 .bf16) (harg10 : arg10.IsWhole) (arg11 : Memref sig .tc .vmem S256x2048 .bf16) (harg11 : arg11.IsWhole) (arg12 : Memref sig .tc .vmem S128x256 .f32) (harg12 : arg12.IsWhole) (arg13 : Memref sig .tc .vmem S2x256x2048 .bf16) (harg13 : arg13.IsWhole)
    (hc0 : ¬cond0 i) (hc1 : cond1 i)
    (x0 : Vec F S32 .f32) (x1 : Vec F S256x2048 .bf16) (x2 : Vec F S256x512 .bf16) (x3 : Vec F S128x512 .bf16) (x4 : Vec F S256x1 .i32) (x5 : Vec F S256x512 .bf16) (x6 : Vec F S256x512 .bf16) (x7 : Vec F S256x512 .bf16) (x8 : Vec F S256x512 .bf16) (x9 : Vec F S2048x2048 .bf16) (xs1 : Vec F S2x256x2048 .bf16) :
    Σ' (L10 : List (View.Piece (Elt F) S256x2048 .bf16)), Σ' (LS0 : List (View.Piece (Elt F) S128x256 .f32)), { LS1 : List (View.Piece (Elt F) S2x256x2048 .bf16) //
      ∀ (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ (∃ d, owns (c : Thread nD τ) arg11 fullShare d)
          ∗ (∃ d, owns (c : Thread nD τ) arg12 fullShare d)
          ∗ owns (c : Thread nD τ) arg13 fullShare xs1
          ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ (∃ f, arg11.view.loc (c : Thread nD τ) ↦[arg11.view.set]{fullShare} arg11.view.writes (Elt F) f L10)
          ∗ (∃ f, arg12.view.loc (c : Thread nD τ) ↦[arg12.view.set]{fullShare} arg12.view.writes (Elt F) f LS0)
          ∗ (arg13.view.loc (c : Thread nD τ) ↦[arg13.view.set]{fullShare} arg13.view.writes (Elt F) (harg13.unread xs1) LS1)) -∗ K ⟨⟩))
          ⊢ wp frame (wpE (defs₀ (F := F)) Variants.none c none) E (cc0_swa i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_swa_eq_skeleton]; unfold cc0_swa_skel
    simp only [k0_part45_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
    unfold owns
    iintro ⟨⟨%farg1, %hfarg1, Harg1⟩, ⟨%farg2, %hfarg2, Harg2⟩, ⟨%farg3, %hfarg3, Harg3⟩, ⟨%farg4, %hfarg4, Harg4⟩, ⟨%farg5, %hfarg5, Harg5⟩, ⟨%farg6, %hfarg6, Harg6⟩, ⟨%farg7, %hfarg7, Harg7⟩, ⟨%farg8, %hfarg8, Harg8⟩, ⟨%farg9, %hfarg9, Harg9⟩, ⟨%farg10, %hfarg10, Harg10⟩, ⟨%darg11, %farg11, -, Harg11⟩, ⟨%darg12, %farg12, -, Harg12⟩, ⟨%farg13, %hfarg13, Harg13⟩, Hk⟩
    obtain rfl := harg1.eq_unread hfarg1; obtain rfl := harg2.eq_unread hfarg2; obtain rfl := harg3.eq_unread hfarg3; obtain rfl := harg4.eq_unread hfarg4; obtain rfl := harg5.eq_unread hfarg5; obtain rfl := harg6.eq_unread hfarg6; obtain rfl := harg7.eq_unread hfarg7; obtain rfl := harg8.eq_unread hfarg8; obtain rfl := harg9.eq_unread hfarg9; obtain rfl := harg10.eq_unread hfarg10; obtain rfl := harg13.eq_unread hfarg13
    sl_exec (disch := first | sl_exact hc0 | sl_exact hc1)
    sl_step
    iapply Hk
    isplitl [Harg1]
    · iexists _; isplitr; · ipureintro; exact harg1.read_unread _
      iexact Harg1
    isplitl [Harg2]
    · iexists _; isplitr; · ipureintro; exact harg2.read_unread _
      iexact Harg2
    isplitl [Harg3]
    · iexists _; isplitr; · ipureintro; exact harg3.read_unread _
      iexact Harg3
    isplitl [Harg4]
    · iexists _; isplitr; · ipureintro; exact harg4.read_unread _
      iexact Harg4
    isplitl [Harg5]
    · iexists _; isplitr; · ipureintro; exact harg5.read_unread _
      iexact Harg5
    isplitl [Harg6]
    · iexists _; isplitr; · ipureintro; exact harg6.read_unread _
      iexact Harg6
    isplitl [Harg7]
    · iexists _; isplitr; · ipureintro; exact harg7.read_unread _
      iexact Harg7
    isplitl [Harg8]
    · iexists _; isplitr; · ipureintro; exact harg8.read_unread _
      iexact Harg8
    isplitl [Harg9]
    · iexists _; isplitr; · ipureintro; exact harg9.read_unread _
      iexact Harg9
    isplitl [Harg10]
    · iexists _; isplitr; · ipureintro; exact harg10.read_unread _
      iexact Harg10
    isplitl [Harg11]; · iexists _; iexact Harg11
    isplitl [Harg12]; · iexists _; iexact Harg12
    iexact Harg13

end Cert.KernelIdeal.Swa

end
-- ==== Proof.KernelIdeal.Frame.lean ====
module

public import proofs.«01_k».proof.Proof.KernelIdeal.RunC
public import Idealize.ShloMosaic.Lib.Claim

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Case A's run at the point `t`, on the point's staging buffers and blocks. -/
abbrev atA (c : Dev nD) (t : Fin cfg0.N) (h0 : cond0 (grid0.coords t)) (h1 : cond1 (grid0.coords t)) :=
  runA c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) scK (Memref.isWhole_whole _) scY (Memref.isWhole_whole _) h0 h1
    (iblk m c 0 t) (X0_1 m c t) (iblk m c 2 t) (iblk m c 3 t) (iblk m c 4 t) (iblk m c 5 t) (iblk m c 6 t) (iblk m c 7 t) (iblk m c 8 t) (iblk m c 9 t)
/-- Case A's stores into the output block tile it. -/
theorem coverA (c : Dev nD) (t : Fin cfg0.N) (h0 : cond0 (grid0.coords t)) (h1 : cond1 (grid0.coords t)) (y : S256x2048.Idx) :
    ∃ pc ∈ (atA m c t h0 h1).1, y ∈ pc.1.set :=
  View.cover_of_tiledL (atA m c t h0 h1).1 S256x512.size (by sl_kernel_rfl) y
/-- Case A's stores into the key scratch cover it. -/
theorem coverKA (c : Dev nD) (t : Fin cfg0.N) (h0 : cond0 (grid0.coords t)) (h1 : cond1 (grid0.coords t)) (y : S128x256.Idx) :
    ∃ pc ∈ (atA m c t h0 h1).2.1, y ∈ pc.1.set :=
  View.cover_of_wholeMem (atA m c t h0 h1).2.1 (by sl_whole_mem) y

/-- Case A's stores into the output scratch cover it. -/
theorem coverYA (c : Dev nD) (t : Fin cfg0.N) (h0 : cond0 (grid0.coords t)) (h1 : cond1 (grid0.coords t)) (y : S2x256x2048.Idx) :
    ∃ pc ∈ (atA m c t h0 h1).2.2.1, y ∈ pc.1.set :=
  View.cover_of_wholeMem (atA m c t h0 h1).2.2.1 (by sl_whole_mem) y

/-- Case B's run at the point `t`, on the point's staging buffers and blocks. -/
abbrev atB (c : Dev nD) (t : Fin cfg0.N) (h0 : ¬cond0 (grid0.coords t)) (h1 : ¬cond1 (grid0.coords t))
    (xs0 : Vec F S128x256 .f32) (xs1 : Vec F S2x256x2048 .bf16) :=
  runB c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) scK (Memref.isWhole_whole _) scY (Memref.isWhole_whole _) h0 h1
    (iblk m c 0 t) (X0_1 m c t) (iblk m c 2 t) (iblk m c 3 t) (iblk m c 4 t) (iblk m c 5 t) (iblk m c 6 t) (iblk m c 7 t) (iblk m c 8 t) (iblk m c 9 t) xs0 xs1
/-- Case B's stores into the output block tile it. -/
theorem coverB (c : Dev nD) (t : Fin cfg0.N) (h0 : ¬cond0 (grid0.coords t)) (h1 : ¬cond1 (grid0.coords t))
    (xs0 : Vec F S128x256 .f32) (xs1 : Vec F S2x256x2048 .bf16) (y : S256x2048.Idx) :
    ∃ pc ∈ (atB m c t h0 h1 xs0 xs1).1, y ∈ pc.1.set :=
  View.cover_of_tiledL (atB m c t h0 h1 xs0 xs1).1 S256x512.size (by sl_kernel_rfl) y
/-- Case B's stores into the key scratch cover it. -/
theorem coverKB (c : Dev nD) (t : Fin cfg0.N) (h0 : ¬cond0 (grid0.coords t)) (h1 : ¬cond1 (grid0.coords t))
    (xs0 : Vec F S128x256 .f32) (xs1 : Vec F S2x256x2048 .bf16) (y : S128x256.Idx) :
    ∃ pc ∈ (atB m c t h0 h1 xs0 xs1).2.1, y ∈ pc.1.set :=
  View.cover_of_tiledL (atB m c t h0 h1 xs0 xs1).2.1 S128x128.size (by sl_kernel_rfl) y

/-- Case C's run at the point `t`, on the point's staging buffers and blocks. -/
abbrev atC (c : Dev nD) (t : Fin cfg0.N) (h0 : ¬cond0 (grid0.coords t)) (h1 : cond1 (grid0.coords t))
    (xs1 : Vec F S2x256x2048 .bf16) :=
  runC c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) scK (Memref.isWhole_whole _) scY (Memref.isWhole_whole _) h0 h1
    (iblk m c 0 t) (X0_1 m c t) (iblk m c 2 t) (iblk m c 3 t) (iblk m c 4 t) (iblk m c 5 t) (iblk m c 6 t) (iblk m c 7 t) (iblk m c 8 t) (iblk m c 9 t) xs1
/-- Case C's stores into the output block tile it. -/
theorem coverC (c : Dev nD) (t : Fin cfg0.N) (h0 : ¬cond0 (grid0.coords t)) (h1 : cond1 (grid0.coords t))
    (xs1 : Vec F S2x256x2048 .bf16) (y : S256x2048.Idx) :
    ∃ pc ∈ (atC m c t h0 h1 xs1).1, y ∈ pc.1.set :=
  View.cover_of_tiledL (atC m c t h0 h1 xs1).1 S256x512.size (by sl_kernel_rfl) y
/-- Case C's stores into the key scratch cover it. -/
theorem coverKC (c : Dev nD) (t : Fin cfg0.N) (h0 : ¬cond0 (grid0.coords t)) (h1 : cond1 (grid0.coords t))
    (xs1 : Vec F S2x256x2048 .bf16) (y : S128x256.Idx) :
    ∃ pc ∈ (atC m c t h0 h1 xs1).2.1, y ∈ pc.1.set :=
  View.cover_of_wholeMem (atC m c t h0 h1 xs1).2.1 (by sl_whole_mem) y

/-- The contents of three buffers that a list of stores leaves in each: the output block, the key scratch, the output
scratch (this one over what it held before). -/
def left (L10 : List (View.Piece (Elt F) S256x2048 .bf16)) (LS0 : List (View.Piece (Elt F) S128x256 .f32))
    (LS1 : List (View.Piece (Elt F) S2x256x2048 .bf16)) (f1 : scY.view.ty.Contents (Elt F)) :
    Vec F S256x2048 .bf16 × Vec F S128x256 .f32 × Vec F S2x256x2048 .bf16 :=
  ((Memref.whole cc0_stg10_0 : Memref sig .tc .vmem S256x2048 .bf16).view.read (Elt F)
      ((Memref.whole cc0_stg10_0 : Memref sig .tc .vmem S256x2048 .bf16).view.writes (Elt F)
        (Memref.whole cc0_stg10_0 : Memref sig .tc .vmem S256x2048 .bf16).view.junk L10),
    scK.view.read (Elt F) (scK.view.writes (Elt F) scK.view.junk LS0),
    scY.view.read (Elt F) (scY.view.writes (Elt F) f1 LS1))

/-- What the body leaves at the point `t` in the output block and the two scratch buffers, from what the scratch held. -/
def stepAt (c : Dev nD) (t : Fin cfg0.N) (xs0 : Vec F S128x256 .f32) (xs1 : Vec F S2x256x2048 .bf16) :
    Vec F S256x2048 .bf16 × Vec F S128x256 .f32 × Vec F S2x256x2048 .bf16 :=
  if h0 : cond0 (grid0.coords t) then
    if h1 : cond1 (grid0.coords t) then
      left (atA m c t h0 h1).1 (atA m c t h0 h1).2.1 (atA m c t h0 h1).2.2.1 scY.view.junk
    else absurd ((hcond1 t).mpr (by rw [(hcond0 t).mp h0])) h1
  else
    if h1 : cond1 (grid0.coords t) then
      left (atC m c t h0 h1 xs1).1 (atC m c t h0 h1 xs1).2.1 (atC m c t h0 h1 xs1).2.2.1 ((Memref.isWhole_whole cc0_scratch1).unread xs1)
    else
      left (atB m c t h0 h1 xs0 xs1).1 (atB m c t h0 h1 xs0 xs1).2.1 (atB m c t h0 h1 xs0 xs1).2.2.1 ((Memref.isWhole_whole cc0_scratch1).unread xs1)

set_option maxHeartbeats 4000000 in
/-- The body at the point `t`, from the point's blocks and any contents of the scratch: it leaves `stepAt`. -/
theorem body_step (c : Dev nD) (t : Fin cfg0.N) (xs0 : Vec F S128x256 .f32) (xs1 : Vec F S2x256x2048 .bf16)
    (K : PUnit → sProp 𝕄) :
    iprop(owns (c : Thread nD τ) (st0 t) fullShare (iblk m c 0 t)
          ∗ owns (c : Thread nD τ) (st1 t) fullShare (X0_1 m c t)
          ∗ owns (c : Thread nD τ) (st2 t) fullShare (iblk m c 2 t)
          ∗ owns (c : Thread nD τ) (st3 t) fullShare (iblk m c 3 t)
          ∗ owns (c : Thread nD τ) (st4 t) fullShare (iblk m c 4 t)
          ∗ owns (c : Thread nD τ) (st5 t) fullShare (iblk m c 5 t)
          ∗ owns (c : Thread nD τ) (st6 t) fullShare (iblk m c 6 t)
          ∗ owns (c : Thread nD τ) (st7 t) fullShare (iblk m c 7 t)
          ∗ owns (c : Thread nD τ) (st8 t) fullShare (iblk m c 8 t)
          ∗ owns (c : Thread nD τ) (st9 t) fullShare (iblk m c 9 t)
          ∗ (∃ d, owns (c : Thread nD τ) (st10 t) fullShare d)
          ∗ owns (c : Thread nD τ) scK fullShare xs0
          ∗ owns (c : Thread nD τ) scY fullShare xs1
          ∗ (iprop(owns (c : Thread nD τ) (st0 t) fullShare (iblk m c 0 t)
          ∗ owns (c : Thread nD τ) (st1 t) fullShare (X0_1 m c t)
          ∗ owns (c : Thread nD τ) (st2 t) fullShare (iblk m c 2 t)
          ∗ owns (c : Thread nD τ) (st3 t) fullShare (iblk m c 3 t)
          ∗ owns (c : Thread nD τ) (st4 t) fullShare (iblk m c 4 t)
          ∗ owns (c : Thread nD τ) (st5 t) fullShare (iblk m c 5 t)
          ∗ owns (c : Thread nD τ) (st6 t) fullShare (iblk m c 6 t)
          ∗ owns (c : Thread nD τ) (st7 t) fullShare (iblk m c 7 t)
          ∗ owns (c : Thread nD τ) (st8 t) fullShare (iblk m c 8 t)
          ∗ owns (c : Thread nD τ) (st9 t) fullShare (iblk m c 9 t)
          ∗ owns (c : Thread nD τ) (st10 t) fullShare (stepAt m c t xs0 xs1).1
          ∗ owns (c : Thread nD τ) scK fullShare (stepAt m c t xs0 xs1).2.1
          ∗ owns (c : Thread nD τ) scY fullShare (stepAt m c t xs0 xs1).2.2) -∗ K ⟨⟩))
      ⊢ wp frame (wpE (defs₀ (F := F)) Variants.none c none) Set.univ (bodyAt0 t) K := by
  unfold bodyAt0
  by_cases h0 : cond0 (grid0.coords t)
  · have h1 : cond1 (grid0.coords t) := (hcond1 t).mpr (by rw [(hcond0 t).mp h0])
    rw [show stepAt m c t xs0 xs1 = _ from (dif_pos h0).trans (dif_pos h1)]
    unfold left; dsimp only
    iintro ⟨H0, H1, H2, H3, H4, H5, H6, H7, H8, H9, H10, HK, HY, Hk⟩
    iapply ((atA m c t h0 h1).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HK]; · iexists _; iexact HK
    isplitl [HY]; · iexists _; iexact HY
    iintro ⟨H0, H1, H2, H3, H4, H5, H6, H7, H8, H9, ⟨%e10, H10⟩, ⟨%eK, HK⟩, ⟨%eY, HY⟩⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (coverA m c t h0 h1)
    isplitl [HK]
    · unfold owns; iexists _; isplitr
      swap; · iexact HK
      ipureintro; exact View.read_writes_of_cover _ _ _ _ _ (coverKA m c t h0 h1)
    unfold owns; iexists _; isplitr
    swap; · iexact HY
    ipureintro; exact View.read_writes_of_cover _ _ _ _ _ (coverYA m c t h0 h1)
  · by_cases h1 : cond1 (grid0.coords t)
    · rw [show stepAt m c t xs0 xs1 = _ from (dif_neg h0).trans (dif_pos h1)]
      unfold left; dsimp only
      iintro ⟨H0, H1, H2, H3, H4, H5, H6, H7, H8, H9, H10, HK, HY, Hk⟩
      iapply ((atC m c t h0 h1 xs1).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HK]; · iexists _; iexact HK
      isplitl [HY]; · iexact HY
      iintro ⟨H0, H1, H2, H3, H4, H5, H6, H7, H8, H9, ⟨%e10, H10⟩, ⟨%eK, HK⟩, HY⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (coverC m c t h0 h1 xs1)
      isplitl [HK]
      · unfold owns; iexists _; isplitr
        swap; · iexact HK
        ipureintro; exact View.read_writes_of_cover _ _ _ _ _ (coverKC m c t h0 h1 xs1)
      unfold owns; iexists _; isplitr
      swap; · iexact HY
      ipureintro; rfl
    · rw [show stepAt m c t xs0 xs1 = _ from (dif_neg h0).trans (dif_neg h1)]
      unfold left; dsimp only
      iintro ⟨H0, H1, H2, H3, H4, H5, H6, H7, H8, H9, H10, HK, HY, Hk⟩
      iapply ((atB m c t h0 h1 xs0 xs1).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HK]; · iexact HK
      isplitl [HY]; · iexact HY
      iintro ⟨H0, H1, H2, H3, H4, H5, H6, H7, H8, H9, ⟨%e10, H10⟩, ⟨%eK, HK⟩, HY⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (coverB m c t h0 h1 xs0 xs1)
      isplitl [HK]
      · unfold owns; iexists _; isplitr
        swap; · iexact HK
        ipureintro; exact View.read_writes_of_cover _ _ _ _ _ (coverKB m c t h0 h1 xs0 xs1)
      unfold owns; iexists _; isplitr
      swap; · iexact HY
      ipureintro; rfl

/-- What the output block and the two scratch buffers hold after the point `n`: the body's step from what the point before
left in the scratch (at the first point, from anything). -/
def outsAt (c : Dev nD) : (n : ℕ) → n < cfg0.N → Vec F S256x2048 .bf16 × Vec F S128x256 .f32 × Vec F S2x256x2048 .bf16
  | 0, hn => stepAt m c ⟨0, hn⟩ (scK.view.read (Elt F) scK.view.junk) (scY.view.read (Elt F) scY.view.junk)
  | n + 1, hn => stepAt m c ⟨n + 1, hn⟩ (outsAt c n (Nat.lt_of_succ_lt hn)).2.1 (outsAt c n (Nat.lt_of_succ_lt hn)).2.2

/-- At the first point the step does not look at what the scratch held. -/
theorem outsAt_zero (c : Dev nD) (t : Fin cfg0.N) (hz : t.val = 0) (xs0 : Vec F S128x256 .f32) (xs1 : Vec F S2x256x2048 .bf16) :
    outsAt m c t.val t.isLt = stepAt m c t xs0 xs1 := by
  obtain ⟨n, hn⟩ := t
  dsimp only at hz
  subst hz
  have h0 : cond0 (grid0.coords ⟨0, hn⟩) := (hcond0 ⟨0, hn⟩).mpr rfl
  have h1 : cond1 (grid0.coords ⟨0, hn⟩) := (hcond1 ⟨0, hn⟩).mpr rfl
  exact ((dif_pos h0).trans (dif_pos h1)).trans ((dif_pos h0).trans (dif_pos h1)).symm

/-- `outsAt` after a point that is not the first. -/
theorem outsAt_pos (c : Dev nD) (t : Fin cfg0.N) (hz : t.val ≠ 0) :
    outsAt m c t.val t.isLt = stepAt m c t (outsAt m c (t.val - 1) (Nat.lt_of_le_of_lt (Nat.sub_le _ _) t.isLt)).2.1
      (outsAt m c (t.val - 1) (Nat.lt_of_le_of_lt (Nat.sub_le _ _) t.isLt)).2.2 := by
  obtain ⟨n, hn⟩ := t
  cases n with
  | zero => exact absurd rfl hz
  | succ n => rfl

/-- The invariant before position `n`: the scratch at what the point before left, before the first point at anything. -/
def PhiS (c : Dev nD) : (n : ℕ) → n ≤ cfg0.N → sProp 𝕄
  | 0, _ => Pipeline.ΦA spec0 c
  | n + 1, hn => iprop(iprop(owns (c : Thread nD τ) scK fullShare (outsAt m c n hn).2.1 ∗ owns (c : Thread nD τ) scY fullShare (outsAt m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scK fullShare (outsAt m c n hn).2.1 ∗ owns (c : Thread nD τ) scY fullShare (outsAt m c n hn).2.2) ∗ (∃ r, prngReg c r)) := rfl

theorem PhiS_pos (c : Dev nD) (n : ℕ) (h : n ≤ cfg0.N) (hz : n ≠ 0) :
    PhiS m c n h = iprop(iprop(owns (c : Thread nD τ) scK fullShare (outsAt m c (n - 1) (by omega)).2.1 ∗ owns (c : Thread nD τ) scY fullShare (outsAt m c (n - 1) (by omega)).2.2) ∗ (∃ r, prngReg c r)) := by
  cases n with
  | zero => exact absurd rfl hz
  | succ n => rfl

/-- The pipeline's proof data on core `c`: each input's buffer ends a point at its block, the output's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt m c t.val t.isLt).1
  Φ t := PhiS m c t.val (Nat.le_of_lt_succ t.isLt)
  q w := Pipeline.shareOf spec0 w
  owed _ := 0

/-- The proof data's arrays are what the region finds. -/
theorem A_eq (c : Dev nD) (w : Fin cfg0.W) : (dats m 0 c).A w = V m c (Pipeline.arrRef spec0 w) := by
  dsimp only [dats]

/-- The invariant at a point's start, at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in each window's buffer, and what it finds in the inputs'. -/
theorem after0 (c : Dev nD) (t : Fin cfg0.N) : (dats m 0 c).after 0 t = iblk m c 0 t := by dsimp only [dats]
theorem after1 (c : Dev nD) (t : Fin cfg0.N) : (dats m 0 c).after 1 t = X0_1 m c t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = (outsAt m c t.val t.isLt).1 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = X0_1 m c t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- The body at any point, from what the pipeline hands it to what the pipeline takes back. -/
theorem sound_body (c : Dev nD) (t : Fin cfg0.N) :
    iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d)))
      ⊢ wp frame (wpE (defs₀ (F := F)) Variants.none c none) Set.univ (bodyAt0 t) (fun _ =>
    iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t)
    ∗ owns (c : Thread nD τ) (st10 t) fullShare ((dats m 0 c).after 10 t))) := by
  simp only [before0, before1, before2, before3, before4, before5, before6, before7, before8, before9]
  rw [show (dats m 0 c).owesAt () t.succ = (dats m 0 c).owesAt () t.castSucc from rfl,
    after0, after1, after2, after3, after4, after5, after6, after7, after8, after9, after10]
  rw [show (dats m 0 c).Φ t.succ = PhiS m c (t.val + 1) t.isLt from rfl, PhiS_succ]
  by_cases hz : t.val = 0
  · rw [PhiS_castSucc m c t, PhiS_zero m c _ _ hz, phiA_eq]
    iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have he : outsAt m c t.val t.isLt = stepAt m c t s0 s1 := outsAt_zero m c t hz s0 s1
    rw [he]
    iapply (body_step m c t s0 s1)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [PhiS_castSucc m c t, PhiS_pos m c _ _ hz, outsAt_pos m c t hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_step m c t _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body at `t`. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After any point but the first the invariant gives back what the launch handed over. -/
theorem phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, phiA_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  phi_out m c _ (by rw [Fin.val_last]; have : cfg0.N = 129 := N_0; omega)

set_option backward.isDefEq.respectTransparency.types false in
/-- The launch: every fair execution terminates with the pipeline's arrays at what the proof data gives and every counter
at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: from any memory every fair execution terminates with the argument arrays unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Swa

end
-- ==== Proof.Twin1.lean ====
module

public import proofs.«01_k».proof.Defs
public import proofs.«01_k».proof.Proof.Gen.Kernel
public import proofs.«01_k».proof.Proof.KernelIdeal.Frame

@[expose] public section

set_option maxRecDepth 16384

noncomputable section

namespace Cert.Proof

open Idealize.ShloMosaic Idealize.SL.Sem

variable {F : FTy → Type} [FloatOps F]
/-- Every named constant at the value that the kernel spells out. -/
abbrev spelled : Named F := ⟨fun _ _ {φ} bits => Scalar.ofBits φ bits⟩
set_option maxHeartbeats 8000000 in
/-- With its constants spelled out, the idealised kernel's body is the kernel's. -/
theorem bodies1 : @Cert.Kernel.defs₀ F _ Cert.Kernel.Gen.facts = @Cert.KernelIdeal.defs₀ F _ spelled Cert.KernelIdeal.Gen.facts := by
  unfold Cert.Kernel.defs₀ Cert.KernelIdeal.defs₀
  refine congrArg Defs.onTc ?_
  funext l a
  match l, a with
  | ⟨0, _⟩, (t, sl) => rfl
/-- With their pipelines too. -/
theorem tables1 : @Cert.Kernel.defs F _ Cert.Kernel.Gen.facts = @Cert.KernelIdeal.defs F _ spelled Cert.KernelIdeal.Gen.facts :=
  congrArg (Pipeline.defs (Cert.KernelIdeal.pcfgs (F := F))) bodies1

/-- The programs on every thread are the same. -/
theorem mains1 : @Cert.Kernel.main F _ Cert.Kernel.Gen.facts = @Cert.KernelIdeal.main F _ Cert.KernelIdeal.Gen.facts := rfl

/-- The frame of the kernel as printed. -/
theorem frame_kernel1 : Cert.quiescent_Kernel (hKernel := Cert.Kernel.Gen.facts) := by
  intro m ρ _
  rw [tables1, mains1]
  exact @Cert.KernelIdeal.Swa.frame Bits _ spelled m ρ

end Cert.Proof

end
-- ==== Proof.KernelIdeal.Uniform.lean ====
module

public import proofs.«01_k».proof.Proof.KernelIdeal.RunC

@[expose] public section

set_option maxRecDepth 16384

noncomputable section

namespace Cert.KernelIdeal.Swa

open Idealize.ShloMosaic Idealize.ShloMosaic.TcCoe
open Cert.KernelIdeal.Gen

variable {F : FTy → Type} [FloatOps F] [Named F]

/-- What one step of the kernel's grid computes the attention from: the query slabs (two heads side by side) of its two
blocks of 128 rows, their key slabs, the value slabs of the block before and of the two blocks, the positions, the sinks,
the rotated keys of the block before, and the bit that says whether there is a block before. -/
structure Ins (F : FTy → Type) where
  q : Fin 2 → Fin 16 → Vec F S128x128 .bf16
  k : Fin 2 → Fin 2 → Vec F S128x128 .bf16
  v : Fin 3 → Fin 2 → Vec F S128x128 .bf16
  p : Fin 2 → Vec F S128x1 .i32
  s : Fin 32 → Elt F .f32
  kp : Fin 2 → Vec F S128x128 .f32
  hasPrev : BitVec 1

/-- All slabs, one below the other, with the two halves of every head swapped. -/
def swapped (I : Ins F) : FVec F S4608x128 .f32 :=
  k0_pay11 (I.q 0 0) (I.q 0 1) (I.q 0 2) (I.q 0 3) (I.q 0 4) (I.q 0 5) (I.q 0 6) (I.q 0 7) (I.q 0 8) (I.q 0 9) (I.q 0 10) (I.q 0 11) (I.q 0 12) (I.q 0 13) (I.q 0 14) (I.q 0 15) (I.k 0 0) (I.k 0 1) (I.q 1 0) (I.q 1 1) (I.q 1 2) (I.q 1 3) (I.q 1 4) (I.q 1 5) (I.q 1 6) (I.q 1 7) (I.q 1 8) (I.q 1 9) (I.q 1 10) (I.q 1 11) (I.q 1 12) (I.q 1 13) (I.q 1 14) (I.q 1 15) (I.k 1 0) (I.k 1 1)

theorem slSwp (b : Fin 2) (n : Fin 18) : S4608x128.Slices ![128 * (18 * b.val + n.val), 0] S128x128 := by revert b n; decide
/-- One slab with the two halves of every head swapped. -/
def swp (I : Ins F) (b : Fin 2) (n : Fin 18) : FVec F S128x128 .f32 :=
  extractStridedSlice S128x128 ![128 * (18 * b.val + n.val), 0] (swapped I) (slSwp b n)

/-- The rotated keys of a block: two heads side by side. -/
def kc (I : Ins F) (b hp : Fin 2) : FVec F S128x128 .f32 :=
  k0_pay55 (I.k b hp) (swp I b ⟨16 + hp.val, by omega⟩) (k0_pay50 (I.p b)) (k0_pay51 (I.p b))
/-- The rotated keys of the block before. -/
def kpv (I : Ins F) (b hp : Fin 2) : FVec F S128x128 .f32 := (![I.kp hp, kc I 0 hp] : Fin 2 → _) b
/-- The rotated keys of the block before and of the block. -/
def pairK (I : Ins F) (b hp : Fin 2) : FVec F S256x128 .f32 :=
  concatenate S256x128 0 [⟨S128x128, kpv I b hp⟩, ⟨S128x128, kc I b hp⟩] concatenates_S128x128_S128x128_S256x128_d0
/-- The values of the block before and of the block. -/
def pairV (I : Ins F) (b hp : Fin 2) : FVec F S256x128 .f32 :=
  extf .f32 (concatenate S256x128 0 [⟨S128x128, I.v b.castSucc hp⟩, ⟨S128x128, I.v b.succ hp⟩] concatenates_S128x128_S128x128_S256x128_d0) bitsLt_bf16_f32
/-- Two heads exchanged. -/
def rot (x : FVec F S256x128 .f32) : FVec F S256x128 .f32 := dynamicRotate 1 64#32 none x rotates_S256x128_d1
/-- The block-diagonal operand made of one head: `lo` holds it in the low lanes, `hi` in the high ones. -/
def rhs (lo hi : FVec F S256x128 .f32) : FVec F S512x128 .bf16 :=
  truncf .bf16 (concatenate S512x128 0
    [⟨S256x128, select (broadcastTo S256x128 (shapeCast S1x128 k0_pay8 shapeCasts_S1x128_S1x128) broadcasts_S1x128_S256x128) lo (broadcast S256x128 (Scalar.ofBits .f32 0x00000000#32))⟩,
     ⟨S256x128, select (broadcastTo S256x128 (shapeCast S1x128 k0_pay8 shapeCasts_S1x128_S1x128) broadcasts_S1x128_S256x128) (broadcast S256x128 (Scalar.ofBits .f32 0x00000000#32)) hi⟩]
    concatenates_S256x128_S256x128_S512x128_d0) bitsLt_bf16_f32
/-- The head `2 * hp + hh` of a pair, block-diagonally. -/
def rhsOf (x : FVec F S256x128 .f32) (hh : Fin 2) : FVec F S512x128 .bf16 :=
  (![rhs x (rot x), rhs (rot x) x] : Fin 2 → _) hh

/-- A pair of rotated and scaled query heads. -/
def qrow (I : Ins F) (b : Fin 2) (n : Fin 16) : FVec F S128x128 .bf16 :=
  truncf .bf16 (k0_pay55 (I.q b n) (swp I b ⟨n.val, by omega⟩) (k0_pay52 (I.p b)) (k0_pay53 (I.p b))) bitsLt_bf16_f32

theorem qlt (h gp : Fin 4) : 4 * h.val + gp.val < 16 := by omega
/-- The scores of the key-value head `h`: four pairs of query heads one below the other, against the two column halves. -/
def scores (I : Ins F) (b : Fin 2) (h : Fin 4) : FVec F S512x512 .f32 :=
  matmul dot_S512x128_S512x128_S512x512_1_1_0_0_n_n none
    (concatenate S512x128 0 [⟨S128x128, qrow I b ⟨4 * h.val + 0, qlt h 0⟩⟩, ⟨S128x128, qrow I b ⟨4 * h.val + 1, qlt h 1⟩⟩, ⟨S128x128, qrow I b ⟨4 * h.val + 2, qlt h 2⟩⟩, ⟨S128x128, qrow I b ⟨4 * h.val + 3, qlt h 3⟩⟩] concatenates_S128x128_S128x128_S128x128_S128x128_S512x128_d0)
    (rhsOf (pairK I b ⟨h.val / 2, by omega⟩) ⟨h.val % 2, by omega⟩) (constant S512x512 .f32 0x00000000#32)

/-- The upper bound of the scores: infinite where a query sees a key, the masked value elsewhere. -/
def bnd (w : BitVec 1) : FVec F S128x256 .f32 :=
  select (andi (k0_pay9 (iota .tc S128x256 32 [0] iota_S128x256_d0_w32) (iota .tc S128x256 32 [1] iota_S128x256_d1_w32))
      (ori (broadcast S128x256 w) (cmpi .sge (iota .tc S128x256 32 [1] iota_S128x256_d1_w32) (broadcast S128x256 128#32))))
    (broadcast S128x256 (Scalar.ofBits .f32 0x7F800000#32)) (broadcast S128x256 (Named.named κ "masked" 0xF149F2CA#32))
/-- Whether a block has one before it. -/
def has (I : Ins F) (b : Fin 2) : BitVec 1 := (![I.hasPrev, 1#1] : Fin 2 → _) b

theorem slS (gp : Fin 4) (e : Fin 2) : S512x512.Slices ![128 * gp.val, 256 * e.val] S128x256 := by revert gp e; decide
/-- The bounded scores of one query head. -/
def se (I : Ins F) (b : Fin 2) (h gp : Fin 4) (e : Fin 2) : FVec F S128x256 .f32 :=
  minimumf (extractStridedSlice S128x256 ![128 * gp.val, 256 * e.val] (scores I b h) (slS gp e)) (bnd (has I b))
theorem slt (h gp : Fin 4) (e : Fin 2) : 8 * h.val + 2 * gp.val + e.val < 32 := by omega
/-- The sink of one query head, in base 2. -/
def snk (I : Ins F) (h gp : Fin 4) (e : Fin 2) : F .f32 := k0_pay81 (I.s ⟨8 * h.val + 2 * gp.val + e.val, slt h gp e⟩)
/-- The running maximum of a row: of its scores and the sink. -/
def mx (I : Ins F) (b : Fin 2) (h gp : Fin 4) (e : Fin 2) : FVec F S128x1 .f32 :=
  maximumf (shapeCast S128x1 (multiReduction .maximumf [1] S128 (se I b h gp e) 0xFF800000#32 reduces_S128x256_S128 (.inl rfl) rfl) shapeCasts_S128_S128x1) (broadcast S128x1 (snk I h gp e))
/-- The weights of one query head, before the division. -/
def pr (I : Ins F) (b : Fin 2) (h gp : Fin 4) (e : Fin 2) : FVec F S128x256 .bf16 :=
  truncf .bf16 (exp2 (subf (se I b h gp e) (broadcastTo S128x256 (mx I b h gp e) broadcasts_S128x1_S128x256))) bitsLt_bf16_f32
/-- The weights of a pair of query heads. -/
def prow (I : Ins F) (b : Fin 2) (h gp : Fin 4) : FVec F S128x512 .bf16 :=
  concatenate S128x512 1 [⟨S128x256, pr I b h gp 0⟩, ⟨S128x256, pr I b h gp 1⟩] concatenates_S128x256_S128x256_S128x512_d1
/-- The sink's share of the sum of one query head. -/
def stm (I : Ins F) (b : Fin 2) (h gp : Fin 4) (e : Fin 2) : FVec F S128x1 .f32 :=
  exp2 (subf (broadcast S128x1 (snk I h gp e)) (mx I b h gp e))
/-- The sinks' shares of a pair of query heads. -/
def sterm (I : Ins F) (b : Fin 2) (h gp : Fin 4) : FVec F S128x128 .f32 :=
  select (broadcastTo S128x128 (shapeCast S1x128 k0_pay8 shapeCasts_S1x128_S1x128) broadcasts_S1x128_S128x128)
    (broadcastTo S128x128 (shapeCast S128x1 (stm I b h gp 0) shapeCasts_S128x1_S128x1) broadcasts_S128x1_S128x128)
    (broadcastTo S128x128 (shapeCast S128x1 (stm I b h gp 1) shapeCasts_S128x1_S128x1) broadcasts_S128x1_S128x128)
/-- The weighted values and, in the lanes from 128 on, the sums of the weights. -/
def outv (I : Ins F) (b : Fin 2) (h : Fin 4) : FVec F S512x256 .f32 :=
  matmul dot_S512x512_S512x256_S512x256_1_0_0_1_n_n none
    (concatenate S512x512 0 [⟨S128x512, prow I b h 0⟩, ⟨S128x512, prow I b h 1⟩, ⟨S128x512, prow I b h 2⟩, ⟨S128x512, prow I b h 3⟩] concatenates_S128x512_S128x512_S128x512_S128x512_S512x512_d0)
    (concatenate S512x256 1 [⟨S512x128, rhsOf (pairV I b ⟨h.val / 2, by omega⟩) ⟨h.val % 2, by omega⟩⟩, ⟨S512x128, k0_pay10 k0_pay8⟩] concatenates_S512x128_S512x128_S512x256_d1)
    (constant S512x256 .f32 0x00000000#32)
theorem slO (gp : Fin 4) (e : Fin 2) : S512x256.Slices ![128 * gp.val, 128 * e.val] S128x128 := by revert gp e; decide
/-- The attention's output of a pair of query heads. -/
def yp (I : Ins F) (b : Fin 2) (h gp : Fin 4) : FVec F S1x128x128 .bf16 :=
  shapeCast S1x128x128 (truncf .bf16
    (divf (extractStridedSlice S128x128 ![128 * gp.val, 128 * (0 : Fin 2).val] (outv I b h) (slO gp 0))
      (addf (extractStridedSlice S128x128 ![128 * gp.val, 128 * (1 : Fin 2).val] (outv I b h) (slO gp 1)) (sterm I b h gp))) bitsLt_bf16_f32) shapeCasts_S128x128_S1x128x128

theorem inQ (b : Fin 2) (n : Fin 16) : ∀ a, ![128 * b.val, 128 * n.val] a + S128x128.size a ≤ S256x2048.size a := by revert b n; decide
theorem inK (b hp : Fin 2) : ∀ a, ![128 * b.val, 128 * hp.val] a + S128x128.size a ≤ S256x512.size a := by revert b hp; decide
theorem inV0 (hp : Fin 2) : ∀ a, ![0, 256 + 128 * hp.val] a + S128x128.size a ≤ S128x512.size a := by revert hp; decide
theorem inV (b hp : Fin 2) : ∀ a, ![128 * b.val, 256 + 128 * hp.val] a + S128x128.size a ≤ S256x512.size a := by revert b hp; decide
theorem inP (b : Fin 2) : ∀ a, ![128 * b.val, 0] a + S128x1.size a ≤ S256x1.size a := by revert b; decide
theorem inS (n : Fin 32) : ∀ a, ![n.val] a + S1.size a ≤ S32.size a := by revert n; decide
theorem inW (n : Fin 4) : ∀ a, ![0, 512 * n.val] a + S2048x512.size a ≤ S2048x2048.size a := by revert n; decide
theorem inKP (hp : Fin 2) : ∀ a, ![0, 128 * hp.val] a + S128x128.size a ≤ S128x256.size a := by revert hp; decide

section
variable (c : Dev nD) (i : grid0.Coords) (arg1 : Memref sig .tc .smem S32 .f32) (harg1 : arg1.IsWhole) (arg2 : Memref sig .tc .vmem S256x2048 .bf16) (harg2 : arg2.IsWhole) (arg3 : Memref sig .tc .vmem S256x512 .bf16) (harg3 : arg3.IsWhole) (arg4 : Memref sig .tc .vmem S128x512 .bf16) (harg4 : arg4.IsWhole) (arg5 : Memref sig .tc .vmem S256x1 .i32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S2048x2048 .bf16) (harg10 : arg10.IsWhole) (arg11 : Memref sig .tc .vmem S256x2048 .bf16) (harg11 : arg11.IsWhole) (arg12 : Memref sig .tc .vmem S128x256 .f32) (harg12 : arg12.IsWhole) (arg13 : Memref sig .tc .vmem S2x256x2048 .bf16) (harg13 : arg13.IsWhole)
 (x0 : Vec F S32 .f32) (x1 : Vec F S256x2048 .bf16) (x2 : Vec F S256x512 .bf16) (x3 : Vec F S128x512 .bf16) (x4 : Vec F S256x1 .i32) (x5 : Vec F S256x512 .bf16) (x6 : Vec F S256x512 .bf16) (x7 : Vec F S256x512 .bf16) (x8 : Vec F S256x512 .bf16) (x9 : Vec F S2048x2048 .bf16)
/-- The step's inputs as the body reads them from its buffers, over the rotated keys `kp` of the block before. -/
def insR (kp : Fin 2 → Vec F S128x128 .f32) : Ins F where
  q b n := View.readAt (Elt F) arg2.view (Rect.unit (s := S256x2048) ![128 * b.val, 128 * n.val] S128x128.size (inQ b n)).toLoadRect (harg2.unread x1)
  k b hp := View.readAt (Elt F) arg3.view (Rect.unit (s := S256x512) ![128 * b.val, 128 * hp.val] S128x128.size (inK b hp)).toLoadRect (harg3.unread x2)
  v b hp := (![View.readAt (Elt F) arg4.view (Rect.unit (s := S128x512) ![0, 256 + 128 * hp.val] S128x128.size (inV0 hp)).toLoadRect (harg4.unread x3),
    View.readAt (Elt F) arg3.view (Rect.unit (s := S256x512) ![128 * (0 : Fin 2).val, 256 + 128 * hp.val] S128x128.size (inV 0 hp)).toLoadRect (harg3.unread x2),
    View.readAt (Elt F) arg3.view (Rect.unit (s := S256x512) ![128 * (1 : Fin 2).val, 256 + 128 * hp.val] S128x128.size (inV 1 hp)).toLoadRect (harg3.unread x2)] : Fin 3 → Vec F S128x128 .bf16) b
  p b := View.readAt (Elt F) arg5.view (Rect.unit (s := S256x1) ![128 * b.val, 0] S128x1.size (inP b)).toLoadRect (harg5.unread x4)
  s n := View.readAt (Elt F) arg1.view (Rect.unit (s := S32) ![n.val] S1.size (inS n)).toLoadRect (harg1.unread x0) (Shape.Idx.first (Nat.one_pos))
  kp := kp
  hasPrev := Scalar.xori (runB.sl.v11 i) 1#1

end

end Cert.KernelIdeal.Swa

end
-- ==== Proof.KernelIdeal.Lists.lean ====
module

public import proofs.«01_k».proof.Proof.KernelIdeal.Uniform

@[expose] public section

set_option maxRecDepth 16384

noncomputable section

namespace Cert.KernelIdeal.Swa

open Idealize.ShloMosaic Idealize.ShloMosaic.TcCoe
open Cert.KernelIdeal.Gen

variable {F : FTy → Type} [FloatOps F] [Named F]

set_option maxHeartbeats 4000000 in
/-- Case A's stores into the output scratch: the attention's outputs, pair of heads by pair of heads. -/
theorem listYA (c : Dev nD) (i : grid0.Coords) (arg1 : Memref sig .tc .smem S32 .f32) (harg1 : arg1.IsWhole) (arg2 : Memref sig .tc .vmem S256x2048 .bf16) (harg2 : arg2.IsWhole) (arg3 : Memref sig .tc .vmem S256x512 .bf16) (harg3 : arg3.IsWhole) (arg4 : Memref sig .tc .vmem S128x512 .bf16) (harg4 : arg4.IsWhole) (arg5 : Memref sig .tc .vmem S256x1 .i32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S2048x2048 .bf16) (harg10 : arg10.IsWhole) (arg11 : Memref sig .tc .vmem S256x2048 .bf16) (harg11 : arg11.IsWhole) (arg12 : Memref sig .tc .vmem S128x256 .f32) (harg12 : arg12.IsWhole) (arg13 : Memref sig .tc .vmem S2x256x2048 .bf16) (harg13 : arg13.IsWhole) (hc0 : cond0 i) (hc1 : cond1 i) (x0 : Vec F S32 .f32) (x1 : Vec F S256x2048 .bf16) (x2 : Vec F S256x512 .bf16) (x3 : Vec F S128x512 .bf16) (x4 : Vec F S256x1 .i32) (x5 : Vec F S256x512 .bf16) (x6 : Vec F S256x512 .bf16) (x7 : Vec F S256x512 .bf16) (x8 : Vec F S256x512 .bf16) (x9 : Vec F S2048x2048 .bf16)
    (I : Ins F) (hI : I = (insR i arg1 harg1 arg2 harg2 arg3 harg3 arg4 harg4 arg5 harg5 x0 x1 x2 x3 x4 (fun hp => arg12.view.readCov [⟨Rect.unit (s := S128x256) ![0, 0] S128x256.size inb_S128x256_S128x256_0_0, k0_pay6⟩] (Rect.unit (s := S128x256) ![0, 128 * hp.val] S128x128.size (inKP hp)).toLoadRect))) :
    (runA c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.2.1 = [⟨Rect.unit (s := S2x256x2048) (k0_off33 i) S1x128x128.size (k0_off33_inb i), yp I 1 3 3⟩,
      ⟨Rect.unit (s := S2x256x2048) (k0_off32 i) S1x128x128.size (k0_off32_inb i), yp I 1 3 2⟩,
      ⟨Rect.unit (s := S2x256x2048) (k0_off31 i) S1x128x128.size (k0_off31_inb i), yp I 1 3 1⟩,
      ⟨Rect.unit (s := S2x256x2048) (k0_off30 i) S1x128x128.size (k0_off30_inb i), yp I 1 3 0⟩,
      ⟨Rect.unit (s := S2x256x2048) (k0_off29 i) S1x128x128.size (k0_off29_inb i), yp I 1 2 3⟩,
      ⟨Rect.unit (s := S2x256x2048) (k0_off28 i) S1x128x128.size (k0_off28_inb i), yp I 1 2 2⟩,
      ⟨Rect.unit (s := S2x256x2048) (k0_off27 i) S1x128x128.size (k0_off27_inb i), yp I 1 2 1⟩,
      ⟨Rect.unit (s := S2x256x2048) (k0_off26 i) S1x128x128.size (k0_off26_inb i), yp I 1 2 0⟩,
      ⟨Rect.unit (s := S2x256x2048) (k0_off25 i) S1x128x128.size (k0_off25_inb i), yp I 1 1 3⟩,
      ⟨Rect.unit (s := S2x256x2048) (k0_off24 i) S1x128x128.size (k0_off24_inb i), yp I 1 1 2⟩,
      ⟨Rect.unit (s := S2x256x2048) (k0_off23 i) S1x128x128.size (k0_off23_inb i), yp I 1 1 1⟩,
      ⟨Rect.unit (s := S2x256x2048) (k0_off22 i) S1x128x128.size (k0_off22_inb i), yp I 1 1 0⟩,
      ⟨Rect.unit (s := S2x256x2048) (k0_off21 i) S1x128x128.size (k0_off21_inb i), yp I 1 0 3⟩,
      ⟨Rect.unit (s := S2x256x2048) (k0_off20 i) S1x128x128.size (k0_off20_inb i), yp I 1 0 2⟩,
      ⟨Rect.unit (s := S2x256x2048) (k0_off19 i) S1x128x128.size (k0_off19_inb i), yp I 1 0 1⟩,
      ⟨Rect.unit (s := S2x256x2048) (k0_off18 i) S1x128x128.size (k0_off18_inb i), yp I 1 0 0⟩,
      ⟨Rect.unit (s := S2x256x2048) (k0_off17 i) S1x128x128.size (k0_off17_inb i), yp I 0 3 3⟩,
      ⟨Rect.unit (s := S2x256x2048) (k0_off16 i) S1x128x128.size (k0_off16_inb i), yp I 0 3 2⟩,
      ⟨Rect.unit (s := S2x256x2048) (k0_off15 i) S1x128x128.size (k0_off15_inb i), yp I 0 3 1⟩,
      ⟨Rect.unit (s := S2x256x2048) (k0_off14 i) S1x128x128.size (k0_off14_inb i), yp I 0 3 0⟩,
      ⟨Rect.unit (s := S2x256x2048) (k0_off13 i) S1x128x128.size (k0_off13_inb i), yp I 0 2 3⟩,
      ⟨Rect.unit (s := S2x256x2048) (k0_off12 i) S1x128x128.size (k0_off12_inb i), yp I 0 2 2⟩,
      ⟨Rect.unit (s := S2x256x2048) (k0_off11 i) S1x128x128.size (k0_off11_inb i), yp I 0 2 1⟩,
      ⟨Rect.unit (s := S2x256x2048) (k0_off10 i) S1x128x128.size (k0_off10_inb i), yp I 0 2 0⟩,
      ⟨Rect.unit (s := S2x256x2048) (k0_off9 i) S1x128x128.size (k0_off9_inb i), yp I 0 1 3⟩,
      ⟨Rect.unit (s := S2x256x2048) (k0_off8 i) S1x128x128.size (k0_off8_inb i), yp I 0 1 2⟩,
      ⟨Rect.unit (s := S2x256x2048) (k0_off7 i) S1x128x128.size (k0_off7_inb i), yp I 0 1 1⟩,
      ⟨Rect.unit (s := S2x256x2048) (k0_off6 i) S1x128x128.size (k0_off6_inb i), yp I 0 1 0⟩,
      ⟨Rect.unit (s := S2x256x2048) (k0_off5 i) S1x128x128.size (k0_off5_inb i), yp I 0 0 3⟩,
      ⟨Rect.unit (s := S2x256x2048) (k0_off4 i) S1x128x128.size (k0_off4_inb i), yp I 0 0 2⟩,
      ⟨Rect.unit (s := S2x256x2048) (k0_off3 i) S1x128x128.size (k0_off3_inb i), yp I 0 0 1⟩,
      ⟨Rect.unit (s := S2x256x2048) (k0_off2 i) S1x128x128.size (k0_off2_inb i), yp I 0 0 0⟩,
      ⟨Rect.unit (s := S2x256x2048) ![0, 0, 0] S2x256x2048.size inb_S2x256x2048_S2x256x2048_0_0_0, k0_pay5⟩] := by
  subst hI; sl_kernel_rfl

set_option maxHeartbeats 4000000 in
/-- Case A's stores into the key scratch: the rotated keys of the step's second block. -/
theorem listKA (c : Dev nD) (i : grid0.Coords) (arg1 : Memref sig .tc .smem S32 .f32) (harg1 : arg1.IsWhole) (arg2 : Memref sig .tc .vmem S256x2048 .bf16) (harg2 : arg2.IsWhole) (arg3 : Memref sig .tc .vmem S256x512 .bf16) (harg3 : arg3.IsWhole) (arg4 : Memref sig .tc .vmem S128x512 .bf16) (harg4 : arg4.IsWhole) (arg5 : Memref sig .tc .vmem S256x1 .i32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S2048x2048 .bf16) (harg10 : arg10.IsWhole) (arg11 : Memref sig .tc .vmem S256x2048 .bf16) (harg11 : arg11.IsWhole) (arg12 : Memref sig .tc .vmem S128x256 .f32) (harg12 : arg12.IsWhole) (arg13 : Memref sig .tc .vmem S2x256x2048 .bf16) (harg13 : arg13.IsWhole) (hc0 : cond0 i) (hc1 : cond1 i) (x0 : Vec F S32 .f32) (x1 : Vec F S256x2048 .bf16) (x2 : Vec F S256x512 .bf16) (x3 : Vec F S128x512 .bf16) (x4 : Vec F S256x1 .i32) (x5 : Vec F S256x512 .bf16) (x6 : Vec F S256x512 .bf16) (x7 : Vec F S256x512 .bf16) (x8 : Vec F S256x512 .bf16) (x9 : Vec F S2048x2048 .bf16)
    (I : Ins F) (hI : I = (insR i arg1 harg1 arg2 harg2 arg3 harg3 arg4 harg4 arg5 harg5 x0 x1 x2 x3 x4 (fun hp => arg12.view.readCov [⟨Rect.unit (s := S128x256) ![0, 0] S128x256.size inb_S128x256_S128x256_0_0, k0_pay6⟩] (Rect.unit (s := S128x256) ![0, 128 * hp.val] S128x128.size (inKP hp)).toLoadRect))) :
    (runA c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1 = [⟨Rect.unit (s := S128x256) ![0, 128] S128x128.size inb_S128x256_S128x128_0_128, k0_pay4 (kc I 1 1)⟩,
      ⟨Rect.unit (s := S128x256) ![0, 0] S128x128.size inb_S128x256_S128x128_0_0, k0_pay3 (kc I 1 0)⟩,
      ⟨Rect.unit (s := S128x256) ![0, 0] S128x256.size inb_S128x256_S128x256_0_0, k0_pay6⟩] := by
  subst hI; sl_kernel_rfl

set_option maxHeartbeats 4000000 in
/-- Case B's stores into the output scratch: the attention's outputs, pair of heads by pair of heads. -/
theorem listYB (c : Dev nD) (i : grid0.Coords) (arg1 : Memref sig .tc .smem S32 .f32) (harg1 : arg1.IsWhole) (arg2 : Memref sig .tc .vmem S256x2048 .bf16) (harg2 : arg2.IsWhole) (arg3 : Memref sig .tc .vmem S256x512 .bf16) (harg3 : arg3.IsWhole) (arg4 : Memref sig .tc .vmem S128x512 .bf16) (harg4 : arg4.IsWhole) (arg5 : Memref sig .tc .vmem S256x1 .i32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S2048x2048 .bf16) (harg10 : arg10.IsWhole) (arg11 : Memref sig .tc .vmem S256x2048 .bf16) (harg11 : arg11.IsWhole) (arg12 : Memref sig .tc .vmem S128x256 .f32) (harg12 : arg12.IsWhole) (arg13 : Memref sig .tc .vmem S2x256x2048 .bf16) (harg13 : arg13.IsWhole) (hc0 : ¬cond0 i) (hc1 : ¬cond1 i) (x0 : Vec F S32 .f32) (x1 : Vec F S256x2048 .bf16) (x2 : Vec F S256x512 .bf16) (x3 : Vec F S128x512 .bf16) (x4 : Vec F S256x1 .i32) (x5 : Vec F S256x512 .bf16) (x6 : Vec F S256x512 .bf16) (x7 : Vec F S256x512 .bf16) (x8 : Vec F S256x512 .bf16) (x9 : Vec F S2048x2048 .bf16) (xs0 : Vec F S128x256 .f32) (xs1 : Vec F S2x256x2048 .bf16)
    (I : Ins F) (hI : I = (insR i arg1 harg1 arg2 harg2 arg3 harg3 arg4 harg4 arg5 harg5 x0 x1 x2 x3 x4 (fun hp => View.readAt (Elt F) arg12.view (Rect.unit (s := S128x256) ![0, 128 * hp.val] S128x128.size (inKP hp)).toLoadRect (harg12.unread xs0)))) :
    (runB c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).2.2.1 = [⟨Rect.unit (s := S2x256x2048) (k0_off33 i) S1x128x128.size (k0_off33_inb i), yp I 1 3 3⟩,
      ⟨Rect.unit (s := S2x256x2048) (k0_off32 i) S1x128x128.size (k0_off32_inb i), yp I 1 3 2⟩,
      ⟨Rect.unit (s := S2x256x2048) (k0_off31 i) S1x128x128.size (k0_off31_inb i), yp I 1 3 1⟩,
      ⟨Rect.unit (s := S2x256x2048) (k0_off30 i) S1x128x128.size (k0_off30_inb i), yp I 1 3 0⟩,
      ⟨Rect.unit (s := S2x256x2048) (k0_off29 i) S1x128x128.size (k0_off29_inb i), yp I 1 2 3⟩,
      ⟨Rect.unit (s := S2x256x2048) (k0_off28 i) S1x128x128.size (k0_off28_inb i), yp I 1 2 2⟩,
      ⟨Rect.unit (s := S2x256x2048) (k0_off27 i) S1x128x128.size (k0_off27_inb i), yp I 1 2 1⟩,
      ⟨Rect.unit (s := S2x256x2048) (k0_off26 i) S1x128x128.size (k0_off26_inb i), yp I 1 2 0⟩,
      ⟨Rect.unit (s := S2x256x2048) (k0_off25 i) S1x128x128.size (k0_off25_inb i), yp I 1 1 3⟩,
      ⟨Rect.unit (s := S2x256x2048) (k0_off24 i) S1x128x128.size (k0_off24_inb i), yp I 1 1 2⟩,
      ⟨Rect.unit (s := S2x256x2048) (k0_off23 i) S1x128x128.size (k0_off23_inb i), yp I 1 1 1⟩,
      ⟨Rect.unit (s := S2x256x2048) (k0_off22 i) S1x128x128.size (k0_off22_inb i), yp I 1 1 0⟩,
      ⟨Rect.unit (s := S2x256x2048) (k0_off21 i) S1x128x128.size (k0_off21_inb i), yp I 1 0 3⟩,
      ⟨Rect.unit (s := S2x256x2048) (k0_off20 i) S1x128x128.size (k0_off20_inb i), yp I 1 0 2⟩,
      ⟨Rect.unit (s := S2x256x2048) (k0_off19 i) S1x128x128.size (k0_off19_inb i), yp I 1 0 1⟩,
      ⟨Rect.unit (s := S2x256x2048) (k0_off18 i) S1x128x128.size (k0_off18_inb i), yp I 1 0 0⟩,
      ⟨Rect.unit (s := S2x256x2048) (k0_off17 i) S1x128x128.size (k0_off17_inb i), yp I 0 3 3⟩,
      ⟨Rect.unit (s := S2x256x2048) (k0_off16 i) S1x128x128.size (k0_off16_inb i), yp I 0 3 2⟩,
      ⟨Rect.unit (s := S2x256x2048) (k0_off15 i) S1x128x128.size (k0_off15_inb i), yp I 0 3 1⟩,
      ⟨Rect.unit (s := S2x256x2048) (k0_off14 i) S1x128x128.size (k0_off14_inb i), yp I 0 3 0⟩,
      ⟨Rect.unit (s := S2x256x2048) (k0_off13 i) S1x128x128.size (k0_off13_inb i), yp I 0 2 3⟩,
      ⟨Rect.unit (s := S2x256x2048) (k0_off12 i) S1x128x128.size (k0_off12_inb i), yp I 0 2 2⟩,
      ⟨Rect.unit (s := S2x256x2048) (k0_off11 i) S1x128x128.size (k0_off11_inb i), yp I 0 2 1⟩,
      ⟨Rect.unit (s := S2x256x2048) (k0_off10 i) S1x128x128.size (k0_off10_inb i), yp I 0 2 0⟩,
      ⟨Rect.unit (s := S2x256x2048) (k0_off9 i) S1x128x128.size (k0_off9_inb i), yp I 0 1 3⟩,
      ⟨Rect.unit (s := S2x256x2048) (k0_off8 i) S1x128x128.size (k0_off8_inb i), yp I 0 1 2⟩,
      ⟨Rect.unit (s := S2x256x2048) (k0_off7 i) S1x128x128.size (k0_off7_inb i), yp I 0 1 1⟩,
      ⟨Rect.unit (s := S2x256x2048) (k0_off6 i) S1x128x128.size (k0_off6_inb i), yp I 0 1 0⟩,
      ⟨Rect.unit (s := S2x256x2048) (k0_off5 i) S1x128x128.size (k0_off5_inb i), yp I 0 0 3⟩,
      ⟨Rect.unit (s := S2x256x2048) (k0_off4 i) S1x128x128.size (k0_off4_inb i), yp I 0 0 2⟩,
      ⟨Rect.unit (s := S2x256x2048) (k0_off3 i) S1x128x128.size (k0_off3_inb i), yp I 0 0 1⟩,
      ⟨Rect.unit (s := S2x256x2048) (k0_off2 i) S1x128x128.size (k0_off2_inb i), yp I 0 0 0⟩] := by
  subst hI; sl_kernel_rfl

set_option maxHeartbeats 4000000 in
/-- Case B's stores into the key scratch: the rotated keys of the step's second block. -/
theorem listKB (c : Dev nD) (i : grid0.Coords) (arg1 : Memref sig .tc .smem S32 .f32) (harg1 : arg1.IsWhole) (arg2 : Memref sig .tc .vmem S256x2048 .bf16) (harg2 : arg2.IsWhole) (arg3 : Memref sig .tc .vmem S256x512 .bf16) (harg3 : arg3.IsWhole) (arg4 : Memref sig .tc .vmem S128x512 .bf16) (harg4 : arg4.IsWhole) (arg5 : Memref sig .tc .vmem S256x1 .i32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S2048x2048 .bf16) (harg10 : arg10.IsWhole) (arg11 : Memref sig .tc .vmem S256x2048 .bf16) (harg11 : arg11.IsWhole) (arg12 : Memref sig .tc .vmem S128x256 .f32) (harg12 : arg12.IsWhole) (arg13 : Memref sig .tc .vmem S2x256x2048 .bf16) (harg13 : arg13.IsWhole) (hc0 : ¬cond0 i) (hc1 : ¬cond1 i) (x0 : Vec F S32 .f32) (x1 : Vec F S256x2048 .bf16) (x2 : Vec F S256x512 .bf16) (x3 : Vec F S128x512 .bf16) (x4 : Vec F S256x1 .i32) (x5 : Vec F S256x512 .bf16) (x6 : Vec F S256x512 .bf16) (x7 : Vec F S256x512 .bf16) (x8 : Vec F S256x512 .bf16) (x9 : Vec F S2048x2048 .bf16) (xs0 : Vec F S128x256 .f32) (xs1 : Vec F S2x256x2048 .bf16)
    (I : Ins F) (hI : I = (insR i arg1 harg1 arg2 harg2 arg3 harg3 arg4 harg4 arg5 harg5 x0 x1 x2 x3 x4 (fun hp => View.readAt (Elt F) arg12.view (Rect.unit (s := S128x256) ![0, 128 * hp.val] S128x128.size (inKP hp)).toLoadRect (harg12.unread xs0)))) :
    (runB c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).2.1 = [⟨Rect.unit (s := S128x256) ![0, 128] S128x128.size inb_S128x256_S128x128_0_128, k0_pay4 (kc I 1 1)⟩,
      ⟨Rect.unit (s := S128x256) ![0, 0] S128x128.size inb_S128x256_S128x128_0_0, k0_pay3 (kc I 1 0)⟩] := by
  subst hI; sl_kernel_rfl

set_option maxHeartbeats 4000000 in
/-- Case B's stores into the output block: its four column chunks. -/
theorem listOB (c : Dev nD) (i : grid0.Coords) (arg1 : Memref sig .tc .smem S32 .f32) (harg1 : arg1.IsWhole) (arg2 : Memref sig .tc .vmem S256x2048 .bf16) (harg2 : arg2.IsWhole) (arg3 : Memref sig .tc .vmem S256x512 .bf16) (harg3 : arg3.IsWhole) (arg4 : Memref sig .tc .vmem S128x512 .bf16) (harg4 : arg4.IsWhole) (arg5 : Memref sig .tc .vmem S256x1 .i32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S2048x2048 .bf16) (harg10 : arg10.IsWhole) (arg11 : Memref sig .tc .vmem S256x2048 .bf16) (harg11 : arg11.IsWhole) (arg12 : Memref sig .tc .vmem S128x256 .f32) (harg12 : arg12.IsWhole) (arg13 : Memref sig .tc .vmem S2x256x2048 .bf16) (harg13 : arg13.IsWhole) (hc0 : ¬cond0 i) (hc1 : ¬cond1 i) (x0 : Vec F S32 .f32) (x1 : Vec F S256x2048 .bf16) (x2 : Vec F S256x512 .bf16) (x3 : Vec F S128x512 .bf16) (x4 : Vec F S256x1 .i32) (x5 : Vec F S256x512 .bf16) (x6 : Vec F S256x512 .bf16) (x7 : Vec F S256x512 .bf16) (x8 : Vec F S256x512 .bf16) (x9 : Vec F S2048x2048 .bf16) (xs0 : Vec F S128x256 .f32) (xs1 : Vec F S2x256x2048 .bf16)
    (Y : FVec F S256x2048 .bf16) (hY : Y = k0_pay7 (View.readAt (Elt F) arg13.view (Rect.unit (s := S2x256x2048) (k0_off1 i) S1x256x2048.size (k0_off1_inb i)).toLoadRect (harg13.unread xs1))) :
    (runB c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1).1 = [⟨Rect.unit (s := S256x2048) ![0, 1536] S256x512.size inb_S256x2048_S256x512_0_1536, k0_pay48 Y (View.readAt (Elt F) arg10.view (Rect.unit (s := S2048x2048) ![0, 1536] S2048x512.size inb_S2048x2048_S2048x512_0_1536).toLoadRect (harg10.unread x9)) (View.readAt (Elt F) arg9.view (Rect.unit (s := S256x512) ![0, 0] S256x512.size inb_S256x512_S256x512_0_0).toLoadRect (harg9.unread x8))⟩,
      ⟨Rect.unit (s := S256x2048) ![0, 1024] S256x512.size inb_S256x2048_S256x512_0_1024, k0_pay48 Y (View.readAt (Elt F) arg10.view (Rect.unit (s := S2048x2048) ![0, 1024] S2048x512.size inb_S2048x2048_S2048x512_0_1024).toLoadRect (harg10.unread x9)) (View.readAt (Elt F) arg8.view (Rect.unit (s := S256x512) ![0, 0] S256x512.size inb_S256x512_S256x512_0_0).toLoadRect (harg8.unread x7))⟩,
      ⟨Rect.unit (s := S256x2048) ![0, 512] S256x512.size inb_S256x2048_S256x512_0_512, k0_pay48 Y (View.readAt (Elt F) arg10.view (Rect.unit (s := S2048x2048) ![0, 512] S2048x512.size inb_S2048x2048_S2048x512_0_512).toLoadRect (harg10.unread x9)) (View.readAt (Elt F) arg7.view (Rect.unit (s := S256x512) ![0, 0] S256x512.size inb_S256x512_S256x512_0_0).toLoadRect (harg7.unread x6))⟩,
      ⟨Rect.unit (s := S256x2048) ![0, 0] S256x512.size inb_S256x2048_S256x512_0_0, k0_pay48 Y (View.readAt (Elt F) arg10.view (Rect.unit (s := S2048x2048) ![0, 0] S2048x512.size inb_S2048x2048_S2048x512_0_0).toLoadRect (harg10.unread x9)) (View.readAt (Elt F) arg6.view (Rect.unit (s := S256x512) ![0, 0] S256x512.size inb_S256x512_S256x512_0_0).toLoadRect (harg6.unread x5))⟩] := by
  subst hY; sl_kernel_rfl

set_option maxHeartbeats 4000000 in
/-- Case C's stores into the output scratch: the attention's outputs, pair of heads by pair of heads. -/
theorem listYC (c : Dev nD) (i : grid0.Coords) (arg1 : Memref sig .tc .smem S32 .f32) (harg1 : arg1.IsWhole) (arg2 : Memref sig .tc .vmem S256x2048 .bf16) (harg2 : arg2.IsWhole) (arg3 : Memref sig .tc .vmem S256x512 .bf16) (harg3 : arg3.IsWhole) (arg4 : Memref sig .tc .vmem S128x512 .bf16) (harg4 : arg4.IsWhole) (arg5 : Memref sig .tc .vmem S256x1 .i32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S2048x2048 .bf16) (harg10 : arg10.IsWhole) (arg11 : Memref sig .tc .vmem S256x2048 .bf16) (harg11 : arg11.IsWhole) (arg12 : Memref sig .tc .vmem S128x256 .f32) (harg12 : arg12.IsWhole) (arg13 : Memref sig .tc .vmem S2x256x2048 .bf16) (harg13 : arg13.IsWhole) (hc0 : ¬cond0 i) (hc1 : cond1 i) (x0 : Vec F S32 .f32) (x1 : Vec F S256x2048 .bf16) (x2 : Vec F S256x512 .bf16) (x3 : Vec F S128x512 .bf16) (x4 : Vec F S256x1 .i32) (x5 : Vec F S256x512 .bf16) (x6 : Vec F S256x512 .bf16) (x7 : Vec F S256x512 .bf16) (x8 : Vec F S256x512 .bf16) (x9 : Vec F S2048x2048 .bf16) (xs1 : Vec F S2x256x2048 .bf16)
    (I : Ins F) (hI : I = (insR i arg1 harg1 arg2 harg2 arg3 harg3 arg4 harg4 arg5 harg5 x0 x1 x2 x3 x4 (fun hp => arg12.view.readCov [⟨Rect.unit (s := S128x256) ![0, 0] S128x256.size inb_S128x256_S128x256_0_0, k0_pay6⟩] (Rect.unit (s := S128x256) ![0, 128 * hp.val] S128x128.size (inKP hp)).toLoadRect))) :
    (runC c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs1).2.2.1 = [⟨Rect.unit (s := S2x256x2048) (k0_off33 i) S1x128x128.size (k0_off33_inb i), yp I 1 3 3⟩,
      ⟨Rect.unit (s := S2x256x2048) (k0_off32 i) S1x128x128.size (k0_off32_inb i), yp I 1 3 2⟩,
      ⟨Rect.unit (s := S2x256x2048) (k0_off31 i) S1x128x128.size (k0_off31_inb i), yp I 1 3 1⟩,
      ⟨Rect.unit (s := S2x256x2048) (k0_off30 i) S1x128x128.size (k0_off30_inb i), yp I 1 3 0⟩,
      ⟨Rect.unit (s := S2x256x2048) (k0_off29 i) S1x128x128.size (k0_off29_inb i), yp I 1 2 3⟩,
      ⟨Rect.unit (s := S2x256x2048) (k0_off28 i) S1x128x128.size (k0_off28_inb i), yp I 1 2 2⟩,
      ⟨Rect.unit (s := S2x256x2048) (k0_off27 i) S1x128x128.size (k0_off27_inb i), yp I 1 2 1⟩,
      ⟨Rect.unit (s := S2x256x2048) (k0_off26 i) S1x128x128.size (k0_off26_inb i), yp I 1 2 0⟩,
      ⟨Rect.unit (s := S2x256x2048) (k0_off25 i) S1x128x128.size (k0_off25_inb i), yp I 1 1 3⟩,
      ⟨Rect.unit (s := S2x256x2048) (k0_off24 i) S1x128x128.size (k0_off24_inb i), yp I 1 1 2⟩,
      ⟨Rect.unit (s := S2x256x2048) (k0_off23 i) S1x128x128.size (k0_off23_inb i), yp I 1 1 1⟩,
      ⟨Rect.unit (s := S2x256x2048) (k0_off22 i) S1x128x128.size (k0_off22_inb i), yp I 1 1 0⟩,
      ⟨Rect.unit (s := S2x256x2048) (k0_off21 i) S1x128x128.size (k0_off21_inb i), yp I 1 0 3⟩,
      ⟨Rect.unit (s := S2x256x2048) (k0_off20 i) S1x128x128.size (k0_off20_inb i), yp I 1 0 2⟩,
      ⟨Rect.unit (s := S2x256x2048) (k0_off19 i) S1x128x128.size (k0_off19_inb i), yp I 1 0 1⟩,
      ⟨Rect.unit (s := S2x256x2048) (k0_off18 i) S1x128x128.size (k0_off18_inb i), yp I 1 0 0⟩,
      ⟨Rect.unit (s := S2x256x2048) (k0_off17 i) S1x128x128.size (k0_off17_inb i), yp I 0 3 3⟩,
      ⟨Rect.unit (s := S2x256x2048) (k0_off16 i) S1x128x128.size (k0_off16_inb i), yp I 0 3 2⟩,
      ⟨Rect.unit (s := S2x256x2048) (k0_off15 i) S1x128x128.size (k0_off15_inb i), yp I 0 3 1⟩,
      ⟨Rect.unit (s := S2x256x2048) (k0_off14 i) S1x128x128.size (k0_off14_inb i), yp I 0 3 0⟩,
      ⟨Rect.unit (s := S2x256x2048) (k0_off13 i) S1x128x128.size (k0_off13_inb i), yp I 0 2 3⟩,
      ⟨Rect.unit (s := S2x256x2048) (k0_off12 i) S1x128x128.size (k0_off12_inb i), yp I 0 2 2⟩,
      ⟨Rect.unit (s := S2x256x2048) (k0_off11 i) S1x128x128.size (k0_off11_inb i), yp I 0 2 1⟩,
      ⟨Rect.unit (s := S2x256x2048) (k0_off10 i) S1x128x128.size (k0_off10_inb i), yp I 0 2 0⟩,
      ⟨Rect.unit (s := S2x256x2048) (k0_off9 i) S1x128x128.size (k0_off9_inb i), yp I 0 1 3⟩,
      ⟨Rect.unit (s := S2x256x2048) (k0_off8 i) S1x128x128.size (k0_off8_inb i), yp I 0 1 2⟩,
      ⟨Rect.unit (s := S2x256x2048) (k0_off7 i) S1x128x128.size (k0_off7_inb i), yp I 0 1 1⟩,
      ⟨Rect.unit (s := S2x256x2048) (k0_off6 i) S1x128x128.size (k0_off6_inb i), yp I 0 1 0⟩,
      ⟨Rect.unit (s := S2x256x2048) (k0_off5 i) S1x128x128.size (k0_off5_inb i), yp I 0 0 3⟩,
      ⟨Rect.unit (s := S2x256x2048) (k0_off4 i) S1x128x128.size (k0_off4_inb i), yp I 0 0 2⟩,
      ⟨Rect.unit (s := S2x256x2048) (k0_off3 i) S1x128x128.size (k0_off3_inb i), yp I 0 0 1⟩,
      ⟨Rect.unit (s := S2x256x2048) (k0_off2 i) S1x128x128.size (k0_off2_inb i), yp I 0 0 0⟩] := by
  subst hI; sl_kernel_rfl

set_option maxHeartbeats 4000000 in
/-- Case C's stores into the key scratch: the rotated keys of the step's second block. -/
theorem listKC (c : Dev nD) (i : grid0.Coords) (arg1 : Memref sig .tc .smem S32 .f32) (harg1 : arg1.IsWhole) (arg2 : Memref sig .tc .vmem S256x2048 .bf16) (harg2 : arg2.IsWhole) (arg3 : Memref sig .tc .vmem S256x512 .bf16) (harg3 : arg3.IsWhole) (arg4 : Memref sig .tc .vmem S128x512 .bf16) (harg4 : arg4.IsWhole) (arg5 : Memref sig .tc .vmem S256x1 .i32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S2048x2048 .bf16) (harg10 : arg10.IsWhole) (arg11 : Memref sig .tc .vmem S256x2048 .bf16) (harg11 : arg11.IsWhole) (arg12 : Memref sig .tc .vmem S128x256 .f32) (harg12 : arg12.IsWhole) (arg13 : Memref sig .tc .vmem S2x256x2048 .bf16) (harg13 : arg13.IsWhole) (hc0 : ¬cond0 i) (hc1 : cond1 i) (x0 : Vec F S32 .f32) (x1 : Vec F S256x2048 .bf16) (x2 : Vec F S256x512 .bf16) (x3 : Vec F S128x512 .bf16) (x4 : Vec F S256x1 .i32) (x5 : Vec F S256x512 .bf16) (x6 : Vec F S256x512 .bf16) (x7 : Vec F S256x512 .bf16) (x8 : Vec F S256x512 .bf16) (x9 : Vec F S2048x2048 .bf16) (xs1 : Vec F S2x256x2048 .bf16)
    (I : Ins F) (hI : I = (insR i arg1 harg1 arg2 harg2 arg3 harg3 arg4 harg4 arg5 harg5 x0 x1 x2 x3 x4 (fun hp => arg12.view.readCov [⟨Rect.unit (s := S128x256) ![0, 0] S128x256.size inb_S128x256_S128x256_0_0, k0_pay6⟩] (Rect.unit (s := S128x256) ![0, 128 * hp.val] S128x128.size (inKP hp)).toLoadRect))) :
    (runC c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs1).2.1 = [⟨Rect.unit (s := S128x256) ![0, 128] S128x128.size inb_S128x256_S128x128_0_128, k0_pay4 (kc I 1 1)⟩,
      ⟨Rect.unit (s := S128x256) ![0, 0] S128x128.size inb_S128x256_S128x128_0_0, k0_pay3 (kc I 1 0)⟩,
      ⟨Rect.unit (s := S128x256) ![0, 0] S128x256.size inb_S128x256_S128x256_0_0, k0_pay6⟩] := by
  subst hI; sl_kernel_rfl

set_option maxHeartbeats 4000000 in
/-- Case C's stores into the output block: its four column chunks. -/
theorem listOC (c : Dev nD) (i : grid0.Coords) (arg1 : Memref sig .tc .smem S32 .f32) (harg1 : arg1.IsWhole) (arg2 : Memref sig .tc .vmem S256x2048 .bf16) (harg2 : arg2.IsWhole) (arg3 : Memref sig .tc .vmem S256x512 .bf16) (harg3 : arg3.IsWhole) (arg4 : Memref sig .tc .vmem S128x512 .bf16) (harg4 : arg4.IsWhole) (arg5 : Memref sig .tc .vmem S256x1 .i32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S2048x2048 .bf16) (harg10 : arg10.IsWhole) (arg11 : Memref sig .tc .vmem S256x2048 .bf16) (harg11 : arg11.IsWhole) (arg12 : Memref sig .tc .vmem S128x256 .f32) (harg12 : arg12.IsWhole) (arg13 : Memref sig .tc .vmem S2x256x2048 .bf16) (harg13 : arg13.IsWhole) (hc0 : ¬cond0 i) (hc1 : cond1 i) (x0 : Vec F S32 .f32) (x1 : Vec F S256x2048 .bf16) (x2 : Vec F S256x512 .bf16) (x3 : Vec F S128x512 .bf16) (x4 : Vec F S256x1 .i32) (x5 : Vec F S256x512 .bf16) (x6 : Vec F S256x512 .bf16) (x7 : Vec F S256x512 .bf16) (x8 : Vec F S256x512 .bf16) (x9 : Vec F S2048x2048 .bf16) (xs1 : Vec F S2x256x2048 .bf16)
    (Y : FVec F S256x2048 .bf16) (hY : Y = k0_pay7 (View.readAt (Elt F) arg13.view (Rect.unit (s := S2x256x2048) (k0_off1 i) S1x256x2048.size (k0_off1_inb i)).toLoadRect (harg13.unread xs1))) :
    (runC c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs1).1 = [⟨Rect.unit (s := S256x2048) ![0, 1536] S256x512.size inb_S256x2048_S256x512_0_1536, k0_pay48 Y (View.readAt (Elt F) arg10.view (Rect.unit (s := S2048x2048) ![0, 1536] S2048x512.size inb_S2048x2048_S2048x512_0_1536).toLoadRect (harg10.unread x9)) (View.readAt (Elt F) arg9.view (Rect.unit (s := S256x512) ![0, 0] S256x512.size inb_S256x512_S256x512_0_0).toLoadRect (harg9.unread x8))⟩,
      ⟨Rect.unit (s := S256x2048) ![0, 1024] S256x512.size inb_S256x2048_S256x512_0_1024, k0_pay48 Y (View.readAt (Elt F) arg10.view (Rect.unit (s := S2048x2048) ![0, 1024] S2048x512.size inb_S2048x2048_S2048x512_0_1024).toLoadRect (harg10.unread x9)) (View.readAt (Elt F) arg8.view (Rect.unit (s := S256x512) ![0, 0] S256x512.size inb_S256x512_S256x512_0_0).toLoadRect (harg8.unread x7))⟩,
      ⟨Rect.unit (s := S256x2048) ![0, 512] S256x512.size inb_S256x2048_S256x512_0_512, k0_pay48 Y (View.readAt (Elt F) arg10.view (Rect.unit (s := S2048x2048) ![0, 512] S2048x512.size inb_S2048x2048_S2048x512_0_512).toLoadRect (harg10.unread x9)) (View.readAt (Elt F) arg7.view (Rect.unit (s := S256x512) ![0, 0] S256x512.size inb_S256x512_S256x512_0_0).toLoadRect (harg7.unread x6))⟩,
      ⟨Rect.unit (s := S256x2048) ![0, 0] S256x512.size inb_S256x2048_S256x512_0_0, k0_pay48 Y (View.readAt (Elt F) arg10.view (Rect.unit (s := S2048x2048) ![0, 0] S2048x512.size inb_S2048x2048_S2048x512_0_0).toLoadRect (harg10.unread x9)) (View.readAt (Elt F) arg6.view (Rect.unit (s := S256x512) ![0, 0] S256x512.size inb_S256x512_S256x512_0_0).toLoadRect (harg6.unread x5))⟩] := by
  subst hY; sl_kernel_rfl

end Cert.KernelIdeal.Swa

end
-- ==== Proof.KernelIdeal.Store.lean ====
module

public import proofs.«01_k».proof.Proof.KernelIdeal.Lists
public import proofs.«01_k».proof.Proof.KernelIdeal.Frame
public import Idealize.ShloMosaic.Lib.Pipeline.ValueKit

@[expose] public section

set_option maxRecDepth 16384

noncomputable section

namespace Cert.KernelIdeal.Swa

open Idealize.ShloMosaic Idealize.ShloMosaic.TcCoe Idealize.ShloMosaic.Tactic
open Cert.KernelIdeal.Gen

variable {F : FTy → Type} [FloatOps F] [Named F]

theorem inY (s : ℕ) (hs : s < 2) (b : Fin 2) (h gp : Fin 4) :
    ∀ a, ![s, 128 * b.val, 512 * h.val + 128 * gp.val] a + S1x128x128.size a ≤ S2x256x2048.size a := by
  intro a
  have h1 := b.isLt; have h2 := h.isLt; have h3 := gp.isLt
  fin_cases a
  · show s + 1 ≤ 2; omega
  · show 128 * b.val + 128 ≤ 256; omega
  · show 512 * h.val + 128 * gp.val + 128 ≤ 2048; omega

/-- One store of a pair of heads' output into the half `s` of the output scratch. -/
def pieceY (I : Ins F) (s : ℕ) (hs : s < 2) (b : Fin 2) (h gp : Fin 4) : View.Piece (Elt F) S2x256x2048 .bf16 :=
  ⟨Rect.unit (s := S2x256x2048) ![s, 128 * b.val, 512 * h.val + 128 * gp.val] S1x128x128.size (inY s hs b h gp), yp I b h gp⟩

/-- A store at an offset in closed form. -/
theorem piece_closed (v : FVec F S1x128x128 .bf16) (off off' : Fin 3 → ℕ) (inb inb') (h : off = off') :
    (⟨Rect.unit (s := S2x256x2048) off S1x128x128.size inb, v⟩ : View.Piece (Elt F) S2x256x2048 .bf16)
      = ⟨Rect.unit (s := S2x256x2048) off' S1x128x128.size inb', v⟩ := by
  subst h; rfl

/-- A step's stores into the output scratch, the last first. -/
def listY (i : grid0.Coords) (I : Ins F) : List (View.Piece (Elt F) S2x256x2048 .bf16) :=
  [⟨Rect.unit (s := S2x256x2048) (k0_off33 i) S1x128x128.size (k0_off33_inb i), yp I 1 3 3⟩,
   ⟨Rect.unit (s := S2x256x2048) (k0_off32 i) S1x128x128.size (k0_off32_inb i), yp I 1 3 2⟩,
   ⟨Rect.unit (s := S2x256x2048) (k0_off31 i) S1x128x128.size (k0_off31_inb i), yp I 1 3 1⟩,
   ⟨Rect.unit (s := S2x256x2048) (k0_off30 i) S1x128x128.size (k0_off30_inb i), yp I 1 3 0⟩,
   ⟨Rect.unit (s := S2x256x2048) (k0_off29 i) S1x128x128.size (k0_off29_inb i), yp I 1 2 3⟩,
   ⟨Rect.unit (s := S2x256x2048) (k0_off28 i) S1x128x128.size (k0_off28_inb i), yp I 1 2 2⟩,
   ⟨Rect.unit (s := S2x256x2048) (k0_off27 i) S1x128x128.size (k0_off27_inb i), yp I 1 2 1⟩,
   ⟨Rect.unit (s := S2x256x2048) (k0_off26 i) S1x128x128.size (k0_off26_inb i), yp I 1 2 0⟩,
   ⟨Rect.unit (s := S2x256x2048) (k0_off25 i) S1x128x128.size (k0_off25_inb i), yp I 1 1 3⟩,
   ⟨Rect.unit (s := S2x256x2048) (k0_off24 i) S1x128x128.size (k0_off24_inb i), yp I 1 1 2⟩,
   ⟨Rect.unit (s := S2x256x2048) (k0_off23 i) S1x128x128.size (k0_off23_inb i), yp I 1 1 1⟩,
   ⟨Rect.unit (s := S2x256x2048) (k0_off22 i) S1x128x128.size (k0_off22_inb i), yp I 1 1 0⟩,
   ⟨Rect.unit (s := S2x256x2048) (k0_off21 i) S1x128x128.size (k0_off21_inb i), yp I 1 0 3⟩,
   ⟨Rect.unit (s := S2x256x2048) (k0_off20 i) S1x128x128.size (k0_off20_inb i), yp I 1 0 2⟩,
   ⟨Rect.unit (s := S2x256x2048) (k0_off19 i) S1x128x128.size (k0_off19_inb i), yp I 1 0 1⟩,
   ⟨Rect.unit (s := S2x256x2048) (k0_off18 i) S1x128x128.size (k0_off18_inb i), yp I 1 0 0⟩,
   ⟨Rect.unit (s := S2x256x2048) (k0_off17 i) S1x128x128.size (k0_off17_inb i), yp I 0 3 3⟩,
   ⟨Rect.unit (s := S2x256x2048) (k0_off16 i) S1x128x128.size (k0_off16_inb i), yp I 0 3 2⟩,
   ⟨Rect.unit (s := S2x256x2048) (k0_off15 i) S1x128x128.size (k0_off15_inb i), yp I 0 3 1⟩,
   ⟨Rect.unit (s := S2x256x2048) (k0_off14 i) S1x128x128.size (k0_off14_inb i), yp I 0 3 0⟩,
   ⟨Rect.unit (s := S2x256x2048) (k0_off13 i) S1x128x128.size (k0_off13_inb i), yp I 0 2 3⟩,
   ⟨Rect.unit (s := S2x256x2048) (k0_off12 i) S1x128x128.size (k0_off12_inb i), yp I 0 2 2⟩,
   ⟨Rect.unit (s := S2x256x2048) (k0_off11 i) S1x128x128.size (k0_off11_inb i), yp I 0 2 1⟩,
   ⟨Rect.unit (s := S2x256x2048) (k0_off10 i) S1x128x128.size (k0_off10_inb i), yp I 0 2 0⟩,
   ⟨Rect.unit (s := S2x256x2048) (k0_off9 i) S1x128x128.size (k0_off9_inb i), yp I 0 1 3⟩,
   ⟨Rect.unit (s := S2x256x2048) (k0_off8 i) S1x128x128.size (k0_off8_inb i), yp I 0 1 2⟩,
   ⟨Rect.unit (s := S2x256x2048) (k0_off7 i) S1x128x128.size (k0_off7_inb i), yp I 0 1 1⟩,
   ⟨Rect.unit (s := S2x256x2048) (k0_off6 i) S1x128x128.size (k0_off6_inb i), yp I 0 1 0⟩,
   ⟨Rect.unit (s := S2x256x2048) (k0_off5 i) S1x128x128.size (k0_off5_inb i), yp I 0 0 3⟩,
   ⟨Rect.unit (s := S2x256x2048) (k0_off4 i) S1x128x128.size (k0_off4_inb i), yp I 0 0 2⟩,
   ⟨Rect.unit (s := S2x256x2048) (k0_off3 i) S1x128x128.size (k0_off3_inb i), yp I 0 0 1⟩,
   ⟨Rect.unit (s := S2x256x2048) (k0_off2 i) S1x128x128.size (k0_off2_inb i), yp I 0 0 0⟩]

theorem slotLt (n : ℕ) : n % 2 < 2 := Nat.mod_lt _ (by decide)

/-- The stores into the output scratch, counted. -/
theorem listY_eq (i : grid0.Coords) (I : Ins F) :
    listY i I = List.ofFn (fun n : Fin 32 => pieceY I ((i 0).val % 2) (slotLt _)
      ⟨(31 - n.val) / 16, by omega⟩ ⟨(31 - n.val) % 16 / 4, by omega⟩ ⟨(31 - n.val) % 4, by omega⟩) := by
  refine Eq.trans ?_ (show [pieceY I ((i 0).val % 2) (slotLt _) 1 3 3, pieceY I ((i 0).val % 2) (slotLt _) 1 3 2, pieceY I ((i 0).val % 2) (slotLt _) 1 3 1, pieceY I ((i 0).val % 2) (slotLt _) 1 3 0, pieceY I ((i 0).val % 2) (slotLt _) 1 2 3, pieceY I ((i 0).val % 2) (slotLt _) 1 2 2, pieceY I ((i 0).val % 2) (slotLt _) 1 2 1, pieceY I ((i 0).val % 2) (slotLt _) 1 2 0, pieceY I ((i 0).val % 2) (slotLt _) 1 1 3, pieceY I ((i 0).val % 2) (slotLt _) 1 1 2, pieceY I ((i 0).val % 2) (slotLt _) 1 1 1, pieceY I ((i 0).val % 2) (slotLt _) 1 1 0, pieceY I ((i 0).val % 2) (slotLt _) 1 0 3, pieceY I ((i 0).val % 2) (slotLt _) 1 0 2, pieceY I ((i 0).val % 2) (slotLt _) 1 0 1, pieceY I ((i 0).val % 2) (slotLt _) 1 0 0, pieceY I ((i 0).val % 2) (slotLt _) 0 3 3, pieceY I ((i 0).val % 2) (slotLt _) 0 3 2, pieceY I ((i 0).val % 2) (slotLt _) 0 3 1, pieceY I ((i 0).val % 2) (slotLt _) 0 3 0, pieceY I ((i 0).val % 2) (slotLt _) 0 2 3, pieceY I ((i 0).val % 2) (slotLt _) 0 2 2, pieceY I ((i 0).val % 2) (slotLt _) 0 2 1, pieceY I ((i 0).val % 2) (slotLt _) 0 2 0, pieceY I ((i 0).val % 2) (slotLt _) 0 1 3, pieceY I ((i 0).val % 2) (slotLt _) 0 1 2, pieceY I ((i 0).val % 2) (slotLt _) 0 1 1, pieceY I ((i 0).val % 2) (slotLt _) 0 1 0, pieceY I ((i 0).val % 2) (slotLt _) 0 0 3, pieceY I ((i 0).val % 2) (slotLt _) 0 0 2, pieceY I ((i 0).val % 2) (slotLt _) 0 0 1, pieceY I ((i 0).val % 2) (slotLt _) 0 0 0] = _ from rfl)
  unfold listY pieceY
  exact congrArg₂ List.cons (piece_closed _ _ _ _ _ (closed33 i).eq) (congrArg₂ List.cons (piece_closed _ _ _ _ _ (closed32 i).eq) (congrArg₂ List.cons (piece_closed _ _ _ _ _ (closed31 i).eq) (congrArg₂ List.cons (piece_closed _ _ _ _ _ (closed30 i).eq) (congrArg₂ List.cons (piece_closed _ _ _ _ _ (closed29 i).eq) (congrArg₂ List.cons (piece_closed _ _ _ _ _ (closed28 i).eq) (congrArg₂ List.cons (piece_closed _ _ _ _ _ (closed27 i).eq) (congrArg₂ List.cons (piece_closed _ _ _ _ _ (closed26 i).eq) (congrArg₂ List.cons (piece_closed _ _ _ _ _ (closed25 i).eq) (congrArg₂ List.cons (piece_closed _ _ _ _ _ (closed24 i).eq) (congrArg₂ List.cons (piece_closed _ _ _ _ _ (closed23 i).eq) (congrArg₂ List.cons (piece_closed _ _ _ _ _ (closed22 i).eq) (congrArg₂ List.cons (piece_closed _ _ _ _ _ (closed21 i).eq) (congrArg₂ List.cons (piece_closed _ _ _ _ _ (closed20 i).eq) (congrArg₂ List.cons (piece_closed _ _ _ _ _ (closed19 i).eq) (congrArg₂ List.cons (piece_closed _ _ _ _ _ (closed18 i).eq) (congrArg₂ List.cons (piece_closed _ _ _ _ _ (closed17 i).eq) (congrArg₂ List.cons (piece_closed _ _ _ _ _ (closed16 i).eq) (congrArg₂ List.cons (piece_closed _ _ _ _ _ (closed15 i).eq) (congrArg₂ List.cons (piece_closed _ _ _ _ _ (closed14 i).eq) (congrArg₂ List.cons (piece_closed _ _ _ _ _ (closed13 i).eq) (congrArg₂ List.cons (piece_closed _ _ _ _ _ (closed12 i).eq) (congrArg₂ List.cons (piece_closed _ _ _ _ _ (closed11 i).eq) (congrArg₂ List.cons (piece_closed _ _ _ _ _ (closed10 i).eq) (congrArg₂ List.cons (piece_closed _ _ _ _ _ (closed9 i).eq) (congrArg₂ List.cons (piece_closed _ _ _ _ _ (closed8 i).eq) (congrArg₂ List.cons (piece_closed _ _ _ _ _ (closed7 i).eq) (congrArg₂ List.cons (piece_closed _ _ _ _ _ (closed6 i).eq) (congrArg₂ List.cons (piece_closed _ _ _ _ _ (closed5 i).eq) (congrArg₂ List.cons (piece_closed _ _ _ _ _ (closed4 i).eq) (congrArg₂ List.cons (piece_closed _ _ _ _ _ (closed3 i).eq) (congrArg₂ List.cons (piece_closed _ _ _ _ _ (closed2 i).eq) (rfl))))))))))))))))))))))))))))))))

/-- The output scratch's half as the stores leave it, index by index. -/
def heldY (I : Ins F) (y : S2x256x2048.Idx) : Elt F .bf16 :=
  yp I ⟨(y 1).val / 128, by have := (y 1).isLt; change (y 1).val < 256 at this; omega⟩
      ⟨(y 2).val / 512, by have := (y 2).isLt; change (y 2).val < 2048 at this; omega⟩
      ⟨(y 2).val / 128 % 4, by omega⟩ (ix3 (0 : Fin 1) (⟨(y 1).val % 128, by omega⟩ : Fin 128) (⟨(y 2).val % 128, by omega⟩ : Fin 128))

theorem heldY_at (I : Ins F) (y : S2x256x2048.Idx) (b : Fin 2) (h gp : Fin 4) (r l : Fin 128)
    (h1 : (y 1).val = 128 * b.val + r.val) (h2 : (y 2).val = 512 * h.val + 128 * gp.val + l.val) :
    heldY I y = yp I b h gp (ix3 (0 : Fin 1) r l) := by
  unfold heldY
  have a1 : (⟨(y 1).val / 128, by have := (y 1).isLt; change (y 1).val < 256 at this; omega⟩ : Fin 2) = b := Fin.ext (by show (y 1).val / 128 = _; omega)
  have a2 : (⟨(y 2).val / 512, by have := (y 2).isLt; change (y 2).val < 2048 at this; omega⟩ : Fin 4) = h := Fin.ext (by show (y 2).val / 512 = _; omega)
  have a3 : (⟨(y 2).val / 128 % 4, by omega⟩ : Fin 4) = gp := Fin.ext (by show (y 2).val / 128 % 4 = _; omega)
  have a4 : (⟨(y 1).val % 128, by omega⟩ : Fin 128) = r := Fin.ext (by show (y 1).val % 128 = _; omega)
  have a5 : (⟨(y 2).val % 128, by omega⟩ : Fin 128) = l := Fin.ext (by show (y 2).val % 128 = _; omega)
  rw [a1, a2, a3, a4, a5]

theorem pieceY_held (I : Ins F) (s : ℕ) (hs : s < 2) (b : Fin 2) (h gp : Fin 4) (x : S1x128x128.Idx) :
    (pieceY I s hs b h gp).2 x = heldY I ((pieceY I s hs b h gp).1.emb x) := by
  refine Eq.symm ((heldY_at I _ b h gp (x 1) (x 2) ?_ ?_).trans (congrArg (yp I b h gp) ?_))
  · show 128 * b.val + 1 * (x 1).val = _; omega
  · show 512 * h.val + 128 * gp.val + 1 * (x 2).val = _; omega
  · funext a
    match a with
    | ⟨0, _⟩ => exact Subsingleton.elim (α := Fin 1) _ _
    | ⟨1, _⟩ => rfl
    | ⟨2, _⟩ => rfl

/-- The stores cover the half they are made to, and leave each pair of heads' output in its place. -/
theorem listY_read {sp : Space} (v : View sig .tc sp S2x256x2048 .bf16) (f : v.ty.Contents (Elt F)) (i : grid0.Coords) (I : Ins F)
    (s : Fin 2) (hs : s.val = (i 0).val % 2) (b : Fin 2) (h gp : Fin 4) (r l : Fin 128) :
    v.read (Elt F) (v.writes (Elt F) f (listY i I)) (ix3 s (⟨128 * b.val + r.val, by omega⟩ : Fin 256) (⟨512 * h.val + 128 * gp.val + l.val, by omega⟩ : Fin 2048))
      = yp I b h gp (ix3 (0 : Fin 1) r l) := by
  have hb := b.isLt; have hh := h.isLt; have hgp := gp.isLt
  rw [View.read_writes_apply_of_pieces v f (heldY I) (listY i I) ?_ _ ?_]
  · exact heldY_at I _ b h gp r l rfl rfl
  · intro p hp x
    rw [listY_eq, List.mem_ofFn] at hp
    obtain ⟨n, rfl⟩ := hp
    exact pieceY_held I _ _ _ _ _ x
  · rw [listY_eq]
    refine ⟨_, List.mem_ofFn.mpr ⟨⟨31 - (16 * b.val + 4 * h.val + gp.val), by omega⟩, rfl⟩, ?_⟩
    have e1 : (⟨(31 - (31 - (16 * b.val + 4 * h.val + gp.val))) / 16, by omega⟩ : Fin 2) = b := Fin.ext (by show _ / _ = _; omega)
    have e2 : (⟨(31 - (31 - (16 * b.val + 4 * h.val + gp.val))) % 16 / 4, by omega⟩ : Fin 4) = h := Fin.ext (by show _ / _ = _; omega)
    have e3 : (⟨(31 - (31 - (16 * b.val + 4 * h.val + gp.val))) % 4, by omega⟩ : Fin 4) = gp := Fin.ext (by show _ % _ = _; omega)
    show _ ∈ (pieceY I ((i 0).val % 2) (slotLt _) ⟨(31 - (31 - (16 * b.val + 4 * h.val + gp.val))) / 16, _⟩ ⟨(31 - (31 - (16 * b.val + 4 * h.val + gp.val))) % 16 / 4, _⟩
      ⟨(31 - (31 - (16 * b.val + 4 * h.val + gp.val))) % 4, _⟩).1.set
    rw [e1, e2, e3]
    have hx := (pieceY I ((i 0).val % 2) (slotLt _) b h gp).1.idx_mem (ix3 (0 : Fin 1) r l : S1x128x128.Idx)
    refine (congrArg (· ∈ _) ?_).mp hx
    refine Rect.emb_eq_of_coords (pieceY I ((i 0).val % 2) (slotLt _) b h gp).1 (ix3 (0 : Fin 1) r l : S1x128x128.Idx) _ fun a => ?_
    match a with
    | ⟨0, _⟩ => show s.val = (i 0).val % 2 + 1 * 0; omega
    | ⟨1, _⟩ => show 128 * b.val + r.val = 128 * b.val + 1 * r.val; omega
    | ⟨2, _⟩ => show 512 * h.val + 128 * gp.val + l.val = 512 * h.val + 128 * gp.val + 1 * l.val; omega

/-- The two stores into the key scratch. -/
def listK (I : Ins F) : List (View.Piece (Elt F) S128x256 .f32) :=
  [⟨Rect.unit (s := S128x256) ![0, 128] S128x128.size inb_S128x256_S128x128_0_128, k0_pay4 (kc I 1 1)⟩,
   ⟨Rect.unit (s := S128x256) ![0, 0] S128x128.size inb_S128x256_S128x128_0_0, k0_pay3 (kc I 1 0)⟩]

/-- The two stores cover the key scratch and leave the rotated keys of the step's second block. -/
theorem listK_read {sp : Space} (v : View sig .tc sp S128x256 .f32) (f : v.ty.Contents (Elt F)) (I : Ins F) (hp : Fin 2) (r l : Fin 128) :
    v.read (Elt F) (v.writes (Elt F) f (listK I)) (ix2 r (⟨128 * hp.val + l.val, by omega⟩ : Fin 256)) = kc I 1 hp (ix2 r l) := by
  have e3 : k0_pay3 (kc I 1 0) = kc I 1 0 := shapeCast_self _ _
  have e4 : k0_pay4 (kc I 1 1) = kc I 1 1 := shapeCast_self _ _
  have key := View.read_writes_apply_of_pieces v f
    (fun y : S128x256.Idx => kc I 1 ⟨(y 1).val / 128, by have := (y 1).isLt; change (y 1).val < 256 at this; omega⟩ (ix2 (y 0) (⟨(y 1).val % 128, by omega⟩ : Fin 128)))
    (listK I) ?_ (ix2 r (⟨128 * hp.val + l.val, by omega⟩ : Fin 256)) ?_
  · refine key.trans ?_
    have a1 : (⟨(128 * hp.val + l.val) / 128, by omega⟩ : Fin 2) = hp := Fin.ext (by show _ / _ = _; omega)
    have a2 : (⟨(128 * hp.val + l.val) % 128, by omega⟩ : Fin 128) = l := Fin.ext (by show _ % _ = _; omega)
    show kc I 1 ⟨(128 * hp.val + l.val) / 128, _⟩ (ix2 r (⟨(128 * hp.val + l.val) % 128, _⟩ : Fin 128)) = _
    rw [a1, a2]
  · intro p hp x
    rcases List.mem_cons.mp hp with rfl | hp
    · have hx : (x 1).val < 128 := (x 1).isLt
      show k0_pay4 (kc I 1 1) x = kc I 1 ⟨(128 + 1 * (x 1).val) / 128, _⟩ (ix2 (⟨0 + 1 * (x 0).val, _⟩ : Fin 128) (⟨(128 + 1 * (x 1).val) % 128, _⟩ : Fin 128))
      rw [e4]
      have a1 : (⟨(128 + 1 * (x 1).val) / 128, by omega⟩ : Fin 2) = 1 := Fin.ext (by show _ / _ = 1; omega)
      rw [a1]
      refine congrArg (kc I 1 1) ?_
      funext a
      match a with
      | ⟨0, _⟩ => exact Fin.ext (by show (x 0).val = 0 + 1 * (x 0).val; omega)
      | ⟨1, _⟩ => exact Fin.ext (by show (x 1).val = (128 + 1 * (x 1).val) % 128; omega)
    · rcases List.mem_singleton.mp hp with rfl
      have hx : (x 1).val < 128 := (x 1).isLt
      show k0_pay3 (kc I 1 0) x = kc I 1 ⟨(0 + 1 * (x 1).val) / 128, _⟩ (ix2 (⟨0 + 1 * (x 0).val, _⟩ : Fin 128) (⟨(0 + 1 * (x 1).val) % 128, _⟩ : Fin 128))
      rw [e3]
      have a1 : (⟨(0 + 1 * (x 1).val) / 128, by omega⟩ : Fin 2) = 0 := Fin.ext (by show _ / _ = 0; omega)
      rw [a1]
      refine congrArg (kc I 1 0) ?_
      funext a
      match a with
      | ⟨0, _⟩ => exact Fin.ext (by show (x 0).val = 0 + 1 * (x 0).val; omega)
      | ⟨1, _⟩ => exact Fin.ext (by show (x 1).val = (0 + 1 * (x 1).val) % 128; omega)
  · obtain ⟨hpv, hlt⟩ := hp
    match hpv, hlt with
    | 0, _ =>
      refine ⟨_, List.mem_cons_of_mem _ (List.mem_singleton_self _), ?_⟩
      have hx := (Rect.unit (s := S128x256) ![0, 0] S128x128.size inb_S128x256_S128x128_0_0).idx_mem (ix2 r l : S128x128.Idx)
      refine (congrArg (· ∈ _) ?_).mp hx
      refine Rect.emb_eq_of_coords (Rect.unit (s := S128x256) ![0, 0] S128x128.size inb_S128x256_S128x128_0_0) (ix2 r l : S128x128.Idx) _ fun a => ?_
      match a with
      | ⟨0, _⟩ => show r.val = 0 + 1 * r.val; omega
      | ⟨1, _⟩ => show 128 * 0 + l.val = 0 + 1 * l.val; omega
    | 1, _ =>
      refine ⟨_, List.mem_cons_self, ?_⟩
      have hx := (Rect.unit (s := S128x256) ![0, 128] S128x128.size inb_S128x256_S128x128_0_128).idx_mem (ix2 r l : S128x128.Idx)
      refine (congrArg (· ∈ _) ?_).mp hx
      refine Rect.emb_eq_of_coords (Rect.unit (s := S128x256) ![0, 128] S128x128.size inb_S128x256_S128x128_0_128) (ix2 r l : S128x128.Idx) _ fun a => ?_
      match a with
      | ⟨0, _⟩ => show r.val = 0 + 1 * r.val; omega
      | ⟨1, _⟩ => show 128 * 1 + l.val = 128 + 1 * l.val; omega

theorem inO (n : Fin 4) : ∀ a, ![0, 512 * n.val] a + S256x512.size a ≤ S256x2048.size a := by revert n; decide
/-- Four stores into the output block, side by side. -/
def listO (P : Fin 4 → FVec F S256x512 .bf16) : List (View.Piece (Elt F) S256x2048 .bf16) :=
  List.ofFn fun n : Fin 4 => ⟨Rect.unit (s := S256x2048) ![0, 512 * (3 - n.val)] S256x512.size (inO ⟨3 - n.val, by omega⟩), P ⟨3 - n.val, by omega⟩⟩

/-- Four stores side by side, read back. -/
theorem listO_read {sp : Space} (v : View sig .tc sp S256x2048 .bf16) (f : v.ty.Contents (Elt F)) (P : Fin 4 → FVec F S256x512 .bf16)
    (r : Fin 256) (n : Fin 4) (l : Fin 512) :
    v.read (Elt F) (v.writes (Elt F) f (listO P)) (ix2 r (⟨512 * n.val + l.val, by omega⟩ : Fin 2048)) = P n (ix2 r l) := by
  have hn := n.isLt
  have key := View.read_writes_apply_of_pieces v f
    (fun y : S256x2048.Idx => P ⟨(y 1).val / 512, by have := (y 1).isLt; change (y 1).val < 2048 at this; omega⟩ (ix2 (y 0) (⟨(y 1).val % 512, by omega⟩ : Fin 512)))
    (listO P) ?_ (ix2 r (⟨512 * n.val + l.val, by omega⟩ : Fin 2048)) ?_
  · refine key.trans ?_
    have a1 : (⟨(512 * n.val + l.val) / 512, by omega⟩ : Fin 4) = n := Fin.ext (by show _ / _ = _; omega)
    have a2 : (⟨(512 * n.val + l.val) % 512, by omega⟩ : Fin 512) = l := Fin.ext (by show _ % _ = _; omega)
    show P ⟨(512 * n.val + l.val) / 512, _⟩ (ix2 r (⟨(512 * n.val + l.val) % 512, _⟩ : Fin 512)) = _
    rw [a1, a2]
  · intro p hp x
    rw [listO, List.mem_ofFn] at hp
    obtain ⟨k, rfl⟩ := hp
    have hx : (x 1).val < 512 := (x 1).isLt
    show P ⟨3 - k.val, _⟩ x = P ⟨(512 * (3 - k.val) + 1 * (x 1).val) / 512, _⟩ (ix2 (⟨0 + 1 * (x 0).val, _⟩ : Fin 256) (⟨(512 * (3 - k.val) + 1 * (x 1).val) % 512, _⟩ : Fin 512))
    have a1 : (⟨(512 * (3 - k.val) + 1 * (x 1).val) / 512, by omega⟩ : Fin 4) = ⟨3 - k.val, by omega⟩ := Fin.ext (by show _ / _ = 3 - k.val; omega)
    rw [a1]
    refine congrArg (P _) ?_
    funext a
    match a with
    | ⟨0, _⟩ => exact Fin.ext (by show (x 0).val = 0 + 1 * (x 0).val; omega)
    | ⟨1, _⟩ => exact Fin.ext (by show (x 1).val = (512 * (3 - k.val) + 1 * (x 1).val) % 512; omega)
  · refine ⟨_, List.mem_ofFn.mpr ⟨⟨3 - n.val, by omega⟩, rfl⟩, ?_⟩
    have hx := (Rect.unit (s := S256x2048) ![0, 512 * (3 - (3 - n.val))] S256x512.size (inO ⟨3 - (3 - n.val), by omega⟩)).idx_mem (ix2 r l : S256x512.Idx)
    refine (congrArg (· ∈ _) ?_).mp hx
    refine Rect.emb_eq_of_coords (Rect.unit (s := S256x2048) ![0, 512 * (3 - (3 - n.val))] S256x512.size (inO ⟨3 - (3 - n.val), by omega⟩)) (ix2 r l : S256x512.Idx) _ fun a => ?_
    match a with
    | ⟨0, _⟩ => show r.val = 0 + 1 * r.val; omega
    | ⟨1, _⟩ => show 512 * n.val + l.val = 512 * (3 - (3 - n.val)) + 1 * l.val; omega

end Cert.KernelIdeal.Swa

end
-- ==== Proof.KernelIdeal.Step.lean ====
module

public import proofs.«01_k».proof.Proof.KernelIdeal.Store
public import Idealize.ShloMosaic.Lib.Pointwise

@[expose] public section

set_option maxRecDepth 16384

noncomputable section

namespace Cert.KernelIdeal.Swa

open Idealize.ShloMosaic Idealize.ShloMosaic.TcCoe Idealize.ShloMosaic.Tactic
open Cert.KernelIdeal.Gen

section
variable {F : FTy → Type} [FloatOps F] [Named F]

/-- A load from a whole buffer, at an index. -/
theorem load_at {sp : Space} {S : Shape} {e : EltTy} (mr : Memref sig .tc sp S e) (hm : mr.IsWhole) (x : Vec F S e)
    (off size : Fin S.rank → ℕ) (inb) (y : (Rect.unit off size inb).shape.Idx) (j : S.Idx) (hj : ∀ a, (j a : ℕ) = off a + y a) :
    View.readAt (Elt F) mr.view (Rect.unit off size inb).toLoadRect (hm.unread x) y = x j := by
  show View.ld (mr.view.read (Elt F) (hm.unread x)) (Rect.unit off size inb) y = x j
  rw [Memref.IsWhole.read_unread]
  exact View.ld_unit_apply_of x off size inb y j hj

/-- What a step's inputs are, read off its blocks: `K` is the key scratch as the step finds it and `w` tells whether there
is a block before. -/
structure Reads (I : Ins F) (x0 : Vec F S32 .f32) (x1 : Vec F S256x2048 .bf16) (x2 : Vec F S256x512 .bf16)
    (x3 : Vec F S128x512 .bf16) (x4 : Vec F S256x1 .i32) (K : Fin 128 → Fin 256 → Elt F .f32) (w : BitVec 1) : Prop where
  q (b : Fin 2) (n : Fin 16) (r l : Fin 128) :
    I.q b n (ix2 r l) = x1 (ix2 (⟨128 * b.val + r.val, by omega⟩ : Fin 256) (⟨128 * n.val + l.val, by omega⟩ : Fin 2048))
  k (b hp : Fin 2) (r l : Fin 128) :
    I.k b hp (ix2 r l) = x2 (ix2 (⟨128 * b.val + r.val, by omega⟩ : Fin 256) (⟨128 * hp.val + l.val, by omega⟩ : Fin 512))
  v0 (hp : Fin 2) (r l : Fin 128) :
    I.v 0 hp (ix2 r l) = x3 (ix2 r (⟨256 + 128 * hp.val + l.val, by omega⟩ : Fin 512))
  v (b hp : Fin 2) (r l : Fin 128) :
    I.v b.succ hp (ix2 r l) = x2 (ix2 (⟨128 * b.val + r.val, by omega⟩ : Fin 256) (⟨256 + 128 * hp.val + l.val, by omega⟩ : Fin 512))
  p (b : Fin 2) (r : Fin 128) : I.p b (ix2 r (0 : Fin 1)) = x4 (ix2 (⟨128 * b.val + r.val, by omega⟩ : Fin 256) (0 : Fin 1))
  s (n : Fin 32) : I.s n = x0 (ix1 n)
  kp (hp : Fin 2) (r l : Fin 128) : I.kp hp (ix2 r l) = K r ⟨128 * hp.val + l.val, by omega⟩
  hasPrev : I.hasPrev = w

theorem reads_insR (i : grid0.Coords) (arg1 : Memref sig .tc .smem S32 .f32) (harg1 : arg1.IsWhole) (arg2 : Memref sig .tc .vmem S256x2048 .bf16) (harg2 : arg2.IsWhole) (arg3 : Memref sig .tc .vmem S256x512 .bf16) (harg3 : arg3.IsWhole) (arg4 : Memref sig .tc .vmem S128x512 .bf16) (harg4 : arg4.IsWhole) (arg5 : Memref sig .tc .vmem S256x1 .i32) (harg5 : arg5.IsWhole)
    (x0 : Vec F S32 .f32) (x1 : Vec F S256x2048 .bf16) (x2 : Vec F S256x512 .bf16) (x3 : Vec F S128x512 .bf16) (x4 : Vec F S256x1 .i32)
    (kp : Fin 2 → Vec F S128x128 .f32) (K : Fin 128 → Fin 256 → Elt F .f32) (w : BitVec 1)
    (hK : ∀ (hp : Fin 2) (r l : Fin 128), kp hp (ix2 r l) = K r ⟨128 * hp.val + l.val, by omega⟩)
    (hw : Scalar.xori (runB.sl.v11 i) 1#1 = w) :
    Reads (insR i arg1 harg1 arg2 harg2 arg3 harg3 arg4 harg4 arg5 harg5 x0 x1 x2 x3 x4 kp) x0 x1 x2 x3 x4 K w where
  q b n r l := load_at arg2 harg2 x1 _ _ _ _ _ fun a => by
    match a with
    | ⟨0, _⟩ => rfl
    | ⟨1, _⟩ => rfl
  k b hp r l := load_at arg3 harg3 x2 _ _ _ _ _ fun a => by
    match a with
    | ⟨0, _⟩ => rfl
    | ⟨1, _⟩ => rfl
  v0 hp r l := load_at arg4 harg4 x3 _ _ _ _ _ fun a => by
    match a with
    | ⟨0, _⟩ => exact (Nat.zero_add _).symm
    | ⟨1, _⟩ => rfl
  v b hp r l := by
    obtain ⟨b, hb⟩ := b
    match b, hb with
    | 0, _ =>
      exact load_at arg3 harg3 x2 _ _ _ _ _ fun a => by
        match a with
        | ⟨0, _⟩ => rfl
        | ⟨1, _⟩ => rfl
    | 1, _ =>
      exact load_at arg3 harg3 x2 _ _ _ _ _ fun a => by
        match a with
        | ⟨0, _⟩ => rfl
        | ⟨1, _⟩ => rfl
  p b r := load_at arg5 harg5 x4 _ _ _ _ _ fun a => by
    match a with
    | ⟨0, _⟩ => rfl
    | ⟨1, _⟩ => rfl
  s n := load_at arg1 harg1 x0 _ _ _ _ _ fun a => by
    match a with
    | ⟨0, _⟩ => rfl
  kp := hK
  hasPrev := hw

/-- A step's point is its number. -/
theorem coords_val : ∀ t : Fin cfg0.N, (grid0.coords t 0).val = t.val := (by decide +kernel : ∀ t : Fin grid0.N, _)
/-- The bit that says whether there is a block before, at a step. -/
theorem has_bit : ∀ t : Fin cfg0.N, Scalar.xori (runB.sl.v11 (grid0.coords t)) 1#1 = if t.val % 32 = 0 then 0#1 else 1#1 :=
  (by decide +kernel : ∀ t : Fin grid0.N, _)
/-- The half of the output scratch that a step reads. -/
theorem off1_eq (t : Fin cfg0.N) : k0_off1 (grid0.coords t) = ![(t.val + 1) % 2, 0, 0] := by
  have h : k0_off1 (grid0.coords t) = ![((grid0.coords t 0).val + 1) % 2, 0, 0] := (closed1 (grid0.coords t)).eq
  rw [coords_val] at h; exact h

end

/-- The gate applied to the projection, at an index. -/
theorem gated_at (Y : FVec Ideal S256x2048 .bf16) (W : Vec Ideal S2048x512 .bf16) (g : Vec Ideal S256x512 .bf16) (r : Fin 256) (l : Fin 512) :
    k0_pay48 (F := Ideal) Y W g (ix2 r l)
      = Ideal.logistic (g (ix2 r l)) * ∑ k : Fin 2048, (Y (ix2 r k) : EReal) * (W (ix2 k l) : EReal) := by
  pointwise [k0_pay48]

theorem pay7_at (v : Vec Ideal S1x256x2048 .bf16) (r : Fin 256) (k : Fin 2048) : k0_pay7 (F := Ideal) v (ix2 r k) = v (ix3 (0 : Fin 1) r k) := by
  pointwise [k0_pay7]

theorem pay6_at (y : S128x256.Idx) : k0_pay6 (F := Ideal) y = 0 := by
  pointwise [k0_pay6]

end Cert.KernelIdeal.Swa

end
-- ==== Proof.Math.Softmax.lean ====
module

public import Idealize.ShloMosaic.Lib.Pointwise

@[expose] public section

noncomputable section

namespace Cert.Attention

open Idealize.ShloMosaic

/-- A finite sum of reals, as an extended real. -/
theorem coe_sum {ι : Type} [Fintype ι] (f : ι → ℝ) : ((∑ i, f i : ℝ) : EReal) = ∑ i, (f i : EReal) := by
  classical
  refine Finset.induction_on (motive := fun s => ((∑ i ∈ s, f i : ℝ) : EReal) = ∑ i ∈ s, (f i : EReal)) Finset.univ ?_ ?_
  · simp
  · intro a s ha ih
    rw [Finset.sum_insert ha, Finset.sum_insert ha, EReal.coe_add, ih]

/-- A non-negative real factor goes into a finite sum of extended reals. -/
theorem sum_mul_coe {ι : Type} [Fintype ι] (f : ι → EReal) (c : ℝ) (hc : 0 ≤ c) :
    (∑ i, f i) * (c : EReal) = ∑ i, f i * (c : EReal) := by
  classical
  refine Finset.induction_on (motive := fun s => (∑ i ∈ s, f i) * (c : EReal) = ∑ i ∈ s, f i * (c : EReal)) Finset.univ ?_ ?_
  · simp
  · intro a s ha ih
    rw [Finset.sum_insert ha, Finset.sum_insert ha,
      EReal.right_distrib_of_nonneg_of_ne_top (EReal.coe_nonneg.mpr hc) (EReal.coe_ne_top c), ih]

/-- A row of attention as the kernel computes it: bounded scores, a maximum with the sink, powers of two, and one
division of the weighted sum of the values by the sum of the weights. -/
def base2 (a b : Fin 256 → EReal) (s : EReal) (V : Fin 256 → EReal) : EReal :=
  Ideal.div (∑ j, Ideal.exp2 (min (a j) (b j) - max (Finset.univ.fold max ⊥ fun j => min (a j) (b j)) s) * V j)
    ((∑ j, Ideal.exp2 (min (a j) (b j) - max (Finset.univ.fold max ⊥ fun j => min (a j) (b j)) s))
      + Ideal.exp2 (s - max (Finset.univ.fold max ⊥ fun j => min (a j) (b j)) s))

/-- A row of attention as the reference computes it: masked scores, a maximum with the sink, exponentials, every weight
divided by the sum, and the weighted sum of the values. -/
def baseE (a : Fin 256 → EReal) (s : EReal) (V : Fin 256 → EReal) : EReal :=
  ∑ j, Ideal.div (Ideal.exp (a j - max (Finset.univ.fold max ⊥ a) s))
      ((∑ j, Ideal.exp (a j - max (Finset.univ.fold max ⊥ a) s)) + Ideal.exp (s - max (Finset.univ.fold max ⊥ a) s)) * V j

/-- The scores with the unseen ones at minus infinity. -/
def masked (t : Fin 256 → ℝ) (vis : Fin 256 → Prop) [DecidablePred vis] (j : Fin 256) : EReal := if vis j then (t j : EReal) else ⊥

/-- A positive real factor commutes with the maximum of two extended reals. -/
theorem mul_max (c : ℝ) (hc : 0 < c) (x y : EReal) : (c : EReal) * max x y = max ((c : EReal) * x) ((c : EReal) * y) :=
  Monotone.map_max (fun _ _ h => mul_le_mul_of_nonneg_left h (EReal.coe_nonneg.mpr hc.le))

/-- A positive real factor commutes with the maximum of a family. -/
theorem mul_fold (c : ℝ) (hc : 0 < c) (S : Fin 256 → EReal) :
    Finset.univ.fold max ⊥ (fun j => (c : EReal) * S j) = (c : EReal) * Finset.univ.fold max ⊥ S := by
  rw [← Finset.fold_hom (op := max) (op' := max) (m := fun x => (c : EReal) * x) (fun x y => mul_max c hc x y),
    EReal.coe_mul_bot_of_pos hc]

/-- A family with no `⊤` has a maximum that is not `⊤`. -/
theorem fold_ne_top (S : Fin 256 → EReal) (h : ∀ j, S j ≠ ⊤) : Finset.univ.fold max ⊥ S ≠ ⊤ := by
  exact ((Finset.fold_max_lt ⊤).mpr ⟨bot_lt_top, fun j _ => lt_top_iff_ne_top.mpr (h j)⟩).ne

/-- The maximum of the masked scores and a real sink is real. -/
theorem masked_max (t : Fin 256 → ℝ) (vis : Fin 256 → Prop) [DecidablePred vis] (σ : ℝ) :
    ∃ μ : ℝ, max (Finset.univ.fold max ⊥ (masked t vis)) (σ : EReal) = (μ : EReal) := by
  have h1 : max (Finset.univ.fold max ⊥ (masked t vis)) (σ : EReal) ≠ ⊤ := by
    refine (max_lt (lt_top_iff_ne_top.mpr (fold_ne_top _ fun j => ?_)) (EReal.coe_lt_top σ)).ne
    unfold masked; split
    · exact EReal.coe_ne_top _
    · exact bot_ne_top
  have h2 : max (Finset.univ.fold max ⊥ (masked t vis)) (σ : EReal) ≠ ⊥ :=
    (lt_of_lt_of_le (EReal.bot_lt_coe σ) (le_max_right _ _)).ne'
  exact ⟨_, (EReal.coe_toReal h1 h2).symm⟩

/-- The weight of one key. -/
def wgt (t : Fin 256 → ℝ) (vis : Fin 256 → Prop) [DecidablePred vis] (μ : ℝ) (j : Fin 256) : ℝ :=
  if vis j then Real.exp (t j - μ) else 0

theorem wgt_nonneg (t : Fin 256 → ℝ) (vis : Fin 256 → Prop) [DecidablePred vis] (μ : ℝ) (j : Fin 256) : 0 ≤ wgt t vis μ j := by
  unfold wgt; split
  · exact (Real.exp_pos _).le
  · exact le_rfl

/-- The exponential of a masked score is the weight. -/
theorem exp_masked (t : Fin 256 → ℝ) (vis : Fin 256 → Prop) [DecidablePred vis] (μ : ℝ) (j : Fin 256) :
    Ideal.exp (masked t vis j - (μ : EReal)) = (wgt t vis μ j : EReal) := by
  unfold masked wgt; split
  · rw [← EReal.coe_sub, Ideal.exp_coe]
  · rw [EReal.bot_sub]; rfl

/-- A power of two of a real scaled by the inverse of `log 2` is an exponential. -/
theorem rpow_two (x : ℝ) : Real.rpow 2 ((Real.log 2)⁻¹ * x) = Real.exp x := by
  show (2 : ℝ) ^ ((Real.log 2)⁻¹ * x) = _
  rw [Real.rpow_def_of_pos (by norm_num), ← mul_assoc, mul_inv_cancel₀ (Real.log_pos (by norm_num)).ne', one_mul]

theorem log2_pos : (0 : ℝ) < (Real.log 2)⁻¹ := inv_pos.mpr (Real.log_pos (by norm_num))

/-- The power of two of a masked score in base 2 is the weight. -/
theorem exp2_masked (t : Fin 256 → ℝ) (vis : Fin 256 → Prop) [DecidablePred vis] (μ : ℝ) (j : Fin 256) :
    Ideal.exp2 (((Real.log 2)⁻¹ : ℝ) * masked t vis j - (((Real.log 2)⁻¹ : ℝ) : EReal) * (μ : EReal)) = (wgt t vis μ j : EReal) := by
  unfold masked wgt; split
  · rw [← EReal.coe_mul, ← EReal.coe_mul, ← EReal.coe_sub, Ideal.exp2_coe, ← mul_sub, rpow_two]
  · rw [EReal.coe_mul_bot_of_pos log2_pos, ← EReal.coe_mul, EReal.bot_sub]; rfl

/-- The two rows are equal: the kernel's over scores and a sink in base 2, the reference's over masked scores. -/
theorem base2_eq (t : Fin 256 → ℝ) (vis : Fin 256 → Prop) [DecidablePred vis] (σ : ℝ) (a b : Fin 256 → EReal) (s : EReal)
    (V V' : Fin 256 → EReal)
    (hs : s = (σ : EReal) * (((Real.log 2)⁻¹ : ℝ) : EReal))
    (hb : ∀ j, b j = if vis j then ⊤ else ⊥)
    (ha : ∀ j, vis j → a j = (((Real.log 2)⁻¹ * t j : ℝ) : EReal))
    (hV : ∀ j, vis j → V j = V' j) : base2 a b s V = baseE (masked t vis) σ V' := by
  obtain ⟨μ, hμ⟩ := masked_max t vis σ
  have hmin : ∀ j, min (a j) (b j) = (((Real.log 2)⁻¹ : ℝ) : EReal) * masked t vis j := by
    intro j
    rw [hb j]; unfold masked
    by_cases h : vis j
    · rw [if_pos h, if_pos h, min_top_right, ha j h, EReal.coe_mul]
    · rw [if_neg h, if_neg h, min_bot_right, EReal.coe_mul_bot_of_pos log2_pos]
  have hs' : s = (((Real.log 2)⁻¹ : ℝ) : EReal) * (σ : EReal) := by rw [hs, mul_comm]
  unfold base2 baseE
  simp only [hmin, hs', mul_fold _ log2_pos, ← mul_max _ log2_pos, hμ, exp2_masked, exp_masked]
  rw [← EReal.coe_mul, ← EReal.coe_mul, ← EReal.coe_sub, ← EReal.coe_sub, Ideal.exp2_coe, ← mul_sub, rpow_two, Ideal.exp_coe,
    ← coe_sum, ← EReal.coe_add]
  have hD : (∑ j, wgt t vis μ j) + Real.exp (σ - μ) ≠ 0 :=
    (add_pos_of_nonneg_of_pos (Finset.sum_nonneg fun j _ => wgt_nonneg t vis μ j) (Real.exp_pos _)).ne'
  have hD' : 0 ≤ 1 / ((∑ j, wgt t vis μ j) + Real.exp (σ - μ)) :=
    one_div_nonneg.mpr (add_nonneg (Finset.sum_nonneg fun j _ => wgt_nonneg t vis μ j) (Real.exp_pos _).le)
  rw [Ideal.div_coe hD, sum_mul_coe _ _ hD']
  refine Finset.sum_congr rfl fun j _ => ?_
  rw [Ideal.div_coe hD, mul_right_comm]
  by_cases h : vis j
  · rw [hV j h]
  · have : wgt t vis μ j = 0 := if_neg h
    rw [this, EReal.coe_zero, zero_mul, zero_mul, zero_mul]

end Cert.Attention

end
-- ==== Proof.Math.Rope.lean ====
module

public import proofs.«01_k».proof.Proof.Math.Softmax

@[expose] public section

noncomputable section

namespace Cert.Attention

open Idealize.ShloMosaic

/-- The rotary angle of position `p` at frequency `i`. -/
def ang (p : BitVec 32) (i : ℕ) : ℝ := (p.toInt : ℝ) * Real.rpow 10000 (-(2 * (i : ℝ)) / 64)

/-- The rotary embedding of one head at position `p`. -/
def roped (x : Fin 64 → ℝ) (p : BitVec 32) (d : Fin 64) : ℝ :=
  if h : d.val < 32 then x d * Real.cos (ang p d.val) - x ⟨d.val + 32, by omega⟩ * Real.sin (ang p d.val)
  else x d * Real.cos (ang p (d.val - 32)) + x ⟨d.val - 32, by omega⟩ * Real.sin (ang p (d.val - 32))

/-- The power of ten thousand as the exponential of a multiple of its logarithm. -/
theorem exp_step (n : ℕ) : Real.exp ((n : ℝ) * (-(32⁻¹) * Real.log 10000)) = Real.rpow 10000 (-(2 * (n : ℝ)) / 64) := by
  show _ = (10000 : ℝ) ^ (-(2 * (n : ℝ)) / 64)
  rw [Real.rpow_def_of_pos (by norm_num)]
  congr 1; ring

theorem and31 : ∀ l : Fin 128, (IntOp.andi (BitVec.ofNat 32 l.val) 31#32).toInt = ((l.val % 32 : ℕ) : ℤ) := by decide +kernel
theorem and63 : ∀ l : Fin 128, IntOp.cmpi .slt (IntOp.andi (BitVec.ofNat 32 l.val) 63#32) 32#32 = if l.val % 64 < 32 then 1#1 else 0#1 := by decide +kernel

/-- The kernel's angle. -/
theorem ang_kernel (p : BitVec 32) (l : Fin 128) :
    FloatOps.sitofp (F := Ideal) FTy.f32 p * Ideal.exp (FloatOps.sitofp (F := Ideal) FTy.f32 (IntOp.andi (BitVec.ofNat 32 l.val) 31#32) * ((-(32⁻¹) * Real.log 10000 : ℝ) : EReal))
      = ((ang p (l.val % 32) : ℝ) : EReal) := by
  show ((p.toInt : ℝ) : EReal) * Ideal.exp ((((IntOp.andi (BitVec.ofNat 32 l.val) 31#32).toInt : ℝ) : EReal) * _) = _
  rw [and31, ← EReal.coe_mul, Ideal.exp_coe, Int.cast_natCast, exp_step, ← EReal.coe_mul]; rfl

end Cert.Attention

end
-- ==== Proof.KernelIdeal.Slabs.lean ====
module

public import proofs.«01_k».proof.Proof.KernelIdeal.Uniform
public import proofs.«01_k».proof.Proof.Math.Rope
public import Idealize.ShloMosaic.Lib.Pointwise

@[expose] public section

set_option maxRecDepth 16384

noncomputable section

namespace Cert.KernelIdeal.Swa

open Idealize.ShloMosaic Idealize.ShloMosaic.TcCoe
open Cert.KernelIdeal.Gen Cert.Attention

/-- The lane in the other half of its head. -/
def lx (l : Fin 128) : Fin 128 := if h : l.val % 64 < 32 then ⟨l.val + 32, by omega⟩ else ⟨l.val - 32, by omega⟩

/-- The slabs of both blocks in their order: sixteen of queries and two of keys. -/
def slab (I : Ins Ideal) (b : Fin 2) (n : Fin 18) : Vec Ideal S128x128 .bf16 :=
  if h : n.val < 16 then I.q b ⟨n.val, h⟩ else I.k b ⟨n.val - 16, by omega⟩
def slabs (I : Ins Ideal) (n : Fin 36) : Vec Ideal S128x128 .bf16 := slab I ⟨n.val / 18, by omega⟩ ⟨n.val % 18, by omega⟩

theorem swap_entry : ∀ k l : Fin 128, IntOp.cmpi .eq (BitVec.ofNat 32 k.val) (IntOp.xori (BitVec.ofNat 32 l.val) 32#32) = if k = lx l then 1#1 else 0#1 := by
  decide +kernel

/-- All lanes exchanged with those in the other half of their head, as a product with a permutation matrix. -/
def swapOf (x : FVec Ideal S4608x128 .bf16) : FVec Ideal S4608x128 .f32 :=
  matmul dot_S4608x128_S128x128_S4608x128_1_0_0_1_n_n none x
    (truncf .bf16 (sitofp .f32 (extui 32 (cmpi .eq (iota .tc S128x128 32 [0] iota_S128x128_d0_w32)
      (xori (iota .tc S128x128 32 [1] iota_S128x128_d1_w32) (broadcast S128x128 32#32))) natLt_1_32)) bitsLt_bf16_f32)
    (constant S4608x128 .f32 0x00000000#32)

theorem swapOf_at (x : FVec Ideal S4608x128 .bf16) (r : Fin 4608) (l : Fin 128) : swapOf x (ix2 r l) = x (ix2 r (lx l)) := by
  pointwise [swapOf]
  rw [Finset.sum_eq_single (lx l)]
  · rw [swap_entry, if_pos rfl]
    have e : (FloatOps.sitofp (F := Ideal) FTy.f32 (BitVec.setWidth 32 1#1) : EReal) = 1 := by
      show (((BitVec.setWidth 32 1#1).toInt : ℝ) : EReal) = 1
      have e : (BitVec.setWidth 32 1#1).toInt = 1 := by decide
      rw [e]; norm_num
    refine (congrArg (x _ * ·) e).trans ?_
    exact mul_one _
  · intro k _ hk
    rw [swap_entry, if_neg hk]
    have e : (FloatOps.sitofp (F := Ideal) FTy.f32 (BitVec.setWidth 32 0#1) : EReal) = 0 := by
      show (((BitVec.setWidth 32 0#1).toInt : ℝ) : EReal) = 0
      have e : (BitVec.setWidth 32 0#1).toInt = 0 := by decide
      rw [e]; norm_num
    refine (congrArg (x _ * ·) e).trans ?_
    exact mul_zero _
  · intro h; exact absurd (Finset.mem_univ _) h

theorem cat36 : Shape.Concatenates ((List.ofFn fun n : Fin 36 => (⟨S128x128, fun _ => (0 : EReal)⟩ : (s : Shape) × (s.Idx → EReal))).map (·.1)) S4608x128 0 :=
  concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S4608x128_d0

/-- All slabs one below the other. -/
def tall (I : Ins Ideal) : FVec Ideal S4608x128 .bf16 :=
  concatenate S4608x128 0 (List.ofFn fun n : Fin 36 => (⟨S128x128, slabs I n⟩ : (s : Shape) × (s.Idx → EReal))) cat36

theorem swapped_eq (I : Ins Ideal) : swapped I = swapOf (tall I) := rfl

theorem tall_at (I : Ins Ideal) (n : Fin 36) (r l : Fin 128) :
    tall I (ix2 ⟨128 * n.val + r.val, by omega⟩ l) = slabs I n (ix2 r l) := by
  refine concatenate_ofFn_apply (t := S4608x128) (s₁ := S128x128) 0 (slabs I) cat36 rfl 128 rfl _ n ?_ (ix2 r l) ?_ ?_
  · show (128 * n.val + r.val) / 128 = n.val; omega
  · show r.val = (128 * n.val + r.val) % 128; omega
  · intro b hb
    match b with
    | 0 => exact absurd rfl hb
    | 1 => rfl

/-- A slab with its halves exchanged, at an index. -/
theorem swp_at (I : Ins Ideal) (b : Fin 2) (n : Fin 18) (r l : Fin 128) : swp I b n (ix2 r l) = slab I b n (ix2 r (lx l)) := by
  have h : swp I b n (ix2 r l) = swapOf (tall I) (ix2 ⟨128 * (18 * b.val + n.val) + r.val, by omega⟩ l) := by
    pointwise [swp, swapped_eq]
  rw [h, swapOf_at, tall_at I ⟨18 * b.val + n.val, by omega⟩]
  have e1 : (⟨(18 * b.val + n.val) / 18, by omega⟩ : Fin 2) = b := Fin.ext (by show (18 * b.val + n.val) / 18 = b.val; omega)
  have e2 : (⟨(18 * b.val + n.val) % 18, by omega⟩ : Fin 18) = n := Fin.ext (by show (18 * b.val + n.val) % 18 = n.val; omega)
  show slab I (⟨(18 * b.val + n.val) / 18, by omega⟩ : Fin 2) (⟨(18 * b.val + n.val) % 18, by omega⟩ : Fin 18) _ = _
  rw [e1, e2]

end Cert.KernelIdeal.Swa

end
-- ==== Proof.Math.Band.lean ====
module

public import Idealize.ShloMosaic.Lib.Pointwise

@[expose] public section

noncomputable section

namespace Cert.Attention

open Idealize.ShloMosaic

/-- The band of a window of 128 keys, over the words that hold the coordinates. -/
theorem band : ∀ (r : Fin 128) (j : Fin 256), IntOp.andi
          (IntOp.cmpi CmpIPredicate.sge (IntOp.subi (IntOp.addi (BitVec.ofNat 32 r.val) 128#32) (BitVec.ofNat 32 j.val)) 0#32)
          (IntOp.cmpi CmpIPredicate.slt (IntOp.subi (IntOp.addi (BitVec.ofNat 32 r.val) 128#32) (BitVec.ofNat 32 j.val)) 128#32)
      = if r.val < j.val ∧ j.val ≤ r.val + 128 then 1#1 else 0#1 := by decide +kernel
theorem late : ∀ j : Fin 256, IntOp.cmpi CmpIPredicate.sge (BitVec.ofNat 32 j.val) 128#32 = if 128 ≤ j.val then 1#1 else 0#1 := by decide +kernel

end Cert.Attention

end
-- ==== Proof.KernelIdeal.Block.lean ====
module

public import proofs.«01_k».proof.Proof.KernelIdeal.Slabs
public import proofs.«01_k».proof.Proof.Math.Band
public import Idealize.ShloMosaic.Lib.WordCmp

@[expose] public section

set_option maxRecDepth 16384

noncomputable section

namespace Cert.KernelIdeal.Swa

open Idealize.ShloMosaic Idealize.ShloMosaic.TcCoe
open Cert.KernelIdeal.Gen Cert.Attention

theorem neg_inf : Ideal.ofBits FTy.f32 0xFF800000#32 = (⊥ : EReal) := by simp [Ideal.ofBits, Ideal.ieee]
theorem pos_inf : Ideal.ofBits FTy.f32 0x7F800000#32 = (⊤ : EReal) := by simp [Ideal.ofBits, Ideal.ieee]
theorem masked_inf : Named.named (F := Ideal) (φ := .f32) κ "masked" 0xF149F2CA#32 = (⊥ : EReal) := rfl

theorem low_lane : ∀ l : Fin 128, IntOp.cmpi .slt (BitVec.ofNat 32 l.val) 64#32 = if l.val < 64 then 1#1 else 0#1 := by decide +kernel

/-- A sum over 128 lanes of products whose second factor vanishes off one half. -/
theorem sum_half (e : Fin 2) (F G : Fin 128 → EReal) :
    ∑ x : Fin 128, F x * (if x.val / 64 = e.val then G x else 0)
      = ∑ d : Fin 64, F ⟨64 * e.val + d.val, by omega⟩ * G ⟨64 * e.val + d.val, by omega⟩ := by
  have h := Fin.sum_univ_tiles 2 64 rfl (fun x : Fin 128 => F x * (if x.val / 64 = e.val then G x else 0))
  rw [h, Finset.sum_eq_single e]
  · refine Finset.sum_congr rfl fun d _ => ?_
    have e1 : (⟨e.val * 64 + d.val, by omega⟩ : Fin 128) = ⟨64 * e.val + d.val, by omega⟩ := Fin.ext (by simp only []; omega)
    show F (⟨e.val * 64 + d.val, by omega⟩ : Fin 128) * (if (e.val * 64 + d.val) / 64 = e.val then G (⟨e.val * 64 + d.val, by omega⟩ : Fin 128) else 0) = _
    rw [if_pos (by omega), e1]
  · intro e' _ hne
    refine Finset.sum_eq_zero fun d _ => ?_
    show F _ * (if (e'.val * 64 + d.val) / 64 = e.val then _ else 0) = 0
    rw [if_neg (by have : e'.val ≠ e.val := fun h => hne (Fin.ext h); omega), mul_zero]
  · intro h; exact absurd (Finset.mem_univ _) h

/-- A sum over 512 columns of products whose second factor vanishes off one half. -/
theorem sum_wide (e : ℕ) (he : e < 2) (F G : Fin 512 → EReal) (g : Fin 256 → EReal)
    (hG : ∀ (e' : Fin 2) (j : Fin 256), G ⟨256 * e'.val + j.val, by omega⟩ = if e = e'.val then g j else 0) :
    ∑ x : Fin 512, F x * G x = ∑ j : Fin 256, F ⟨256 * e + j.val, by omega⟩ * g j := by
  have h := Fin.sum_univ_tiles 2 256 rfl (fun x : Fin 512 => F x * G x)
  rw [h, Finset.sum_eq_single ⟨e, he⟩]
  · refine Finset.sum_congr rfl fun j _ => ?_
    have e1 : (⟨e * 256 + j.val, by omega⟩ : Fin 512) = ⟨256 * e + j.val, by omega⟩ := Fin.ext (by simp only []; omega)
    show F (⟨e * 256 + j.val, by omega⟩ : Fin 512) * G (⟨e * 256 + j.val, by omega⟩ : Fin 512) = _
    rw [e1, hG ⟨e, he⟩ j, if_pos rfl]
  · intro e' _ hne
    refine Finset.sum_eq_zero fun j _ => ?_
    have e1 : (⟨e'.val * 256 + j.val, by omega⟩ : Fin 512) = ⟨256 * e'.val + j.val, by omega⟩ := Fin.ext (by simp only []; omega)
    show F (⟨e'.val * 256 + j.val, by omega⟩ : Fin 512) * G (⟨e'.val * 256 + j.val, by omega⟩ : Fin 512) = 0
    rw [e1, hG e' j, if_neg (fun h => hne (Fin.ext h.symm)), mul_zero]
  · intro h; exact absurd (Finset.mem_univ _) h

theorem rhs_at (y z : FVec Ideal S256x128 .f32) (e : Fin 2) (j : Fin 256) (l : Fin 128) : rhs y z (ix2 (⟨256 * e.val + j.val, by omega⟩ : Fin 512) l)
      = if l.val / 64 = e.val then (if e.val = 0 then y (ix2 j l) else z (ix2 j l)) else 0 := by
  pointwise [rhs, k0_pay8, low_lane]
  by_cases he : e.val = 0
  · have e1 : (⟨256 * e.val + j.val, by omega⟩ : Fin 256) = j := Fin.ext (by show 256 * e.val + j.val = j.val; omega)
    refine (dif_pos (show 256 * e.val + j.val < 256 by omega)).trans ?_
    refine (congrArg (fun v => Scalar.select (if l.val < 64 then 1#1 else 0#1) v (0 : EReal)) (congrArg (fun k => y (ix2 k l)) e1)).trans ?_
    by_cases hl : l.val < 64
    · rw [if_pos hl, if_pos (by omega), if_pos he]; exact if_pos rfl
    · rw [if_neg hl, if_neg (by omega)]; exact if_neg (by decide)
  · have e1 : (⟨256 * e.val + j.val - 256, by omega⟩ : Fin 256) = j := Fin.ext (by show 256 * e.val + j.val - 256 = j.val; omega)
    refine (dif_neg (show ¬ 256 * e.val + j.val < 256 by omega)).trans ?_
    refine (congrArg (fun v => Scalar.select (if l.val < 64 then 1#1 else 0#1) (0 : EReal) v) (congrArg (fun k => z (ix2 k l)) e1)).trans ?_
    by_cases hl : l.val < 64
    · rw [if_pos hl, if_neg (by omega)]; exact if_pos rfl
    · rw [if_neg hl, if_pos (by omega), if_neg he]; exact if_neg (by decide)

theorem rot_at (x : FVec Ideal S256x128 .f32) (j : Fin 256) (l : Fin 128) : rot x (ix2 j l) = x (ix2 j ⟨(l.val + 64) % 128, by omega⟩) := by
  pointwise [rot]
  have e1 : (⟨(l.val + 128 - 64) % 128, by omega⟩ : Fin 128) = ⟨(l.val + 64) % 128, by omega⟩ := Fin.ext (by show (l.val + 128 - 64) % 128 = (l.val + 64) % 128; omega)
  exact congrArg (fun k => x (ix2 j k)) e1

/-- The block-diagonal operand of one head, at an index. -/
theorem rhsOf_at (x : FVec Ideal S256x128 .f32) (hh e : Fin 2) (j : Fin 256) (l : Fin 128) :
    rhsOf x hh (ix2 (⟨256 * e.val + j.val, by omega⟩ : Fin 512) l)
      = if l.val / 64 = e.val then x (ix2 j ⟨64 * hh.val + l.val % 64, by omega⟩) else 0 := by
  have hh2 : hh = 0 ∨ hh = 1 := by omega
  rcases hh2 with rfl | rfl
  · refine (rhs_at x (rot x) e j l).trans ?_
    by_cases hl : l.val / 64 = e.val
    · rw [if_pos hl, if_pos hl]
      by_cases he : e.val = 0
      · rw [if_pos he]; congr 2; exact Fin.ext (by show l.val = 64 * 0 + l.val % 64; omega)
      · rw [if_neg he, rot_at]; congr 2; exact Fin.ext (by show (l.val + 64) % 128 = 64 * 0 + l.val % 64; omega)
    · rw [if_neg hl, if_neg hl]
  · refine (rhs_at (rot x) x e j l).trans ?_
    by_cases hl : l.val / 64 = e.val
    · rw [if_pos hl, if_pos hl]
      by_cases he : e.val = 0
      · rw [if_pos he, rot_at]; congr 2; exact Fin.ext (by show (l.val + 64) % 128 = 64 * 1 + l.val % 64; omega)
      · rw [if_neg he]; congr 2; exact Fin.ext (by show l.val = 64 * 1 + l.val % 64; omega)
    · rw [if_neg hl, if_neg hl]

/-- Four blocks of 128 rows one below the other, at an index: the values read row by row. -/
theorem ladder (f : Fin 4 → Fin 128 → EReal) (gp : Fin 4) (r : Fin 128) :
    (if h : 128 * gp.val + r.val < 128 then f 0 ⟨128 * gp.val + r.val, h⟩ else
      if h : 128 * gp.val + r.val - 128 < 128 then f 1 ⟨128 * gp.val + r.val - 128, h⟩ else
        if h : 128 * gp.val + r.val - 128 - 128 < 128 then f 2 ⟨128 * gp.val + r.val - 128 - 128, h⟩ else
          f 3 ⟨128 * gp.val + r.val - 128 - 128 - 128, by omega⟩) = f gp r := by
  obtain ⟨g, hg⟩ := gp
  have : g = 0 ∨ g = 1 ∨ g = 2 ∨ g = 3 := by omega
  rcases this with rfl | rfl | rfl | rfl
  · rw [dif_pos (by simp only []; omega)]; exact congrArg (f 0) (Fin.ext (by simp))
  · rw [dif_neg (by simp only []; omega), dif_pos (by simp only []; omega)]; exact congrArg (f 1) (Fin.ext (by simp))
  · rw [dif_neg (by simp only []; omega), dif_neg (by simp only []; omega), dif_pos (by simp only []; omega)]
    exact congrArg (f 2) (Fin.ext (by simp only []; omega))
  · rw [dif_neg (by simp only []; omega), dif_neg (by simp only []; omega), dif_neg (by simp only []; omega)]
    exact congrArg (f 3) (Fin.ext (by simp only []; omega))

/-- The scores of one query head, at an index. -/
theorem scores_at (I : Ins Ideal) (b : Fin 2) (h gp : Fin 4) (e : Fin 2) (r : Fin 128) (j : Fin 256) :
    scores I b h (ix2 (⟨128 * gp.val + r.val, by omega⟩ : Fin 512) (⟨256 * e.val + j.val, by omega⟩ : Fin 512))
      = ∑ d : Fin 64, qrow I b ⟨4 * h.val + gp.val, qlt h gp⟩ (ix2 r ⟨64 * e.val + d.val, by omega⟩)
          * pairK I b ⟨h.val / 2, by omega⟩ (ix2 j ⟨64 * (h.val % 2) + d.val, by omega⟩) := by
  pointwise [scores]
  have e1 : ∀ x : Fin 128, _ = _ := fun x => ladder (fun g s => qrow I b ⟨4 * h.val + g.val, qlt h g⟩ (ix2 s x)) gp r
  refine (Finset.sum_congr rfl fun x _ => congrArg₂ (· * ·) (e1 x) (rhsOf_at _ ⟨h.val % 2, by omega⟩ e j x)).trans ?_
  refine (sum_half e _ (fun x => pairK I b ⟨h.val / 2, by omega⟩ (ix2 j ⟨64 * (h.val % 2) + x.val % 64, by omega⟩))).trans ?_
  refine Finset.sum_congr rfl fun d _ => ?_
  congr 3
  exact Fin.ext (by show 64 * (h.val % 2) + (64 * e.val + d.val) % 64 = 64 * (h.val % 2) + d.val; omega)

/-- The weights of a pair of query heads, at an index. -/
theorem prow_at (I : Ins Ideal) (b : Fin 2) (h gp : Fin 4) (e : Fin 2) (r : Fin 128) (j : Fin 256) :
    prow I b h gp (ix2 r (⟨256 * e.val + j.val, by omega⟩ : Fin 512)) = pr I b h gp e (ix2 r j) := by
  pointwise [prow]
  have he : e = 0 ∨ e = 1 := by omega
  rcases he with rfl | rfl
  · rw [dif_pos (by show 256 * 0 + j.val < 256; omega)]; congr 2; exact Fin.ext (by show 256 * 0 + j.val = j.val; omega)
  · rw [dif_neg (by show ¬ 256 * 1 + j.val < 256; omega)]; congr 2; exact Fin.ext (by show 256 * 1 + j.val - 256 = j.val; omega)

theorem ones_at (e : Fin 2) (j : Fin 256) (l : Fin 128) :
    k0_pay10 (F := Ideal) k0_pay8 (ix2 (⟨256 * e.val + j.val, by omega⟩ : Fin 512) l) = if l.val / 64 = e.val then 1 else 0 := by
  pointwise [k0_pay10, k0_pay8, low_lane]
  by_cases hl : l.val < 64
  · have h1 : Scalar.select (if l.val < 64 then 1#1 else 0#1) (1 : EReal) 0 = 1 := by rw [if_pos hl]; exact if_pos rfl
    by_cases he : e.val = 0
    · refine (dif_pos (show 256 * e.val + j.val < 256 by omega)).trans (h1.trans ?_); rw [if_pos (by omega)]
    · refine (dif_neg (show ¬ 256 * e.val + j.val < 256 by omega)).trans ((congrArg (1 - ·) h1).trans ?_)
      rw [if_neg (by omega)]; exact EReal.sub_self (by decide) (by decide)
  · have h1 : Scalar.select (if l.val < 64 then 1#1 else 0#1) (1 : EReal) 0 = 0 := by rw [if_neg hl]; exact if_neg (by decide)
    by_cases he : e.val = 0
    · refine (dif_pos (show 256 * e.val + j.val < 256 by omega)).trans (h1.trans ?_); rw [if_neg (by omega)]
    · refine (dif_neg (show ¬ 256 * e.val + j.val < 256 by omega)).trans ((congrArg (1 - ·) h1).trans ?_)
      rw [if_pos (by omega)]; exact sub_zero _

/-- The weighted values, at an index. -/
theorem outv_low (I : Ins Ideal) (b : Fin 2) (h gp : Fin 4) (e : Fin 2) (r : Fin 128) (d : Fin 64) :
    outv I b h (ix2 (⟨128 * gp.val + r.val, by omega⟩ : Fin 512) (⟨64 * e.val + d.val, by omega⟩ : Fin 256))
      = ∑ j : Fin 256, pr I b h gp e (ix2 r j) * pairV I b ⟨h.val / 2, by omega⟩ (ix2 j ⟨64 * (h.val % 2) + d.val, by omega⟩) := by
  pointwise [outv]
  have e1 : ∀ x : Fin 512, _ = _ := fun x => ladder (fun g s => prow I b h g (ix2 s x)) gp r
  refine (Finset.sum_congr rfl fun x _ => congrArg₂ (· * ·) (e1 x) (dif_pos (show 64 * e.val + d.val < 128 by omega))).trans ?_
  refine (sum_wide e.val e.isLt _ (fun x => rhsOf (pairV I b ⟨h.val / 2, by omega⟩) ⟨h.val % 2, by omega⟩ (ix2 x (⟨64 * e.val + d.val, by omega⟩ : Fin 128)))
    (fun j => pairV I b ⟨h.val / 2, by omega⟩ (ix2 j ⟨64 * (h.val % 2) + d.val, by omega⟩)) fun e' j => ?_).trans ?_
  · refine (rhsOf_at _ ⟨h.val % 2, by omega⟩ e' j _).trans ?_
    show (if (64 * e.val + d.val) / 64 = e'.val then _ else _) = _
    have : (64 * e.val + d.val) / 64 = e.val := by omega
    rw [this]
    congr 3
    exact Fin.ext (by show 64 * (h.val % 2) + (64 * e.val + d.val) % 64 = 64 * (h.val % 2) + d.val; omega)
  · exact Finset.sum_congr rfl fun j _ => congrArg (· * _) (prow_at I b h gp e r j)

/-- The sums of the weights, at an index. -/
theorem outv_high (I : Ins Ideal) (b : Fin 2) (h gp : Fin 4) (e : Fin 2) (r : Fin 128) (d : Fin 64) :
    outv I b h (ix2 (⟨128 * gp.val + r.val, by omega⟩ : Fin 512) (⟨128 + (64 * e.val + d.val), by omega⟩ : Fin 256))
      = ∑ j : Fin 256, pr I b h gp e (ix2 r j) := by
  pointwise [outv]
  have e1 : ∀ x : Fin 512, _ = _ := fun x => ladder (fun g s => prow I b h g (ix2 s x)) gp r
  refine (Finset.sum_congr rfl fun x _ => congrArg₂ (· * ·) (e1 x) rfl).trans ?_
  refine (sum_wide e.val e.isLt _ (fun x => k0_pay10 (F := Ideal) k0_pay8 (ix2 x (⟨64 * e.val + d.val, by omega⟩ : Fin 128)))
    (fun j => 1) fun e' j => ?_).trans ?_
  · refine (ones_at e' j _).trans ?_
    show (if (64 * e.val + d.val) / 64 = e'.val then _ else _) = _
    have : (64 * e.val + d.val) / 64 = e.val := by omega
    rw [this]
  · exact Finset.sum_congr rfl fun j _ => (congrArg (· * _) (prow_at I b h gp e r j)).trans (mul_one _)

theorem pr_at (I : Ins Ideal) (b : Fin 2) (h gp : Fin 4) (e : Fin 2) (r : Fin 128) (j : Fin 256) :
    pr I b h gp e (ix2 r j) = Ideal.exp2
      (min (scores I b h (ix2 (⟨128 * gp.val + r.val, by omega⟩ : Fin 512) (⟨256 * e.val + j.val, by omega⟩ : Fin 512))) (bnd (F := Ideal) (has I b) (ix2 r j)) -
        max (Finset.univ.fold max ⊥ fun x : Fin 256 => min (scores I b h (ix2 (⟨128 * gp.val + r.val, by omega⟩ : Fin 512) (⟨256 * e.val + x.val, by omega⟩ : Fin 512))) (bnd (F := Ideal) (has I b) (ix2 r x)))
          (snk I h gp e)) := by
  pointwise [pr, se, mx]
  rw [neg_inf]
  rfl

theorem stm_at (I : Ins Ideal) (b : Fin 2) (h gp : Fin 4) (e : Fin 2) (r : Fin 128) :
    stm I b h gp e (ix2 r 0) = Ideal.exp2 (snk I h gp e -
        max (Finset.univ.fold max ⊥ fun x : Fin 256 => min (scores I b h (ix2 (⟨128 * gp.val + r.val, by omega⟩ : Fin 512) (⟨256 * e.val + x.val, by omega⟩ : Fin 512))) (bnd (F := Ideal) (has I b) (ix2 r x)))
          (snk I h gp e)) := by
  pointwise [stm, se, mx]
  rw [neg_inf]
  rfl

/-- The attention's output of one query head, at an index. -/
theorem yp_at (I : Ins Ideal) (b : Fin 2) (h gp : Fin 4) (e : Fin 2) (r : Fin 128) (d : Fin 64) :
    yp I b h gp (ix3 (0 : Fin 1) r (⟨64 * e.val + d.val, by omega⟩ : Fin 128))
      = base2 (fun j => scores I b h (ix2 (⟨128 * gp.val + r.val, by omega⟩ : Fin 512) (⟨256 * e.val + j.val, by omega⟩ : Fin 512)))
          (fun j => bnd (F := Ideal) (has I b) (ix2 r j)) (snk I h gp e)
          (fun j => pairV I b ⟨h.val / 2, by omega⟩ (ix2 j ⟨64 * (h.val % 2) + d.val, by omega⟩)) := by
  pointwise [yp, sterm, k0_pay8]
  have hs : Scalar.select (IntOp.cmpi .slt (BitVec.ofNat 32 (64 * e.val + d.val)) 64#32) (stm I b h gp 0 (ix2 r 0)) (stm I b h gp 1 (ix2 r 0))
      = stm I b h gp e (ix2 r 0) := by
    have hl := low_lane ⟨64 * e.val + d.val, by omega⟩
    have he : e = 0 ∨ e = 1 := by omega
    rcases he with rfl | rfl
    · rw [hl.trans (if_pos (by show 64 * 0 + d.val < 64; omega))]; exact if_pos rfl
    · rw [hl.trans (if_neg (by show ¬ 64 * 1 + d.val < 64; omega))]; exact if_neg (by decide)
  refine congrArg₂ Ideal.div (outv_low I b h gp e r d) (congrArg₂ (· + ·) (outv_high I b h gp e r d) hs) |>.trans ?_
  simp only [pr_at, stm_at]
  rfl

/-- The bound of a score. -/
theorem bnd_at (w : BitVec 1) (r : Fin 128) (j : Fin 256) :
    bnd (F := Ideal) w (ix2 r j) = if (r.val < j.val ∧ j.val ≤ r.val + 128) ∧ (w = 1#1 ∨ 128 ≤ j.val) then ⊤ else ⊥ := by
  pointwise [bnd, k0_pay9]
  rw [band, late, pos_inf, masked_inf]
  have hw : w = 1#1 ∨ w = 0#1 := by revert w; decide
  by_cases h1 : r.val < j.val ∧ j.val ≤ r.val + 128 <;> by_cases h2 : 128 ≤ j.val <;> rcases hw with rfl | rfl <;>
    simp [h1, h2, Scalar.select] <;> decide

end Cert.KernelIdeal.Swa

end
-- ==== Proof.KernelIdeal.Heads.lean ====
module

public import proofs.«01_k».proof.Proof.KernelIdeal.Block

@[expose] public section

set_option maxRecDepth 16384

noncomputable section

namespace Cert.KernelIdeal.Swa

open Idealize.ShloMosaic Idealize.ShloMosaic.TcCoe
open Cert.KernelIdeal.Gen Cert.Attention

/-- Lane `64 e + d` of a slab: element `d` of its head `e`. -/
def ln (e : Fin 2) (d : Fin 64) : Fin 128 := ⟨64 * e.val + d.val, by omega⟩

/-- The signed sine of the kernel's table. -/
def sgn (e : Fin 2) (d : Fin 64) (s : ℝ) : ℝ := if d.val < 32 then 0 - s else s

/-- The kernel's rotation of a lane is the rotary embedding. -/
theorem rope_lane (X : Fin 128 → EReal) (x : Fin 64 → ℝ) (e : Fin 2) (hx : ∀ d, X (ln e d) = (x d : EReal)) (p : BitVec 32) (d : Fin 64) (c : ℝ) :
    X (ln e d) * ((Real.cos (ang p ((ln e d).val % 32)) * c : ℝ) : EReal) + X (lx (ln e d)) * ((sgn e d (Real.sin (ang p ((ln e d).val % 32))) * c : ℝ) : EReal)
      = ((roped x p d * c : ℝ) : EReal) := by
  by_cases h : d.val < 32
  · have h1 : lx (ln e d) = ln e ⟨d.val + 32, by omega⟩ := by
      unfold lx; rw [dif_pos (by show (64 * e.val + d.val) % 64 < 32; omega)]
      exact Fin.ext (by show 64 * e.val + d.val + 32 = 64 * e.val + (d.val + 32); omega)
    have h2 : (ln e d).val % 32 = d.val := by show (64 * e.val + d.val) % 32 = d.val; omega
    rw [h1, hx, hx, h2, ← EReal.coe_mul, ← EReal.coe_mul, ← EReal.coe_add]
    unfold sgn roped; rw [if_pos h, dif_pos h]; congr 1; ring
  · have h1 : lx (ln e d) = ln e ⟨d.val - 32, by omega⟩ := by
      unfold lx; rw [dif_neg (by show ¬ (64 * e.val + d.val) % 64 < 32; omega)]
      exact Fin.ext (by show 64 * e.val + d.val - 32 = 64 * e.val + (d.val - 32); omega)
    have h2 : (ln e d).val % 32 = d.val - 32 := by show (64 * e.val + d.val) % 32 = d.val - 32; omega
    rw [h1, hx, hx, h2, ← EReal.coe_mul, ← EReal.coe_mul, ← EReal.coe_add]
    unfold sgn roped; rw [if_neg h, dif_neg h]; congr 1; ring

theorem step_named : Named.named (F := Ideal) (φ := .f32) κ "freq_step" 0xBE935D8E#32 = ((-(32⁻¹) * Real.log 10000 : ℝ) : EReal) := rfl
theorem scale_named : Named.named (F := Ideal) (φ := .f32) κ "scale_log2_e" 0x3E38AA3B#32 = ((8⁻¹ * (Real.log 2)⁻¹ : ℝ) : EReal) := rfl
theorem log2_named : Named.named (F := Ideal) (φ := .f32) κ "log2_e" 0x3FB8AA3B#32 = (((Real.log 2)⁻¹ : ℝ) : EReal) := rfl

theorem cos_at (p : Vec Ideal S128x1 .i32) (r l : Fin 128) : k0_pay50 (F := Ideal) p (ix2 r l) = ((Real.cos (ang (p (ix2 r 0)) (l.val % 32)) : ℝ) : EReal) := by
  pointwise [k0_pay50, k0_pay49]
  rw [step_named, ang_kernel]; rfl

theorem sin_at (p : Vec Ideal S128x1 .i32) (r : Fin 128) (e : Fin 2) (d : Fin 64) :
    k0_pay51 (F := Ideal) p (ix2 r (ln e d)) = ((sgn e d (Real.sin (ang (p (ix2 r 0)) ((ln e d).val % 32))) : ℝ) : EReal) := by
  pointwise [k0_pay51, k0_pay49]
  rw [step_named, ang_kernel, and63, Ideal.sin_coe]
  unfold sgn
  by_cases h : d.val < 32
  · rw [if_pos h, if_pos (by show (64 * e.val + d.val) % 64 < 32; omega), EReal.coe_sub]; exact if_pos rfl
  · rw [if_neg h, if_neg (by show ¬ (64 * e.val + d.val) % 64 < 32; omega)]; exact if_neg (by decide)

/-- The rotated keys at an index. -/
theorem kc_at (I : Ins Ideal) (b hp : Fin 2) (r : Fin 128) (e : Fin 2) (x : Fin 64 → ℝ) (hx : ∀ d, I.k b hp (ix2 r (ln e d)) = (x d : EReal)) (d : Fin 64) :
    kc I b hp (ix2 r (ln e d)) = ((roped x (I.p b (ix2 r 0)) d : ℝ) : EReal) := by
  pointwise [kc, k0_pay55]
  rw [cos_at, sin_at, swp_at]
  have := rope_lane (fun l => I.k b hp (ix2 r l)) x e hx (I.p b (ix2 r 0)) d 1
  simp only [mul_one] at this
  refine Eq.trans ?_ this
  have h : slab I b ⟨16 + hp.val, by omega⟩ = I.k b hp := by
    unfold slab; rw [dif_neg (by show ¬ 16 + hp.val < 16; omega)]; congr 1; exact Fin.ext (by show 16 + hp.val - 16 = hp.val; omega)
  rw [h]

/-- The rotated and scaled queries at an index. -/
theorem qrow_at (I : Ins Ideal) (b : Fin 2) (n : Fin 16) (r : Fin 128) (e : Fin 2) (x : Fin 64 → ℝ) (hx : ∀ d, I.q b n (ix2 r (ln e d)) = (x d : EReal)) (d : Fin 64) :
    qrow I b n (ix2 r (ln e d)) = ((roped x (I.p b (ix2 r 0)) d * (8⁻¹ * (Real.log 2)⁻¹) : ℝ) : EReal) := by
  pointwise [qrow, k0_pay55, k0_pay52, k0_pay53]
  rw [cos_at, sin_at, swp_at, scale_named]
  refine Eq.trans ?_ (rope_lane (fun l => I.q b n (ix2 r l)) x e hx (I.p b (ix2 r 0)) d (8⁻¹ * (Real.log 2)⁻¹))
  have h : slab I b ⟨n.val, by omega⟩ = I.q b n := by unfold slab; rw [dif_pos n.isLt]
  rw [h, ← EReal.coe_mul, ← EReal.coe_mul]

end Cert.KernelIdeal.Swa

end
-- ==== Proof.Math.Spec.lean ====
module

public import proofs.«01_k».proof.Proof.Math.Rope

@[expose] public section

noncomputable section

namespace Cert.Attention

open Idealize.ShloMosaic

/-- The row of attention does not depend on the values of the keys that are not seen. -/
theorem baseE_congr (t t' : Fin 256 → ℝ) (vis vis' : Fin 256 → Prop) [DecidablePred vis] [DecidablePred vis'] (σ : ℝ) (V V' : Fin 256 → EReal)
    (hv : ∀ j, vis j ↔ vis' j) (ht : ∀ j, vis j → t j = t' j) (hV : ∀ j, vis j → V j = V' j) :
    baseE (masked t vis) σ V = baseE (masked t' vis') σ V' := by
  have hm : masked t vis = masked t' vis' := by
    funext j; unfold masked
    by_cases h : vis j
    · rw [if_pos h, if_pos ((hv j).mp h), ht j h]
    · rw [if_neg h, if_neg (fun h' => h ((hv j).mpr h'))]
  have h1 := base2_eq t vis σ (fun j => ↑((Real.log 2)⁻¹ * t j)) (fun j => if vis j then ⊤ else ⊥) _ V V rfl (fun _ => rfl) (fun _ _ => rfl) (fun _ _ => rfl)
  have h2 := base2_eq t vis σ (fun j => ↑((Real.log 2)⁻¹ * t j)) (fun j => if vis j then ⊤ else ⊥) _ V V' rfl (fun _ => rfl) (fun _ _ => rfl) hV
  rw [← hm, ← h1, h2]

section
variable (proj : Fin 32768 → Fin 10752 → EReal) (pos : Fin 32768 → BitVec 32) (sink : Fin 32 → EReal)

/-- The row of the key that the row `R` meets at place `j` of its window: the block of 128 rows before it and its own. -/
def keyRow (R : Fin 32768) (j : Fin 256) : Fin 32768 := ⟨128 * (R.val / 128) + j.val - 128, by omega⟩
/-- Whether the row `R` sees the key at place `j` of its window: at most 127 rows back, and in its own sequence. -/
def sees (R : Fin 32768) (j : Fin 256) : Prop :=
  (R.val % 128 < j.val ∧ j.val ≤ R.val % 128 + 128) ∧ (R.val % 8192 / 128 ≠ 0 ∨ 128 ≤ j.val)
instance (R : Fin 32768) : DecidablePred (sees R) := fun _ => inferInstanceAs (Decidable (_ ∧ _))
/-- Row `R` of the rotated key head `g`. -/
def rotK (R : Fin 32768) (g : Fin 4) (d : Fin 64) : ℝ :=
  roped (fun d => (proj R ⟨6144 + 64 * g.val + d.val, by omega⟩).toReal) (pos R) d
/-- Row `R` of the rotated query head `H`. -/
def rotQ (R : Fin 32768) (H : Fin 32) (d : Fin 64) : ℝ :=
  roped (fun d => (proj R ⟨4096 + 64 * H.val + d.val, by omega⟩).toReal) (pos R) d
/-- The score of the row `R` of head `H` against the key at place `j`. -/
def score (R : Fin 32768) (H : Fin 32) (j : Fin 256) : ℝ :=
  ∑ d, rotQ proj pos R H d * rotK proj pos (keyRow R j) ⟨H.val / 8, by omega⟩ d * 8⁻¹
/-- The attention: row `R`, head `H`, element `d`. -/
def att (R : Fin 32768) (H : Fin 32) (d : Fin 64) : EReal :=
  baseE (masked (score proj pos R H) (sees R)) (sink H)
    (fun j => proj (keyRow R j) ⟨6400 + 64 * (H.val / 8) + d.val, by omega⟩)
/-- The gated projection of the attention: row `R`, column `k`. -/
def gated (W : Fin 2048 → Fin 2048 → EReal) (R : Fin 32768) (k : Fin 2048) : EReal :=
  Ideal.logistic (proj R ⟨8704 + k.val, by omega⟩)
    * ∑ l : Fin 2048, att proj pos sink R ⟨l.val / 64, by omega⟩ ⟨l.val % 64, by omega⟩ * W l k

end

end Cert.Attention

end
-- ==== Proof.KernelIdeal.Attn.lean ====
module

public import proofs.«01_k».proof.Proof.KernelIdeal.Step
public import proofs.«01_k».proof.Proof.KernelIdeal.Heads
public import proofs.«01_k».proof.Proof.Math.Spec

@[expose] public section

set_option maxRecDepth 16384

noncomputable section

namespace Cert.KernelIdeal.Swa

open Idealize.ShloMosaic Idealize.ShloMosaic.TcCoe Idealize.ShloMosaic.Tactic
open Cert.KernelIdeal.Gen Cert.Attention

theorem pairK_at (I : Ins Ideal) (b hp : Fin 2) (j : Fin 256) (l : Fin 128) :
    pairK I b hp (ix2 j l) = if h : j.val < 128 then kpv I b hp (ix2 (⟨j.val, h⟩ : Fin 128) l) else kc I b hp (ix2 (⟨j.val - 128, by omega⟩ : Fin 128) l) := by
  pointwise [pairK]

theorem pairV_at (I : Ins Ideal) (b hp : Fin 2) (j : Fin 256) (l : Fin 128) :
    pairV I b hp (ix2 j l) = if h : j.val < 128 then I.v b.castSucc hp (ix2 (⟨j.val, h⟩ : Fin 128) l) else I.v b.succ hp (ix2 (⟨j.val - 128, by omega⟩ : Fin 128) l) := by
  pointwise [pairV]

/-- What a step's blocks hold of the arrays: the rows `256 T` to `256 T + 255`, and the 128 rows before them. -/
structure Blocks (proj : Fin 32768 → Fin 10752 → EReal) (pos : Fin 32768 → BitVec 32) (sink : Fin 32 → EReal) (T : Fin 128)
    (x0 : Vec Ideal S32 .f32) (x1 : Vec Ideal S256x2048 .bf16) (x2 : Vec Ideal S256x512 .bf16)
    (x3 : Vec Ideal S128x512 .bf16) (x4 : Vec Ideal S256x1 .i32) : Prop where
  s (n : Fin 32) : x0 (ix1 n) = sink n
  q (a : Fin 256) (l : Fin 2048) : x1 (ix2 a l) = proj ⟨256 * T.val + a.val, by omega⟩ ⟨4096 + l.val, by omega⟩
  kv (a : Fin 256) (l : Fin 512) : x2 (ix2 a l) = proj ⟨256 * T.val + a.val, by omega⟩ ⟨6144 + l.val, by omega⟩
  kvp (a : Fin 128) (l : Fin 512) : x3 (ix2 a l) = proj ⟨256 * T.val - 128 + a.val, by omega⟩ ⟨6144 + l.val, by omega⟩
  p (a : Fin 256) : x4 (ix2 a (0 : Fin 1)) = pos ⟨256 * T.val + a.val, by omega⟩

/-- The queries, the keys and the sinks are real numbers. -/
structure RealArgs (proj : Fin 32768 → Fin 10752 → EReal) (sink : Fin 32 → EReal) : Prop where
  q (R : Fin 32768) (n : Fin 2304) : proj R ⟨4096 + n.val, by omega⟩ = ((proj R ⟨4096 + n.val, by omega⟩).toReal : EReal)
  s (n : Fin 32) : sink n = ((sink n).toReal : EReal)

section
variable {proj : Fin 32768 → Fin 10752 → EReal} {pos : Fin 32768 → BitVec 32} {sink : Fin 32 → EReal} {T : Fin 128}
  {x0 : Vec Ideal S32 .f32} {x1 : Vec Ideal S256x2048 .bf16} {x2 : Vec Ideal S256x512 .bf16}
  {x3 : Vec Ideal S128x512 .bf16} {x4 : Vec Ideal S256x1 .i32} {K : Fin 128 → Fin 256 → EReal} {w : BitVec 1} {I : Ins Ideal}

/-- A column of a row, told by its number. -/
theorem col_eq (R R' : Fin 32768) (k k' : Fin 10752) (hR : R.val = R'.val) (hk : k.val = k'.val) : proj R k = proj R' k' := by
  rw [Fin.ext hR, Fin.ext hk]

/-- The rotated keys of a step's blocks. -/
theorem kc_spec (hR : RealArgs proj sink) (hB : Blocks proj pos sink T x0 x1 x2 x3 x4) (hI : Reads I x0 x1 x2 x3 x4 K w)
    (b hp : Fin 2) (r : Fin 128) (e : Fin 2) (d : Fin 64) :
    kc I b hp (ix2 r (ln e d)) = ((rotK proj pos ⟨256 * T.val + 128 * b.val + r.val, by omega⟩ ⟨2 * hp.val + e.val, by omega⟩ d : ℝ) : EReal) := by
  rw [kc_at I b hp r e (fun d => (proj ⟨256 * T.val + 128 * b.val + r.val, by omega⟩ ⟨6144 + 64 * (2 * hp.val + e.val) + d.val, by omega⟩).toReal)
    (fun d => ?_) d]
  · rw [hI.p, hB.p]
    have : (⟨256 * T.val + (128 * b.val + r.val), by omega⟩ : Fin 32768) = ⟨256 * T.val + 128 * b.val + r.val, by omega⟩ := Fin.ext (Nat.add_assoc _ _ _).symm
    show ((roped _ (pos ⟨256 * T.val + (128 * b.val + r.val), _⟩) d : ℝ) : EReal) = _
    rw [this]; rfl
  · unfold ln
    rw [hI.k, hB.kv]
    have e1 := hR.q ⟨256 * T.val + 128 * b.val + r.val, by omega⟩ ⟨2048 + 64 * (2 * hp.val + e.val) + d.val, by omega⟩
    have e2 : ∀ (R : Fin 32768) (k : Fin 10752), R.val = 256 * T.val + 128 * b.val + r.val → k.val = 6144 + 64 * (2 * hp.val + e.val) + d.val →
        proj R k = proj ⟨256 * T.val + 128 * b.val + r.val, by omega⟩ ⟨6144 + 64 * (2 * hp.val + e.val) + d.val, by omega⟩ := fun R k h h' => col_eq _ _ _ _ h h'
    rw [e2 ⟨256 * T.val + 128 * b.val + r.val, by omega⟩ ⟨4096 + (2048 + 64 * (2 * hp.val + e.val) + d.val), by omega⟩ rfl (by show 4096 + (2048 + 64 * (2 * hp.val + e.val) + d.val) = _; omega)] at e1
    rw [e2 _ _ (by show 256 * T.val + (128 * b.val + r.val) = _; omega) (by show 6144 + (128 * hp.val + (64 * e.val + d.val)) = _; omega)]
    exact e1

/-- The rotated and scaled queries of a step's blocks. -/
theorem qrow_spec (hR : RealArgs proj sink) (hB : Blocks proj pos sink T x0 x1 x2 x3 x4) (hI : Reads I x0 x1 x2 x3 x4 K w)
    (b : Fin 2) (n : Fin 16) (r : Fin 128) (e : Fin 2) (d : Fin 64) :
    qrow I b n (ix2 r (ln e d)) = ((rotQ proj pos ⟨256 * T.val + 128 * b.val + r.val, by omega⟩ ⟨2 * n.val + e.val, by omega⟩ d * (8⁻¹ * (Real.log 2)⁻¹) : ℝ) : EReal) := by
  rw [qrow_at I b n r e (fun d => (proj ⟨256 * T.val + 128 * b.val + r.val, by omega⟩ ⟨4096 + 64 * (2 * n.val + e.val) + d.val, by omega⟩).toReal)
    (fun d => ?_) d]
  · rw [hI.p, hB.p]
    have : (⟨256 * T.val + (128 * b.val + r.val), by omega⟩ : Fin 32768) = ⟨256 * T.val + 128 * b.val + r.val, by omega⟩ := Fin.ext (Nat.add_assoc _ _ _).symm
    show ((roped _ (pos ⟨256 * T.val + (128 * b.val + r.val), _⟩) d * _ : ℝ) : EReal) = _
    rw [this]; rfl
  · unfold ln
    rw [hI.q, hB.q]
    have e1 := hR.q ⟨256 * T.val + 128 * b.val + r.val, by omega⟩ ⟨64 * (2 * n.val + e.val) + d.val, by omega⟩
    have e2 : ∀ (R : Fin 32768) (k : Fin 10752), R.val = 256 * T.val + 128 * b.val + r.val → k.val = 4096 + 64 * (2 * n.val + e.val) + d.val →
        proj R k = proj ⟨256 * T.val + 128 * b.val + r.val, by omega⟩ ⟨4096 + 64 * (2 * n.val + e.val) + d.val, by omega⟩ := fun R k h h' => col_eq _ _ _ _ h h'
    rw [e2 ⟨256 * T.val + 128 * b.val + r.val, by omega⟩ ⟨4096 + (64 * (2 * n.val + e.val) + d.val), by omega⟩ rfl (by show 4096 + (64 * (2 * n.val + e.val) + d.val) = _; omega)] at e1
    rw [e2 _ _ (by show 256 * T.val + (128 * b.val + r.val) = _; omega) (by show 4096 + (128 * n.val + (64 * e.val + d.val)) = _; omega)]
    exact e1

/-- The key scratch of a step that has a block before it holds that block's rotated keys. -/
def Kept (proj : Fin 32768 → Fin 10752 → EReal) (pos : Fin 32768 → BitVec 32) (T : Fin 128) (K : Fin 128 → Fin 256 → EReal) : Prop :=
  T.val % 32 ≠ 0 → ∀ (hp : Fin 2) (r : Fin 128) (e : Fin 2) (d : Fin 64),
    K r ⟨128 * hp.val + (ln e d).val, by omega⟩ = ((rotK proj pos ⟨256 * T.val - 128 + r.val, by omega⟩ ⟨2 * hp.val + e.val, by omega⟩ d : ℝ) : EReal)

/-- The rotated keys that a block's rows see. -/
theorem pairK_spec (hR : RealArgs proj sink) (hB : Blocks proj pos sink T x0 x1 x2 x3 x4) (hI : Reads I x0 x1 x2 x3 x4 K w)
    (hK : Kept proj pos T K) (b hp : Fin 2) (r : Fin 128) (j : Fin 256) (hj : sees ⟨256 * T.val + 128 * b.val + r.val, by omega⟩ j) (e : Fin 2) (d : Fin 64) :
    pairK I b hp (ix2 j (ln e d)) = ((rotK proj pos (keyRow ⟨256 * T.val + 128 * b.val + r.val, by omega⟩ j) ⟨2 * hp.val + e.val, by omega⟩ d : ℝ) : EReal) := by
  rw [pairK_at]
  have hj2 : (256 * T.val + 128 * b.val + r.val) % 8192 / 128 ≠ 0 ∨ 128 ≤ j.val := hj.2
  have hr := r.isLt
  have key : ∀ R : Fin 32768, R.val = 128 * ((256 * T.val + 128 * b.val + r.val) / 128) + j.val - 128 →
      ((rotK proj pos R ⟨2 * hp.val + e.val, by omega⟩ d : ℝ) : EReal) = ((rotK proj pos (keyRow ⟨256 * T.val + 128 * b.val + r.val, by omega⟩ j) ⟨2 * hp.val + e.val, by omega⟩ d : ℝ) : EReal) :=
    fun R h => by rw [show R = keyRow ⟨256 * T.val + 128 * b.val + r.val, by omega⟩ j from Fin.ext h]
  by_cases h : j.val < 128
  · rw [dif_pos h]
    obtain ⟨b, hb⟩ := b
    match b, hb with
    | 0, _ =>
      show I.kp hp _ = _
      rw [hI.kp, hK (by intro h0; rcases hj2 with h2 | h2 <;> [(apply h2; show (256 * T.val + 128 * 0 + r.val) % 8192 / 128 = 0; omega); omega]) hp ⟨j.val, h⟩ e d]
      refine key _ ?_
      have : T.val ≠ 0 := by intro h0; rcases hj2 with h2 | h2 <;> [(apply h2; show (256 * T.val + 128 * 0 + r.val) % 8192 / 128 = 0; omega); omega]
      show 256 * T.val - 128 + j.val = 128 * ((256 * T.val + 128 * 0 + r.val) / 128) + j.val - 128
      omega
    | 1, _ =>
      show kc I 0 hp _ = _
      rw [kc_spec hR hB hI]
      refine key _ ?_
      show 256 * T.val + 128 * 0 + j.val = 128 * ((256 * T.val + 128 * 1 + r.val) / 128) + j.val - 128
      omega
  · rw [dif_neg h, kc_spec hR hB hI]
    refine key _ ?_
    show 256 * T.val + 128 * b.val + (j.val - 128) = 128 * ((256 * T.val + 128 * b.val + r.val) / 128) + j.val - 128
    omega

/-- The values that a block's rows see. -/
theorem pairV_spec (hB : Blocks proj pos sink T x0 x1 x2 x3 x4) (hI : Reads I x0 x1 x2 x3 x4 K w)
    (b hp : Fin 2) (r : Fin 128) (j : Fin 256) (hj : sees ⟨256 * T.val + 128 * b.val + r.val, by omega⟩ j) (e : Fin 2) (d : Fin 64) :
    pairV I b hp (ix2 j (ln e d)) = proj (keyRow ⟨256 * T.val + 128 * b.val + r.val, by omega⟩ j) ⟨6400 + 64 * (2 * hp.val + e.val) + d.val, by omega⟩ := by
  rw [pairV_at]
  have hj2 : (256 * T.val + 128 * b.val + r.val) % 8192 / 128 ≠ 0 ∨ 128 ≤ j.val := hj.2
  have hr := r.isLt
  unfold ln
  by_cases h : j.val < 128
  · rw [dif_pos h]
    obtain ⟨b, hb⟩ := b
    match b, hb with
    | 0, _ =>
      have : T.val ≠ 0 := by intro h0; rcases hj2 with h2 | h2 <;> [(apply h2; show (256 * T.val + 128 * 0 + r.val) % 8192 / 128 = 0; omega); omega]
      refine (hI.v0 hp ⟨j.val, h⟩ _).trans ?_
      rw [hB.kvp]
      refine col_eq _ _ _ _ ?_ ?_
      · show 256 * T.val - 128 + j.val = 128 * ((256 * T.val + 128 * 0 + r.val) / 128) + j.val - 128
        omega
      · show 6144 + (256 + 128 * hp.val + (64 * e.val + d.val)) = 6400 + 64 * (2 * hp.val + e.val) + d.val
        omega
    | 1, _ =>
      refine (hI.v 0 hp ⟨j.val, h⟩ _).trans ?_
      rw [hB.kv]
      refine col_eq _ _ _ _ ?_ ?_
      · show 256 * T.val + (128 * 0 + j.val) = 128 * ((256 * T.val + 128 * 1 + r.val) / 128) + j.val - 128
        omega
      · show 6144 + (256 + 128 * hp.val + (64 * e.val + d.val)) = 6400 + 64 * (2 * hp.val + e.val) + d.val
        omega
  · rw [dif_neg h, hI.v, hB.kv]
    refine col_eq _ _ _ _ ?_ ?_
    · show 256 * T.val + (128 * b.val + (j.val - 128)) = 128 * ((256 * T.val + 128 * b.val + r.val) / 128) + j.val - 128
      omega
    · show 6144 + (256 + 128 * hp.val + (64 * e.val + d.val)) = 6400 + 64 * (2 * hp.val + e.val) + d.val
      omega

/-- Whether a block has one before it in its sequence. -/
theorem has_spec (hI : Reads I x0 x1 x2 x3 x4 K w) (hw : w = if T.val % 32 = 0 then 0#1 else 1#1) (b : Fin 2) (r : Fin 128) :
    has I b = 1#1 ↔ (256 * T.val + 128 * b.val + r.val) % 8192 / 128 ≠ 0 := by
  have hr := r.isLt
  obtain ⟨b, hb⟩ := b
  match b, hb with
  | 0, _ =>
    show I.hasPrev = 1#1 ↔ (256 * T.val + 128 * 0 + r.val) % 8192 / 128 ≠ 0
    rw [hI.hasPrev, hw]
    by_cases h : T.val % 32 = 0
    · rw [if_pos h]; exact ⟨fun h' => absurd h' (by decide), fun h' => absurd (by omega) h'⟩
    · rw [if_neg h]; exact ⟨fun _ => by omega, fun _ => rfl⟩
  | 1, _ =>
    show (1#1 = 1#1) ↔ (256 * T.val + 128 * 1 + r.val) % 8192 / 128 ≠ 0
    exact ⟨fun _ => by omega, fun _ => rfl⟩

/-- A step's attention is the attention of its rows. -/
theorem yp_spec (hR : RealArgs proj sink) (hB : Blocks proj pos sink T x0 x1 x2 x3 x4) (hI : Reads I x0 x1 x2 x3 x4 K w)
    (hw : w = if T.val % 32 = 0 then 0#1 else 1#1) (hK : Kept proj pos T K)
    (b : Fin 2) (h gp : Fin 4) (e : Fin 2) (r : Fin 128) (d : Fin 64) :
    yp I b h gp (ix3 (0 : Fin 1) r (ln e d))
      = att proj pos sink ⟨256 * T.val + 128 * b.val + r.val, by omega⟩ ⟨8 * h.val + 2 * gp.val + e.val, slt h gp e⟩ d := by
  refine (yp_at I b h gp e r d).trans ?_
  unfold att
  rw [hR.s]
  have hH : (8 * h.val + 2 * gp.val + e.val) / 8 = h.val := by omega
  have hg : (⟨2 * (h.val / 2) + h.val % 2, by omega⟩ : Fin 4) = ⟨(8 * h.val + 2 * gp.val + e.val) / 8, by omega⟩ := Fin.ext (by show 2 * (h.val / 2) + h.val % 2 = (8 * h.val + 2 * gp.val + e.val) / 8; omega)
  refine base2_eq (score proj pos ⟨256 * T.val + 128 * b.val + r.val, by omega⟩ ⟨8 * h.val + 2 * gp.val + e.val, slt h gp e⟩)
    (sees ⟨256 * T.val + 128 * b.val + r.val, by omega⟩) _ _ _ _ _ _ ?_ ?_ ?_ ?_
  · show I.s _ * Named.named (F := Ideal) κ "log2_e" 0x3FB8AA3B#32 = _
    rw [hI.s, hB.s, log2_named, ← hR.s]
  · intro j
    show bnd (F := Ideal) (has I b) (ix2 r j) = _
    rw [bnd_at]
    refine if_congr ?_ rfl rfl
    unfold sees
    refine and_congr ?_ (or_congr (has_spec hI hw b r) Iff.rfl)
    have e1 : (256 * T.val + 128 * b.val + r.val) % 128 = r.val := by omega
    show _ ↔ (256 * T.val + 128 * b.val + r.val) % 128 < j.val ∧ j.val ≤ (256 * T.val + 128 * b.val + r.val) % 128 + 128
    rw [e1]
  · intro j hj
    show scores I b h _ = _
    rw [scores_at]
    unfold score
    rw [Finset.mul_sum, coe_sum]
    refine Finset.sum_congr rfl fun d _ => ?_
    have e1 := qrow_spec hR hB hI b ⟨4 * h.val + gp.val, qlt h gp⟩ r e d
    have e2 := pairK_spec hR hB hI hK b ⟨h.val / 2, by omega⟩ r j hj ⟨h.val % 2, by omega⟩ d
    refine (congrArg₂ (· * ·) e1 e2).trans ?_
    rw [← EReal.coe_mul]
    refine congrArg _ ?_
    have e3 : (⟨2 * (4 * h.val + gp.val) + e.val, by omega⟩ : Fin 32) = ⟨8 * h.val + 2 * gp.val + e.val, slt h gp e⟩ := Fin.ext (by show 2 * (4 * h.val + gp.val) + e.val = 8 * h.val + 2 * gp.val + e.val; omega)
    show rotQ proj pos _ ⟨2 * (4 * h.val + gp.val) + e.val, _⟩ d * _ * rotK proj pos _ ⟨2 * (h.val / 2) + h.val % 2, _⟩ d = _
    rw [e3, hg]
    ring
  · intro j hj
    refine (pairV_spec hB hI b ⟨h.val / 2, by omega⟩ r j hj ⟨h.val % 2, by omega⟩ d).trans ?_
    refine col_eq _ _ _ _ rfl ?_
    show 6400 + 64 * (2 * (h.val / 2) + h.val % 2) + d.val = 6400 + 64 * ((8 * h.val + 2 * gp.val + e.val) / 8) + d.val
    omega

end

end Cert.KernelIdeal.Swa

end
-- ==== Proof.KernelIdeal.Facts.lean ====
module

public import proofs.«01_k».proof.Proof.KernelIdeal.Step

@[expose] public section

set_option maxRecDepth 16384

noncomputable section

namespace Cert.KernelIdeal.Swa

open Idealize.ShloMosaic Idealize.ShloMosaic.TcCoe Idealize.ShloMosaic.Tactic
open Cert.KernelIdeal.Gen

variable (m : (ℓ : Loc nD τ sig) → Buf (Elt Ideal) ℓ)

/-- The four blocks of the gate at a step. -/
def gate (c : Dev nD) (t : Fin cfg0.N) : Fin 4 → Vec Ideal S256x512 .bf16 :=
  ![iblk m c 5 t, iblk m c 6 t, iblk m c 7 t, iblk m c 8 t]
/-- The projection's weights at a step. -/
def wts (c : Dev nD) (t : Fin cfg0.N) : Vec Ideal S2048x2048 .bf16 := iblk m c 9 t

/-- What a step leaves: the rotated keys of its second block in the key scratch, the attention's output in its half of the
output scratch, and the gated projection of the other half in the output block. -/
def Facts (c : Dev nD) (t : Fin cfg0.N) (K : Fin 128 → Fin 256 → EReal) (w : BitVec 1) (xs1 : Vec Ideal S2x256x2048 .bf16)
    (R : Vec Ideal S256x2048 .bf16 × Vec Ideal S128x256 .f32 × Vec Ideal S2x256x2048 .bf16) : Prop :=
  ∃ I : Ins Ideal, Reads I (iblk m c 0 t) (X0_1 m c t) (iblk m c 2 t) (iblk m c 3 t) (iblk m c 4 t) K w
    ∧ (∀ (hp : Fin 2) (r l : Fin 128), R.2.1 (ix2 r (⟨128 * hp.val + l.val, by omega⟩ : Fin 256)) = kc I 1 hp (ix2 r l))
    ∧ (∀ s : Fin 2, s.val = t.val % 2 → ∀ (b : Fin 2) (h gp : Fin 4) (r l : Fin 128),
        R.2.2 (ix3 s (⟨128 * b.val + r.val, by omega⟩ : Fin 256) (⟨512 * h.val + 128 * gp.val + l.val, by omega⟩ : Fin 2048)) = yp I b h gp (ix3 (0 : Fin 1) r l))
    ∧ (t.val ≠ 0 → ∀ s : Fin 2, s.val = (t.val + 1) % 2 → ∀ (r : Fin 256) (n : Fin 4) (l : Fin 512),
        R.1 (ix2 r (⟨512 * n.val + l.val, by omega⟩ : Fin 2048))
          = Ideal.logistic (gate m c t n (ix2 r l))
            * ∑ k : Fin 2048, (xs1 (ix3 s r k) : EReal) * (wts m c t (ix2 k (⟨512 * n.val + l.val, by omega⟩ : Fin 2048)) : EReal))

/-- The output block's four stores, at an index. -/
theorem out_at (c : Dev nD) (t : Fin cfg0.N) (Y : FVec Ideal S256x2048 .bf16) (xs1 : Vec Ideal S2x256x2048 .bf16)
    (hY : Y = k0_pay7 (View.readAt (Elt Ideal) scY.view (Rect.unit (s := S2x256x2048) (k0_off1 (grid0.coords t)) S1x256x2048.size (k0_off1_inb (grid0.coords t))).toLoadRect ((Memref.isWhole_whole cc0_scratch1).unread xs1)))
    {sp : Space} (v : View sig .tc sp S256x2048 .bf16) (f : v.ty.Contents (Elt Ideal))
    (s : Fin 2) (hs : s.val = (t.val + 1) % 2) (r : Fin 256) (n : Fin 4) (l : Fin 512) :
    v.read (Elt Ideal) (v.writes (Elt Ideal) f
      [⟨Rect.unit (s := S256x2048) ![0, 1536] S256x512.size inb_S256x2048_S256x512_0_1536, k0_pay48 Y (View.readAt (Elt Ideal) (st9 t).view (Rect.unit (s := S2048x2048) ![0, 1536] S2048x512.size inb_S2048x2048_S2048x512_0_1536).toLoadRect ((hst9 t).unread (iblk m c 9 t))) (View.readAt (Elt Ideal) (st8 t).view (Rect.unit (s := S256x512) ![0, 0] S256x512.size inb_S256x512_S256x512_0_0).toLoadRect ((hst8 t).unread (iblk m c 8 t)))⟩,
      ⟨Rect.unit (s := S256x2048) ![0, 1024] S256x512.size inb_S256x2048_S256x512_0_1024, k0_pay48 Y (View.readAt (Elt Ideal) (st9 t).view (Rect.unit (s := S2048x2048) ![0, 1024] S2048x512.size inb_S2048x2048_S2048x512_0_1024).toLoadRect ((hst9 t).unread (iblk m c 9 t))) (View.readAt (Elt Ideal) (st7 t).view (Rect.unit (s := S256x512) ![0, 0] S256x512.size inb_S256x512_S256x512_0_0).toLoadRect ((hst7 t).unread (iblk m c 7 t)))⟩,
      ⟨Rect.unit (s := S256x2048) ![0, 512] S256x512.size inb_S256x2048_S256x512_0_512, k0_pay48 Y (View.readAt (Elt Ideal) (st9 t).view (Rect.unit (s := S2048x2048) ![0, 512] S2048x512.size inb_S2048x2048_S2048x512_0_512).toLoadRect ((hst9 t).unread (iblk m c 9 t))) (View.readAt (Elt Ideal) (st6 t).view (Rect.unit (s := S256x512) ![0, 0] S256x512.size inb_S256x512_S256x512_0_0).toLoadRect ((hst6 t).unread (iblk m c 6 t)))⟩,
      ⟨Rect.unit (s := S256x2048) ![0, 0] S256x512.size inb_S256x2048_S256x512_0_0, k0_pay48 Y (View.readAt (Elt Ideal) (st9 t).view (Rect.unit (s := S2048x2048) ![0, 0] S2048x512.size inb_S2048x2048_S2048x512_0_0).toLoadRect ((hst9 t).unread (iblk m c 9 t))) (View.readAt (Elt Ideal) (st5 t).view (Rect.unit (s := S256x512) ![0, 0] S256x512.size inb_S256x512_S256x512_0_0).toLoadRect ((hst5 t).unread (iblk m c 5 t)))⟩])
      (ix2 r (⟨512 * n.val + l.val, by omega⟩ : Fin 2048))
    = Ideal.logistic (gate m c t n (ix2 r l))
        * ∑ k : Fin 2048, (xs1 (ix3 s r k) : EReal) * (wts m c t (ix2 k (⟨512 * n.val + l.val, by omega⟩ : Fin 2048)) : EReal) := by
  have hg : ∀ (n : Fin 4), (![View.readAt (Elt Ideal) (st5 t).view (Rect.unit (s := S256x512) ![0, 0] S256x512.size inb_S256x512_S256x512_0_0).toLoadRect ((hst5 t).unread (iblk m c 5 t)),
      View.readAt (Elt Ideal) (st6 t).view (Rect.unit (s := S256x512) ![0, 0] S256x512.size inb_S256x512_S256x512_0_0).toLoadRect ((hst6 t).unread (iblk m c 6 t)),
      View.readAt (Elt Ideal) (st7 t).view (Rect.unit (s := S256x512) ![0, 0] S256x512.size inb_S256x512_S256x512_0_0).toLoadRect ((hst7 t).unread (iblk m c 7 t)),
      View.readAt (Elt Ideal) (st8 t).view (Rect.unit (s := S256x512) ![0, 0] S256x512.size inb_S256x512_S256x512_0_0).toLoadRect ((hst8 t).unread (iblk m c 8 t))] : Fin 4 → Vec Ideal S256x512 .bf16) n (ix2 r l) = gate m c t n (ix2 r l) := by
    intro n
    obtain ⟨n, hn⟩ := n
    match n, hn with
    | 0, _ => exact load_at (st5 t) (hst5 t) (iblk m c 5 t) _ _ _ _ _ fun a => by match a with | ⟨0, _⟩ => exact (Nat.zero_add _).symm | ⟨1, _⟩ => exact (Nat.zero_add _).symm
    | 1, _ => exact load_at (st6 t) (hst6 t) (iblk m c 6 t) _ _ _ _ _ fun a => by match a with | ⟨0, _⟩ => exact (Nat.zero_add _).symm | ⟨1, _⟩ => exact (Nat.zero_add _).symm
    | 2, _ => exact load_at (st7 t) (hst7 t) (iblk m c 7 t) _ _ _ _ _ fun a => by match a with | ⟨0, _⟩ => exact (Nat.zero_add _).symm | ⟨1, _⟩ => exact (Nat.zero_add _).symm
    | 3, _ => exact load_at (st8 t) (hst8 t) (iblk m c 8 t) _ _ _ _ _ fun a => by match a with | ⟨0, _⟩ => exact (Nat.zero_add _).symm | ⟨1, _⟩ => exact (Nat.zero_add _).symm
  refine (listO_read v f (fun n : Fin 4 => k0_pay48 Y (View.readAt (Elt Ideal) (st9 t).view (Rect.unit (s := S2048x2048) ![0, 512 * n.val] S2048x512.size (inW n)).toLoadRect ((hst9 t).unread (iblk m c 9 t)))
      ((![View.readAt (Elt Ideal) (st5 t).view (Rect.unit (s := S256x512) ![0, 0] S256x512.size inb_S256x512_S256x512_0_0).toLoadRect ((hst5 t).unread (iblk m c 5 t)),
      View.readAt (Elt Ideal) (st6 t).view (Rect.unit (s := S256x512) ![0, 0] S256x512.size inb_S256x512_S256x512_0_0).toLoadRect ((hst6 t).unread (iblk m c 6 t)),
      View.readAt (Elt Ideal) (st7 t).view (Rect.unit (s := S256x512) ![0, 0] S256x512.size inb_S256x512_S256x512_0_0).toLoadRect ((hst7 t).unread (iblk m c 7 t)),
      View.readAt (Elt Ideal) (st8 t).view (Rect.unit (s := S256x512) ![0, 0] S256x512.size inb_S256x512_S256x512_0_0).toLoadRect ((hst8 t).unread (iblk m c 8 t))] : Fin 4 → Vec Ideal S256x512 .bf16) n)) r n l).trans ?_
  refine (gated_at _ _ _ r l).trans ?_
  rw [hg n]
  refine congrArg (Ideal.logistic (gate m c t n (ix2 r l)) * ·) (Finset.sum_congr rfl fun k _ => ?_)
  refine congrArg₂ (· * ·) ?_ ?_
  · rw [hY, pay7_at]
    exact load_at scY (Memref.isWhole_whole _) xs1 _ _ _ _ _ fun a => by
      have e := congrFun (off1_eq t) a
      refine Eq.trans ?_ (congrArg (· + _) e.symm)
      match a with
      | ⟨0, _⟩ => exact hs
      | ⟨1, _⟩ => exact (Nat.zero_add _).symm
      | ⟨2, _⟩ => exact (Nat.zero_add _).symm
  · exact load_at (st9 t) (hst9 t) (iblk m c 9 t) _ _ _ _ _ fun a => by
      match a with
      | ⟨0, _⟩ => exact (Nat.zero_add _).symm
      | ⟨1, _⟩ => rfl

set_option maxHeartbeats 1000000 in
/-- What a step of case A leaves. -/
theorem factsA (c : Dev nD) (t : Fin cfg0.N) (h0 : cond0 (grid0.coords t)) (h1 : cond1 (grid0.coords t))
    (xs0 : Vec Ideal S128x256 .f32) (xs1 : Vec Ideal S2x256x2048 .bf16) :
    Facts m c t (fun _ _ => 0) 0#1 xs1 (stepAt m c t xs0 xs1) := by
  have hst : stepAt m c t xs0 xs1 = left (atA m c t h0 h1).1 (atA m c t h0 h1).2.1 (atA m c t h0 h1).2.2.1 scY.view.junk :=
    (dif_pos h0).trans (dif_pos h1)
  rw [hst]
  obtain ⟨I, hI⟩ : ∃ I : Ins Ideal, I = insR (F := Ideal) (grid0.coords t) (st0 t) (hst0 t) (st1 t) (hst1 t) (st2 t) (hst2 t) (st3 t) (hst3 t) (st4 t) (hst4 t) (iblk m c 0 t) (X0_1 m c t) (iblk m c 2 t) (iblk m c 3 t) (iblk m c 4 t) (fun hp => scK.view.readCov [⟨Rect.unit (s := S128x256) ![0, 0] S128x256.size inb_S128x256_S128x256_0_0, k0_pay6 (F := Ideal)⟩] (Rect.unit (s := S128x256) ![0, 128 * hp.val] S128x128.size (inKP hp)).toLoadRect) := ⟨_, rfl⟩
  have hY := listYA (F := Ideal) c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) scK (Memref.isWhole_whole _) scY (Memref.isWhole_whole _) h0 h1 (iblk m c 0 t) (X0_1 m c t) (iblk m c 2 t) (iblk m c 3 t) (iblk m c 4 t) (iblk m c 5 t) (iblk m c 6 t) (iblk m c 7 t) (iblk m c 8 t) (iblk m c 9 t) I hI
  have hK := listKA (F := Ideal) c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) scK (Memref.isWhole_whole _) scY (Memref.isWhole_whole _) h0 h1 (iblk m c 0 t) (X0_1 m c t) (iblk m c 2 t) (iblk m c 3 t) (iblk m c 4 t) (iblk m c 5 t) (iblk m c 6 t) (iblk m c 7 t) (iblk m c 8 t) (iblk m c 9 t) I hI
  refine ⟨I, ?_, fun hp r l => ?_, fun s hs b h gp r l => ?_, fun ht s' hs' r n l => ?_⟩
  · rw [hI]
    refine reads_insR _ _ _ _ _ _ _ _ _ _ _ _ _ _ _ _ _ _ _ (fun hp r l => ?_) ?_
    · rw [View.readCov_eq_canon']; rw [View.canon_unit_zero (by funext a; match a with | ⟨0, _⟩ => rfl | ⟨1, _⟩ => rfl)]; exact pay6_at _
    · rw [has_bit, if_pos ((hcond1 t).mp h1)]
  · show scK.view.read (Elt Ideal) (scK.view.writes (Elt Ideal) scK.view.junk (atA m c t h0 h1).2.1) _ = _
    rw [show (atA m c t h0 h1).2.1 = _ from hK]
    exact listK_read scK.view (scK.view.writes (Elt Ideal) scK.view.junk [⟨Rect.unit (s := S128x256) ![0, 0] S128x256.size inb_S128x256_S128x256_0_0, k0_pay6 (F := Ideal)⟩]) I hp r l
  · show scY.view.read (Elt Ideal) (scY.view.writes (Elt Ideal) scY.view.junk (atA m c t h0 h1).2.2.1) _ = _
    rw [show (atA m c t h0 h1).2.2.1 = _ from hY]
    exact listY_read scY.view (scY.view.writes (Elt Ideal) scY.view.junk [⟨Rect.unit (s := S2x256x2048) ![0, 0, 0] S2x256x2048.size inb_S2x256x2048_S2x256x2048_0_0_0, k0_pay5 (F := Ideal)⟩]) (grid0.coords t) I s (by rw [coords_val]; exact hs) b h gp r l
  · exact absurd ((hcond0 t).mp h0) ht

set_option maxHeartbeats 1000000 in
/-- What a step of case B leaves. -/
theorem factsB (c : Dev nD) (t : Fin cfg0.N) (h0 : ¬cond0 (grid0.coords t)) (h1 : ¬cond1 (grid0.coords t))
    (xs0 : Vec Ideal S128x256 .f32) (xs1 : Vec Ideal S2x256x2048 .bf16) :
    Facts m c t (fun r k => xs0 (ix2 r k)) 1#1 xs1 (stepAt m c t xs0 xs1) := by
  have hst : stepAt m c t xs0 xs1 = left (atB m c t h0 h1 xs0 xs1).1 (atB m c t h0 h1 xs0 xs1).2.1 (atB m c t h0 h1 xs0 xs1).2.2.1 ((Memref.isWhole_whole cc0_scratch1).unread xs1) :=
    (dif_neg h0).trans (dif_neg h1)
  rw [hst]
  obtain ⟨I, hI⟩ : ∃ I : Ins Ideal, I = insR (F := Ideal) (grid0.coords t) (st0 t) (hst0 t) (st1 t) (hst1 t) (st2 t) (hst2 t) (st3 t) (hst3 t) (st4 t) (hst4 t) (iblk m c 0 t) (X0_1 m c t) (iblk m c 2 t) (iblk m c 3 t) (iblk m c 4 t) (fun hp => View.readAt (Elt Ideal) scK.view (Rect.unit (s := S128x256) ![0, 128 * hp.val] S128x128.size (inKP hp)).toLoadRect ((Memref.isWhole_whole cc0_scratch0).unread xs0)) := ⟨_, rfl⟩
  have hY := listYB (F := Ideal) c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) scK (Memref.isWhole_whole _) scY (Memref.isWhole_whole _) h0 h1 (iblk m c 0 t) (X0_1 m c t) (iblk m c 2 t) (iblk m c 3 t) (iblk m c 4 t) (iblk m c 5 t) (iblk m c 6 t) (iblk m c 7 t) (iblk m c 8 t) (iblk m c 9 t) xs0 xs1 I hI
  have hK := listKB (F := Ideal) c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) scK (Memref.isWhole_whole _) scY (Memref.isWhole_whole _) h0 h1 (iblk m c 0 t) (X0_1 m c t) (iblk m c 2 t) (iblk m c 3 t) (iblk m c 4 t) (iblk m c 5 t) (iblk m c 6 t) (iblk m c 7 t) (iblk m c 8 t) (iblk m c 9 t) xs0 xs1 I hI
  refine ⟨I, ?_, fun hp r l => ?_, fun s hs b h gp r l => ?_, fun ht s' hs' r n l => ?_⟩
  · rw [hI]
    refine reads_insR _ _ _ _ _ _ _ _ _ _ _ _ _ _ _ _ _ _ _ (fun hp r l => ?_) ?_
    · exact load_at scK (Memref.isWhole_whole _) xs0 _ _ _ _ _ fun a => by match a with | ⟨0, _⟩ => exact (Nat.zero_add _).symm | ⟨1, _⟩ => rfl
    · rw [has_bit, if_neg (fun h => h1 ((hcond1 t).mpr h))]
  · show scK.view.read (Elt Ideal) (scK.view.writes (Elt Ideal) scK.view.junk (atB m c t h0 h1 xs0 xs1).2.1) _ = _
    rw [show (atB m c t h0 h1 xs0 xs1).2.1 = _ from hK]
    exact listK_read scK.view _ I hp r l
  · show scY.view.read (Elt Ideal) (scY.view.writes (Elt Ideal) ((Memref.isWhole_whole cc0_scratch1).unread xs1) (atB m c t h0 h1 xs0 xs1).2.2.1) _ = _
    rw [show (atB m c t h0 h1 xs0 xs1).2.2.1 = _ from hY]
    exact listY_read scY.view _ (grid0.coords t) I s (by rw [coords_val]; exact hs) b h gp r l
  · obtain ⟨Y, hYY⟩ : ∃ Y : FVec Ideal S256x2048 .bf16, Y = k0_pay7 (View.readAt (Elt Ideal) scY.view (Rect.unit (s := S2x256x2048) (k0_off1 (grid0.coords t)) S1x256x2048.size (k0_off1_inb (grid0.coords t))).toLoadRect ((Memref.isWhole_whole cc0_scratch1).unread xs1)) := ⟨_, rfl⟩
    have hO := listOB (F := Ideal) c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) scK (Memref.isWhole_whole _) scY (Memref.isWhole_whole _) h0 h1 (iblk m c 0 t) (X0_1 m c t) (iblk m c 2 t) (iblk m c 3 t) (iblk m c 4 t) (iblk m c 5 t) (iblk m c 6 t) (iblk m c 7 t) (iblk m c 8 t) (iblk m c 9 t) xs0 xs1  Y hYY
    show (Memref.whole cc0_stg10_0 : Memref sig .tc .vmem S256x2048 .bf16).view.read (Elt Ideal)
      ((Memref.whole cc0_stg10_0 : Memref sig .tc .vmem S256x2048 .bf16).view.writes (Elt Ideal)
        (Memref.whole cc0_stg10_0 : Memref sig .tc .vmem S256x2048 .bf16).view.junk (atB m c t h0 h1 xs0 xs1).1) _ = _
    rw [show (atB m c t h0 h1 xs0 xs1).1 = _ from hO]
    exact out_at m c t Y xs1 hYY _ _ s' hs' r n l

set_option maxHeartbeats 1000000 in
/-- What a step of case C leaves. -/
theorem factsC (c : Dev nD) (t : Fin cfg0.N) (h0 : ¬cond0 (grid0.coords t)) (h1 : cond1 (grid0.coords t))
    (xs0 : Vec Ideal S128x256 .f32) (xs1 : Vec Ideal S2x256x2048 .bf16) :
    Facts m c t (fun _ _ => 0) 0#1 xs1 (stepAt m c t xs0 xs1) := by
  have hst : stepAt m c t xs0 xs1 = left (atC m c t h0 h1 xs1).1 (atC m c t h0 h1 xs1).2.1 (atC m c t h0 h1 xs1).2.2.1 ((Memref.isWhole_whole cc0_scratch1).unread xs1) :=
    (dif_neg h0).trans (dif_pos h1)
  rw [hst]
  obtain ⟨I, hI⟩ : ∃ I : Ins Ideal, I = insR (F := Ideal) (grid0.coords t) (st0 t) (hst0 t) (st1 t) (hst1 t) (st2 t) (hst2 t) (st3 t) (hst3 t) (st4 t) (hst4 t) (iblk m c 0 t) (X0_1 m c t) (iblk m c 2 t) (iblk m c 3 t) (iblk m c 4 t) (fun hp => scK.view.readCov [⟨Rect.unit (s := S128x256) ![0, 0] S128x256.size inb_S128x256_S128x256_0_0, k0_pay6 (F := Ideal)⟩] (Rect.unit (s := S128x256) ![0, 128 * hp.val] S128x128.size (inKP hp)).toLoadRect) := ⟨_, rfl⟩
  have hY := listYC (F := Ideal) c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) scK (Memref.isWhole_whole _) scY (Memref.isWhole_whole _) h0 h1 (iblk m c 0 t) (X0_1 m c t) (iblk m c 2 t) (iblk m c 3 t) (iblk m c 4 t) (iblk m c 5 t) (iblk m c 6 t) (iblk m c 7 t) (iblk m c 8 t) (iblk m c 9 t) xs1 I hI
  have hK := listKC (F := Ideal) c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) scK (Memref.isWhole_whole _) scY (Memref.isWhole_whole _) h0 h1 (iblk m c 0 t) (X0_1 m c t) (iblk m c 2 t) (iblk m c 3 t) (iblk m c 4 t) (iblk m c 5 t) (iblk m c 6 t) (iblk m c 7 t) (iblk m c 8 t) (iblk m c 9 t) xs1 I hI
  refine ⟨I, ?_, fun hp r l => ?_, fun s hs b h gp r l => ?_, fun ht s' hs' r n l => ?_⟩
  · rw [hI]
    refine reads_insR _ _ _ _ _ _ _ _ _ _ _ _ _ _ _ _ _ _ _ (fun hp r l => ?_) ?_
    · rw [View.readCov_eq_canon']; rw [View.canon_unit_zero (by funext a; match a with | ⟨0, _⟩ => rfl | ⟨1, _⟩ => rfl)]; exact pay6_at _
    · rw [has_bit, if_pos ((hcond1 t).mp h1)]
  · show scK.view.read (Elt Ideal) (scK.view.writes (Elt Ideal) scK.view.junk (atC m c t h0 h1 xs1).2.1) _ = _
    rw [show (atC m c t h0 h1 xs1).2.1 = _ from hK]
    exact listK_read scK.view (scK.view.writes (Elt Ideal) scK.view.junk [⟨Rect.unit (s := S128x256) ![0, 0] S128x256.size inb_S128x256_S128x256_0_0, k0_pay6 (F := Ideal)⟩]) I hp r l
  · show scY.view.read (Elt Ideal) (scY.view.writes (Elt Ideal) ((Memref.isWhole_whole cc0_scratch1).unread xs1) (atC m c t h0 h1 xs1).2.2.1) _ = _
    rw [show (atC m c t h0 h1 xs1).2.2.1 = _ from hY]
    exact listY_read scY.view _ (grid0.coords t) I s (by rw [coords_val]; exact hs) b h gp r l
  · obtain ⟨Y, hYY⟩ : ∃ Y : FVec Ideal S256x2048 .bf16, Y = k0_pay7 (View.readAt (Elt Ideal) scY.view (Rect.unit (s := S2x256x2048) (k0_off1 (grid0.coords t)) S1x256x2048.size (k0_off1_inb (grid0.coords t))).toLoadRect ((Memref.isWhole_whole cc0_scratch1).unread xs1)) := ⟨_, rfl⟩
    have hO := listOC (F := Ideal) c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) scK (Memref.isWhole_whole _) scY (Memref.isWhole_whole _) h0 h1 (iblk m c 0 t) (X0_1 m c t) (iblk m c 2 t) (iblk m c 3 t) (iblk m c 4 t) (iblk m c 5 t) (iblk m c 6 t) (iblk m c 7 t) (iblk m c 8 t) (iblk m c 9 t) xs1  Y hYY
    show (Memref.whole cc0_stg10_0 : Memref sig .tc .vmem S256x2048 .bf16).view.read (Elt Ideal)
      ((Memref.whole cc0_stg10_0 : Memref sig .tc .vmem S256x2048 .bf16).view.writes (Elt Ideal)
        (Memref.whole cc0_stg10_0 : Memref sig .tc .vmem S256x2048 .bf16).view.junk (atC m c t h0 h1 xs1).1) _ = _
    rw [show (atC m c t h0 h1 xs1).1 = _ from hO]
    exact out_at m c t Y xs1 hYY _ _ s' hs' r n l

/-- What any step leaves. -/
theorem facts (c : Dev nD) (t : Fin cfg0.N) (xs0 : Vec Ideal S128x256 .f32) (xs1 : Vec Ideal S2x256x2048 .bf16) :
    Facts m c t (fun r k => if t.val % 32 = 0 then 0 else xs0 (ix2 r k)) (if t.val % 32 = 0 then 0#1 else 1#1) xs1 (stepAt m c t xs0 xs1) := by
  by_cases h0 : cond0 (grid0.coords t)
  · have h1 : cond1 (grid0.coords t) := (hcond1 t).mpr (by rw [(hcond0 t).mp h0])
    have h := factsA m c t h0 h1 xs0 xs1
    simp only [if_pos ((hcond1 t).mp h1)]; exact h
  · by_cases h1 : cond1 (grid0.coords t)
    · have h := factsC m c t h0 h1 xs0 xs1
      simp only [if_pos ((hcond1 t).mp h1)]; exact h
    · have h := factsB m c t h0 h1 xs0 xs1
      simp only [if_neg (fun h => h1 ((hcond1 t).mpr h) : ¬ t.val % 32 = 0)]; exact h

end Cert.KernelIdeal.Swa

end
-- ==== Proof.KernelIdeal.Reads.lean ====
module

public import proofs.«01_k».proof.Proof.KernelIdeal.Attn
public import proofs.«01_k».proof.Proof.KernelIdeal.Facts

@[expose] public section

set_option maxRecDepth 16384

noncomputable section

namespace Cert.KernelIdeal.Swa

open Idealize.ShloMosaic Idealize.ShloMosaic.TcCoe Idealize.ShloMosaic.Tactic
open Cert.KernelIdeal.Gen Cert.Attention

variable (m : (ℓ : Loc nD τ sig) → Buf (Elt Ideal) ℓ)

/-- The arguments, by row and column. -/
def aproj (c : Dev nD) (R : Fin 32768) (k : Fin 10752) : EReal := (m ((c : Thread nD τ).loc main_arg0) : FVec Ideal S32768x10752 .bf16) (ix2 R k)
def apos (c : Dev nD) (R : Fin 32768) : BitVec 32 :=
  (m ((c : Thread nD τ).loc main_arg1) : IVec S4x8192 32) (ix2 (⟨R.val / 8192, by omega⟩ : Fin 4) (⟨R.val % 8192, by omega⟩ : Fin 8192))
def asink (c : Dev nD) (n : Fin 32) : EReal := (m ((c : Thread nD τ).loc main_arg2) : FVec Ideal S1x32 .f32) (ix2 (0 : Fin 1) n)
def awts (c : Dev nD) (l k : Fin 2048) : EReal := (m ((c : Thread nD τ).loc main_arg3) : FVec Ideal S1x2048x2048 .f32) (ix3 (0 : Fin 1) l k)

/-- The windows' block indices, at every step. -/
theorem idx_in : ∀ t : Fin cfg0.N, win0_0.index t = ![0] ∧ win0_1.index t = ![min t.val 127, 2] ∧ win0_2.index t = ![min t.val 127, 12]
    ∧ win0_3.index t = ![2 * min t.val 127 - 1, 12] ∧ win0_4.index t = ![min t.val 127, 0] :=
  (by decide +kernel : ∀ t : Fin grid0.N, _)
theorem idx_out : ∀ t : Fin cfg0.N, win0_5.index t = ![t.val - 1, 17] ∧ win0_6.index t = ![t.val - 1, 18] ∧ win0_7.index t = ![t.val - 1, 19]
    ∧ win0_8.index t = ![t.val - 1, 20] ∧ win0_9.index t = ![0, 0] ∧ win0_10.index t = ![t.val - 1, 0] :=
  (by decide +kernel : ∀ t : Fin grid0.N, _)

theorem V_v0 (c : Dev nD) (R : Fin 32768) : (V m c main_v0 : IVec S32768x1 32) (ix2 R (0 : Fin 1)) = apos m c R := by
  entry_read; pointwise [apos]
theorem V_v1 (c : Dev nD) (n : Fin 32) : (V m c main_v1 : FVec Ideal S32 .f32) (ix1 n) = asink m c n := by
  entry_read; pointwise [asink]
theorem V_v3 (c : Dev nD) (l k : Fin 2048) : (V m c main_v3 : FVec Ideal S2048x2048 .bf16) (ix2 l k) = awts m c l k := by
  entry_read; pointwise [awts]

/-- The steps' blocks, at an index. -/
theorem X1_at (c : Dev nD) (t : Fin cfg0.N) (T : Fin 128) (hT : T.val = min t.val 127) (a : Fin 256) (l : Fin 2048) :
    (X0_1 m c t : Vec Ideal S256x2048 .bf16) (ix2 a l) = aproj m c ⟨256 * T.val + a.val, by omega⟩ ⟨4096 + l.val, by omega⟩ := by
  unfold aproj
  show (cfg0.win 1).fill (cfg0.grid.coords t) dflt0_1 (iblk m c 1 t) (ix2 a l) = _
  unfold Pipeline.Window.fill
  refine (dif_pos (moved0_1 t _)).trans ?_
  blk_ext [iblk, V, idx_in t]
theorem X0_at (c : Dev nD) (t : Fin cfg0.N) (n : Fin 32) : (iblk m c 0 t : Vec Ideal S32 .f32) (ix1 n) = asink m c n := by
  rw [← V_v1]
  show (V m c main_v1 : FVec Ideal S32 .f32) _ = _
  refine congrArg (V m c main_v1 : FVec Ideal S32 .f32) ?_
  blk_ext [idx_in t]
theorem X2_at (c : Dev nD) (t : Fin cfg0.N) (T : Fin 128) (hT : T.val = min t.val 127) (a : Fin 256) (l : Fin 512) :
    (iblk m c 2 t : Vec Ideal S256x512 .bf16) (ix2 a l) = aproj m c ⟨256 * T.val + a.val, by omega⟩ ⟨6144 + l.val, by omega⟩ := by
  unfold aproj
  blk_ext [iblk, V, idx_in t]
theorem X3_at (c : Dev nD) (t : Fin cfg0.N) (T : Fin 128) (hT : T.val = min t.val 127) (a : Fin 128) (l : Fin 512) :
    (iblk m c 3 t : Vec Ideal S128x512 .bf16) (ix2 a l) = aproj m c ⟨256 * T.val - 128 + a.val, by omega⟩ ⟨6144 + l.val, by omega⟩ := by
  unfold aproj
  blk_ext [iblk, V, idx_in t]

theorem X4_at (c : Dev nD) (t : Fin cfg0.N) (T : Fin 128) (hT : T.val = min t.val 127) (a : Fin 256) :
    (iblk m c 4 t : Vec Ideal S256x1 .i32) (ix2 a (0 : Fin 1)) = apos m c ⟨256 * T.val + a.val, by omega⟩ := by
  rw [← V_v0]
  show (V m c main_v0 : IVec S32768x1 32) _ = _
  refine congrArg (V m c main_v0 : IVec S32768x1 32) ?_
  blk_ext [idx_in t]
theorem gate_at (c : Dev nD) (t : Fin cfg0.N) (T : Fin 128) (hT : T.val = t.val - 1) (n : Fin 4) (a : Fin 256) (l : Fin 512) :
    gate m c t n (ix2 a l) = aproj m c ⟨256 * T.val + a.val, by omega⟩ ⟨8704 + (512 * n.val + l.val), by omega⟩ := by
  unfold aproj
  obtain ⟨n, hn⟩ := n
  match n, hn with
  | 0, _ => show (iblk m c 5 t : Vec Ideal S256x512 .bf16) (ix2 a l) = _; blk_ext [iblk, V, idx_out t]
  | 1, _ => show (iblk m c 6 t : Vec Ideal S256x512 .bf16) (ix2 a l) = _; blk_ext [iblk, V, idx_out t]
  | 2, _ => show (iblk m c 7 t : Vec Ideal S256x512 .bf16) (ix2 a l) = _; blk_ext [iblk, V, idx_out t]
  | 3, _ => show (iblk m c 8 t : Vec Ideal S256x512 .bf16) (ix2 a l) = _; blk_ext [iblk, V, idx_out t]
theorem wts_at (c : Dev nD) (t : Fin cfg0.N) (l k : Fin 2048) : wts m c t (ix2 l k) = awts m c l k := by
  rw [← V_v3]
  show (V m c main_v3 : FVec Ideal S2048x2048 .bf16) _ = _
  refine congrArg (V m c main_v3 : FVec Ideal S2048x2048 .bf16) ?_
  blk_ext [idx_out t]

/-- A step's blocks hold the rows that they are meant to hold. -/
theorem blocks (c : Dev nD) (t : Fin cfg0.N) (T : Fin 128) (hT : T.val = min t.val 127) :
    Blocks (aproj m c) (apos m c) (asink m c) T (iblk m c 0 t) (X0_1 m c t) (iblk m c 2 t) (iblk m c 3 t) (iblk m c 4 t) where
  s := X0_at m c t
  q := X1_at m c t T hT
  kv := X2_at m c t T hT
  kvp := X3_at m c t T hT
  p := X4_at m c t T hT

/-- What the two scratch buffers hold after the step `t`: the rotated keys of the step's second block, and in the half that
the step writes the attention of its rows. -/
def Held (c : Dev nD) (T : Fin 128) (R : Vec Ideal S256x2048 .bf16 × Vec Ideal S128x256 .f32 × Vec Ideal S2x256x2048 .bf16) : Prop :=
  (∀ (hp : Fin 2) (r : Fin 128) (e : Fin 2) (d : Fin 64),
      R.2.1 (ix2 r (⟨128 * hp.val + (ln e d).val, by omega⟩ : Fin 256)) = ((rotK (aproj m c) (apos m c) ⟨256 * T.val + 128 + r.val, by omega⟩ ⟨2 * hp.val + e.val, by omega⟩ d : ℝ) : EReal))
  ∧ ∀ s : Fin 2, s.val = T.val % 2 → ∀ (a : Fin 256) (k : Fin 2048),
      R.2.2 (ix3 s a k) = att (aproj m c) (apos m c) (asink m c) ⟨256 * T.val + a.val, by omega⟩ ⟨k.val / 64, by omega⟩ ⟨k.val % 64, by omega⟩

/-- A step from a key scratch that holds the block before leaves the scratch buffers as they should be. -/
theorem held_step (c : Dev nD) (hR : RealArgs (aproj m c) (asink m c)) (t : Fin cfg0.N) (T : Fin 128) (hT : T.val = t.val)
    (xs0 : Vec Ideal S128x256 .f32) (xs1 : Vec Ideal S2x256x2048 .bf16)
    (hK : Kept (aproj m c) (apos m c) T (fun r k => xs0 (ix2 r k))) : Held m c T (stepAt m c t xs0 xs1) := by
  obtain ⟨I, hI, hk, hy, -⟩ := facts m c t xs0 xs1
  have hB := blocks m c t T (by omega)
  refine ⟨fun hp r e d => ?_, fun s hs a k => ?_⟩
  · refine (hk hp r (ln e d)).trans ?_
    exact kc_spec hR hB hI 1 hp r e d
  · have h := hy s (by omega) ⟨a.val / 128, by omega⟩ ⟨k.val / 512, by omega⟩ ⟨k.val / 128 % 4, by omega⟩ ⟨a.val % 128, by omega⟩ (ln ⟨k.val / 64 % 2, by omega⟩ ⟨k.val % 64, by omega⟩)
    have h' := yp_spec hR hB hI (by rw [hT]) (fun h0 hp r e d => by
      show (if t.val % 32 = 0 then 0 else xs0 _) = _
      rw [if_neg (by omega)]; exact hK h0 hp r e d) ⟨a.val / 128, by omega⟩ ⟨k.val / 512, by omega⟩ ⟨k.val / 128 % 4, by omega⟩ ⟨k.val / 64 % 2, by omega⟩ ⟨a.val % 128, by omega⟩ ⟨k.val % 64, by omega⟩
    have e1 : (⟨128 * (a.val / 128) + a.val % 128, by omega⟩ : Fin 256) = a := Fin.ext (by show 128 * (a.val / 128) + a.val % 128 = a.val; omega)
    have e2 : (⟨512 * (k.val / 512) + 128 * (k.val / 128 % 4) + (64 * (k.val / 64 % 2) + k.val % 64), by omega⟩ : Fin 2048) = k :=
      Fin.ext (by show 512 * (k.val / 512) + 128 * (k.val / 128 % 4) + (64 * (k.val / 64 % 2) + k.val % 64) = k.val; omega)
    have e3 : (⟨256 * T.val + 128 * (a.val / 128) + a.val % 128, by omega⟩ : Fin 32768) = ⟨256 * T.val + a.val, by omega⟩ :=
      Fin.ext (by show 256 * T.val + 128 * (a.val / 128) + a.val % 128 = 256 * T.val + a.val; omega)
    have e4 : (⟨8 * (k.val / 512) + 2 * (k.val / 128 % 4) + k.val / 64 % 2, by omega⟩ : Fin 32) = ⟨k.val / 64, by omega⟩ :=
      Fin.ext (by show 8 * (k.val / 512) + 2 * (k.val / 128 % 4) + k.val / 64 % 2 = k.val / 64; omega)
    have h2 := h.trans h'
    change (stepAt m c t xs0 xs1).2.2 (ix3 s (⟨128 * (a.val / 128) + a.val % 128, _⟩ : Fin 256) (⟨512 * (k.val / 512) + 128 * (k.val / 128 % 4) + (64 * (k.val / 64 % 2) + k.val % 64), _⟩ : Fin 2048))
      = att (aproj m c) (apos m c) (asink m c) ⟨256 * T.val + 128 * (a.val / 128) + a.val % 128, _⟩ ⟨8 * (k.val / 512) + 2 * (k.val / 128 % 4) + k.val / 64 % 2, _⟩ ⟨k.val % 64, _⟩ at h2
    rw [e1, e2, e3, e4] at h2
    exact h2

/-- After every step but the last the scratch buffers are as they should be. -/
theorem held (c : Dev nD) (hR : RealArgs (aproj m c) (asink m c)) : ∀ (n : ℕ) (hn : n < cfg0.N) (T : Fin 128), T.val = n → Held m c T (outsAt m c n hn)
  | 0, hn, T, hT => held_step m c hR ⟨0, hn⟩ T hT _ _ fun h0 => absurd (by rw [hT]) h0
  | n + 1, hn, T, hT => by
    have ih := held c hR n (Nat.lt_of_succ_lt hn) ⟨n, by omega⟩ rfl
    refine held_step m c hR ⟨n + 1, hn⟩ T hT _ _ fun h0 hp r e d => ?_
    refine (ih.1 hp r e d).trans ?_
    have e1 : (⟨256 * n + 128 + r.val, by omega⟩ : Fin 32768) = ⟨256 * T.val - 128 + r.val, by omega⟩ := Fin.ext (by show 256 * n + 128 + r.val = 256 * T.val - 128 + r.val; omega)
    show ((rotK _ _ ⟨256 * n + 128 + r.val, _⟩ _ d : ℝ) : EReal) = _
    rw [e1]

/-- The output block of every step after the first: the gated projection of the attention of the rows of the step before. -/
theorem out_spec (c : Dev nD) (hR : RealArgs (aproj m c) (asink m c)) (t : Fin cfg0.N) (T : Fin 128) (hT : t.val = T.val + 1) (a : Fin 256) (k : Fin 2048) :
    (outsAt m c t.val t.isLt).1 (ix2 a k) = gated (aproj m c) (apos m c) (asink m c) (awts m c) ⟨256 * T.val + a.val, by omega⟩ k := by
  rw [outsAt_pos m c t (by omega)]
  obtain ⟨I, -, -, -, ho⟩ := facts m c t (outsAt m c (t.val - 1) (Nat.lt_of_le_of_lt (Nat.sub_le _ _) t.isLt)).2.1 (outsAt m c (t.val - 1) (Nat.lt_of_le_of_lt (Nat.sub_le _ _) t.isLt)).2.2
  have hh := held m c hR (t.val - 1) (Nat.lt_of_le_of_lt (Nat.sub_le _ _) t.isLt) T (by omega)
  have h := ho (by omega) ⟨T.val % 2, by omega⟩ (by show T.val % 2 = _; omega) a ⟨k.val / 512, by omega⟩ ⟨k.val % 512, by omega⟩
  have e2 : (⟨512 * (k.val / 512) + k.val % 512, by omega⟩ : Fin 2048) = k := Fin.ext (by show 512 * (k.val / 512) + k.val % 512 = k.val; omega)
  change (stepAt m c t _ _).1 (ix2 a (⟨512 * (k.val / 512) + k.val % 512, _⟩ : Fin 2048)) = _ * ∑ l : Fin 2048, _ * (wts m c t (ix2 l (⟨512 * (k.val / 512) + k.val % 512, _⟩ : Fin 2048)) : EReal) at h
  rw [e2] at h
  refine h.trans ?_
  unfold gated
  refine congrArg₂ (· * ·) (congrArg Ideal.logistic ?_) (Finset.sum_congr rfl fun l _ => congrArg₂ (· * ·) ?_ ?_)
  · refine (gate_at m c t T (by omega) _ a _).trans ?_
    exact col_eq _ _ _ _ rfl (by show 8704 + (512 * (k.val / 512) + k.val % 512) = 8704 + k.val; omega)
  · exact hh.2 ⟨T.val % 2, by omega⟩ rfl a l
  · exact wts_at m c t l k

end Cert.KernelIdeal.Swa

end
-- ==== Proof.KernelIdeal.Result.lean ====
module

public import proofs.«01_k».proof.Proof.KernelIdeal.Reads
public import proofs.«01_k».proof.Proof.Gen.KernelIdeal.Points

@[expose] public section

set_option maxRecDepth 16384

noncomputable section

namespace Cert.KernelIdeal.Swa

open Idealize.ShloMosaic Idealize.ShloMosaic.TcCoe Idealize.ShloMosaic.Tactic
open Idealize.SL.Sem
open Cert.KernelIdeal.Gen Cert.Attention

variable (m : (ℓ : Loc nD τ sig) → Buf (Elt Ideal) ℓ)

/-- The first step writes nothing back. -/
theorem flush_pos : ∀ t : Fin cfg0.N, (cfg0.win 10).flush t = true → t.val ≠ 0 := by decide +kernel

/-- The gated projection of the attention as an array. -/
def result (c : Dev nD) : FVec Ideal S32768x2048 .bf16 :=
  fun y => gated (aproj m c) (apos m c) (asink m c) (awts m c) (y 0) (y 1)

/-- The output array after the run. -/
theorem final (c : Dev nD) (hR : RealArgs (aproj m c) (asink m c)) : (dats m 0 c).arrAt 10 cfg0.N = result m c := by
  refine (dats m 0 c).arrAt_eq_of_covers 10 _ (by decide +kernel) fun t hf y => ?_
  have ht := flush_pos t hf
  have htn : t.val < 129 := t.isLt
  have h := out_spec m c hR t ⟨t.val - 1, by omega⟩ (by show t.val = t.val - 1 + 1; omega) (y 0) (y 1)
  rw [after10]
  blk_simp
  have ey : (y : S256x2048.Idx) = ix2 (y 0 : Fin 256) (y 1 : Fin 2048) := by
    funext a
    match a with
    | ⟨0, _⟩ => rfl
    | ⟨1, _⟩ => rfl
  refine (congrArg (outsAt m c t.val t.isLt).1 ey).trans (h.trans ?_)
  show gated _ _ _ _ _ _ = gated _ _ _ _ _ _
  congr 1
  · apply Fin.ext
    blk_simp [idx_out t]
    show 256 * (t.val - 1) + (y 0).val = _
    omega
  · apply Fin.ext
    blk_simp [idx_out t]

/-- The kernel ends with the output array at the gated projection of the attention, its arguments unchanged. -/
theorem run_value (ρ : Dev nD → PrngReg) (hR : ∀ c : Dev nD, RealArgs (aproj m c) (asink m c)) :
    θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main m ρ) (frame m ρ))
  refine ⟨?_, h.2.1 c⟩
  exact ((h.1 c).1 10).trans (final m c (hR c))

end Cert.KernelIdeal.Swa

end
-- ==== Proof.ReferenceIdeal.Stages.lean ====
module

public import proofs.«01_k».proof.Proof.Gen.ReferenceIdeal.Run
public import Idealize.ShloMosaic.Lib.Pointwise

@[expose] public section

set_option maxRecDepth 16384

noncomputable section

namespace Cert.ReferenceIdeal.Swa

open Idealize.ShloMosaic Idealize.ShloMosaic.TcCoe
open Cert.ReferenceIdeal Cert.ReferenceIdeal.Gen Cert.ReferenceIdeal.Value

/-- The projection by sequence and position. -/
def xf (x : FVec Ideal S32768x10752 .bf16) : FVec Ideal S4x8192x10752 .f32 :=
  (extf .f32 (shapeCast S4x8192x10752 x shapeCasts_S32768x10752_S4x8192x10752) bitsLt_bf16_f32)

/-- The frequencies of the rotation. -/
def invF  : FVec Ideal S32 .f32 :=
  (Host.powf (broadcastInDim S32 ![] bcast_S_S32 (constant (F := Ideal) S_ .f32 0x461C4000#32)) (Host.divf (Host.negf (addf (broadcastInDim S32 ![] bcast_S_S32 (constant (F := Ideal) S_ .f32 0x00000000#32)) (mulf (broadcastInDim S32 ![] bcast_S_S32 (constant (F := Ideal) S_ .f32 0x40000000#32)) (sitofp (F := Ideal) .f32 (iotaInDim S32 32 0))))) (broadcastInDim S32 ![] bcast_S_S32 (constant (F := Ideal) S_ .f32 0x42800000#32))))

/-- The angles of the rotation. -/
def angs (p : IVec S4x8192 32) : FVec Ideal S4x8192x32 .f32 :=
  (mulf (broadcastInDim S4x8192x32 ![0, 1, 2] bcast_S4x8192x1_S4x8192x32_0_1_2 (broadcastInDim S4x8192x1 ![0, 1] bcast_S4x8192_S4x8192x1_0_1 (sitofp (F := Ideal) .f32 p))) (broadcastInDim S4x8192x32 ![0, 1, 2] bcast_S1x1x32_S4x8192x32_0_1_2 (broadcastInDim S1x1x32 ![2] bcast_S32_S1x1x32_2 invF)))

/-- The rotated queries. -/
def rq (x : FVec Ideal S32768x10752 .bf16) (p : IVec S4x8192 32) : FVec Ideal S4x8192x32x64 .f32 :=
  (fn_main_v42 (F := Ideal) (subf (mulf (extractStridedSlice S4x8192x32x32 ![0, 0, 0, 0] (shapeCast S4x8192x32x64 (extractStridedSlice S4x8192x2048 ![0, 0, 4096] (xf x) slices_S4x8192x10752_S4x8192x2048_0_0_4096) shapeCasts_S4x8192x2048_S4x8192x32x64) slices_S4x8192x32x64_S4x8192x32x32_0_0_0_0) (broadcastInDim S4x8192x32x32 ![0, 1, 2, 3] bcast_S4x8192x1x32_S4x8192x32x32_0_1_2_3 (broadcastInDim S4x8192x1x32 ![0, 1, 3] bcast_S4x8192x32_S4x8192x1x32_0_1_3 (Host.cos (angs p))))) (mulf (extractStridedSlice S4x8192x32x32 ![0, 0, 0, 32] (shapeCast S4x8192x32x64 (extractStridedSlice S4x8192x2048 ![0, 0, 4096] (xf x) slices_S4x8192x10752_S4x8192x2048_0_0_4096) shapeCasts_S4x8192x2048_S4x8192x32x64) slices_S4x8192x32x64_S4x8192x32x32_0_0_0_32) (broadcastInDim S4x8192x32x32 ![0, 1, 2, 3] bcast_S4x8192x1x32_S4x8192x32x32_0_1_2_3 (broadcastInDim S4x8192x1x32 ![0, 1, 3] bcast_S4x8192x32_S4x8192x1x32_0_1_3 (Host.sin (angs p)))))) (addf (mulf (extractStridedSlice S4x8192x32x32 ![0, 0, 0, 32] (shapeCast S4x8192x32x64 (extractStridedSlice S4x8192x2048 ![0, 0, 4096] (xf x) slices_S4x8192x10752_S4x8192x2048_0_0_4096) shapeCasts_S4x8192x2048_S4x8192x32x64) slices_S4x8192x32x64_S4x8192x32x32_0_0_0_32) (broadcastInDim S4x8192x32x32 ![0, 1, 2, 3] bcast_S4x8192x1x32_S4x8192x32x32_0_1_2_3 (broadcastInDim S4x8192x1x32 ![0, 1, 3] bcast_S4x8192x32_S4x8192x1x32_0_1_3 (Host.cos (angs p))))) (mulf (extractStridedSlice S4x8192x32x32 ![0, 0, 0, 0] (shapeCast S4x8192x32x64 (extractStridedSlice S4x8192x2048 ![0, 0, 4096] (xf x) slices_S4x8192x10752_S4x8192x2048_0_0_4096) shapeCasts_S4x8192x2048_S4x8192x32x64) slices_S4x8192x32x64_S4x8192x32x32_0_0_0_0) (broadcastInDim S4x8192x32x32 ![0, 1, 2, 3] bcast_S4x8192x1x32_S4x8192x32x32_0_1_2_3 (broadcastInDim S4x8192x1x32 ![0, 1, 3] bcast_S4x8192x32_S4x8192x1x32_0_1_3 (Host.sin (angs p)))))))

/-- The rotated keys. -/
def rk (x : FVec Ideal S32768x10752 .bf16) (p : IVec S4x8192 32) : FVec Ideal S4x8192x4x64 .f32 :=
  (fn_main_v76 (F := Ideal) (subf (mulf (extractStridedSlice S4x8192x4x32 ![0, 0, 0, 0] (shapeCast S4x8192x4x64 (extractStridedSlice S4x8192x256 ![0, 0, 6144] (xf x) slices_S4x8192x10752_S4x8192x256_0_0_6144) shapeCasts_S4x8192x256_S4x8192x4x64) slices_S4x8192x4x64_S4x8192x4x32_0_0_0_0) (broadcastInDim S4x8192x4x32 ![0, 1, 2, 3] bcast_S4x8192x1x32_S4x8192x4x32_0_1_2_3 (broadcastInDim S4x8192x1x32 ![0, 1, 3] bcast_S4x8192x32_S4x8192x1x32_0_1_3 (Host.cos (angs p))))) (mulf (extractStridedSlice S4x8192x4x32 ![0, 0, 0, 32] (shapeCast S4x8192x4x64 (extractStridedSlice S4x8192x256 ![0, 0, 6144] (xf x) slices_S4x8192x10752_S4x8192x256_0_0_6144) shapeCasts_S4x8192x256_S4x8192x4x64) slices_S4x8192x4x64_S4x8192x4x32_0_0_0_32) (broadcastInDim S4x8192x4x32 ![0, 1, 2, 3] bcast_S4x8192x1x32_S4x8192x4x32_0_1_2_3 (broadcastInDim S4x8192x1x32 ![0, 1, 3] bcast_S4x8192x32_S4x8192x1x32_0_1_3 (Host.sin (angs p)))))) (addf (mulf (extractStridedSlice S4x8192x4x32 ![0, 0, 0, 32] (shapeCast S4x8192x4x64 (extractStridedSlice S4x8192x256 ![0, 0, 6144] (xf x) slices_S4x8192x10752_S4x8192x256_0_0_6144) shapeCasts_S4x8192x256_S4x8192x4x64) slices_S4x8192x4x64_S4x8192x4x32_0_0_0_32) (broadcastInDim S4x8192x4x32 ![0, 1, 2, 3] bcast_S4x8192x1x32_S4x8192x4x32_0_1_2_3 (broadcastInDim S4x8192x1x32 ![0, 1, 3] bcast_S4x8192x32_S4x8192x1x32_0_1_3 (Host.cos (angs p))))) (mulf (extractStridedSlice S4x8192x4x32 ![0, 0, 0, 0] (shapeCast S4x8192x4x64 (extractStridedSlice S4x8192x256 ![0, 0, 6144] (xf x) slices_S4x8192x10752_S4x8192x256_0_0_6144) shapeCasts_S4x8192x256_S4x8192x4x64) slices_S4x8192x4x64_S4x8192x4x32_0_0_0_0) (broadcastInDim S4x8192x4x32 ![0, 1, 2, 3] bcast_S4x8192x1x32_S4x8192x4x32_0_1_2_3 (broadcastInDim S4x8192x1x32 ![0, 1, 3] bcast_S4x8192x32_S4x8192x1x32_0_1_3 (Host.sin (angs p)))))))

/-- The rotated queries scaled, in blocks of 128 rows. -/
def qb (x : FVec Ideal S32768x10752 .bf16) (p : IVec S4x8192 32) : FVec Ideal S4x64x128x4x8x64 .f32 :=
  (mulf (shapeCast S4x64x128x4x8x64 (rq x p) shapeCasts_S4x8192x32x64_S4x64x128x4x8x64) (broadcastInDim S4x64x128x4x8x64 ![] bcast_S_S4x64x128x4x8x64 (constant (F := Ideal) S_ .f32 0x3E000000#32)))

/-- The rotated keys of the block before and of the block. -/
def kb (x : FVec Ideal S32768x10752 .bf16) (p : IVec S4x8192 32) : FVec Ideal S4x64x256x4x64 .f32 :=
  (fn_main_v86 (F := Ideal) (extractStridedSlice S4x64x128x4x64 ![0, 0, 0, 0, 0] (pad S4x65x128x4x64 ![0, 1, 0, 0, 0] ![0, 0, 0, 0, 0] ![0, 0, 0, 0, 0] (shapeCast S4x64x128x4x64 (rk x p) shapeCasts_S4x8192x4x64_S4x64x128x4x64) (sitofp (F := Ideal) .f32 (constantI S_ 32 0#32)) pads_S4x64x128x4x64_S4x65x128x4x64_000_100_000_000_000 h_S_) slices_S4x65x128x4x64_S4x64x128x4x64_0_0_0_0_0) (shapeCast S4x64x128x4x64 (rk x p) shapeCasts_S4x8192x4x64_S4x64x128x4x64))

/-- The values of the block before and of the block. -/
def vb (x : FVec Ideal S32768x10752 .bf16) : FVec Ideal S4x64x256x4x64 .f32 :=
  (fn_main_v89 (F := Ideal) (extractStridedSlice S4x64x128x4x64 ![0, 0, 0, 0, 0] (pad S4x65x128x4x64 ![0, 1, 0, 0, 0] ![0, 0, 0, 0, 0] ![0, 0, 0, 0, 0] (shapeCast S4x64x128x4x64 (shapeCast S4x8192x4x64 (extractStridedSlice S4x8192x256 ![0, 0, 6400] (xf x) slices_S4x8192x10752_S4x8192x256_0_0_6400) shapeCasts_S4x8192x256_S4x8192x4x64) shapeCasts_S4x8192x4x64_S4x64x128x4x64) (sitofp (F := Ideal) .f32 (constantI S_ 32 0#32)) pads_S4x64x128x4x64_S4x65x128x4x64_000_100_000_000_000 h_S_) slices_S4x65x128x4x64_S4x64x128x4x64_0_0_0_0_0) (shapeCast S4x64x128x4x64 (shapeCast S4x8192x4x64 (extractStridedSlice S4x8192x256 ![0, 0, 6400] (xf x) slices_S4x8192x10752_S4x8192x256_0_0_6400) shapeCasts_S4x8192x256_S4x8192x4x64) shapeCasts_S4x8192x4x64_S4x64x128x4x64))

/-- The scores. -/
def sc (x : FVec Ideal S32768x10752 .bf16) (p : IVec S4x8192 32) : FVec Ideal S4x64x4x8x128x256 .f32 :=
  (transpose S4x64x4x8x128x256 [0, 1, 2, 5, 4, 3] (Host.dotGeneral dot_S4x64x256x4x64_S4x64x128x4x8x64_S4x64x4x256x128x8_4_5_2_24_013_013 none (kb x p) (qb x p)) transposes_S4x64x4x256x128x8_S4x64x4x8x128x256_0_1_2_5_4_3)

/-- Which keys a row sees. -/
def see  : IVec S64x128x256 1 :=
  (andi (broadcastInDim S64x128x256 ![0, 1, 2] bcast_S1x128x256_S64x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .slt (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S64x128x256 ![0, 1, 2] bcast_S64x1x256_S64x128x256_0_1_2 (ori (broadcastInDim S64x1x256 ![0, 1, 2] bcast_S64x1x1_S64x1x256_0_1_2 (cmpi .sgt (broadcastInDim S64x1x1 ![0] bcast_S64_S64x1x1_0 (iotaInDim S64 32 0)) (broadcastInDim S64x1x1 ![] bcast_S_S64x1x1 (constantI S_ 32 0#32)))) (broadcastInDim S64x1x256 ![0, 1, 2] bcast_S1x1x256_S64x1x256_0_1_2 (broadcastInDim S1x1x256 ![1, 2] bcast_S1x256_S1x1x256_1_2 (cmpi .sge (broadcastInDim S1x256 ![1] bcast_S256_S1x256_1 (iotaInDim S256 32 0)) (broadcastInDim S1x256 ![] bcast_S_S1x256 (constantI S_ 32 128#32))))))))

/-- The masked scores. -/
def ms (x : FVec Ideal S32768x10752 .bf16) (p : IVec S4x8192 32) : FVec Ideal S4x64x4x8x128x256 .f32 :=
  (select (broadcastInDim S4x64x4x8x128x256 ![0, 1, 2, 3, 4, 5] bcast_S1x64x1x1x128x256_S4x64x4x8x128x256_0_1_2_3_4_5 (broadcastInDim S1x64x1x1x128x256 ![1, 4, 5] bcast_S64x128x256_S1x64x1x1x128x256_1_4_5 see)) (sc x p) (broadcastInDim S4x64x4x8x128x256 ![] bcast_S_S4x64x4x8x128x256 (constant (F := Ideal) S_ .f32 0xFF800000#32)))

/-- The maximum of a row of masked scores and its sink. -/
def top (x : FVec Ideal S32768x10752 .bf16) (p : IVec S4x8192 32) (s : FVec Ideal S1x32 .f32) : FVec Ideal S4x64x4x8x128x1 .f32 :=
  (maximumf (broadcastInDim S4x64x4x8x128x1 ![0, 1, 2, 3, 4] bcast_S4x64x4x8x128_S4x64x4x8x128x1_0_1_2_3_4 (Host.reduce FloatOps.maximumf (ms x p) (constant (F := Ideal) S_ .f32 0xFF800000#32) reducesTo_S4x64x4x8x128x256_S4x64x4x8x128_d5 h_S_)) (broadcastInDim S4x64x4x8x128x1 ![0, 1, 2, 3, 4, 5] bcast_S1x1x4x8x1x1_S4x64x4x8x128x1_0_1_2_3_4_5 (broadcastInDim S1x1x4x8x1x1 ![2, 3] bcast_S4x8_S1x1x4x8x1x1_2_3 (shapeCast S4x8 (shapeCast S32 s shapeCasts_S1x32_S32) shapeCasts_S32_S4x8))))

/-- The exponentials of the scores. -/
def ex (x : FVec Ideal S32768x10752 .bf16) (p : IVec S4x8192 32) (s : FVec Ideal S1x32 .f32) : FVec Ideal S4x64x4x8x128x256 .f32 :=
  (Host.exp (subf (ms x p) (broadcastInDim S4x64x4x8x128x256 ![0, 1, 2, 3, 4, 5] bcast_S4x64x4x8x128x1_S4x64x4x8x128x256_0_1_2_3_4_5 (top x p s))))

/-- The sum of a row of exponentials and of its sink. -/
def tot (x : FVec Ideal S32768x10752 .bf16) (p : IVec S4x8192 32) (s : FVec Ideal S1x32 .f32) : FVec Ideal S4x64x4x8x128x1 .f32 :=
  (addf (broadcastInDim S4x64x4x8x128x1 ![0, 1, 2, 3, 4] bcast_S4x64x4x8x128_S4x64x4x8x128x1_0_1_2_3_4 (Host.reduceAdd (ex x p s) (constant (F := Ideal) S_ .f32 0x00000000#32) reducesTo_S4x64x4x8x128x256_S4x64x4x8x128_d5 h_S_)) (Host.exp (subf (broadcastInDim S4x64x4x8x128x1 ![0, 1, 2, 3, 4, 5] bcast_S1x1x4x8x1x1_S4x64x4x8x128x1_0_1_2_3_4_5 (broadcastInDim S1x1x4x8x1x1 ![2, 3] bcast_S4x8_S1x1x4x8x1x1_2_3 (shapeCast S4x8 (shapeCast S32 s shapeCasts_S1x32_S32) shapeCasts_S32_S4x8))) (top x p s))))

/-- The weights. -/
def wt (x : FVec Ideal S32768x10752 .bf16) (p : IVec S4x8192 32) (s : FVec Ideal S1x32 .f32) : FVec Ideal S4x64x4x8x128x256 .f32 :=
  (Host.divf (ex x p s) (broadcastInDim S4x64x4x8x128x256 ![0, 1, 2, 3, 4, 5] bcast_S4x64x4x8x128x1_S4x64x4x8x128x256_0_1_2_3_4_5 (tot x p s)))

/-- The attention's output. -/
def ya (x : FVec Ideal S32768x10752 .bf16) (p : IVec S4x8192 32) (s : FVec Ideal S1x32 .f32) : FVec Ideal S4x8192x2048 .f32 :=
  (shapeCast S4x8192x2048 (transpose S4x64x128x4x8x64 [0, 1, 5, 2, 4, 3] (Host.dotGeneral dot_S4x64x256x4x64_S4x64x4x8x128x256_S4x64x4x64x8x128_2_5_4_34_013_012 none (vb x) (wt x p s)) transposes_S4x64x4x64x8x128_S4x64x128x4x8x64_0_1_5_2_4_3) shapeCasts_S4x64x128x4x8x64_S4x8192x2048)

/-- The gate. -/
def gt (x : FVec Ideal S32768x10752 .bf16) : FVec Ideal S4x8192x2048 .f32 :=
  (Host.divf (broadcastInDim S4x8192x2048 ![] bcast_S_S4x8192x2048 (constant (F := Ideal) S_ .f32 0x3F800000#32)) (addf (broadcastInDim S4x8192x2048 ![] bcast_S_S4x8192x2048 (constant (F := Ideal) S_ .f32 0x3F800000#32)) (Host.exp (Host.negf (extractStridedSlice S4x8192x2048 ![0, 0, 8704] (xf x) slices_S4x8192x10752_S4x8192x2048_0_0_8704)))))

/-- The reference's result. -/
def res (x : FVec Ideal S32768x10752 .bf16) (p : IVec S4x8192 32) (s : FVec Ideal S1x32 .f32) (w : FVec Ideal S1x2048x2048 .f32) : FVec Ideal S32768x2048 .bf16 :=
  (truncf .bf16 (shapeCast S32768x2048 (mulf (gt x) (Host.dotGeneral dot_S4x8192x2048_S2048x2048_S4x8192x2048_2_0_01_1_n_n none (ya x p s) (shapeCast S2048x2048 w shapeCasts_S1x2048x2048_S2048x2048))) shapeCasts_S4x8192x2048_S32768x2048) bitsLt_bf16_f32)

set_option maxHeartbeats 4000000 in
/-- The reference's composed term, stage by stage. -/
theorem res_eq (m : (ℓ : Loc nD τ sig) → Buf (Elt Ideal) ℓ) (c : Dev nD) :
    res_main_v152 (F := Ideal) m c = res (m ((c.tc : Thread nD τ).loc main_arg0)) (m ((c.tc : Thread nD τ).loc main_arg1))
      (m ((c.tc : Thread nD τ).loc main_arg2)) (m ((c.tc : Thread nD τ).loc main_arg3)) := by
  unfold res_main_v152; rfl

end Cert.ReferenceIdeal.Swa

end
-- ==== Proof.ReferenceIdeal.Rotated.lean ====
module

public import proofs.«01_k».proof.Proof.ReferenceIdeal.Stages
public import proofs.«01_k».proof.Proof.Math.Spec
public import proofs.«01_k».proof.Proof.Math.Band
public import Idealize.ShloMosaic.Lib.ValueIdxRank6
public import Idealize.ShloMosaic.Lib.Pointwise

@[expose] public section

set_option maxRecDepth 16384

noncomputable section

namespace Cert.ReferenceIdeal.Swa

open Idealize.ShloMosaic Idealize.ShloMosaic.TcCoe
open Cert.ReferenceIdeal Cert.ReferenceIdeal.Gen Cert.ReferenceIdeal.Value Cert.Attention

section
variable (x : FVec Ideal S32768x10752 .bf16) (p : IVec S4x8192 32) (s : FVec Ideal S1x32 .f32) (w : FVec Ideal S1x2048x2048 .f32)

/-- The projections, by token and column. -/
def prj (R : Fin 32768) (k : Fin 10752) : EReal := x (ix2 R k)
/-- The token's position. -/
def pps (R : Fin 32768) : BitVec 32 := p (ix2 ⟨R.val / 8192, by omega⟩ ⟨R.val % 8192, by omega⟩)
/-- The sink of a head. -/
def snk (n : Fin 32) : EReal := s (ix2 0 n)
/-- The weights of the output's projection. -/
def wts (l k : Fin 2048) : EReal := w (ix3 0 l k)
/-- The token at a sequence and a place in it. -/
def tok (β : Fin 4) (σ : Fin 8192) : Fin 32768 := ⟨8192 * β.val + σ.val, by omega⟩

theorem pps_tok (β : Fin 4) (σ : Fin 8192) : pps p (tok β σ) = p (ix2 β σ) :=
  congrArg p (congrArg₂ ix2 (Fin.ext (by show (8192 * β.val + σ.val) / 8192 = β.val; omega)) (Fin.ext (by show (8192 * β.val + σ.val) % 8192 = σ.val; omega)))

theorem prj_eq (R R' : Fin 32768) (k k' : Fin 10752) (hR : R.val = R'.val) (hk : k.val = k'.val) : prj x R k = prj x R' k' := by
  obtain rfl := Fin.ext hR; obtain rfl := Fin.ext hk; rfl

/-- The projections, cast and split into sequences. -/
theorem xf_at (β : Fin 4) (σ : Fin 8192) (k : Fin 10752) : xf x (ix3 β σ k) = prj x (tok β σ) k := by
  pointwise [xf]
  exact prj_eq x _ _ _ _ (by show β.val * 8192 + σ.val = 8192 * β.val + σ.val; omega) rfl

/-- The frequencies. -/
theorem invF_at (i : Fin 32) : invF (ix1 i) = ((Real.rpow 10000 (-(2 * (i.val : ℝ)) / 64) : ℝ) : EReal) := by
  pointwise [invF]
  have h1 : Ideal.ofBits .f32 0x461C4000#32 = ((10000 : ℝ) : EReal) := by simp [Ideal.ofBits, Ideal.ieee, -EReal.coe_mul]; norm_num
  have h2 : Ideal.ofBits .f32 0x40000000#32 = ((2 : ℝ) : EReal) := by simp [Ideal.ofBits, Ideal.ieee, -EReal.coe_mul]; norm_num
  have h3 : Ideal.ofBits .f32 0x42800000#32 = ((64 : ℝ) : EReal) := by simp [Ideal.ofBits, Ideal.ieee, -EReal.coe_mul]; norm_num
  have h4 : FloatOps.sitofp (F := Ideal) FTy.f32 (BitVec.ofNat 32 i.val) = ((i.val : ℝ) : EReal) := by
    have : ∀ i : Fin 32, (BitVec.ofNat 32 i.val).toInt = ((i.val : ℕ) : ℤ) := by decide +kernel
    show (((BitVec.ofNat 32 i.val).toInt : ℝ) : EReal) = _
    rw [this, Int.cast_natCast]
  rw [h1, h2, h3]
  refine (congrArg (fun z => Ideal.pow _ (Ideal.div (-(_ * z)) _)) h4).trans ?_
  show Ideal.pow _ (Ideal.div (-(((2 : ℝ) : EReal) * _)) _) = _
  rw [← EReal.coe_mul, ← EReal.coe_neg, Ideal.div_coe (by norm_num), ← EReal.coe_mul, Ideal.pow_coe_coe, mul_one_div]

/-- The angles. -/
theorem angs_at (β : Fin 4) (σ : Fin 8192) (i : Fin 32) : angs p (ix3 β σ i) = ((ang (pps p (tok β σ)) i.val : ℝ) : EReal) := by
  pointwise [angs]
  rw [invF_at, pps_tok]
  show (((p (ix2 β σ)).toInt : ℝ) : EReal) * _ = _
  rw [← EReal.coe_mul]; rfl

/-- The queries and the keys are real numbers. -/
structure RealCols : Prop where
  q (R : Fin 32768) (n : Fin 2304) : prj x R ⟨4096 + n.val, by omega⟩ = ((prj x R ⟨4096 + n.val, by omega⟩).toReal : EReal)

variable (hq : RealCols x)

include hq in
theorem prj_real (R : Fin 32768) (k k' : Fin 10752) (hk : k.val = k'.val) (h : 4096 ≤ k.val ∧ k.val < 6400) : prj x R k = ((prj x R k').toReal : EReal) := by
  obtain rfl := Fin.ext hk
  have := hq.q R ⟨k.val - 4096, by omega⟩
  have e : (⟨4096 + (k.val - 4096), by omega⟩ : Fin 10752) = k := Fin.ext (by show 4096 + (k.val - 4096) = k.val; omega)
  simpa only [e] using this

theorem sub_form {a b : EReal} {a' b' c e : ℝ} (ha : a = (a' : EReal)) (hb : b = (b' : EReal)) : a * (c : EReal) - b * (e : EReal) = ((a' * c - b' * e : ℝ) : EReal) := by
  rw [ha, hb, ← EReal.coe_mul, ← EReal.coe_mul, ← EReal.coe_sub]
theorem add_form {a b : EReal} {a' b' c e : ℝ} (ha : a = (a' : EReal)) (hb : b = (b' : EReal)) : a * (c : EReal) + b * (e : EReal) = ((a' * c + b' * e : ℝ) : EReal) := by
  rw [ha, hb, ← EReal.coe_mul, ← EReal.coe_mul, ← EReal.coe_add]

include hq in
/-- The rotated queries. -/
theorem rq_at (β : Fin 4) (σ : Fin 8192) (H : Fin 32) (d : Fin 64) :
    rq x p (ix4 β σ H d) = ((rotQ (prj x) (pps p) (tok β σ) H d : ℝ) : EReal) := by
  pointwise [rq, fn_main_v42]
  simp only [xf_at, angs_at, Ideal.cos_coe, Ideal.sin_coe]
  unfold rotQ roped
  split
  · rename_i h
    exact sub_form (prj_real x hq _ _ ⟨4096 + 64 * H.val + d.val, by omega⟩ (by show 4096 + (H.val * 64 + d.val) = 4096 + 64 * H.val + d.val; omega) (by constructor <;> show _ <;> dsimp only <;> omega))
      (prj_real x hq _ _ ⟨4096 + 64 * H.val + (d.val + 32), by omega⟩ (by show 4096 + (H.val * 64 + (32 + d.val)) = 4096 + 64 * H.val + (d.val + 32); omega) (by constructor <;> show _ <;> dsimp only <;> omega))
  · rename_i h
    exact add_form (prj_real x hq _ _ ⟨4096 + 64 * H.val + d.val, by omega⟩ (by show 4096 + (H.val * 64 + (32 + (d.val - 32))) = 4096 + 64 * H.val + d.val; omega) (by constructor <;> show _ <;> dsimp only <;> omega))
      (prj_real x hq _ _ ⟨4096 + 64 * H.val + (d.val - 32), by omega⟩ (by show 4096 + (H.val * 64 + (d.val - 32)) = 4096 + 64 * H.val + (d.val - 32); omega) (by constructor <;> show _ <;> dsimp only <;> omega))

include hq in
/-- The rotated keys. -/
theorem rk_at (β : Fin 4) (σ : Fin 8192) (g : Fin 4) (d : Fin 64) :
    rk x p (ix4 β σ g d) = ((rotK (prj x) (pps p) (tok β σ) g d : ℝ) : EReal) := by
  pointwise [rk, fn_main_v76]
  simp only [xf_at, angs_at, Ideal.cos_coe, Ideal.sin_coe]
  unfold rotK roped
  split
  · rename_i h
    exact sub_form (prj_real x hq _ _ ⟨6144 + 64 * g.val + d.val, by omega⟩ (by show 6144 + (g.val * 64 + d.val) = 6144 + 64 * g.val + d.val; omega) (by constructor <;> show _ <;> dsimp only <;> omega))
      (prj_real x hq _ _ ⟨6144 + 64 * g.val + (d.val + 32), by omega⟩ (by show 6144 + (g.val * 64 + (32 + d.val)) = 6144 + 64 * g.val + (d.val + 32); omega) (by constructor <;> show _ <;> dsimp only <;> omega))
  · rename_i h
    exact add_form (prj_real x hq _ _ ⟨6144 + 64 * g.val + d.val, by omega⟩ (by show 6144 + (g.val * 64 + (32 + (d.val - 32))) = 6144 + 64 * g.val + d.val; omega) (by constructor <;> show _ <;> dsimp only <;> omega))
      (prj_real x hq _ _ ⟨6144 + 64 * g.val + (d.val - 32), by omega⟩ (by show 6144 + (g.val * 64 + (d.val - 32)) = 6144 + 64 * g.val + (d.val - 32); omega) (by constructor <;> show _ <;> dsimp only <;> omega))

end

end Cert.ReferenceIdeal.Swa

end
-- ==== Proof.ReferenceIdeal.Scores.lean ====
module

public import proofs.«01_k».proof.Proof.ReferenceIdeal.Rotated
public import proofs.«01_k».proof.Proof.Math.Spec
public import proofs.«01_k».proof.Proof.Math.Band
public import Idealize.ShloMosaic.Lib.ValueIdxRank6
public import Idealize.ShloMosaic.Lib.Pointwise

@[expose] public section

set_option maxRecDepth 16384

noncomputable section

namespace Cert.ReferenceIdeal.Swa

open Idealize.ShloMosaic Idealize.ShloMosaic.TcCoe
open Cert.ReferenceIdeal Cert.ReferenceIdeal.Gen Cert.ReferenceIdeal.Value Cert.Attention

section
variable (x : FVec Ideal S32768x10752 .bf16) (p : IVec S4x8192 32) (s : FVec Ideal S1x32 .f32)

/-- The token at a sequence, a block of it and a row of the block. -/
def blk (β : Fin 4) (B : Fin 64) (r : Fin 128) : Fin 32768 := tok β ⟨B.val * 128 + r.val, by omega⟩

theorem key_prev (β : Fin 4) (B : Fin 64) (r : Fin 128) (j : Fin 256) (h : j.val < 128) (hB : 1 ≤ B.val) (hb : (B.val - 1) * 128 + j.val < 8192) :
    tok β ⟨(B.val - 1) * 128 + j.val, hb⟩ = keyRow (blk β B r) j :=
  Fin.ext (by show 8192 * β.val + ((B.val - 1) * 128 + j.val) = 128 * ((8192 * β.val + (B.val * 128 + r.val)) / 128) + j.val - 128; omega)
theorem key_own (β : Fin 4) (B : Fin 64) (r : Fin 128) (j : Fin 256) (h : ¬ j.val < 128) (hb : B.val * 128 + (j.val - 128) < 8192) :
    tok β ⟨B.val * 128 + (j.val - 128), hb⟩ = keyRow (blk β B r) j :=
  Fin.ext (by show 8192 * β.val + (B.val * 128 + (j.val - 128)) = 128 * ((8192 * β.val + (B.val * 128 + r.val)) / 128) + j.val - 128; omega)

variable (hq : RealCols x)

/-- The queries, split into blocks, groups and heads. -/
theorem qsplit_at (a : FVec Ideal S4x8192x32x64 .f32) (β : Fin 4) (B : Fin 64) (r : Fin 128) (g : Fin 4) (e : Fin 8) (d : Fin 64) :
    shapeCast S4x64x128x4x8x64 a shapeCasts_S4x8192x32x64_S4x64x128x4x8x64 (ix6 β B r g e d)
      = a (ix4 β ⟨B.val * 128 + r.val, by omega⟩ ⟨g.val * 8 + e.val, by omega⟩ d) := by
  refine shapeCast_apply a _ _ _ ?_
  rw [Shape.rowMajor_val_six, Shape.rowMajor_val_four]
  show ((β.val * 8192 + (B.val * 128 + r.val)) * 32 + (g.val * 8 + e.val)) * 64 + d.val = ((((β.val * 64 + B.val) * 128 + r.val) * 4 + g.val) * 8 + e.val) * 64 + d.val
  omega

theorem mul_at (a b : FVec Ideal S4x64x128x4x8x64 .f32) (i : S4x64x128x4x8x64.Idx) : mulf a b i = a i * b i := rfl
theorem eighth_at (i : S4x64x128x4x8x64.Idx) :
    broadcastInDim S4x64x128x4x8x64 ![] bcast_S_S4x64x128x4x8x64 (constant (F := Ideal) S_ .f32 0x3E000000#32) i = Ideal.ofBits .f32 0x3E000000#32 := rfl

include hq in
/-- The scaled queries. -/
theorem qb_at (β : Fin 4) (B : Fin 64) (r : Fin 128) (g : Fin 4) (e : Fin 8) (d : Fin 64) :
    qb x p (ix6 β B r g e d) = ((rotQ (prj x) (pps p) (blk β B r) ⟨g.val * 8 + e.val, by omega⟩ d * 8⁻¹ : ℝ) : EReal) := by
  have h8 : Ideal.ofBits .f32 0x3E000000#32 = ((8⁻¹ : ℝ) : EReal) := by simp [Ideal.ofBits, Ideal.ieee, -EReal.coe_mul]; norm_num
  unfold qb
  rw [mul_at, qsplit_at, rq_at x p hq, eighth_at, h8, ← EReal.coe_mul]
  exact congrArg _ rfl

include hq in
/-- The rotated key that a row meets at a place of its window. -/
theorem kb_at (β : Fin 4) (B : Fin 64) (r : Fin 128) (j : Fin 256) (g : Fin 4) (d : Fin 64) (h : B.val ≠ 0 ∨ 128 ≤ j.val) :
    kb x p (ix5 β B j g d) = ((rotK (prj x) (pps p) (keyRow (blk β B r) j) g d : ℝ) : EReal) := by
  pointwise [kb, fn_main_v86]
  by_cases hj : j.val < 128
  · have hB : 1 ≤ B.val := by omega
    refine (dif_pos hj).trans ((dif_pos ⟨⟨hB, by omega⟩, hj⟩).trans ?_)
    rw [rk_at x p hq, key_prev β B r j hj hB]
  · refine (dif_neg hj).trans ?_
    rw [rk_at x p hq, key_own β B r j hj]

/-- The value that a row meets at a place of its window. -/
theorem vb_at (β : Fin 4) (B : Fin 64) (r : Fin 128) (j : Fin 256) (g : Fin 4) (d : Fin 64) (h : B.val ≠ 0 ∨ 128 ≤ j.val) :
    vb x (ix5 β B j g d) = prj x (keyRow (blk β B r) j) ⟨6400 + 64 * g.val + d.val, by omega⟩ := by
  pointwise [vb, fn_main_v89]
  by_cases hj : j.val < 128
  · have hB : 1 ≤ B.val := by omega
    refine (dif_pos hj).trans ((dif_pos ⟨⟨hB, by omega⟩, hj⟩).trans ?_)
    refine (xf_at x _ _ _).trans ?_
    exact prj_eq x _ _ _ _ (congrArg Fin.val (key_prev β B r j hj hB (by omega))) (by show 6400 + (g.val * 64 + d.val) = 6400 + 64 * g.val + d.val; omega)
  · refine (dif_neg hj).trans ?_
    refine (xf_at x _ _ _).trans ?_
    exact prj_eq x _ _ _ _ (congrArg Fin.val (key_own β B r j hj (by omega))) (by show 6400 + (g.val * 64 + d.val) = 6400 + 64 * g.val + d.val; omega)

include hq in
/-- The scores of the keys that there are. -/
theorem sc_at (β : Fin 4) (B : Fin 64) (g : Fin 4) (e : Fin 8) (r : Fin 128) (j : Fin 256) (h : B.val ≠ 0 ∨ 128 ≤ j.val) :
    sc x p (ix6 β B g e r j) = ((score (prj x) (pps p) (blk β B r) ⟨g.val * 8 + e.val, by omega⟩ j : ℝ) : EReal) := by
  pointwise [sc]
  unfold score
  rw [coe_sum]
  refine Finset.sum_congr rfl fun d _ => ?_
  rw [kb_at x p hq β B r j g d h, qb_at x p hq, ← EReal.coe_mul]
  have hg : (⟨(⟨g.val * 8 + e.val, by omega⟩ : Fin 32).val / 8, by omega⟩ : Fin 4) = g := Fin.ext (by show (g.val * 8 + e.val) / 8 = g.val; omega)
  rw [hg]
  exact congrArg _ (by ring)

theorem first : ∀ B : Fin 64, IntOp.cmpi CmpIPredicate.sgt (BitVec.ofNat 32 B.val) 0#32 = if B.val ≠ 0 then 1#1 else 0#1 := by decide +kernel

/-- Which keys a row sees. -/
theorem see_at (β : Fin 4) (B : Fin 64) (r : Fin 128) (j : Fin 256) :
    see (ix3 B r j) = if sees (blk β B r) j then 1#1 else 0#1 := by
  pointwise [see]
  rw [band, late, first]
  have hs : sees (blk β B r) j ↔ (r.val < j.val ∧ j.val ≤ r.val + 128) ∧ (B.val ≠ 0 ∨ 128 ≤ j.val) := by
    have e1 : (8192 * β.val + (B.val * 128 + r.val)) % 128 = r.val := by omega
    have e2 : (8192 * β.val + (B.val * 128 + r.val)) % 8192 / 128 = B.val := by omega
    show (((8192 * β.val + (B.val * 128 + r.val)) % 128 < j.val ∧ j.val ≤ (8192 * β.val + (B.val * 128 + r.val)) % 128 + 128) ∧ ((8192 * β.val + (B.val * 128 + r.val)) % 8192 / 128 ≠ 0 ∨ 128 ≤ j.val)) ↔ _
    rw [e1, e2]
  rw [if_congr hs rfl rfl]
  by_cases h1 : r.val < j.val ∧ j.val ≤ r.val + 128 <;> by_cases h2 : B.val ≠ 0 <;> by_cases h3 : 128 ≤ j.val <;>
    simp only [h1, h2, h3, and_true, and_false, true_and, false_and, true_or, or_true, or_false, false_or, not_true_eq_false, not_false_eq_true, if_true, if_false, and_self, or_self, ne_eq] <;> rfl

include hq in
/-- The scores, those of the keys that are not seen at minus infinity. -/
theorem ms_at (β : Fin 4) (B : Fin 64) (g : Fin 4) (e : Fin 8) (r : Fin 128) (j : Fin 256) :
    ms x p (ix6 β B g e r j) = masked (score (prj x) (pps p) (blk β B r) ⟨g.val * 8 + e.val, by omega⟩) (sees (blk β B r)) j := by
  pointwise [ms]
  rw [see_at β]
  unfold masked
  by_cases h : sees (blk β B r) j
  · rw [if_pos h, if_pos h]
    refine Eq.trans rfl (sc_at x p hq β B g e r j ?_)
    have e2 : (8192 * β.val + (B.val * 128 + r.val)) % 8192 / 128 = B.val := by omega
    rcases h.2 with h' | h'
    · exact Or.inl (e2 ▸ h')
    · exact Or.inr h'
  · rw [if_neg h, if_neg h]
    exact Eq.trans rfl (show Ideal.ofBits .f32 0xFF800000#32 = ⊥ by simp [Ideal.ofBits, Ideal.ieee])

end

end Cert.ReferenceIdeal.Swa

end
-- ==== Proof.ReferenceIdeal.Value.lean ====
module

public import proofs.«01_k».proof.Proof.ReferenceIdeal.Scores
public import proofs.«01_k».proof.Proof.Math.Spec
public import proofs.«01_k».proof.Proof.Math.Band
public import Idealize.ShloMosaic.Lib.ValueIdxRank6
public import Idealize.ShloMosaic.Lib.Pointwise

@[expose] public section

set_option maxRecDepth 16384

noncomputable section

namespace Cert.ReferenceIdeal.Swa

open Idealize.ShloMosaic Idealize.ShloMosaic.TcCoe
open Cert.ReferenceIdeal Cert.ReferenceIdeal.Gen Cert.ReferenceIdeal.Value Cert.Attention

section
variable (x : FVec Ideal S32768x10752 .bf16) (p : IVec S4x8192 32) (s : FVec Ideal S1x32 .f32) (w : FVec Ideal S1x2048x2048 .f32)
  (hq : RealCols x)

theorem reduces6 : S4x64x4x8x128x256.Reduces [5] S4x64x4x8x128 := by decide

theorem lift6 (β : Fin 4) (B : Fin 64) (g : Fin 4) (e : Fin 8) (r : Fin 128) (j : Fin 256) :
    reduces6.lift (ix5 β B g e r) j = ix6 β B g e r j := by
  funext a
  match a with
  | 0 => exact Fin.ext rfl
  | 1 => exact Fin.ext rfl
  | 2 => exact Fin.ext rfl
  | 3 => exact Fin.ext rfl
  | 4 => exact Fin.ext rfl
  | 5 => exact Fin.ext rfl

/-- The largest entry of a row. -/
theorem rowmax_at (a : FVec Ideal S4x64x4x8x128x256 .f32) (f : Fin 256 → EReal) (β : Fin 4) (B : Fin 64) (g : Fin 4) (e : Fin 8) (r : Fin 128)
    (hf : ∀ j, a (ix6 β B g e r j) = f j) :
    Host.reduce FloatOps.maximumf a (constant (F := Ideal) S_ .f32 0xFF800000#32) reducesTo_S4x64x4x8x128x256_S4x64x4x8x128_d5 h_S_ (ix5 β B g e r)
      = Finset.univ.fold max ⊥ f := by
  refine (Host.reduce_eq_fold_single (FloatOps.maximumf (F := Ideal) (φ := .f32)) a _ _ reduces6 h_S_ _).trans ?_
  have e1 : constant (F := Ideal) S_ .f32 0xFF800000#32 (Shape.Idx.first h_S_) = ⊥ :=
    show Ideal.ofBits .f32 0xFF800000#32 = ⊥ by simp [Ideal.ofBits, Ideal.ieee]
  have e2 : a ∘ reduces6.lift (ix5 β B g e r) = f := funext fun j => (congrArg a (lift6 β B g e r j)).trans (hf j)
  rw [e1]
  exact congrArg (Finset.univ.fold max (⊥ : EReal)) e2

/-- The sum of a row. -/
theorem rowsum_at (a : FVec Ideal S4x64x4x8x128x256 .f32) (f : Fin 256 → EReal) (β : Fin 4) (B : Fin 64) (g : Fin 4) (e : Fin 8) (r : Fin 128)
    (hf : ∀ j, a (ix6 β B g e r j) = f j) :
    Ideal.hostReduceAdd reducesTo_S4x64x4x8x128x256_S4x64x4x8x128_d5 a 0 (ix5 β B g e r) = ∑ j, f j := by
  rw [Ideal.hostReduceAdd_single _ reduces6, zero_add]
  exact Finset.sum_congr rfl fun j _ => (congrArg a (lift6 β B g e r j)).trans (hf j)

/-- A row's number against the sink of its head. -/
theorem against_at (a : FVec Ideal S4x64x4x8x128 .f32) (β : Fin 4) (B : Fin 64) (g : Fin 4) (e : Fin 8) (r : Fin 128) :
    maximumf (broadcastInDim S4x64x4x8x128x1 ![0, 1, 2, 3, 4] bcast_S4x64x4x8x128_S4x64x4x8x128x1_0_1_2_3_4 a) (broadcastInDim S4x64x4x8x128x1 ![0, 1, 2, 3, 4, 5] bcast_S1x1x4x8x1x1_S4x64x4x8x128x1_0_1_2_3_4_5 (broadcastInDim S1x1x4x8x1x1 ![2, 3] bcast_S4x8_S1x1x4x8x1x1_2_3 (shapeCast S4x8 (shapeCast S32 s shapeCasts_S1x32_S32) shapeCasts_S32_S4x8))) (ix6 β B g e r 0)
      = max (a (ix5 β B g e r)) (snk s ⟨g.val * 8 + e.val, by omega⟩) := by
  pointwise []
  rfl

/-- The row's scores. -/
def row (β : Fin 4) (B : Fin 64) (g : Fin 4) (e : Fin 8) (r : Fin 128) : Fin 256 → EReal :=
  masked (score (prj x) (pps p) (blk β B r) ⟨g.val * 8 + e.val, by omega⟩) (sees (blk β B r))
/-- The row's maximum, its sink included. -/
def peak (β : Fin 4) (B : Fin 64) (g : Fin 4) (e : Fin 8) (r : Fin 128) : EReal :=
  max (Finset.univ.fold max ⊥ (row x p β B g e r)) (snk s ⟨g.val * 8 + e.val, by omega⟩)

include hq in
theorem top_at (β : Fin 4) (B : Fin 64) (g : Fin 4) (e : Fin 8) (r : Fin 128) : top x p s (ix6 β B g e r 0) = peak x p s β B g e r := by
  unfold top
  rw [against_at, rowmax_at _ (row x p β B g e r) β B g e r (fun j => ms_at x p hq β B g e r j)]
  rfl

include hq in
theorem ex_at (β : Fin 4) (B : Fin 64) (g : Fin 4) (e : Fin 8) (r : Fin 128) (j : Fin 256) :
    ex x p s (ix6 β B g e r j) = Ideal.exp (row x p β B g e r j - peak x p s β B g e r) := by
  pointwise [ex]
  rw [top_at x p s hq, ms_at x p hq]
  rfl

include hq in
theorem tot_at (β : Fin 4) (B : Fin 64) (g : Fin 4) (e : Fin 8) (r : Fin 128) :
    tot x p s (ix6 β B g e r 0) = (∑ j, Ideal.exp (row x p β B g e r j - peak x p s β B g e r))
      + Ideal.exp (snk s ⟨g.val * 8 + e.val, by omega⟩ - peak x p s β B g e r) := by
  pointwise [tot]
  rw [top_at x p s hq, rowsum_at _ _ β B g e r (fun j => ex_at x p s hq β B g e r j)]
  rfl

include hq in
theorem wt_at (β : Fin 4) (B : Fin 64) (g : Fin 4) (e : Fin 8) (r : Fin 128) (j : Fin 256) :
    wt x p s (ix6 β B g e r j) = Ideal.div (Ideal.exp (row x p β B g e r j - peak x p s β B g e r))
      ((∑ j, Ideal.exp (row x p β B g e r j - peak x p s β B g e r)) + Ideal.exp (snk s ⟨g.val * 8 + e.val, by omega⟩ - peak x p s β B g e r)) := by
  pointwise [wt]
  rw [ex_at x p s hq, tot_at x p s hq]

variable (hs : ∀ n, snk s n = ((snk s n).toReal : EReal))

include hq hs in
/-- The attention's output at a block's row. -/
theorem att_at (β : Fin 4) (B : Fin 64) (g : Fin 4) (e : Fin 8) (r : Fin 128) (d : Fin 64) :
    (∑ j, vb x (ix5 β B j g d) * wt x p s (ix6 β B g e r j)) = att (prj x) (pps p) (snk s) (blk β B r) ⟨g.val * 8 + e.val, by omega⟩ d := by
  have e1 : (∑ j, vb x (ix5 β B j g d) * wt x p s (ix6 β B g e r j))
      = baseE (row x p β B g e r) (snk s ⟨g.val * 8 + e.val, by omega⟩) (fun j => vb x (ix5 β B j g d)) := by
    refine Finset.sum_congr rfl fun j _ => ?_
    rw [wt_at x p s hq, mul_comm]
    rfl
  rw [e1]
  unfold att row
  rw [hs]
  refine baseE_congr _ _ _ _ _ _ _ (fun _ => Iff.rfl) (fun _ _ => rfl) (fun j hj => ?_)
  have e2 : (8192 * β.val + (B.val * 128 + r.val)) % 8192 / 128 = B.val := by omega
  refine (vb_at x β B r j g d (hj.2.imp (fun h' => e2 ▸ h') id)).trans (prj_eq x _ _ _ _ rfl ?_)
  show 6400 + 64 * g.val + d.val = 6400 + 64 * ((g.val * 8 + e.val) / 8) + d.val
  omega

include hq hs in
/-- The attention's output. -/
theorem ya_at (β : Fin 4) (σ : Fin 8192) (k : Fin 2048) :
    ya x p s (ix3 β σ k) = att (prj x) (pps p) (snk s) (tok β σ) ⟨k.val / 64, by omega⟩ ⟨k.val % 64, by omega⟩ := by
  pointwise [ya]
  rw [att_at x p s hq hs]
  have h1 : blk β ⟨σ.val / 128, by omega⟩ ⟨σ.val % 128, by omega⟩ = tok β σ :=
    Fin.ext (by show 8192 * β.val + (σ.val / 128 * 128 + σ.val % 128) = 8192 * β.val + σ.val; omega)
  have h2 : (⟨k.val / 512 * 8 + k.val / 64 % 8, by omega⟩ : Fin 32) = ⟨k.val / 64, by omega⟩ :=
    Fin.ext (by show k.val / 512 * 8 + k.val / 64 % 8 = k.val / 64; omega)
  exact (congrArg (fun R => att (prj x) (pps p) (snk s) R _ _) h1).trans (congrArg (fun H => att (prj x) (pps p) (snk s) _ H _) h2)

/-- The gate. -/
theorem gt_at (β : Fin 4) (σ : Fin 8192) (k : Fin 2048) : gt x (ix3 β σ k) = Ideal.logistic (prj x (tok β σ) ⟨8704 + k.val, by omega⟩) := by
  pointwise [gt]
  exact congrArg (fun z => Ideal.div 1 (1 + Ideal.exp (-z))) (xf_at x β σ _)

include hq hs in
/-- The reference's result is the gated projection of the attention. -/
theorem res_at (R : Fin 32768) (k : Fin 2048) : res x p s w (ix2 R k) = gated (prj x) (pps p) (snk s) (wts w) R k := by
  pointwise [res]
  have hR : tok ⟨R.val / 8192, by omega⟩ ⟨R.val % 8192, by omega⟩ = R :=
    Fin.ext (by show 8192 * (R.val / 8192) + R.val % 8192 = R.val; omega)
  unfold gated
  refine congrArg₂ (· * ·) ?_ (Finset.sum_congr rfl fun l _ => congrArg₂ (· * ·) ?_ rfl)
  · exact (gt_at x _ _ k).trans (congrArg (fun R => Ideal.logistic (prj x R _)) hR)
  · exact (ya_at x p s hq hs _ _ l).trans (congrArg (fun R => att (prj x) (pps p) (snk s) R _ _) hR)

end

end Cert.ReferenceIdeal.Swa

end
-- ==== Proof.Finite.lean ====
module

public import proofs.«01_k».proof.Defs
public import proofs.«01_k».proof.Pre_finite
public import Idealize.ShloMosaic.Lib.ReduceAll
public import Idealize.ShloMosaic.Lib.Pointwise

@[expose] public section

noncomputable section

namespace Cert.Finite

open Idealize.ShloMosaic

/-- The side conditions of the precondition's function. -/
theorem facts : Cert.Pre_finite.Facts where
  slices_S32768x10752_S32768x2304_0_4096 := by decide
  bitsLt_bf16_f32 := by decide
  bcast_S_S32768x2304 := by decide
  reducesTo_S32768x2304_S_d0_1 := by decide
  h_S_ := by decide
  bcast_S_S1x32 := by decide
  reducesTo_S1x32_S_d0_1 := by decide

instance : Subsingleton (Cert.Pre_finite.S_).Idx := ⟨fun _ _ => funext fun a => a.elim0⟩

theorem and_one : ∀ a b : BitVec 1, IntOp.andi a b = 1#1 → a = 1#1 ∧ b = 1#1 := by decide

/-- A number whose absolute value is under infinity is real. -/
theorem real_of_lt (x : EReal) (h : Ideal.cmp .olt (FloatOps.absf (F := Ideal) (φ := .f32) x) (Ideal.ofBits .f32 0x7F800000#32) = 1#1) :
    x = (x.toReal : EReal) := by
  have h' : FloatOps.absf (F := Ideal) (φ := .f32) x < Ideal.ofBits .f32 0x7F800000#32 := by
    by_contra hn
    have : Ideal.cmp .olt (FloatOps.absf (F := Ideal) (φ := .f32) x) (Ideal.ofBits .f32 0x7F800000#32) = 0#1 := congrArg BitVec.ofBool (decide_eq_false hn)
    rw [this] at h
    exact absurd h (by decide)
  have e : Ideal.ofBits .f32 0x7F800000#32 = ⊤ := by simp [Ideal.ofBits, Ideal.ieee]
  rw [e] at h'
  induction x with
  | bot => exact absurd h' (by show ¬ max (⊥ : EReal) (-⊥) < ⊤; simp)
  | top => exact absurd h' (by show ¬ max (⊤ : EReal) (-⊤) < ⊤; simp)
  | coe r => rfl

section
variable [Cert.Pre_finite.Facts] (x : FVec Ideal Cert.Pre_finite.S32768x10752 .bf16) (p : IVec Cert.Pre_finite.S4x8192 32)
  (s : FVec Ideal Cert.Pre_finite.S1x32 .f32) (w : FVec Ideal Cert.Pre_finite.S1x2048x2048 .f32)
  (h : Cert.Pre_finite.fn (F := Ideal) x p s w = fun _ => 1#1)

include h in
/-- The precondition: the queries' and keys' columns are real numbers. -/
theorem cols (R : Fin 32768) (n : Fin 2304) : x (ix2 R ⟨4096 + n.val, by omega⟩) = ((x (ix2 R ⟨4096 + n.val, by omega⟩)).toReal : EReal) := by
  have h0 := (and_one _ _ (congrFun h ix0)).1
  have h1 := Host.reduce_andi_all _ _ _ _ _ h0 (ix2 R n)
  have e : extractStridedSlice Cert.Pre_finite.S32768x2304 ![0, 4096] x Cert.Pre_finite.Facts.slices_S32768x10752_S32768x2304_0_4096 (ix2 R n) = x (ix2 R ⟨4096 + n.val, by omega⟩) := by
    pointwise []
  have h2 := real_of_lt _ h1
  exact (e.symm.trans h2).trans (congrArg (fun z : EReal => ((z.toReal : ℝ) : EReal)) e)

include h in
/-- The precondition: the sinks are real numbers. -/
theorem sinks (n : Fin 32) : s (ix2 0 n) = ((s (ix2 0 n)).toReal : EReal) :=
  real_of_lt _ (Host.reduce_andi_all _ _ _ _ _ (and_one _ _ (congrFun h ix0)).2 (ix2 0 n))

end

end Cert.Finite

end
-- ==== Proof.Kernel2Ideal.Kit.lean ====
module

public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Kernel2Ideal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

/-- The body's condition for the first step of a row block: the block's step is 0. -/
abbrev first (i : grid0.Coords) : Prop := k0_cond1 i = 1#1
/-- At the point `t`: `t` is a multiple of 8. -/
theorem hfirst : ∀ t : Fin cfg0.N, first (grid0.coords t) ↔ t.val % 8 = 0 :=
  (by decide +kernel : ∀ t : Fin grid0.N, first (grid0.coords t) ↔ t.val % 8 = 0)
/-- The body's condition for the first row block. -/
abbrev start (i : grid0.Coords) : Prop := Scalar.cmpi .ne (Scalar.extui (Scalar.cmpi .eq (BitVec.ofNat 32 (i 0).val) 0#32)) 0#32 = 1#1
/-- At the point `t`: `t` is below 8. -/
theorem hstart : ∀ t : Fin cfg0.N, start (grid0.coords t) ↔ t.val < 8 :=
  (by decide +kernel : ∀ t : Fin grid0.N, start (grid0.coords t) ↔ t.val < 8)
/-- The body's condition for the last step of a row block. -/
abbrev last (i : grid0.Coords) : Prop := k0_cond3 i = 1#1
/-- At the point `t`: `t` is 7 modulo 8. -/
theorem hlast : ∀ t : Fin cfg0.N, last (grid0.coords t) ↔ t.val % 8 = 7 :=
  (by decide +kernel : ∀ t : Fin grid0.N, last (grid0.coords t) ↔ t.val % 8 = 7)
/-- The body's condition that a further row block follows. -/
abbrev more (i : grid0.Coords) : Prop := k0_cond4 i = 1#1
/-- At the point `t`: `t` is below 248. -/
theorem hmore : ∀ t : Fin cfg0.N, more (grid0.coords t) ↔ t.val < 248 :=
  (by decide +kernel : ∀ t : Fin grid0.N, more (grid0.coords t) ↔ t.val < 248)

/-- The rows of `x` that the copy of chunk 0 of the next block starts from. -/
instance closed2 (i : grid0.Coords) : ClosedOff (k0_off2 i) := ⟨![((i 0).val + 1) * 1024 + 0, 0], (by decide +kernel : ∀ i : grid0.Coords, k0_off2 i = ![((i 0).val + 1) * 1024 + 0, 0]) i⟩
/-- The rows of `x` that the copy of chunk 1 of the next block starts from. -/
instance closed3 (i : grid0.Coords) : ClosedOff (k0_off3 i) := ⟨![((i 0).val + 1) * 1024 + 128, 0], (by decide +kernel : ∀ i : grid0.Coords, k0_off3 i = ![((i 0).val + 1) * 1024 + 128, 0]) i⟩
/-- The rows of `x` that the copy of chunk 2 of the next block starts from. -/
instance closed4 (i : grid0.Coords) : ClosedOff (k0_off4 i) := ⟨![((i 0).val + 1) * 1024 + 256, 0], (by decide +kernel : ∀ i : grid0.Coords, k0_off4 i = ![((i 0).val + 1) * 1024 + 256, 0]) i⟩
/-- The rows of `x` that the copy of chunk 3 of the next block starts from. -/
instance closed5 (i : grid0.Coords) : ClosedOff (k0_off5 i) := ⟨![((i 0).val + 1) * 1024 + 384, 0], (by decide +kernel : ∀ i : grid0.Coords, k0_off5 i = ![((i 0).val + 1) * 1024 + 384, 0]) i⟩
/-- The rows of `x` that the copy of chunk 4 of the next block starts from. -/
instance closed6 (i : grid0.Coords) : ClosedOff (k0_off6 i) := ⟨![((i 0).val + 1) * 1024 + 512, 0], (by decide +kernel : ∀ i : grid0.Coords, k0_off6 i = ![((i 0).val + 1) * 1024 + 512, 0]) i⟩
/-- The rows of `x` that the copy of chunk 5 of the next block starts from. -/
instance closed7 (i : grid0.Coords) : ClosedOff (k0_off7 i) := ⟨![((i 0).val + 1) * 1024 + 640, 0], (by decide +kernel : ∀ i : grid0.Coords, k0_off7 i = ![((i 0).val + 1) * 1024 + 640, 0]) i⟩
/-- The rows of `x` that the copy of chunk 6 of the next block starts from. -/
instance closed8 (i : grid0.Coords) : ClosedOff (k0_off8 i) := ⟨![((i 0).val + 1) * 1024 + 768, 0], (by decide +kernel : ∀ i : grid0.Coords, k0_off8 i = ![((i 0).val + 1) * 1024 + 768, 0]) i⟩
/-- The rows of `x` that the copy of chunk 7 of the next block starts from. -/
instance closed9 (i : grid0.Coords) : ClosedOff (k0_off9 i) := ⟨![((i 0).val + 1) * 1024 + 896, 0], (by decide +kernel : ∀ i : grid0.Coords, k0_off9 i = ![((i 0).val + 1) * 1024 + 896, 0]) i⟩

/-- The input rows, left in high-bandwidth memory. -/
abbrev xM : Memref sig .tc .hbm S32768x2048 .f32 := Memref.whole main_arg0
/-- The scratch that holds the block's normalised rows. -/
abbrev hM : Memref sig .tc .vmem S1024x2048 .bf16 := Memref.whole cc0_scratch0
/-- The scratch that holds the block's input rows. -/
abbrev xbM : Memref sig .tc .vmem S1024x2048 .f32 := Memref.whole cc0_scratch1
/-- Chunk 0's semaphore, its counter at zero. -/
abbrev cell0 (c : Dev nD) : sProp 𝕄 := semVal ((c : Thread nD τ), SemLoc.dma ((cc0_scratch2.slice (Rect.unit (s := S8) ![0] S1.size inb_S8_S1_0)).squeeze S_ squeezes_S1_S_).sem) 0
/-- Chunk 1's semaphore, its counter at zero. -/
abbrev cell1 (c : Dev nD) : sProp 𝕄 := semVal ((c : Thread nD τ), SemLoc.dma ((cc0_scratch2.slice (Rect.unit (s := S8) ![1] S1.size inb_S8_S1_1)).squeeze S_ squeezes_S1_S_).sem) 0
/-- Chunk 2's semaphore, its counter at zero. -/
abbrev cell2 (c : Dev nD) : sProp 𝕄 := semVal ((c : Thread nD τ), SemLoc.dma ((cc0_scratch2.slice (Rect.unit (s := S8) ![2] S1.size inb_S8_S1_2)).squeeze S_ squeezes_S1_S_).sem) 0
/-- Chunk 3's semaphore, its counter at zero. -/
abbrev cell3 (c : Dev nD) : sProp 𝕄 := semVal ((c : Thread nD τ), SemLoc.dma ((cc0_scratch2.slice (Rect.unit (s := S8) ![3] S1.size inb_S8_S1_3)).squeeze S_ squeezes_S1_S_).sem) 0
/-- Chunk 4's semaphore, its counter at zero. -/
abbrev cell4 (c : Dev nD) : sProp 𝕄 := semVal ((c : Thread nD τ), SemLoc.dma ((cc0_scratch2.slice (Rect.unit (s := S8) ![4] S1.size inb_S8_S1_4)).squeeze S_ squeezes_S1_S_).sem) 0
/-- Chunk 5's semaphore, its counter at zero. -/
abbrev cell5 (c : Dev nD) : sProp 𝕄 := semVal ((c : Thread nD τ), SemLoc.dma ((cc0_scratch2.slice (Rect.unit (s := S8) ![5] S1.size inb_S8_S1_5)).squeeze S_ squeezes_S1_S_).sem) 0
/-- Chunk 6's semaphore, its counter at zero. -/
abbrev cell6 (c : Dev nD) : sProp 𝕄 := semVal ((c : Thread nD τ), SemLoc.dma ((cc0_scratch2.slice (Rect.unit (s := S8) ![6] S1.size inb_S8_S1_6)).squeeze S_ squeezes_S1_S_).sem) 0
/-- Chunk 7's semaphore, its counter at zero. -/
abbrev cell7 (c : Dev nD) : sProp 𝕄 := semVal ((c : Thread nD τ), SemLoc.dma ((cc0_scratch2.slice (Rect.unit (s := S8) ![7] S1.size inb_S8_S1_7)).squeeze S_ squeezes_S1_S_).sem) 0
/-- The elements of a memref, held by core `c` at the contents `f`. -/
def held {sp : Space} {s : Shape} {e : EltTy} (c : Dev nD) (M : Memref sig .tc sp s e) (f : M.view.ty.Contents (Elt F)) : sProp 𝕄 :=
  M.view.loc (c : Thread nD τ) ↦[M.view.set]{fullShare} f
/-- Chunk 0 of the scratch that holds the block's input rows. -/
abbrev xc0 : Memref sig .tc .vmem S128x2048 .f32 := xbM.slice (Rect.unit (s := S1024x2048) ![0, 0] S128x2048.size inb_S1024x2048_S128x2048_0_0) (fun _ => rfl)
/-- Chunk 1 of the scratch that holds the block's input rows. -/
abbrev xc1 : Memref sig .tc .vmem S128x2048 .f32 := xbM.slice (Rect.unit (s := S1024x2048) ![128, 0] S128x2048.size inb_S1024x2048_S128x2048_128_0) (fun _ => rfl)
/-- Chunk 2 of the scratch that holds the block's input rows. -/
abbrev xc2 : Memref sig .tc .vmem S128x2048 .f32 := xbM.slice (Rect.unit (s := S1024x2048) ![256, 0] S128x2048.size inb_S1024x2048_S128x2048_256_0) (fun _ => rfl)
/-- Chunk 3 of the scratch that holds the block's input rows. -/
abbrev xc3 : Memref sig .tc .vmem S128x2048 .f32 := xbM.slice (Rect.unit (s := S1024x2048) ![384, 0] S128x2048.size inb_S1024x2048_S128x2048_384_0) (fun _ => rfl)
/-- Chunk 4 of the scratch that holds the block's input rows. -/
abbrev xc4 : Memref sig .tc .vmem S128x2048 .f32 := xbM.slice (Rect.unit (s := S1024x2048) ![512, 0] S128x2048.size inb_S1024x2048_S128x2048_512_0) (fun _ => rfl)
/-- Chunk 5 of the scratch that holds the block's input rows. -/
abbrev xc5 : Memref sig .tc .vmem S128x2048 .f32 := xbM.slice (Rect.unit (s := S1024x2048) ![640, 0] S128x2048.size inb_S1024x2048_S128x2048_640_0) (fun _ => rfl)
/-- Chunk 6 of the scratch that holds the block's input rows. -/
abbrev xc6 : Memref sig .tc .vmem S128x2048 .f32 := xbM.slice (Rect.unit (s := S1024x2048) ![768, 0] S128x2048.size inb_S1024x2048_S128x2048_768_0) (fun _ => rfl)
/-- Chunk 7 of the scratch that holds the block's input rows. -/
abbrev xc7 : Memref sig .tc .vmem S128x2048 .f32 := xbM.slice (Rect.unit (s := S1024x2048) ![896, 0] S128x2048.size inb_S1024x2048_S128x2048_896_0) (fun _ => rfl)

end Cert.Kernel2Ideal.Mlp

end
-- ==== Proof.Kernel2Ideal.Pieces.lean ====
module

public import proofs.«01_k».proof.Proof.Kernel2Ideal.Kit

@[expose] public section

set_option maxRecDepth 16384

noncomputable section

namespace Cert.Kernel2Ideal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

/-- The rows of chunk `r` lie inside the block. -/
theorem xr_inb : ∀ (r : Fin 8) (a : Fin 2), (![128 * r.val, 0] : Fin 2 → ℕ) a + S128x2048.size a ≤ S1024x2048.size a := by decide
/-- The rows of chunk `r` of a block. -/
abbrev xr (r : Fin 8) : Rect S1024x2048 := Rect.unit (s := S1024x2048) ![128 * r.val, 0] S128x2048.size (xr_inb r)
/-- The rows of chunk `r` of block `b` lie inside the array. -/
theorem xs_inb : ∀ (b : Fin 32) (r : Fin 8) (a : Fin 2), (![1024 * b.val + 128 * r.val, 0] : Fin 2 → ℕ) a + S128x2048.size a ≤ S32768x2048.size a := by decide +kernel
/-- Chunk `r` of block `b` of the input rows. -/
abbrev xs (b : Fin 32) (r : Fin 8) : Memref sig .tc .hbm S128x2048 .f32 :=
  xM.slice (Rect.unit (s := S32768x2048) ![1024 * b.val + 128 * r.val, 0] S128x2048.size (xs_inb b r)) (fun _ => rfl)
/-- The rows of block `b` lie inside the array. -/
theorem xrow_inb : ∀ (b : Fin 32) (a : Fin 2), (![1024 * b.val, 0] : Fin 2 → ℕ) a + S1024x2048.size a ≤ S32768x2048.size a := by decide +kernel
/-- Block `b` of the input rows. -/
def rows (X : Vec F S32768x2048 .f32) (b : Fin 32) : Vec F S1024x2048 .f32 :=
  fun y => X ((Rect.unit (s := S32768x2048) ![1024 * b.val, 0] S1024x2048.size (xrow_inb b)).emb y)
/-- The input array's contents at the rows `X`. -/
abbrev xG (X : Vec F S32768x2048 .f32) : xM.view.ty.Contents (Elt F) := (Memref.isWhole_whole main_arg0).unread X
/-- The scratch's contents at the block `v`. -/
abbrev xbG (v : Vec F S1024x2048 .f32) : xbM.view.ty.Contents (Elt F) := (Memref.isWhole_whole cc0_scratch1).unread v

/-- A family over eight indices, written out. -/
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide, bigSep_insert (by decide), bigSep_insert (by decide), bigSep_insert (by decide), bigSep_insert (by decide), bigSep_insert (by decide), bigSep_insert (by decide), bigSep_insert (by decide), bigSep_singleton]
  rfl

/-- The scratch for the rows, held whole, is its eight chunks. -/
theorem pieces (c : Dev nD) (G : xbM.view.ty.Contents (Elt F)) :
    (held c xbM G : sProp 𝕄) = iprop(held c xc0 G ∗ held c xc1 G ∗ held c xc2 G ∗ held c xc3 G ∗ held c xc4 G ∗ held c xc5 G ∗ held c xc6 G ∗ held c xc7 G) := by
  have hb := Ring.pointsTo_blocks (sig := sig) (Ix := Unit) (Val := Elt F) (Name := ℕ) (U := Pipeline.UD sig nD τ) (Lvl := ℕ)
    (ℓ := xbM.view.loc (c : Thread nD τ)) (fun r : Fin 8 => (xr r).set)
    (fun b b' h => Ring.lead_disjoint (s := S1024x2048) (0 : Fin 2) 128 (fun r : Fin 8 => ![128 * r.val, 0]) S128x2048.size xr_inb (fun _ => rfl) rfl b b' h)
    (Ring.lead_cover (s := S1024x2048) (0 : Fin 2) 128 (fun r : Fin 8 => ![128 * r.val, 0]) S128x2048.size xr_inb (fun _ => rfl) (fun r => (by decide : ∀ (r : Fin 8) (a : Fin 2), a ≠ 0 → (![128 * r.val, 0] : Fin 2 → ℕ) a = 0) r) rfl (by decide) rfl)
    (q := fullShare) G
  rw [bigSep_eight] at hb
  unfold held
  rw [show xbM.view.set = Finset.univ from View.set_whole _]
  refine hb.trans ?_
  rw [show xc0.view.set = (xr 0).set from View.set_slice_whole _ _, show xc1.view.set = (xr 1).set from View.set_slice_whole _ _, show xc2.view.set = (xr 2).set from View.set_slice_whole _ _, show xc3.view.set = (xr 3).set from View.set_slice_whole _ _, show xc4.view.set = (xr 4).set from View.set_slice_whole _ _, show xc5.view.set = (xr 5).set from View.set_slice_whole _ _, show xc6.view.set = (xr 6).set from View.set_slice_whole _ _, show xc7.view.set = (xr 7).set from View.set_slice_whole _ _]

/-- A memref written whole with what another content shows through it is held at that content. -/
theorem landed {sp : Space} {s : Shape} {e : EltTy} (c : Dev nD) (M : Memref sig .tc sp s e) (f g : M.view.ty.Contents (Elt F)) (p : s.Idx → Elt F e)
    (h : ∀ z, p z = M.view.read (Elt F) g z) :
    (held c M (M.view.writes (Elt F) f [⟨Rect.whole s, p⟩]) : sProp 𝕄) = held c M g := by
  unfold held
  refine pointsTo_congr fun i hi => ?_
  obtain ⟨z, -, rfl⟩ := Finset.mem_map.mp hi
  have hz := h z
  rw [← View.write_univ_eq_writes_whole, View.writes_nil, View.write_emb_of_mem _ _ (Finset.mem_univ _), hz, View.read_apply, cast_cast, cast_eq]

/-- A chunk of the array shows what the block's chunk in the scratch shows. -/
theorem chunk_read (X : Vec F S32768x2048 .f32) (b : Fin 32) (r : Fin 8) (off : Fin 2 → ℕ) (inb : ∀ a, off a + S128x2048.size a ≤ S32768x2048.size a)
    (hoff : off = ![1024 * b.val + 128 * r.val, 0]) (z : S128x2048.Idx) :
    (xM.slice (Rect.unit (s := S32768x2048) off S128x2048.size inb) (fun _ => rfl)).view.read (Elt F) (xG X) z
      = (xbM.slice (xr r) (fun _ => rfl)).view.read (Elt F) (xbG (rows X b)) z := by
  subst hoff
  have hX := congrFun ((Memref.isWhole_whole main_arg0).read_unread (Val := Elt F) X) ((Rect.unit (s := S32768x2048) ![1024 * b.val + 128 * r.val, 0] S128x2048.size inb).emb z)
  have hB := congrFun ((Memref.isWhole_whole cc0_scratch1).read_unread (Val := Elt F) (rows X b)) ((xr r).emb z)
  refine Eq.trans hX (Eq.trans ?_ hB.symm)
  unfold rows
  refine congrArg X (funext fun a => Fin.ext ?_)
  fin_cases a
  · show 1024 * b.val + 128 * r.val + 1 * (z 0).val = 1024 * b.val + 1 * (128 * r.val + 1 * (z 0).val)
    omega
  · show 0 + 1 * (z 1).val = 0 + 1 * (0 + 1 * (z 1).val)
    omega

/-- The element sets of a block's chunks are disjoint. -/
theorem xs_disjoint (b : Fin 32) (r r' : Fin 8) (h : r ≠ r') : Disjoint (xs b r).view.set (xs b r').view.set := by
  rw [show (xs b r).view.set = (Rect.unit (s := S32768x2048) ![1024 * b.val + 128 * r.val, 0] S128x2048.size (xs_inb b r)).set from View.set_slice_whole _ _,
    show (xs b r').view.set = (Rect.unit (s := S32768x2048) ![1024 * b.val + 128 * r'.val, 0] S128x2048.size (xs_inb b r')).set from View.set_slice_whole _ _,
    Finset.disjoint_left]
  intro i hi hi'
  have h1 := Rect.mem_set_unit.mp hi 0
  have h2 := Rect.mem_set_unit.mp hi' 0
  have e1 : 1024 * b.val + 128 * r.val ≤ (i 0).val ∧ (i 0).val < 1024 * b.val + 128 * r.val + 128 := h1
  have e2 : 1024 * b.val + 128 * r'.val ≤ (i 0).val ∧ (i 0).val < 1024 * b.val + 128 * r'.val + 128 := h2
  exact h (Fin.ext (by omega))

/-- Taking eight sets away one after the other is taking their union away. -/
theorem sdiff_eight {α : Type} [DecidableEq α] (S : Finset α) (w : Fin 8 → Finset α) :
    (((((((S \ w 0) \ w 1) \ w 2) \ w 3) \ w 4) \ w 5) \ w 6) \ w 7 = S \ Finset.univ.biUnion w := by
  rw [show (Finset.univ : Finset (Fin 8)) = {0, 1, 2, 3, 4, 5, 6, 7} from by decide]
  simp only [Finset.biUnion_insert, Finset.singleton_biUnion, Finset.sdiff_sdiff_left', Finset.sdiff_union_distrib]
  ext i
  simp only [Finset.mem_sdiff, Finset.mem_inter]
  tauto

/-- The array's elements outside the block `b`. -/
def rest (c : Dev nD) (X : Vec F S32768x2048 .f32) (b : Fin 32) : sProp 𝕄 :=
  xM.view.loc (c : Thread nD τ) ↦[((((((((xM.view.set \ (xs b 0).view.set) \ (xs b 1).view.set) \ (xs b 2).view.set) \ (xs b 3).view.set) \ (xs b 4).view.set) \ (xs b 5).view.set) \ (xs b 6).view.set) \ (xs b 7).view.set)]{fullShare} xG X

/-- The array, held whole, is a block's eight chunks and the rest. -/
theorem array_eq (c : Dev nD) (X : Vec F S32768x2048 .f32) (b : Fin 32) :
    (held c xM (xG X) : sProp 𝕄) ⊣⊢ iprop((held c (xs b 0) (xG X) ∗ held c (xs b 1) (xG X) ∗ held c (xs b 2) (xG X) ∗ held c (xs b 3) (xG X) ∗ held c (xs b 4) (xG X) ∗ held c (xs b 5) (xG X) ∗ held c (xs b 6) (xG X) ∗ held c (xs b 7) (xG X)) ∗ rest c X b) := by
  have hs : ((((((((xM.view.set \ (xs b 0).view.set) \ (xs b 1).view.set) \ (xs b 2).view.set) \ (xs b 3).view.set) \ (xs b 4).view.set) \ (xs b 5).view.set) \ (xs b 6).view.set) \ (xs b 7).view.set)
      = xM.view.set \ Finset.univ.biUnion (fun r : Fin 8 => (xs b r).view.set) :=
    sdiff_eight xM.view.set fun r : Fin 8 => (xs b r).view.set
  have hsub : Finset.univ.biUnion (fun r : Fin 8 => (xs b r).view.set) ⊆ xM.view.set := by
    rw [show xM.view.set = Finset.univ from View.set_whole _]; exact Finset.subset_univ _
  have hb := pointsTo_biUnion (sig := sig) (Ix := Unit) (Val := Elt F) (Name := ℕ) (U := Pipeline.UD sig nD τ) (Lvl := ℕ) (q := fullShare) (f := xG X)
    (ℓ := xM.view.loc (c : Thread nD τ)) Finset.univ (fun r : Fin 8 => (xs b r).view.set) (fun r _ r' _ h => xs_disjoint b r r' h)
  rw [bigSep_eight] at hb
  unfold held rest
  rw [hs, ← hb]
  exact pointsTo_split_subset hsub

/-- Chunk `r`'s copy of block `b` in flight: what its end hands back. -/
def landing (c : Dev nD) (X : Vec F S32768x2048 .f32) (b : Fin 32) (r : Fin 8) (M : Memref sig .tc .vmem S128x2048 .f32) (G : M.view.ty.Contents (Elt F)) : sProp 𝕄 :=
  iprop(held c M G ∗ held c (xs b r) (xG X))

end Cert.Kernel2Ideal.Mlp

end
-- ==== Proof.Kernel2Ideal.RunA.lean ====
module

public import proofs.«01_k».proof.Proof.Kernel2Ideal.Pieces

@[expose] public section

set_option maxRecDepth 16384

noncomputable section

namespace Cert.Kernel2Ideal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

/-- A chunk a copy has landed in holds what the rows it was copied from hold. -/
theorem copied {sp sp' : Space} {s : Shape} {e : EltTy} (c : Dev nD) (M : Memref sig .tc sp s e) (M' : Memref sig .tc sp' s e) (f g : M.view.ty.Contents (Elt F)) (X : M'.view.ty.Contents (Elt F))
    (h : ∀ z, M'.view.read (Elt F) X z = M.view.read (Elt F) g z) :
    (M.view.loc (c : Thread nD τ) ↦[M.view.set]{fullShare} M.view.writes (Elt F) f [⟨Rect.whole s, ReadAs.same.apply (M'.view.read (Elt F) X)⟩] : sProp 𝕄) = held c M g :=
  landed c M f g _ h

set_option maxHeartbeats 12000000 in
/-- The stores of one run of the body, and the run: at the first step of all, which copies the first row block in. -/
noncomputable def runA (c : Dev nD) (i : grid0.Coords) (arg3 : Memref sig .tc .vmem S1x2048 .f32) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x2048 .f32) (harg7 : arg7.IsWhole)
    (h1 : first i) (h2 : start i) (h3 : ¬last i)
    (x0 : Vec F S1x2048 .f32) (x1 : Vec F S2048x1024 .bf16) (x2 : Vec F S1024x2048 .bf16) (x3 : Vec F S1x2048 .f32) (X : Vec F S32768x2048 .f32) :
    (L7 : List (View.Piece (Elt F) S1024x2048 .f32)) ×' { LH : List (View.Piece (Elt F) S1024x2048 .bf16) //
      ∀ (G : xbM.view.ty.Contents (Elt F)) (W) (K : PUnit → sProp 𝕄),
        iprop(owns (c : Thread nD τ) arg3 fullShare x0
          ∗ owns (c : Thread nD τ) arg4 fullShare x1
          ∗ owns (c : Thread nD τ) arg5 fullShare x2
          ∗ owns (c : Thread nD τ) arg6 fullShare x3
          ∗ (∃ d, owns (c : Thread nD τ) arg7 fullShare d)
          ∗ (∃ d, owns (c : Thread nD τ) hM fullShare d)
          ∗ held c xc0 G
          ∗ held c xc1 G
          ∗ held c xc2 G
          ∗ held c xc3 G
          ∗ held c xc4 G
          ∗ held c xc5 G
          ∗ held c xc6 G
          ∗ held c xc7 G
          ∗ held c xM (xG X)
          ∗ owes (c : Thread nD τ) 0 W
          ∗ cell0 c
          ∗ cell1 c
          ∗ cell2 c
          ∗ cell3 c
          ∗ cell4 c
          ∗ cell5 c
          ∗ cell6 c
          ∗ cell7 c
          ∗ (iprop(owns (c : Thread nD τ) arg3 fullShare x0
          ∗ owns (c : Thread nD τ) arg4 fullShare x1
          ∗ owns (c : Thread nD τ) arg5 fullShare x2
          ∗ owns (c : Thread nD τ) arg6 fullShare x3
          ∗ (∃ f, arg7.view.loc (c : Thread nD τ) ↦[arg7.view.set]{fullShare} arg7.view.writes (Elt F) f L7)
          ∗ (∃ f, hM.view.loc (c : Thread nD τ) ↦[hM.view.set]{fullShare} hM.view.writes (Elt F) f LH)
          ∗ held c xbM (xbG (rows X 0))
          ∗ held c xM (xG X)
          ∗ cell0 c
          ∗ cell1 c
          ∗ cell2 c
          ∗ cell3 c
          ∗ cell4 c
          ∗ cell5 c
          ∗ cell6 c
          ∗ cell7 c
          ∗ (∃ W', owes (c : Thread nD τ) 0 W')) -∗ K ⟨⟩))
          ⊢ wp frame (wpE (defs₀ (F := F)) Variants.none c none) Set.univ (cc0_mlp i xM (Memref.isWhole_whole _) arg3 harg3 arg4 harg4 arg5 harg5 arg6 harg6 arg7 harg7 hM (Memref.isWhole_whole _) xbM (Memref.isWhole_whole _) cc0_scratch2) K } := by
  refine ⟨?_, ?_, fun G W K => ?run⟩
  case run =>
    simp only [cc0_mlp_eq_skeleton]; unfold cc0_mlp_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns held
    iintro ⟨⟨%farg3, %hfarg3, Harg3⟩, ⟨%farg4, %hfarg4, Harg4⟩, ⟨%farg5, %hfarg5, Harg5⟩, ⟨%farg6, %hfarg6, Harg6⟩, ⟨%d7, %farg7, -, Harg7⟩, ⟨%d8, %farg8, -, Harg8⟩, Hb0, Hb1, Hb2, Hb3, Hb4, Hb5, Hb6, Hb7, HX, HW, Hc0, Hc1, Hc2, Hc3, Hc4, Hc5, Hc6, Hc7, Hk⟩
    obtain rfl := harg3.eq_unread hfarg3; obtain rfl := harg4.eq_unread hfarg4; obtain rfl := harg5.eq_unread hfarg5; obtain rfl := harg6.eq_unread hfarg6
    sl_exec (disch := first | sl_exact h1 | sl_exact h2 | sl_exact h3)
    ihave HB := (Entails.of_eq (pieces c (xbG (rows X 0))).symm) $$ [Hb0 Hb1 Hb2 Hb3 Hb4 Hb5 Hb6 Hb7]
    · isplitl [Hb0]
      · iapply (Entails.of_eq (copied c xc0 (xM.slice (Rect.unit (s := S32768x2048) ![0, 0] S128x2048.size (inb_S32768x2048_S128x2048_0_0)) (fun _ => rfl)) G (xbG (rows X 0)) (xG X) (chunk_read X 0 0 ![0, 0] (inb_S32768x2048_S128x2048_0_0) rfl))); iexact Hb0
      isplitl [Hb1]
      · iapply (Entails.of_eq (copied c xc1 (xM.slice (Rect.unit (s := S32768x2048) ![128, 0] S128x2048.size (inb_S32768x2048_S128x2048_128_0)) (fun _ => rfl)) G (xbG (rows X 0)) (xG X) (chunk_read X 0 1 ![128, 0] (inb_S32768x2048_S128x2048_128_0) rfl))); iexact Hb1
      isplitl [Hb2]
      · iapply (Entails.of_eq (copied c xc2 (xM.slice (Rect.unit (s := S32768x2048) ![256, 0] S128x2048.size (inb_S32768x2048_S128x2048_256_0)) (fun _ => rfl)) G (xbG (rows X 0)) (xG X) (chunk_read X 0 2 ![256, 0] (inb_S32768x2048_S128x2048_256_0) rfl))); iexact Hb2
      isplitl [Hb3]
      · iapply (Entails.of_eq (copied c xc3 (xM.slice (Rect.unit (s := S32768x2048) ![384, 0] S128x2048.size (inb_S32768x2048_S128x2048_384_0)) (fun _ => rfl)) G (xbG (rows X 0)) (xG X) (chunk_read X 0 3 ![384, 0] (inb_S32768x2048_S128x2048_384_0) rfl))); iexact Hb3
      isplitl [Hb4]
      · iapply (Entails.of_eq (copied c xc4 (xM.slice (Rect.unit (s := S32768x2048) ![512, 0] S128x2048.size (inb_S32768x2048_S128x2048_512_0)) (fun _ => rfl)) G (xbG (rows X 0)) (xG X) (chunk_read X 0 4 ![512, 0] (inb_S32768x2048_S128x2048_512_0) rfl))); iexact Hb4
      isplitl [Hb5]
      · iapply (Entails.of_eq (copied c xc5 (xM.slice (Rect.unit (s := S32768x2048) ![640, 0] S128x2048.size (inb_S32768x2048_S128x2048_640_0)) (fun _ => rfl)) G (xbG (rows X 0)) (xG X) (chunk_read X 0 5 ![640, 0] (inb_S32768x2048_S128x2048_640_0) rfl))); iexact Hb5
      isplitl [Hb6]
      · iapply (Entails.of_eq (copied c xc6 (xM.slice (Rect.unit (s := S32768x2048) ![768, 0] S128x2048.size (inb_S32768x2048_S128x2048_768_0)) (fun _ => rfl)) G (xbG (rows X 0)) (xG X) (chunk_read X 0 6 ![768, 0] (inb_S32768x2048_S128x2048_768_0) rfl))); iexact Hb6
      iapply (Entails.of_eq (copied c xc7 (xM.slice (Rect.unit (s := S32768x2048) ![896, 0] S128x2048.size (inb_S32768x2048_S128x2048_896_0)) (fun _ => rfl)) G (xbG (rows X 0)) (xG X) (chunk_read X 0 7 ![896, 0] (inb_S32768x2048_S128x2048_896_0) rfl))); iexact Hb7
    unfold held
    sl_exec (disch := first | sl_exact h1 | sl_exact h2 | sl_exact h3)
    sl_step
    iapply Hk
    isplitl [Harg3]
    · iexists _; isplitr; · ipureintro; exact harg3.read_unread _
      iexact Harg3
    isplitl [Harg4]
    · iexists _; isplitr; · ipureintro; exact harg4.read_unread _
      iexact Harg4
    isplitl [Harg5]
    · iexists _; isplitr; · ipureintro; exact harg5.read_unread _
      iexact Harg5
    isplitl [Harg6]
    · iexists _; isplitr; · ipureintro; exact harg6.read_unread _
      iexact Harg6
    isplitl [Harg7]; · iexists _; iexact Harg7
    isplitl [Harg8]; · iexists _; iexact Harg8
    isplitl [HB]; · iexact HB
    isplitl [HX]; · iexact HX
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    iexists _; iexact HW

end Cert.Kernel2Ideal.Mlp

end
-- ==== Proof.Kernel2Ideal.Flights.lean ====
module

public import proofs.«01_k».proof.Proof.Kernel2Ideal.Pieces

@[expose] public section

set_option maxRecDepth 16384

noncomputable section

namespace Cert.Kernel2Ideal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

/-- Chunk 0 of block `b` in flight: its end hands back the chunk at the block's rows and the rows it was copied from. -/
def flight0 (c : Dev nD) (X : Vec F S32768x2048 .f32) (b : Fin 32) : sProp 𝕄 :=
  Transfers.Flight countersEmb (c : Thread nD τ) (SemLoc.dma ((cc0_scratch2.slice (Rect.unit (s := S8) ![0] S1.size inb_S8_S1_0)).squeeze S_ squeezes_S1_S_).sem) () 32768
    iprop(held c xc0 (xbG (rows X b)) ∗ held c (xs b 0) (xG X))
/-- The rows the body's copy of chunk 0 reads are the block's. -/
theorem src0 (i : grid0.Coords) (b : Fin 32) (hb : b.val = (i 0).val + 1) : k0_off2 i = ![1024 * b.val + 128 * 0, 0] := by
  rw [(closed2 i).2, hb]; exact congrArg (fun n => (![n, 0] : Fin 2 → ℕ)) (by omega)
/-- The same, of the sliced array. -/
theorem srcM0 (i : grid0.Coords) (b : Fin 32) (hb : b.val = (i 0).val + 1) (inb) :
    xM.slice (Rect.unit (s := S32768x2048) (k0_off2 i) S128x2048.size inb) (fun _ => rfl) = xs b 0 :=
  Memref.slice_unit_congr _ (src0 i b hb) _ _ _ _
/-- What the body's issue of chunk 0 leaves is the flight. -/
theorem flight0_eq (c : Dev nD) (i : grid0.Coords) (X : Vec F S32768x2048 .f32) (b : Fin 32) (hb : b.val = (i 0).val + 1) (h3 : last i) (h4 : more i)
    (G : xbM.view.ty.Contents (Elt F)) (inb) :
    (Transfers.Flight countersEmb (c : Thread nD τ) (SemLoc.dma ((cc0_scratch2.slice (Rect.unit (s := S8) ![0] S1.size inb_S8_S1_0)).squeeze S_ squeezes_S1_S_).sem) () 32768
      iprop((xc0.view.loc (c : Thread nD τ) ↦[xc0.view.set]{fullShare} xc0.view.writes (Elt F) G [⟨Rect.whole S128x2048,
          ReadAs.same.apply ((xM.slice (Rect.unit (s := S32768x2048) (k0_off2 i) S128x2048.size inb) (fun _ => rfl)).view.read (Elt F) (xG X))⟩])
        ∗ xM.view.loc (c : Thread nD τ) ↦[(xM.slice (Rect.unit (s := S32768x2048) (k0_off2 i) S128x2048.size inb) (fun _ => rfl)).view.set]{fullShare} xG X) : sProp 𝕄)
      = flight0 c X b := by
  have key : ∀ (off : Fin 2 → ℕ) (hoff : off = ![1024 * b.val + 128 * 0, 0]) (inb : ∀ a, off a + S128x2048.size a ≤ S32768x2048.size a),
      (Transfers.Flight countersEmb (c : Thread nD τ) (SemLoc.dma ((cc0_scratch2.slice (Rect.unit (s := S8) ![0] S1.size inb_S8_S1_0)).squeeze S_ squeezes_S1_S_).sem) () 32768
        iprop(held c xc0 (xc0.view.writes (Elt F) G [⟨Rect.whole S128x2048,
            (xM.slice (Rect.unit (s := S32768x2048) off S128x2048.size inb) (fun _ => rfl)).view.read (Elt F) (xG X)⟩])
          ∗ held c (xM.slice (Rect.unit (s := S32768x2048) off S128x2048.size inb) (fun _ => rfl)) (xG X)) : sProp 𝕄)
        = flight0 c X b := by
    intro off hoff inb
    rw [landed c xc0 G (xbG (rows X b)) _ (chunk_read X b 0 off inb hoff)]
    subst hoff
    rfl
  exact key _ (src0 i b hb) inb
/-- Chunk 1 of block `b` in flight: its end hands back the chunk at the block's rows and the rows it was copied from. -/
def flight1 (c : Dev nD) (X : Vec F S32768x2048 .f32) (b : Fin 32) : sProp 𝕄 :=
  Transfers.Flight countersEmb (c : Thread nD τ) (SemLoc.dma ((cc0_scratch2.slice (Rect.unit (s := S8) ![1] S1.size inb_S8_S1_1)).squeeze S_ squeezes_S1_S_).sem) () 32768
    iprop(held c xc1 (xbG (rows X b)) ∗ held c (xs b 1) (xG X))
/-- The rows the body's copy of chunk 1 reads are the block's. -/
theorem src1 (i : grid0.Coords) (b : Fin 32) (hb : b.val = (i 0).val + 1) : k0_off3 i = ![1024 * b.val + 128 * 1, 0] := by
  rw [(closed3 i).2, hb]; exact congrArg (fun n => (![n, 0] : Fin 2 → ℕ)) (by omega)
/-- The same, of the sliced array. -/
theorem srcM1 (i : grid0.Coords) (b : Fin 32) (hb : b.val = (i 0).val + 1) (inb) :
    xM.slice (Rect.unit (s := S32768x2048) (k0_off3 i) S128x2048.size inb) (fun _ => rfl) = xs b 1 :=
  Memref.slice_unit_congr _ (src1 i b hb) _ _ _ _
/-- What the body's issue of chunk 1 leaves is the flight. -/
theorem flight1_eq (c : Dev nD) (i : grid0.Coords) (X : Vec F S32768x2048 .f32) (b : Fin 32) (hb : b.val = (i 0).val + 1) (h3 : last i) (h4 : more i)
    (G : xbM.view.ty.Contents (Elt F)) (inb) :
    (Transfers.Flight countersEmb (c : Thread nD τ) (SemLoc.dma ((cc0_scratch2.slice (Rect.unit (s := S8) ![1] S1.size inb_S8_S1_1)).squeeze S_ squeezes_S1_S_).sem) () 32768
      iprop((xc1.view.loc (c : Thread nD τ) ↦[xc1.view.set]{fullShare} xc1.view.writes (Elt F) G [⟨Rect.whole S128x2048,
          ReadAs.same.apply ((xM.slice (Rect.unit (s := S32768x2048) (k0_off3 i) S128x2048.size inb) (fun _ => rfl)).view.read (Elt F) (xG X))⟩])
        ∗ xM.view.loc (c : Thread nD τ) ↦[(xM.slice (Rect.unit (s := S32768x2048) (k0_off3 i) S128x2048.size inb) (fun _ => rfl)).view.set]{fullShare} xG X) : sProp 𝕄)
      = flight1 c X b := by
  have key : ∀ (off : Fin 2 → ℕ) (hoff : off = ![1024 * b.val + 128 * 1, 0]) (inb : ∀ a, off a + S128x2048.size a ≤ S32768x2048.size a),
      (Transfers.Flight countersEmb (c : Thread nD τ) (SemLoc.dma ((cc0_scratch2.slice (Rect.unit (s := S8) ![1] S1.size inb_S8_S1_1)).squeeze S_ squeezes_S1_S_).sem) () 32768
        iprop(held c xc1 (xc1.view.writes (Elt F) G [⟨Rect.whole S128x2048,
            (xM.slice (Rect.unit (s := S32768x2048) off S128x2048.size inb) (fun _ => rfl)).view.read (Elt F) (xG X)⟩])
          ∗ held c (xM.slice (Rect.unit (s := S32768x2048) off S128x2048.size inb) (fun _ => rfl)) (xG X)) : sProp 𝕄)
        = flight1 c X b := by
    intro off hoff inb
    rw [landed c xc1 G (xbG (rows X b)) _ (chunk_read X b 1 off inb hoff)]
    subst hoff
    rfl
  exact key _ (src1 i b hb) inb
/-- Chunk 2 of block `b` in flight: its end hands back the chunk at the block's rows and the rows it was copied from. -/
def flight2 (c : Dev nD) (X : Vec F S32768x2048 .f32) (b : Fin 32) : sProp 𝕄 :=
  Transfers.Flight countersEmb (c : Thread nD τ) (SemLoc.dma ((cc0_scratch2.slice (Rect.unit (s := S8) ![2] S1.size inb_S8_S1_2)).squeeze S_ squeezes_S1_S_).sem) () 32768
    iprop(held c xc2 (xbG (rows X b)) ∗ held c (xs b 2) (xG X))
/-- The rows the body's copy of chunk 2 reads are the block's. -/
theorem src2 (i : grid0.Coords) (b : Fin 32) (hb : b.val = (i 0).val + 1) : k0_off4 i = ![1024 * b.val + 128 * 2, 0] := by
  rw [(closed4 i).2, hb]; exact congrArg (fun n => (![n, 0] : Fin 2 → ℕ)) (by omega)
/-- The same, of the sliced array. -/
theorem srcM2 (i : grid0.Coords) (b : Fin 32) (hb : b.val = (i 0).val + 1) (inb) :
    xM.slice (Rect.unit (s := S32768x2048) (k0_off4 i) S128x2048.size inb) (fun _ => rfl) = xs b 2 :=
  Memref.slice_unit_congr _ (src2 i b hb) _ _ _ _
/-- What the body's issue of chunk 2 leaves is the flight. -/
theorem flight2_eq (c : Dev nD) (i : grid0.Coords) (X : Vec F S32768x2048 .f32) (b : Fin 32) (hb : b.val = (i 0).val + 1) (h3 : last i) (h4 : more i)
    (G : xbM.view.ty.Contents (Elt F)) (inb) :
    (Transfers.Flight countersEmb (c : Thread nD τ) (SemLoc.dma ((cc0_scratch2.slice (Rect.unit (s := S8) ![2] S1.size inb_S8_S1_2)).squeeze S_ squeezes_S1_S_).sem) () 32768
      iprop((xc2.view.loc (c : Thread nD τ) ↦[xc2.view.set]{fullShare} xc2.view.writes (Elt F) G [⟨Rect.whole S128x2048,
          ReadAs.same.apply ((xM.slice (Rect.unit (s := S32768x2048) (k0_off4 i) S128x2048.size inb) (fun _ => rfl)).view.read (Elt F) (xG X))⟩])
        ∗ xM.view.loc (c : Thread nD τ) ↦[(xM.slice (Rect.unit (s := S32768x2048) (k0_off4 i) S128x2048.size inb) (fun _ => rfl)).view.set]{fullShare} xG X) : sProp 𝕄)
      = flight2 c X b := by
  have key : ∀ (off : Fin 2 → ℕ) (hoff : off = ![1024 * b.val + 128 * 2, 0]) (inb : ∀ a, off a + S128x2048.size a ≤ S32768x2048.size a),
      (Transfers.Flight countersEmb (c : Thread nD τ) (SemLoc.dma ((cc0_scratch2.slice (Rect.unit (s := S8) ![2] S1.size inb_S8_S1_2)).squeeze S_ squeezes_S1_S_).sem) () 32768
        iprop(held c xc2 (xc2.view.writes (Elt F) G [⟨Rect.whole S128x2048,
            (xM.slice (Rect.unit (s := S32768x2048) off S128x2048.size inb) (fun _ => rfl)).view.read (Elt F) (xG X)⟩])
          ∗ held c (xM.slice (Rect.unit (s := S32768x2048) off S128x2048.size inb) (fun _ => rfl)) (xG X)) : sProp 𝕄)
        = flight2 c X b := by
    intro off hoff inb
    rw [landed c xc2 G (xbG (rows X b)) _ (chunk_read X b 2 off inb hoff)]
    subst hoff
    rfl
  exact key _ (src2 i b hb) inb
/-- Chunk 3 of block `b` in flight: its end hands back the chunk at the block's rows and the rows it was copied from. -/
def flight3 (c : Dev nD) (X : Vec F S32768x2048 .f32) (b : Fin 32) : sProp 𝕄 :=
  Transfers.Flight countersEmb (c : Thread nD τ) (SemLoc.dma ((cc0_scratch2.slice (Rect.unit (s := S8) ![3] S1.size inb_S8_S1_3)).squeeze S_ squeezes_S1_S_).sem) () 32768
    iprop(held c xc3 (xbG (rows X b)) ∗ held c (xs b 3) (xG X))
/-- The rows the body's copy of chunk 3 reads are the block's. -/
theorem src3 (i : grid0.Coords) (b : Fin 32) (hb : b.val = (i 0).val + 1) : k0_off5 i = ![1024 * b.val + 128 * 3, 0] := by
  rw [(closed5 i).2, hb]; exact congrArg (fun n => (![n, 0] : Fin 2 → ℕ)) (by omega)
/-- The same, of the sliced array. -/
theorem srcM3 (i : grid0.Coords) (b : Fin 32) (hb : b.val = (i 0).val + 1) (inb) :
    xM.slice (Rect.unit (s := S32768x2048) (k0_off5 i) S128x2048.size inb) (fun _ => rfl) = xs b 3 :=
  Memref.slice_unit_congr _ (src3 i b hb) _ _ _ _
/-- What the body's issue of chunk 3 leaves is the flight. -/
theorem flight3_eq (c : Dev nD) (i : grid0.Coords) (X : Vec F S32768x2048 .f32) (b : Fin 32) (hb : b.val = (i 0).val + 1) (h3 : last i) (h4 : more i)
    (G : xbM.view.ty.Contents (Elt F)) (inb) :
    (Transfers.Flight countersEmb (c : Thread nD τ) (SemLoc.dma ((cc0_scratch2.slice (Rect.unit (s := S8) ![3] S1.size inb_S8_S1_3)).squeeze S_ squeezes_S1_S_).sem) () 32768
      iprop((xc3.view.loc (c : Thread nD τ) ↦[xc3.view.set]{fullShare} xc3.view.writes (Elt F) G [⟨Rect.whole S128x2048,
          ReadAs.same.apply ((xM.slice (Rect.unit (s := S32768x2048) (k0_off5 i) S128x2048.size inb) (fun _ => rfl)).view.read (Elt F) (xG X))⟩])
        ∗ xM.view.loc (c : Thread nD τ) ↦[(xM.slice (Rect.unit (s := S32768x2048) (k0_off5 i) S128x2048.size inb) (fun _ => rfl)).view.set]{fullShare} xG X) : sProp 𝕄)
      = flight3 c X b := by
  have key : ∀ (off : Fin 2 → ℕ) (hoff : off = ![1024 * b.val + 128 * 3, 0]) (inb : ∀ a, off a + S128x2048.size a ≤ S32768x2048.size a),
      (Transfers.Flight countersEmb (c : Thread nD τ) (SemLoc.dma ((cc0_scratch2.slice (Rect.unit (s := S8) ![3] S1.size inb_S8_S1_3)).squeeze S_ squeezes_S1_S_).sem) () 32768
        iprop(held c xc3 (xc3.view.writes (Elt F) G [⟨Rect.whole S128x2048,
            (xM.slice (Rect.unit (s := S32768x2048) off S128x2048.size inb) (fun _ => rfl)).view.read (Elt F) (xG X)⟩])
          ∗ held c (xM.slice (Rect.unit (s := S32768x2048) off S128x2048.size inb) (fun _ => rfl)) (xG X)) : sProp 𝕄)
        = flight3 c X b := by
    intro off hoff inb
    rw [landed c xc3 G (xbG (rows X b)) _ (chunk_read X b 3 off inb hoff)]
    subst hoff
    rfl
  exact key _ (src3 i b hb) inb
/-- Chunk 4 of block `b` in flight: its end hands back the chunk at the block's rows and the rows it was copied from. -/
def flight4 (c : Dev nD) (X : Vec F S32768x2048 .f32) (b : Fin 32) : sProp 𝕄 :=
  Transfers.Flight countersEmb (c : Thread nD τ) (SemLoc.dma ((cc0_scratch2.slice (Rect.unit (s := S8) ![4] S1.size inb_S8_S1_4)).squeeze S_ squeezes_S1_S_).sem) () 32768
    iprop(held c xc4 (xbG (rows X b)) ∗ held c (xs b 4) (xG X))
/-- The rows the body's copy of chunk 4 reads are the block's. -/
theorem src4 (i : grid0.Coords) (b : Fin 32) (hb : b.val = (i 0).val + 1) : k0_off6 i = ![1024 * b.val + 128 * 4, 0] := by
  rw [(closed6 i).2, hb]; exact congrArg (fun n => (![n, 0] : Fin 2 → ℕ)) (by omega)
/-- The same, of the sliced array. -/
theorem srcM4 (i : grid0.Coords) (b : Fin 32) (hb : b.val = (i 0).val + 1) (inb) :
    xM.slice (Rect.unit (s := S32768x2048) (k0_off6 i) S128x2048.size inb) (fun _ => rfl) = xs b 4 :=
  Memref.slice_unit_congr _ (src4 i b hb) _ _ _ _
/-- What the body's issue of chunk 4 leaves is the flight. -/
theorem flight4_eq (c : Dev nD) (i : grid0.Coords) (X : Vec F S32768x2048 .f32) (b : Fin 32) (hb : b.val = (i 0).val + 1) (h3 : last i) (h4 : more i)
    (G : xbM.view.ty.Contents (Elt F)) (inb) :
    (Transfers.Flight countersEmb (c : Thread nD τ) (SemLoc.dma ((cc0_scratch2.slice (Rect.unit (s := S8) ![4] S1.size inb_S8_S1_4)).squeeze S_ squeezes_S1_S_).sem) () 32768
      iprop((xc4.view.loc (c : Thread nD τ) ↦[xc4.view.set]{fullShare} xc4.view.writes (Elt F) G [⟨Rect.whole S128x2048,
          ReadAs.same.apply ((xM.slice (Rect.unit (s := S32768x2048) (k0_off6 i) S128x2048.size inb) (fun _ => rfl)).view.read (Elt F) (xG X))⟩])
        ∗ xM.view.loc (c : Thread nD τ) ↦[(xM.slice (Rect.unit (s := S32768x2048) (k0_off6 i) S128x2048.size inb) (fun _ => rfl)).view.set]{fullShare} xG X) : sProp 𝕄)
      = flight4 c X b := by
  have key : ∀ (off : Fin 2 → ℕ) (hoff : off = ![1024 * b.val + 128 * 4, 0]) (inb : ∀ a, off a + S128x2048.size a ≤ S32768x2048.size a),
      (Transfers.Flight countersEmb (c : Thread nD τ) (SemLoc.dma ((cc0_scratch2.slice (Rect.unit (s := S8) ![4] S1.size inb_S8_S1_4)).squeeze S_ squeezes_S1_S_).sem) () 32768
        iprop(held c xc4 (xc4.view.writes (Elt F) G [⟨Rect.whole S128x2048,
            (xM.slice (Rect.unit (s := S32768x2048) off S128x2048.size inb) (fun _ => rfl)).view.read (Elt F) (xG X)⟩])
          ∗ held c (xM.slice (Rect.unit (s := S32768x2048) off S128x2048.size inb) (fun _ => rfl)) (xG X)) : sProp 𝕄)
        = flight4 c X b := by
    intro off hoff inb
    rw [landed c xc4 G (xbG (rows X b)) _ (chunk_read X b 4 off inb hoff)]
    subst hoff
    rfl
  exact key _ (src4 i b hb) inb
/-- Chunk 5 of block `b` in flight: its end hands back the chunk at the block's rows and the rows it was copied from. -/
def flight5 (c : Dev nD) (X : Vec F S32768x2048 .f32) (b : Fin 32) : sProp 𝕄 :=
  Transfers.Flight countersEmb (c : Thread nD τ) (SemLoc.dma ((cc0_scratch2.slice (Rect.unit (s := S8) ![5] S1.size inb_S8_S1_5)).squeeze S_ squeezes_S1_S_).sem) () 32768
    iprop(held c xc5 (xbG (rows X b)) ∗ held c (xs b 5) (xG X))
/-- The rows the body's copy of chunk 5 reads are the block's. -/
theorem src5 (i : grid0.Coords) (b : Fin 32) (hb : b.val = (i 0).val + 1) : k0_off7 i = ![1024 * b.val + 128 * 5, 0] := by
  rw [(closed7 i).2, hb]; exact congrArg (fun n => (![n, 0] : Fin 2 → ℕ)) (by omega)
/-- The same, of the sliced array. -/
theorem srcM5 (i : grid0.Coords) (b : Fin 32) (hb : b.val = (i 0).val + 1) (inb) :
    xM.slice (Rect.unit (s := S32768x2048) (k0_off7 i) S128x2048.size inb) (fun _ => rfl) = xs b 5 :=
  Memref.slice_unit_congr _ (src5 i b hb) _ _ _ _
/-- What the body's issue of chunk 5 leaves is the flight. -/
theorem flight5_eq (c : Dev nD) (i : grid0.Coords) (X : Vec F S32768x2048 .f32) (b : Fin 32) (hb : b.val = (i 0).val + 1) (h3 : last i) (h4 : more i)
    (G : xbM.view.ty.Contents (Elt F)) (inb) :
    (Transfers.Flight countersEmb (c : Thread nD τ) (SemLoc.dma ((cc0_scratch2.slice (Rect.unit (s := S8) ![5] S1.size inb_S8_S1_5)).squeeze S_ squeezes_S1_S_).sem) () 32768
      iprop((xc5.view.loc (c : Thread nD τ) ↦[xc5.view.set]{fullShare} xc5.view.writes (Elt F) G [⟨Rect.whole S128x2048,
          ReadAs.same.apply ((xM.slice (Rect.unit (s := S32768x2048) (k0_off7 i) S128x2048.size inb) (fun _ => rfl)).view.read (Elt F) (xG X))⟩])
        ∗ xM.view.loc (c : Thread nD τ) ↦[(xM.slice (Rect.unit (s := S32768x2048) (k0_off7 i) S128x2048.size inb) (fun _ => rfl)).view.set]{fullShare} xG X) : sProp 𝕄)
      = flight5 c X b := by
  have key : ∀ (off : Fin 2 → ℕ) (hoff : off = ![1024 * b.val + 128 * 5, 0]) (inb : ∀ a, off a + S128x2048.size a ≤ S32768x2048.size a),
      (Transfers.Flight countersEmb (c : Thread nD τ) (SemLoc.dma ((cc0_scratch2.slice (Rect.unit (s := S8) ![5] S1.size inb_S8_S1_5)).squeeze S_ squeezes_S1_S_).sem) () 32768
        iprop(held c xc5 (xc5.view.writes (Elt F) G [⟨Rect.whole S128x2048,
            (xM.slice (Rect.unit (s := S32768x2048) off S128x2048.size inb) (fun _ => rfl)).view.read (Elt F) (xG X)⟩])
          ∗ held c (xM.slice (Rect.unit (s := S32768x2048) off S128x2048.size inb) (fun _ => rfl)) (xG X)) : sProp 𝕄)
        = flight5 c X b := by
    intro off hoff inb
    rw [landed c xc5 G (xbG (rows X b)) _ (chunk_read X b 5 off inb hoff)]
    subst hoff
    rfl
  exact key _ (src5 i b hb) inb
/-- Chunk 6 of block `b` in flight: its end hands back the chunk at the block's rows and the rows it was copied from. -/
def flight6 (c : Dev nD) (X : Vec F S32768x2048 .f32) (b : Fin 32) : sProp 𝕄 :=
  Transfers.Flight countersEmb (c : Thread nD τ) (SemLoc.dma ((cc0_scratch2.slice (Rect.unit (s := S8) ![6] S1.size inb_S8_S1_6)).squeeze S_ squeezes_S1_S_).sem) () 32768
    iprop(held c xc6 (xbG (rows X b)) ∗ held c (xs b 6) (xG X))
/-- The rows the body's copy of chunk 6 reads are the block's. -/
theorem src6 (i : grid0.Coords) (b : Fin 32) (hb : b.val = (i 0).val + 1) : k0_off8 i = ![1024 * b.val + 128 * 6, 0] := by
  rw [(closed8 i).2, hb]; exact congrArg (fun n => (![n, 0] : Fin 2 → ℕ)) (by omega)
/-- The same, of the sliced array. -/
theorem srcM6 (i : grid0.Coords) (b : Fin 32) (hb : b.val = (i 0).val + 1) (inb) :
    xM.slice (Rect.unit (s := S32768x2048) (k0_off8 i) S128x2048.size inb) (fun _ => rfl) = xs b 6 :=
  Memref.slice_unit_congr _ (src6 i b hb) _ _ _ _
/-- What the body's issue of chunk 6 leaves is the flight. -/
theorem flight6_eq (c : Dev nD) (i : grid0.Coords) (X : Vec F S32768x2048 .f32) (b : Fin 32) (hb : b.val = (i 0).val + 1) (h3 : last i) (h4 : more i)
    (G : xbM.view.ty.Contents (Elt F)) (inb) :
    (Transfers.Flight countersEmb (c : Thread nD τ) (SemLoc.dma ((cc0_scratch2.slice (Rect.unit (s := S8) ![6] S1.size inb_S8_S1_6)).squeeze S_ squeezes_S1_S_).sem) () 32768
      iprop((xc6.view.loc (c : Thread nD τ) ↦[xc6.view.set]{fullShare} xc6.view.writes (Elt F) G [⟨Rect.whole S128x2048,
          ReadAs.same.apply ((xM.slice (Rect.unit (s := S32768x2048) (k0_off8 i) S128x2048.size inb) (fun _ => rfl)).view.read (Elt F) (xG X))⟩])
        ∗ xM.view.loc (c : Thread nD τ) ↦[(xM.slice (Rect.unit (s := S32768x2048) (k0_off8 i) S128x2048.size inb) (fun _ => rfl)).view.set]{fullShare} xG X) : sProp 𝕄)
      = flight6 c X b := by
  have key : ∀ (off : Fin 2 → ℕ) (hoff : off = ![1024 * b.val + 128 * 6, 0]) (inb : ∀ a, off a + S128x2048.size a ≤ S32768x2048.size a),
      (Transfers.Flight countersEmb (c : Thread nD τ) (SemLoc.dma ((cc0_scratch2.slice (Rect.unit (s := S8) ![6] S1.size inb_S8_S1_6)).squeeze S_ squeezes_S1_S_).sem) () 32768
        iprop(held c xc6 (xc6.view.writes (Elt F) G [⟨Rect.whole S128x2048,
            (xM.slice (Rect.unit (s := S32768x2048) off S128x2048.size inb) (fun _ => rfl)).view.read (Elt F) (xG X)⟩])
          ∗ held c (xM.slice (Rect.unit (s := S32768x2048) off S128x2048.size inb) (fun _ => rfl)) (xG X)) : sProp 𝕄)
        = flight6 c X b := by
    intro off hoff inb
    rw [landed c xc6 G (xbG (rows X b)) _ (chunk_read X b 6 off inb hoff)]
    subst hoff
    rfl
  exact key _ (src6 i b hb) inb
/-- Chunk 7 of block `b` in flight: its end hands back the chunk at the block's rows and the rows it was copied from. -/
def flight7 (c : Dev nD) (X : Vec F S32768x2048 .f32) (b : Fin 32) : sProp 𝕄 :=
  Transfers.Flight countersEmb (c : Thread nD τ) (SemLoc.dma ((cc0_scratch2.slice (Rect.unit (s := S8) ![7] S1.size inb_S8_S1_7)).squeeze S_ squeezes_S1_S_).sem) () 32768
    iprop(held c xc7 (xbG (rows X b)) ∗ held c (xs b 7) (xG X))
/-- The rows the body's copy of chunk 7 reads are the block's. -/
theorem src7 (i : grid0.Coords) (b : Fin 32) (hb : b.val = (i 0).val + 1) : k0_off9 i = ![1024 * b.val + 128 * 7, 0] := by
  rw [(closed9 i).2, hb]; exact congrArg (fun n => (![n, 0] : Fin 2 → ℕ)) (by omega)
/-- The same, of the sliced array. -/
theorem srcM7 (i : grid0.Coords) (b : Fin 32) (hb : b.val = (i 0).val + 1) (inb) :
    xM.slice (Rect.unit (s := S32768x2048) (k0_off9 i) S128x2048.size inb) (fun _ => rfl) = xs b 7 :=
  Memref.slice_unit_congr _ (src7 i b hb) _ _ _ _
/-- What the body's issue of chunk 7 leaves is the flight. -/
theorem flight7_eq (c : Dev nD) (i : grid0.Coords) (X : Vec F S32768x2048 .f32) (b : Fin 32) (hb : b.val = (i 0).val + 1) (h3 : last i) (h4 : more i)
    (G : xbM.view.ty.Contents (Elt F)) (inb) :
    (Transfers.Flight countersEmb (c : Thread nD τ) (SemLoc.dma ((cc0_scratch2.slice (Rect.unit (s := S8) ![7] S1.size inb_S8_S1_7)).squeeze S_ squeezes_S1_S_).sem) () 32768
      iprop((xc7.view.loc (c : Thread nD τ) ↦[xc7.view.set]{fullShare} xc7.view.writes (Elt F) G [⟨Rect.whole S128x2048,
          ReadAs.same.apply ((xM.slice (Rect.unit (s := S32768x2048) (k0_off9 i) S128x2048.size inb) (fun _ => rfl)).view.read (Elt F) (xG X))⟩])
        ∗ xM.view.loc (c : Thread nD τ) ↦[(xM.slice (Rect.unit (s := S32768x2048) (k0_off9 i) S128x2048.size inb) (fun _ => rfl)).view.set]{fullShare} xG X) : sProp 𝕄)
      = flight7 c X b := by
  have key : ∀ (off : Fin 2 → ℕ) (hoff : off = ![1024 * b.val + 128 * 7, 0]) (inb : ∀ a, off a + S128x2048.size a ≤ S32768x2048.size a),
      (Transfers.Flight countersEmb (c : Thread nD τ) (SemLoc.dma ((cc0_scratch2.slice (Rect.unit (s := S8) ![7] S1.size inb_S8_S1_7)).squeeze S_ squeezes_S1_S_).sem) () 32768
        iprop(held c xc7 (xc7.view.writes (Elt F) G [⟨Rect.whole S128x2048,
            (xM.slice (Rect.unit (s := S32768x2048) off S128x2048.size inb) (fun _ => rfl)).view.read (Elt F) (xG X)⟩])
          ∗ held c (xM.slice (Rect.unit (s := S32768x2048) off S128x2048.size inb) (fun _ => rfl)) (xG X)) : sProp 𝕄)
        = flight7 c X b := by
    intro off hoff inb
    rw [landed c xc7 G (xbG (rows X b)) _ (chunk_read X b 7 off inb hoff)]
    subst hoff
    rfl
  exact key _ (src7 i b hb) inb
/-- The array's elements the body's eight issues leave are those outside the block. -/
theorem rest_eq (c : Dev nD) (i : grid0.Coords) (X : Vec F S32768x2048 .f32) (b : Fin 32) (hb : b.val = (i 0).val + 1) (h3 : last i) (h4 : more i)
    (n0) (n1) (n2) (n3) (n4) (n5) (n6) (n7) :
    (xM.view.loc (c : Thread nD τ) ↦[((((((((xM.view.set \ (xM.slice (Rect.unit (s := S32768x2048) (k0_off2 i) S128x2048.size n0) (fun _ => rfl)).view.set) \ (xM.slice (Rect.unit (s := S32768x2048) (k0_off3 i) S128x2048.size n1) (fun _ => rfl)).view.set) \ (xM.slice (Rect.unit (s := S32768x2048) (k0_off4 i) S128x2048.size n2) (fun _ => rfl)).view.set) \ (xM.slice (Rect.unit (s := S32768x2048) (k0_off5 i) S128x2048.size n3) (fun _ => rfl)).view.set) \ (xM.slice (Rect.unit (s := S32768x2048) (k0_off6 i) S128x2048.size n4) (fun _ => rfl)).view.set) \ (xM.slice (Rect.unit (s := S32768x2048) (k0_off7 i) S128x2048.size n5) (fun _ => rfl)).view.set) \ (xM.slice (Rect.unit (s := S32768x2048) (k0_off8 i) S128x2048.size n6) (fun _ => rfl)).view.set) \ (xM.slice (Rect.unit (s := S32768x2048) (k0_off9 i) S128x2048.size n7) (fun _ => rfl)).view.set)]{fullShare} xG X : sProp 𝕄)
      = rest c X b := by
  have key : ∀ (o0 o1 o2 o3 o4 o5 o6 o7 : Fin 2 → ℕ) (h0 : o0 = ![1024 * b.val + 128 * 0, 0]) (h1 : o1 = ![1024 * b.val + 128 * 1, 0]) (h2 : o2 = ![1024 * b.val + 128 * 2, 0]) (h3 : o3 = ![1024 * b.val + 128 * 3, 0]) (h4 : o4 = ![1024 * b.val + 128 * 4, 0]) (h5 : o5 = ![1024 * b.val + 128 * 5, 0]) (h6 : o6 = ![1024 * b.val + 128 * 6, 0]) (h7 : o7 = ![1024 * b.val + 128 * 7, 0])
      (n0 : ∀ a, o0 a + S128x2048.size a ≤ S32768x2048.size a) (n1 : ∀ a, o1 a + S128x2048.size a ≤ S32768x2048.size a) (n2 : ∀ a, o2 a + S128x2048.size a ≤ S32768x2048.size a) (n3 : ∀ a, o3 a + S128x2048.size a ≤ S32768x2048.size a) (n4 : ∀ a, o4 a + S128x2048.size a ≤ S32768x2048.size a) (n5 : ∀ a, o5 a + S128x2048.size a ≤ S32768x2048.size a) (n6 : ∀ a, o6 a + S128x2048.size a ≤ S32768x2048.size a) (n7 : ∀ a, o7 a + S128x2048.size a ≤ S32768x2048.size a),
      (xM.view.loc (c : Thread nD τ) ↦[((((((((xM.view.set \ (xM.slice (Rect.unit (s := S32768x2048) o0 S128x2048.size n0) (fun _ => rfl)).view.set) \ (xM.slice (Rect.unit (s := S32768x2048) o1 S128x2048.size n1) (fun _ => rfl)).view.set) \ (xM.slice (Rect.unit (s := S32768x2048) o2 S128x2048.size n2) (fun _ => rfl)).view.set) \ (xM.slice (Rect.unit (s := S32768x2048) o3 S128x2048.size n3) (fun _ => rfl)).view.set) \ (xM.slice (Rect.unit (s := S32768x2048) o4 S128x2048.size n4) (fun _ => rfl)).view.set) \ (xM.slice (Rect.unit (s := S32768x2048) o5 S128x2048.size n5) (fun _ => rfl)).view.set) \ (xM.slice (Rect.unit (s := S32768x2048) o6 S128x2048.size n6) (fun _ => rfl)).view.set) \ (xM.slice (Rect.unit (s := S32768x2048) o7 S128x2048.size n7) (fun _ => rfl)).view.set)]{fullShare} xG X : sProp 𝕄) = rest c X b := by
    intro o0 o1 o2 o3 o4 o5 o6 o7 h0 h1 h2 h3 h4 h5 h6 h7 n0 n1 n2 n3 n4 n5 n6 n7
    subst h0; subst h1; subst h2; subst h3; subst h4; subst h5; subst h6; subst h7
    rfl
  exact key _ _ _ _ _ _ _ _ (src0 i b hb) (src1 i b hb) (src2 i b hb) (src3 i b hb) (src4 i b hb) (src5 i b hb) (src6 i b hb) (src7 i b hb) _ _ _ _ _ _ _ _

end Cert.Kernel2Ideal.Mlp

end
-- ==== Proof.Kernel2Ideal.RunB.lean ====
module

public import proofs.«01_k».proof.Proof.Kernel2Ideal.Flights

@[expose] public section

set_option maxRecDepth 16384

noncomputable section

namespace Cert.Kernel2Ideal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

set_option maxHeartbeats 12000000 in
/-- The stores of one run of the body, and the run: at the first step of a later row block, which waits for the chunks in flight. -/
noncomputable def runB (c : Dev nD) (i : grid0.Coords) (b : Fin 32) (arg3 : Memref sig .tc .vmem S1x2048 .f32) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x2048 .f32) (harg7 : arg7.IsWhole)
    (h1 : first i) (h2 : ¬start i) (h3 : ¬last i)
    (x0 : Vec F S1x2048 .f32) (x1 : Vec F S2048x1024 .bf16) (x2 : Vec F S1024x2048 .bf16) (x3 : Vec F S1x2048 .f32) (X : Vec F S32768x2048 .f32) :
    (L7 : List (View.Piece (Elt F) S1024x2048 .f32)) ×' { LH : List (View.Piece (Elt F) S1024x2048 .bf16) //
      ∀ (W) (K : PUnit → sProp 𝕄),
        iprop(owns (c : Thread nD τ) arg3 fullShare x0
          ∗ owns (c : Thread nD τ) arg4 fullShare x1
          ∗ owns (c : Thread nD τ) arg5 fullShare x2
          ∗ owns (c : Thread nD τ) arg6 fullShare x3
          ∗ (∃ d, owns (c : Thread nD τ) arg7 fullShare d)
          ∗ (∃ d, owns (c : Thread nD τ) hM fullShare d)
          ∗ flight0 c X b
          ∗ flight1 c X b
          ∗ flight2 c X b
          ∗ flight3 c X b
          ∗ flight4 c X b
          ∗ flight5 c X b
          ∗ flight6 c X b
          ∗ flight7 c X b
          ∗ rest c X b
          ∗ owes (c : Thread nD τ) 0 W
          ∗ (iprop(owns (c : Thread nD τ) arg3 fullShare x0
          ∗ owns (c : Thread nD τ) arg4 fullShare x1
          ∗ owns (c : Thread nD τ) arg5 fullShare x2
          ∗ owns (c : Thread nD τ) arg6 fullShare x3
          ∗ (∃ f, arg7.view.loc (c : Thread nD τ) ↦[arg7.view.set]{fullShare} arg7.view.writes (Elt F) f L7)
          ∗ (∃ f, hM.view.loc (c : Thread nD τ) ↦[hM.view.set]{fullShare} hM.view.writes (Elt F) f LH)
          ∗ held c xbM (xbG (rows X b))
          ∗ held c xM (xG X)
          ∗ cell0 c
          ∗ cell1 c
          ∗ cell2 c
          ∗ cell3 c
          ∗ cell4 c
          ∗ cell5 c
          ∗ cell6 c
          ∗ cell7 c
          ∗ (∃ W', owes (c : Thread nD τ) 0 W')) -∗ K ⟨⟩))
          ⊢ wp frame (wpE (defs₀ (F := F)) Variants.none c none) Set.univ (cc0_mlp i xM (Memref.isWhole_whole _) arg3 harg3 arg4 harg4 arg5 harg5 arg6 harg6 arg7 harg7 hM (Memref.isWhole_whole _) xbM (Memref.isWhole_whole _) cc0_scratch2) K } := by
  refine ⟨?_, ?_, fun W K => ?run⟩
  case run =>
    simp only [cc0_mlp_eq_skeleton]; unfold cc0_mlp_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns flight0 flight1 flight2 flight3 flight4 flight5 flight6 flight7 held
    iintro ⟨⟨%farg3, %hfarg3, Harg3⟩, ⟨%farg4, %hfarg4, Harg4⟩, ⟨%farg5, %hfarg5, Harg5⟩, ⟨%farg6, %hfarg6, Harg6⟩, ⟨%d7, %farg7, -, Harg7⟩, ⟨%d8, %farg8, -, Harg8⟩, Hc0, Hc1, Hc2, Hc3, Hc4, Hc5, Hc6, Hc7, HR, HW, Hk⟩
    obtain rfl := harg3.eq_unread hfarg3; obtain rfl := harg4.eq_unread hfarg4; obtain rfl := harg5.eq_unread hfarg5; obtain rfl := harg6.eq_unread hfarg6
    sl_exec (disch := first | sl_exact h1 | sl_exact h2 | sl_exact h3)
    ihave HB := (Entails.of_eq (pieces c (xbG (rows X b))).symm) $$ [Hc0_dst Hc1_dst Hc2_dst Hc3_dst Hc4_dst Hc5_dst Hc6_dst Hc7_dst]
    · unfold held
      isplitl [Hc0_dst]
      · iexact Hc0_dst
      isplitl [Hc1_dst]
      · iexact Hc1_dst
      isplitl [Hc2_dst]
      · iexact Hc2_dst
      isplitl [Hc3_dst]
      · iexact Hc3_dst
      isplitl [Hc4_dst]
      · iexact Hc4_dst
      isplitl [Hc5_dst]
      · iexact Hc5_dst
      isplitl [Hc6_dst]
      · iexact Hc6_dst
      iexact Hc7_dst
    ihave HX := (array_eq c X b).2 $$ [Hc0_src Hc1_src Hc2_src Hc3_src Hc4_src Hc5_src Hc6_src Hc7_src HR]
    · isplitl [Hc0_src Hc1_src Hc2_src Hc3_src Hc4_src Hc5_src Hc6_src Hc7_src]
      · unfold held
        isplitl [Hc0_src]
        · iexact Hc0_src
        isplitl [Hc1_src]
        · iexact Hc1_src
        isplitl [Hc2_src]
        · iexact Hc2_src
        isplitl [Hc3_src]
        · iexact Hc3_src
        isplitl [Hc4_src]
        · iexact Hc4_src
        isplitl [Hc5_src]
        · iexact Hc5_src
        isplitl [Hc6_src]
        · iexact Hc6_src
        iexact Hc7_src
      iexact HR
    unfold held
    sl_exec (disch := first | sl_exact h1 | sl_exact h2 | sl_exact h3)
    sl_step
    iapply Hk
    isplitl [Harg3]
    · iexists _; isplitr; · ipureintro; exact harg3.read_unread _
      iexact Harg3
    isplitl [Harg4]
    · iexists _; isplitr; · ipureintro; exact harg4.read_unread _
      iexact Harg4
    isplitl [Harg5]
    · iexists _; isplitr; · ipureintro; exact harg5.read_unread _
      iexact Harg5
    isplitl [Harg6]
    · iexists _; isplitr; · ipureintro; exact harg6.read_unread _
      iexact Harg6
    isplitl [Harg7]; · iexists _; iexact Harg7
    isplitl [Harg8]; · iexists _; iexact Harg8
    isplitl [HB]; · iexact HB
    isplitl [HX]; · iexact HX
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    iexists _; iexact HW

end Cert.Kernel2Ideal.Mlp

end
-- ==== Proof.Kernel2Ideal.RunC.lean ====
module

public import proofs.«01_k».proof.Proof.Kernel2Ideal.Pieces

@[expose] public section

set_option maxRecDepth 16384

noncomputable section

namespace Cert.Kernel2Ideal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

set_option maxHeartbeats 6000000 in
/-- The stores of one run of the body, and the run: at a step that is neither the first nor the last of its row block. -/
noncomputable def runC (c : Dev nD) (i : grid0.Coords) (arg3 : Memref sig .tc .vmem S1x2048 .f32) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x2048 .f32) (harg7 : arg7.IsWhole)
    (h1 : ¬first i) (h3 : ¬last i)
    (x0 : Vec F S1x2048 .f32) (x1 : Vec F S2048x1024 .bf16) (x2 : Vec F S1024x2048 .bf16) (x3 : Vec F S1x2048 .f32) (o : Vec F S1024x2048 .f32) (h : Vec F S1024x2048 .bf16) :
    { L7 : List (View.Piece (Elt F) S1024x2048 .f32) //
      ∀ (K : PUnit → sProp 𝕄),
        iprop(owns (c : Thread nD τ) arg3 fullShare x0
          ∗ owns (c : Thread nD τ) arg4 fullShare x1
          ∗ owns (c : Thread nD τ) arg5 fullShare x2
          ∗ owns (c : Thread nD τ) arg6 fullShare x3
          ∗ owns (c : Thread nD τ) arg7 fullShare o
          ∗ owns (c : Thread nD τ) hM fullShare h
          ∗ (iprop(owns (c : Thread nD τ) arg3 fullShare x0
          ∗ owns (c : Thread nD τ) arg4 fullShare x1
          ∗ owns (c : Thread nD τ) arg5 fullShare x2
          ∗ owns (c : Thread nD τ) arg6 fullShare x3
          ∗ (arg7.view.loc (c : Thread nD τ) ↦[arg7.view.set]{fullShare} arg7.view.writes (Elt F) (harg7.unread o) L7)
          ∗ owns (c : Thread nD τ) hM fullShare h) -∗ K ⟨⟩))
          ⊢ wp frame (wpE (defs₀ (F := F)) Variants.none c none) Set.univ (cc0_mlp i xM (Memref.isWhole_whole _) arg3 harg3 arg4 harg4 arg5 harg5 arg6 harg6 arg7 harg7 hM (Memref.isWhole_whole _) xbM (Memref.isWhole_whole _) cc0_scratch2) K } := by
  refine ⟨?_, fun K => ?run⟩
  case run =>
    simp only [cc0_mlp_eq_skeleton]; unfold cc0_mlp_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%farg3, %hfarg3, Harg3⟩, ⟨%farg4, %hfarg4, Harg4⟩, ⟨%farg5, %hfarg5, Harg5⟩, ⟨%farg6, %hfarg6, Harg6⟩, ⟨%farg7, %hfarg7, Harg7⟩, ⟨%farg8, %hfarg8, Harg8⟩, Hk⟩
    obtain rfl := harg3.eq_unread hfarg3; obtain rfl := harg4.eq_unread hfarg4; obtain rfl := harg5.eq_unread hfarg5; obtain rfl := harg6.eq_unread hfarg6; obtain rfl := harg7.eq_unread hfarg7; obtain rfl := (Memref.isWhole_whole _).eq_unread hfarg8
    sl_exec (disch := first | sl_exact h1 | sl_exact h3)
    sl_step
    iapply Hk
    isplitl [Harg3]
    · iexists _; isplitr; · ipureintro; exact harg3.read_unread _
      iexact Harg3
    isplitl [Harg4]
    · iexists _; isplitr; · ipureintro; exact harg4.read_unread _
      iexact Harg4
    isplitl [Harg5]
    · iexists _; isplitr; · ipureintro; exact harg5.read_unread _
      iexact Harg5
    isplitl [Harg6]
    · iexists _; isplitr; · ipureintro; exact harg6.read_unread _
      iexact Harg6
    isplitl [Harg7]; · iexact Harg7
    iexists _; isplitr; · ipureintro; exact (Memref.isWhole_whole _).read_unread _
    iexact Harg8

end Cert.Kernel2Ideal.Mlp

end
-- ==== Proof.Kernel2Ideal.RunD.lean ====
module

public import proofs.«01_k».proof.Proof.Kernel2Ideal.Flights

@[expose] public section

set_option maxRecDepth 16384

noncomputable section

namespace Cert.Kernel2Ideal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

set_option maxHeartbeats 12000000 in
/-- The stores of one run of the body, and the run: at the last step of a row block that another follows, whose eight chunks are left in flight. -/
noncomputable def runD (c : Dev nD) (i : grid0.Coords) (b : Fin 32) (hb : b.val = (i 0).val + 1) (arg3 : Memref sig .tc .vmem S1x2048 .f32) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x2048 .f32) (harg7 : arg7.IsWhole)
    (h1 : ¬first i) (h3 : last i) (h4 : more i) (h5 : k0_cond5 i = 1#1) (h6 : k0_cond6 i = 1#1) (h7 : k0_cond7 i = 1#1) (h8 : k0_cond8 i = 1#1) (h9 : k0_cond9 i = 1#1) (h10 : k0_cond10 i = 1#1) (h11 : k0_cond11 i = 1#1)
    (x0 : Vec F S1x2048 .f32) (x1 : Vec F S2048x1024 .bf16) (x2 : Vec F S1024x2048 .bf16) (x3 : Vec F S1x2048 .f32) (o : Vec F S1024x2048 .f32) (h : Vec F S1024x2048 .bf16) (G : xbM.view.ty.Contents (Elt F)) (X : Vec F S32768x2048 .f32) :
    { L7 : List (View.Piece (Elt F) S1024x2048 .f32) //
      ∀ (W) (K : PUnit → sProp 𝕄),
        iprop(owns (c : Thread nD τ) arg3 fullShare x0
          ∗ owns (c : Thread nD τ) arg4 fullShare x1
          ∗ owns (c : Thread nD τ) arg5 fullShare x2
          ∗ owns (c : Thread nD τ) arg6 fullShare x3
          ∗ owns (c : Thread nD τ) arg7 fullShare o
          ∗ owns (c : Thread nD τ) hM fullShare h
          ∗ held c xc0 G
          ∗ held c xc1 G
          ∗ held c xc2 G
          ∗ held c xc3 G
          ∗ held c xc4 G
          ∗ held c xc5 G
          ∗ held c xc6 G
          ∗ held c xc7 G
          ∗ held c xM (xG X)
          ∗ owes (c : Thread nD τ) 0 W
          ∗ cell0 c
          ∗ cell1 c
          ∗ cell2 c
          ∗ cell3 c
          ∗ cell4 c
          ∗ cell5 c
          ∗ cell6 c
          ∗ cell7 c
          ∗ (iprop(owns (c : Thread nD τ) arg3 fullShare x0
          ∗ owns (c : Thread nD τ) arg4 fullShare x1
          ∗ owns (c : Thread nD τ) arg5 fullShare x2
          ∗ owns (c : Thread nD τ) arg6 fullShare x3
          ∗ (arg7.view.loc (c : Thread nD τ) ↦[arg7.view.set]{fullShare} arg7.view.writes (Elt F) (harg7.unread o) L7)
          ∗ owns (c : Thread nD τ) hM fullShare h
          ∗ owes (c : Thread nD τ) 0 W
          ∗ rest c X b
          ∗ flight0 c X b
          ∗ flight1 c X b
          ∗ flight2 c X b
          ∗ flight3 c X b
          ∗ flight4 c X b
          ∗ flight5 c X b
          ∗ flight6 c X b
          ∗ flight7 c X b) -∗ K ⟨⟩))
          ⊢ wp frame (wpE (defs₀ (F := F)) Variants.none c none) Set.univ (cc0_mlp i xM (Memref.isWhole_whole _) arg3 harg3 arg4 harg4 arg5 harg5 arg6 harg6 arg7 harg7 hM (Memref.isWhole_whole _) xbM (Memref.isWhole_whole _) cc0_scratch2) K } := by
  refine ⟨?_, fun W K => ?run⟩
  case run =>
    simp only [cc0_mlp_eq_skeleton]; unfold cc0_mlp_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns held
    iintro ⟨⟨%farg3, %hfarg3, Harg3⟩, ⟨%farg4, %hfarg4, Harg4⟩, ⟨%farg5, %hfarg5, Harg5⟩, ⟨%farg6, %hfarg6, Harg6⟩, ⟨%farg7, %hfarg7, Harg7⟩, ⟨%farg8, %hfarg8, Harg8⟩, Hb0, Hb1, Hb2, Hb3, Hb4, Hb5, Hb6, Hb7, HX, HW, Hc0, Hc1, Hc2, Hc3, Hc4, Hc5, Hc6, Hc7, Hk⟩
    obtain rfl := harg3.eq_unread hfarg3; obtain rfl := harg4.eq_unread hfarg4; obtain rfl := harg5.eq_unread hfarg5; obtain rfl := harg6.eq_unread hfarg6; obtain rfl := harg7.eq_unread hfarg7; obtain rfl := (Memref.isWhole_whole _).eq_unread hfarg8
    sl_exec (disch := first | sl_exact h1 | sl_exact h3 | sl_exact h4 | sl_exact h5 | sl_exact h6 | sl_exact h7 | sl_exact h8 | sl_exact h9 | sl_exact h10 | sl_exact h11)
    sl_step
    iapply Hk
    isplitl [Harg3]
    · iexists _; isplitr; · ipureintro; exact harg3.read_unread _
      iexact Harg3
    isplitl [Harg4]
    · iexists _; isplitr; · ipureintro; exact harg4.read_unread _
      iexact Harg4
    isplitl [Harg5]
    · iexists _; isplitr; · ipureintro; exact harg5.read_unread _
      iexact Harg5
    isplitl [Harg6]
    · iexists _; isplitr; · ipureintro; exact harg6.read_unread _
      iexact Harg6
    isplitl [Harg7]; · iexact Harg7
    isplitl [Harg8]
    · iexists _; isplitr; · ipureintro; exact (Memref.isWhole_whole _).read_unread _
      iexact Harg8
    isplitl [HW]; · iexact HW
    isplitl [HX]
    · iapply (Entails.of_eq (rest_eq c i X b hb h3 h4 _ _ _ _ _ _ _ _)); iexact HX
    isplitl [Hc0]
    · iapply (Entails.of_eq (flight0_eq c i X b hb h3 h4 G _)); iexact Hc0
    isplitl [Hc1]
    · iapply (Entails.of_eq (flight1_eq c i X b hb h3 h4 G _)); iexact Hc1
    isplitl [Hc2]
    · iapply (Entails.of_eq (flight2_eq c i X b hb h3 h4 G _)); iexact Hc2
    isplitl [Hc3]
    · iapply (Entails.of_eq (flight3_eq c i X b hb h3 h4 G _)); iexact Hc3
    isplitl [Hc4]
    · iapply (Entails.of_eq (flight4_eq c i X b hb h3 h4 G _)); iexact Hc4
    isplitl [Hc5]
    · iapply (Entails.of_eq (flight5_eq c i X b hb h3 h4 G _)); iexact Hc5
    isplitl [Hc6]
    · iapply (Entails.of_eq (flight6_eq c i X b hb h3 h4 G _)); iexact Hc6
    iapply (Entails.of_eq (flight7_eq c i X b hb h3 h4 G _)); iexact Hc7

end Cert.Kernel2Ideal.Mlp

end
-- ==== Proof.Kernel2Ideal.RunE.lean ====
module

public import proofs.«01_k».proof.Proof.Kernel2Ideal.Pieces

@[expose] public section

set_option maxRecDepth 16384

noncomputable section

namespace Cert.Kernel2Ideal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

set_option maxHeartbeats 6000000 in
/-- The stores of one run of the body, and the run: at the last step of the last row block, where no further block is copied in. -/
noncomputable def runE (c : Dev nD) (i : grid0.Coords) (arg3 : Memref sig .tc .vmem S1x2048 .f32) (harg3 : arg3.IsWhole) (arg4 : Memref sig .tc .vmem S2048x1024 .bf16) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S1024x2048 .f32) (harg7 : arg7.IsWhole)
    (h1 : ¬first i) (h3 : last i) (h4 : ¬more i) (h5 : ¬k0_cond5 i = 1#1) (h6 : ¬k0_cond6 i = 1#1) (h7 : ¬k0_cond7 i = 1#1) (h8 : ¬k0_cond8 i = 1#1) (h9 : ¬k0_cond9 i = 1#1) (h10 : ¬k0_cond10 i = 1#1) (h11 : ¬k0_cond11 i = 1#1)
    (x0 : Vec F S1x2048 .f32) (x1 : Vec F S2048x1024 .bf16) (x2 : Vec F S1024x2048 .bf16) (x3 : Vec F S1x2048 .f32) (o : Vec F S1024x2048 .f32) (h : Vec F S1024x2048 .bf16) (G : xbM.view.ty.Contents (Elt F)) :
    { L7 : List (View.Piece (Elt F) S1024x2048 .f32) //
      ∀ (K : PUnit → sProp 𝕄),
        iprop(owns (c : Thread nD τ) arg3 fullShare x0
          ∗ owns (c : Thread nD τ) arg4 fullShare x1
          ∗ owns (c : Thread nD τ) arg5 fullShare x2
          ∗ owns (c : Thread nD τ) arg6 fullShare x3
          ∗ owns (c : Thread nD τ) arg7 fullShare o
          ∗ owns (c : Thread nD τ) hM fullShare h
          ∗ held c xbM G
          ∗ (iprop(owns (c : Thread nD τ) arg3 fullShare x0
          ∗ owns (c : Thread nD τ) arg4 fullShare x1
          ∗ owns (c : Thread nD τ) arg5 fullShare x2
          ∗ owns (c : Thread nD τ) arg6 fullShare x3
          ∗ (arg7.view.loc (c : Thread nD τ) ↦[arg7.view.set]{fullShare} arg7.view.writes (Elt F) (harg7.unread o) L7)
          ∗ owns (c : Thread nD τ) hM fullShare h
          ∗ held c xbM G) -∗ K ⟨⟩))
          ⊢ wp frame (wpE (defs₀ (F := F)) Variants.none c none) Set.univ (cc0_mlp i xM (Memref.isWhole_whole _) arg3 harg3 arg4 harg4 arg5 harg5 arg6 harg6 arg7 harg7 hM (Memref.isWhole_whole _) xbM (Memref.isWhole_whole _) cc0_scratch2) K } := by
  refine ⟨?_, fun K => ?run⟩
  case run =>
    simp only [cc0_mlp_eq_skeleton]; unfold cc0_mlp_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns held
    iintro ⟨⟨%farg3, %hfarg3, Harg3⟩, ⟨%farg4, %hfarg4, Harg4⟩, ⟨%farg5, %hfarg5, Harg5⟩, ⟨%farg6, %hfarg6, Harg6⟩, ⟨%farg7, %hfarg7, Harg7⟩, ⟨%farg8, %hfarg8, Harg8⟩, HB, Hk⟩
    obtain rfl := harg3.eq_unread hfarg3; obtain rfl := harg4.eq_unread hfarg4; obtain rfl := harg5.eq_unread hfarg5; obtain rfl := harg6.eq_unread hfarg6; obtain rfl := harg7.eq_unread hfarg7; obtain rfl := (Memref.isWhole_whole _).eq_unread hfarg8
    sl_exec (disch := first | sl_exact h1 | sl_exact h3 | sl_exact h4 | sl_exact h5 | sl_exact h6 | sl_exact h7 | sl_exact h8 | sl_exact h9 | sl_exact h10 | sl_exact h11)
    sl_step
    iapply Hk
    isplitl [Harg3]
    · iexists _; isplitr; · ipureintro; exact harg3.read_unread _
      iexact Harg3
    isplitl [Harg4]
    · iexists _; isplitr; · ipureintro; exact harg4.read_unread _
      iexact Harg4
    isplitl [Harg5]
    · iexists _; isplitr; · ipureintro; exact harg5.read_unread _
      iexact Harg5
    isplitl [Harg6]
    · iexists _; isplitr; · ipureintro; exact harg6.read_unread _
      iexact Harg6
    isplitl [Harg7]; · iexact Harg7
    isplitl [Harg8]
    · iexists _; isplitr; · ipureintro; exact (Memref.isWhole_whole _).read_unread _
      iexact Harg8
    iexact HB

end Cert.Kernel2Ideal.Mlp

end
-- ==== Proof.Kernel2Ideal.Points.lean ====
module

public import proofs.«01_k».proof.Proof.Kernel2Ideal.RunA
public import proofs.«01_k».proof.Proof.Kernel2Ideal.RunB
public import proofs.«01_k».proof.Proof.Kernel2Ideal.RunC
public import proofs.«01_k».proof.Proof.Kernel2Ideal.RunD
public import proofs.«01_k».proof.Proof.Kernel2Ideal.RunE

@[expose] public section

set_option maxRecDepth 16384

noncomputable section

namespace Cert.Kernel2Ideal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Window 0's current buffer is whole. -/
abbrev hst0 (t : Fin cfg0.N) : (st0_0 t).IsWhole := hstage0_0 ((cfg0.slots t 0).cast nbuf0_0)
/-- Window 1's current buffer is whole. -/
abbrev hst1 (t : Fin cfg0.N) : (st0_1 t).IsWhole := hstage0_1 ((cfg0.slots t 1).cast nbuf0_1)
/-- Window 2's current buffer is whole. -/
abbrev hst2 (t : Fin cfg0.N) : (st0_2 t).IsWhole := hstage0_2 ((cfg0.slots t 2).cast nbuf0_2)
/-- Window 3's current buffer is whole. -/
abbrev hst3 (t : Fin cfg0.N) : (st0_3 t).IsWhole := hstage0_3 ((cfg0.slots t 3).cast nbuf0_3)
/-- Window 4's current buffer is whole. -/
abbrev hst4 (t : Fin cfg0.N) : (st0_4 t).IsWhole := hstage0_4 ((cfg0.slots t 4).cast nbuf0_4)

/-- The block's row of the point `t`. -/
theorem row_val : ∀ t : Fin cfg0.N, ((grid0.coords t) 0).val = t.val / 8 :=
  (by decide +kernel : ∀ t : Fin grid0.N, ((grid0.coords t) 0).val = t.val / 8)
/-- The condition under which chunk 1 of a further row block is copied in: `t` is below 248. -/
theorem hmore5 : ∀ t : Fin cfg0.N, k0_cond5 (grid0.coords t) = 1#1 ↔ t.val < 248 :=
  (by decide +kernel : ∀ t : Fin grid0.N, k0_cond5 (grid0.coords t) = 1#1 ↔ t.val < 248)
/-- The condition under which chunk 2 of a further row block is copied in: `t` is below 248. -/
theorem hmore6 : ∀ t : Fin cfg0.N, k0_cond6 (grid0.coords t) = 1#1 ↔ t.val < 248 :=
  (by decide +kernel : ∀ t : Fin grid0.N, k0_cond6 (grid0.coords t) = 1#1 ↔ t.val < 248)
/-- The condition under which chunk 3 of a further row block is copied in: `t` is below 248. -/
theorem hmore7 : ∀ t : Fin cfg0.N, k0_cond7 (grid0.coords t) = 1#1 ↔ t.val < 248 :=
  (by decide +kernel : ∀ t : Fin grid0.N, k0_cond7 (grid0.coords t) = 1#1 ↔ t.val < 248)
/-- The condition under which chunk 4 of a further row block is copied in: `t` is below 248. -/
theorem hmore8 : ∀ t : Fin cfg0.N, k0_cond8 (grid0.coords t) = 1#1 ↔ t.val < 248 :=
  (by decide +kernel : ∀ t : Fin grid0.N, k0_cond8 (grid0.coords t) = 1#1 ↔ t.val < 248)
/-- The condition under which chunk 5 of a further row block is copied in: `t` is below 248. -/
theorem hmore9 : ∀ t : Fin cfg0.N, k0_cond9 (grid0.coords t) = 1#1 ↔ t.val < 248 :=
  (by decide +kernel : ∀ t : Fin grid0.N, k0_cond9 (grid0.coords t) = 1#1 ↔ t.val < 248)
/-- The condition under which chunk 6 of a further row block is copied in: `t` is below 248. -/
theorem hmore10 : ∀ t : Fin cfg0.N, k0_cond10 (grid0.coords t) = 1#1 ↔ t.val < 248 :=
  (by decide +kernel : ∀ t : Fin grid0.N, k0_cond10 (grid0.coords t) = 1#1 ↔ t.val < 248)
/-- The condition under which chunk 7 of a further row block is copied in: `t` is below 248. -/
theorem hmore11 : ∀ t : Fin cfg0.N, k0_cond11 (grid0.coords t) = 1#1 ↔ t.val < 248 :=
  (by decide +kernel : ∀ t : Fin grid0.N, k0_cond11 (grid0.coords t) = 1#1 ↔ t.val < 248)

/-- Row block number `k`. -/
def blkF (k : ℕ) : Fin 32 := ⟨k % 32, Nat.mod_lt _ (by decide)⟩
/-- The input rows on core `c`. -/
def XV (c : Dev nD) : Vec F S32768x2048 .f32 := xM.view.read (Elt F) (V m c main_arg0)

/-- The first step of all at the point `t`. -/
abbrev atA (c : Dev nD) (t : Fin cfg0.N) (h1 : first (grid0.coords t)) (h2 : start (grid0.coords t)) (h3 : ¬last (grid0.coords t)) :=
  runA c (grid0.coords t) (st0_0 t) (hst0 t) (st0_1 t) (hst1 t) (st0_2 t) (hst2 t) (st0_3 t) (hst3 t) (st0_4 t) (hst4 t) h1 h2 h3 (iblk m c 0 t) (iblk m c 1 t) (iblk m c 2 t) (iblk m c 3 t) (XV m c)
/-- The first step of a later row block at the point `t`. -/
abbrev atB (c : Dev nD) (t : Fin cfg0.N) (h1 : first (grid0.coords t)) (h2 : ¬start (grid0.coords t)) (h3 : ¬last (grid0.coords t)) :=
  runB c (grid0.coords t) (blkF (t.val / 8)) (st0_0 t) (hst0 t) (st0_1 t) (hst1 t) (st0_2 t) (hst2 t) (st0_3 t) (hst3 t) (st0_4 t) (hst4 t) h1 h2 h3 (iblk m c 0 t) (iblk m c 1 t) (iblk m c 2 t) (iblk m c 3 t) (XV m c)
/-- A step between at the point `t`. -/
abbrev atC (c : Dev nD) (t : Fin cfg0.N) (h1 : ¬first (grid0.coords t)) (h3 : ¬last (grid0.coords t)) (o : Vec F S1024x2048 .f32) (h : Vec F S1024x2048 .bf16) :=
  runC c (grid0.coords t) (st0_0 t) (hst0 t) (st0_1 t) (hst1 t) (st0_2 t) (hst2 t) (st0_3 t) (hst3 t) (st0_4 t) (hst4 t) h1 h3 (iblk m c 0 t) (iblk m c 1 t) (iblk m c 2 t) (iblk m c 3 t) o h
/-- The row block after the point's is numbered one more. -/
theorem next_val (t : Fin cfg0.N) (h3 : last (grid0.coords t)) (h4 : more (grid0.coords t)) : (blkF ((t.val + 1) / 8)).val = ((grid0.coords t) 0).val + 1 := by
  rw [row_val t]
  have h7 := (hlast t).mp h3
  have h8 := (hmore t).mp h4
  show (t.val + 1) / 8 % 32 = _
  omega
/-- The last step of a row block that another follows, at the point `t`. -/
abbrev atD (c : Dev nD) (t : Fin cfg0.N) (h1 : ¬first (grid0.coords t)) (h3 : last (grid0.coords t)) (h4 : more (grid0.coords t)) (o : Vec F S1024x2048 .f32) (h : Vec F S1024x2048 .bf16) :=
  runD c (grid0.coords t) (blkF ((t.val + 1) / 8)) (next_val t h3 h4) (st0_0 t) (hst0 t) (st0_1 t) (hst1 t) (st0_2 t) (hst2 t) (st0_3 t) (hst3 t) (st0_4 t) (hst4 t) h1 h3 h4 ((hmore5 t).mpr ((hmore t).mp h4)) ((hmore6 t).mpr ((hmore t).mp h4)) ((hmore7 t).mpr ((hmore t).mp h4)) ((hmore8 t).mpr ((hmore t).mp h4)) ((hmore9 t).mpr ((hmore t).mp h4)) ((hmore10 t).mpr ((hmore t).mp h4)) ((hmore11 t).mpr ((hmore t).mp h4)) (iblk m c 0 t) (iblk m c 1 t) (iblk m c 2 t) (iblk m c 3 t) o h (xbG (rows (XV m c) (blkF (t.val / 8)))) (XV m c)
/-- The last step of the last row block, at the point `t`. -/
abbrev atE (c : Dev nD) (t : Fin cfg0.N) (h1 : ¬first (grid0.coords t)) (h3 : last (grid0.coords t)) (h4 : ¬more (grid0.coords t)) (o : Vec F S1024x2048 .f32) (h : Vec F S1024x2048 .bf16) :=
  runE c (grid0.coords t) (st0_0 t) (hst0 t) (st0_1 t) (hst1 t) (st0_2 t) (hst2 t) (st0_3 t) (hst3 t) (st0_4 t) (hst4 t) h1 h3 h4 (fun h => h4 ((hmore t).mpr ((hmore5 t).mp h))) (fun h => h4 ((hmore t).mpr ((hmore6 t).mp h))) (fun h => h4 ((hmore t).mpr ((hmore7 t).mp h))) (fun h => h4 ((hmore t).mpr ((hmore8 t).mp h))) (fun h => h4 ((hmore t).mpr ((hmore9 t).mp h))) (fun h => h4 ((hmore t).mpr ((hmore10 t).mp h))) (fun h => h4 ((hmore t).mpr ((hmore11 t).mp h))) (iblk m c 0 t) (iblk m c 1 t) (iblk m c 2 t) (iblk m c 3 t) o h (xbG (rows (XV m c) (blkF (t.val / 8))))

/-- The stores of step A into the output block cover it. -/
theorem coverA (c : Dev nD) (t : Fin cfg0.N) (h1 : first (grid0.coords t)) (h2 : start (grid0.coords t)) (h3 : ¬last (grid0.coords t)) (y : S1024x2048.Idx) : ∃ pc ∈ (atA m c t h1 h2 h3).1, y ∈ pc.1.set :=
  View.cover_of_wholeMem _ (by sl_whole_mem) y
/-- The stores of step A into the scratch of normalised rows cover it. -/
theorem coverHA (c : Dev nD) (t : Fin cfg0.N) (h1 : first (grid0.coords t)) (h2 : start (grid0.coords t)) (h3 : ¬last (grid0.coords t)) (y : S1024x2048.Idx) : ∃ pc ∈ (atA m c t h1 h2 h3).2.1, y ∈ pc.1.set :=
  View.cover_of_wholeMem _ (by sl_whole_mem) y
/-- The stores of step B into the output block cover it. -/
theorem coverB (c : Dev nD) (t : Fin cfg0.N) (h1 : first (grid0.coords t)) (h2 : ¬start (grid0.coords t)) (h3 : ¬last (grid0.coords t)) (y : S1024x2048.Idx) : ∃ pc ∈ (atB m c t h1 h2 h3).1, y ∈ pc.1.set :=
  View.cover_of_wholeMem _ (by sl_whole_mem) y
/-- The stores of step B into the scratch of normalised rows cover it. -/
theorem coverHB (c : Dev nD) (t : Fin cfg0.N) (h1 : first (grid0.coords t)) (h2 : ¬start (grid0.coords t)) (h3 : ¬last (grid0.coords t)) (y : S1024x2048.Idx) : ∃ pc ∈ (atB m c t h1 h2 h3).2.1, y ∈ pc.1.set :=
  View.cover_of_wholeMem _ (by sl_whole_mem) y
/-- The stores of step C into the output block cover it. -/
theorem coverC (c : Dev nD) (t : Fin cfg0.N) (h1 : ¬first (grid0.coords t)) (h3 : ¬last (grid0.coords t)) (o : Vec F S1024x2048 .f32) (h : Vec F S1024x2048 .bf16) (y : S1024x2048.Idx) : ∃ pc ∈ (atC m c t h1 h3 o h).1, y ∈ pc.1.set :=
  View.cover_of_tiledL (atC m c t h1 h3 o h).1 S1024x512.size (by sl_kernel_rfl) y
/-- The stores of step D into the output block cover it. -/
theorem coverD (c : Dev nD) (t : Fin cfg0.N) (h1 : ¬first (grid0.coords t)) (h3 : last (grid0.coords t)) (h4 : more (grid0.coords t)) (o : Vec F S1024x2048 .f32) (h : Vec F S1024x2048 .bf16) (y : S1024x2048.Idx) : ∃ pc ∈ (atD m c t h1 h3 h4 o h).1, y ∈ pc.1.set :=
  View.cover_of_tiledBy (atD m c t h1 h3 h4 o h).1 ![128, 512] (by sl_kernel_rfl) y
/-- The stores of step E into the output block cover it. -/
theorem coverE (c : Dev nD) (t : Fin cfg0.N) (h1 : ¬first (grid0.coords t)) (h3 : last (grid0.coords t)) (h4 : ¬more (grid0.coords t)) (o : Vec F S1024x2048 .f32) (h : Vec F S1024x2048 .bf16) (y : S1024x2048.Idx) : ∃ pc ∈ (atE m c t h1 h3 h4 o h).1, y ∈ pc.1.set :=
  View.cover_of_tiledBy (atE m c t h1 h3 h4 o h).1 ![128, 512] (by sl_kernel_rfl) y

end Cert.Kernel2Ideal.Mlp

end
-- ==== Proof.Kernel2Ideal.Steps.lean ====
module

public import proofs.«01_k».proof.Proof.Kernel2Ideal.Points

@[expose] public section

set_option maxRecDepth 16384

noncomputable section

namespace Cert.Kernel2Ideal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

/-- A first step is no last step. -/
theorem notlast (t : Fin cfg0.N) (h1 : first (grid0.coords t)) : ¬last (grid0.coords t) := fun h3 => by
  have a := (hfirst t).mp h1
  have b := (hlast t).mp h3
  omega

variable (m : (ℓ : Loc nD τ sig) → Buf (Elt F) ℓ) (ρ : Dev nD → PrngReg)

/-- The contents of an output block that a list of stores covering it leaves. -/
def left7 (L : List (View.Piece (Elt F) S1024x2048 .f32)) : Vec F S1024x2048 .f32 :=
  (Memref.whole cc0_stg4_0 : Memref sig .tc .vmem S1024x2048 .f32).view.read (Elt F)
    ((Memref.whole cc0_stg4_0 : Memref sig .tc .vmem S1024x2048 .f32).view.writes (Elt F) (Memref.whole cc0_stg4_0 : Memref sig .tc .vmem S1024x2048 .f32).view.junk L)
/-- The contents of the scratch of normalised rows that a list of stores covering it leaves. -/
def left8 (L : List (View.Piece (Elt F) S1024x2048 .bf16)) : Vec F S1024x2048 .bf16 :=
  hM.view.read (Elt F) (hM.view.writes (Elt F) hM.view.junk L)

/-- What the body leaves at the point `t` in the output block and the scratch of normalised rows, from what it finds there. -/
def stepAt (c : Dev nD) (t : Fin cfg0.N) (o : Vec F S1024x2048 .f32) (h : Vec F S1024x2048 .bf16) : Vec F S1024x2048 .f32 × Vec F S1024x2048 .bf16 :=
  if h1 : first (grid0.coords t) then
    if h2 : start (grid0.coords t) then
      (left7 (atA m c t h1 h2 (notlast t h1)).1, left8 (atA m c t h1 h2 (notlast t h1)).2.1)
    else (left7 (atB m c t h1 h2 (notlast t h1)).1, left8 (atB m c t h1 h2 (notlast t h1)).2.1)
  else
    if h3 : last (grid0.coords t) then
      if h4 : more (grid0.coords t) then (left7 (atD m c t h1 h3 h4 o h).1, h)
      else (left7 (atE m c t h1 h3 h4 o h).1, h)
    else (left7 (atC m c t h1 h3 o h).1, h)

/-- The block of rows `b` at rest in its scratch, the input rows whole, the semaphores at zero. -/
def rested (c : Dev nD) (X : Vec F S32768x2048 .f32) (b : Fin 32) : sProp 𝕄 := iprop(held c xbM (xbG (rows X b)) ∗ held c xM (xG X) ∗ cell0 c ∗ cell1 c ∗ cell2 c ∗ cell3 c ∗ cell4 c ∗ cell5 c ∗ cell6 c ∗ cell7 c)
/-- The block of rows `b` on its way to its scratch in eight chunks, and the input rows outside it. -/
def flying (c : Dev nD) (X : Vec F S32768x2048 .f32) (b : Fin 32) : sProp 𝕄 := iprop(rest c X b ∗ flight0 c X b ∗ flight1 c X b ∗ flight2 c X b ∗ flight3 c X b ∗ flight4 c X b ∗ flight5 c X b ∗ flight6 c X b ∗ flight7 c X b)
/-- What the body keeps of its copies before position `n`. -/
def between (c : Dev nD) (X : Vec F S32768x2048 .f32) (n : ℕ) : sProp 𝕄 :=
  if n % 8 = 0 ∧ n < 256 then flying c X (blkF (n / 8)) else rested c X (blkF ((n - 1) / 8))
/-- What the launch hands the body: the block scratch at any contents, the input rows whole, the semaphores at zero. -/
def launched (c : Dev nD) (X : Vec F S32768x2048 .f32) : sProp 𝕄 := iprop((∃ G, held c xbM G) ∗ held c xM (xG X) ∗ cell0 c ∗ cell1 c ∗ cell2 c ∗ cell3 c ∗ cell4 c ∗ cell5 c ∗ cell6 c ∗ cell7 c)

set_option maxHeartbeats 4000000 in
/-- The body at the first point. -/
theorem step_A (c : Dev nD) (t : Fin cfg0.N) (h1 : first (grid0.coords t)) (h2 : start (grid0.coords t)) (h3 : ¬last (grid0.coords t)) (W) (K : PUnit → sProp 𝕄) :
    iprop(owns (c : Thread nD τ) (st0_0 t) fullShare (iblk m c 0 t)
          ∗ owns (c : Thread nD τ) (st0_1 t) fullShare (iblk m c 1 t)
          ∗ owns (c : Thread nD τ) (st0_2 t) fullShare (iblk m c 2 t)
          ∗ owns (c : Thread nD τ) (st0_3 t) fullShare (iblk m c 3 t)
          ∗ (∃ d, owns (c : Thread nD τ) (st0_4 t) fullShare d)
          ∗ (∃ d, owns (c : Thread nD τ) hM fullShare d)
          ∗ launched c (XV m c)
          ∗ owes (c : Thread nD τ) 0 W
          ∗ (iprop(owns (c : Thread nD τ) (st0_0 t) fullShare (iblk m c 0 t)
          ∗ owns (c : Thread nD τ) (st0_1 t) fullShare (iblk m c 1 t)
          ∗ owns (c : Thread nD τ) (st0_2 t) fullShare (iblk m c 2 t)
          ∗ owns (c : Thread nD τ) (st0_3 t) fullShare (iblk m c 3 t)
          ∗ owns (c : Thread nD τ) (st0_4 t) fullShare (left7 (atA m c t h1 h2 h3).1)
          ∗ owns (c : Thread nD τ) hM fullShare (left8 (atA m c t h1 h2 h3).2.1)
          ∗ rested c (XV m c) 0
          ∗ (∃ W', owes (c : Thread nD τ) 0 W')) -∗ K ⟨⟩))
      ⊢ wp frame (wpE (defs₀ (F := F)) Variants.none c none) Set.univ (bodyAt0 t) K := by
  unfold bodyAt0
  unfold launched
  iintro ⟨H0, H1, H2, H3, H4, H5, ⟨⟨%G, HG⟩, HX, Hc0, Hc1, Hc2, Hc3, Hc4, Hc5, Hc6, Hc7⟩, HW, Hk⟩
  ihave HP := (Entails.of_eq (pieces c G)) $$ HG
  icases HP with ⟨Hb0, Hb1, Hb2, Hb3, Hb4, Hb5, Hb6, Hb7⟩
  iapply ((atA m c t h1 h2 h3).2.2 G W K)
  isplitl [H0]; · iexact H0
  isplitl [H1]; · iexact H1
  isplitl [H2]; · iexact H2
  isplitl [H3]; · iexact H3
  isplitl [H4]; · iexact H4
  isplitl [H5]; · iexact H5
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hb7]; · iexact Hb7
  isplitl [HX]; · iexact HX
  isplitl [HW]; · iexact HW
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  iintro ⟨H0, H1, H2, H3, ⟨%f7, H4⟩, ⟨%f8, H5⟩, HB, HX, Hc0, Hc1, Hc2, Hc3, Hc4, Hc5, Hc6, Hc7, HW⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (coverA m c t h1 h2 h3)
  isplitl [H5]
  · unfold owns; iexists _; isplitr
    swap; · iexact H5
    ipureintro; exact View.read_writes_of_cover _ _ _ _ _ (coverHA m c t h1 h2 h3)
  isplitl [HB HX Hc0 Hc1 Hc2 Hc3 Hc4 Hc5 Hc6 Hc7]
  · unfold rested
    isplitl [HB]; · iexact HB
    isplitl [HX]; · iexact HX
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  iexact HW

set_option maxHeartbeats 4000000 in
/-- The body at the first step of a later row block. -/
theorem step_B (c : Dev nD) (t : Fin cfg0.N) (h1 : first (grid0.coords t)) (h2 : ¬start (grid0.coords t)) (h3 : ¬last (grid0.coords t)) (W) (K : PUnit → sProp 𝕄) :
    iprop(owns (c : Thread nD τ) (st0_0 t) fullShare (iblk m c 0 t)
          ∗ owns (c : Thread nD τ) (st0_1 t) fullShare (iblk m c 1 t)
          ∗ owns (c : Thread nD τ) (st0_2 t) fullShare (iblk m c 2 t)
          ∗ owns (c : Thread nD τ) (st0_3 t) fullShare (iblk m c 3 t)
          ∗ (∃ d, owns (c : Thread nD τ) (st0_4 t) fullShare d)
          ∗ (∃ d, owns (c : Thread nD τ) hM fullShare d)
          ∗ flying c (XV m c) (blkF (t.val / 8))
          ∗ owes (c : Thread nD τ) 0 W
          ∗ (iprop(owns (c : Thread nD τ) (st0_0 t) fullShare (iblk m c 0 t)
          ∗ owns (c : Thread nD τ) (st0_1 t) fullShare (iblk m c 1 t)
          ∗ owns (c : Thread nD τ) (st0_2 t) fullShare (iblk m c 2 t)
          ∗ owns (c : Thread nD τ) (st0_3 t) fullShare (iblk m c 3 t)
          ∗ owns (c : Thread nD τ) (st0_4 t) fullShare (left7 (atB m c t h1 h2 h3).1)
          ∗ owns (c : Thread nD τ) hM fullShare (left8 (atB m c t h1 h2 h3).2.1)
          ∗ rested c (XV m c) (blkF (t.val / 8))
          ∗ (∃ W', owes (c : Thread nD τ) 0 W')) -∗ K ⟨⟩))
      ⊢ wp frame (wpE (defs₀ (F := F)) Variants.none c none) Set.univ (bodyAt0 t) K := by
  unfold bodyAt0
  unfold flying
  iintro ⟨H0, H1, H2, H3, H4, H5, ⟨HR, Hc0, Hc1, Hc2, Hc3, Hc4, Hc5, Hc6, Hc7⟩, HW, Hk⟩
  iapply ((atB m c t h1 h2 h3).2.2 W K)
  isplitl [H0]; · iexact H0
  isplitl [H1]; · iexact H1
  isplitl [H2]; · iexact H2
  isplitl [H3]; · iexact H3
  isplitl [H4]; · iexact H4
  isplitl [H5]; · iexact H5
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [HR]; · iexact HR
  isplitl [HW]; · iexact HW
  iintro ⟨H0, H1, H2, H3, ⟨%f7, H4⟩, ⟨%f8, H5⟩, HB, HX, Hc0, Hc1, Hc2, Hc3, Hc4, Hc5, Hc6, Hc7, HW⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (coverB m c t h1 h2 h3)
  isplitl [H5]
  · unfold owns; iexists _; isplitr
    swap; · iexact H5
    ipureintro; exact View.read_writes_of_cover _ _ _ _ _ (coverHB m c t h1 h2 h3)
  isplitl [HB HX Hc0 Hc1 Hc2 Hc3 Hc4 Hc5 Hc6 Hc7]
  · unfold rested
    isplitl [HB]; · iexact HB
    isplitl [HX]; · iexact HX
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  iexact HW

set_option maxHeartbeats 4000000 in
/-- The body at a step between. -/
theorem step_C (c : Dev nD) (t : Fin cfg0.N) (h1 : ¬first (grid0.coords t)) (h3 : ¬last (grid0.coords t)) (o : Vec F S1024x2048 .f32) (h : Vec F S1024x2048 .bf16) (W) (K : PUnit → sProp 𝕄) :
    iprop(owns (c : Thread nD τ) (st0_0 t) fullShare (iblk m c 0 t)
          ∗ owns (c : Thread nD τ) (st0_1 t) fullShare (iblk m c 1 t)
          ∗ owns (c : Thread nD τ) (st0_2 t) fullShare (iblk m c 2 t)
          ∗ owns (c : Thread nD τ) (st0_3 t) fullShare (iblk m c 3 t)
          ∗ owns (c : Thread nD τ) (st0_4 t) fullShare o
          ∗ owns (c : Thread nD τ) hM fullShare h
          ∗ rested c (XV m c) (blkF (t.val / 8))
          ∗ owes (c : Thread nD τ) 0 W
          ∗ (iprop(owns (c : Thread nD τ) (st0_0 t) fullShare (iblk m c 0 t)
          ∗ owns (c : Thread nD τ) (st0_1 t) fullShare (iblk m c 1 t)
          ∗ owns (c : Thread nD τ) (st0_2 t) fullShare (iblk m c 2 t)
          ∗ owns (c : Thread nD τ) (st0_3 t) fullShare (iblk m c 3 t)
          ∗ owns (c : Thread nD τ) (st0_4 t) fullShare (left7 (atC m c t h1 h3 o h).1)
          ∗ owns (c : Thread nD τ) hM fullShare h
          ∗ rested c (XV m c) (blkF (t.val / 8))
          ∗ (∃ W', owes (c : Thread nD τ) 0 W')) -∗ K ⟨⟩))
      ⊢ wp frame (wpE (defs₀ (F := F)) Variants.none c none) Set.univ (bodyAt0 t) K := by
  unfold bodyAt0
  iintro ⟨H0, H1, H2, H3, H4, H5, HM, HW, Hk⟩
  iapply ((atC m c t h1 h3 o h).2 K)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (coverC m c t h1 h3 o h)
  isplitl [H5]; · iexact H5
  isplitl [HM]; · iexact HM
  iexists _; iexact HW

set_option maxHeartbeats 4000000 in
/-- The body at the last step of a row block that another follows. -/
theorem step_D (c : Dev nD) (t : Fin cfg0.N) (h1 : ¬first (grid0.coords t)) (h3 : last (grid0.coords t)) (h4 : more (grid0.coords t)) (o : Vec F S1024x2048 .f32) (h : Vec F S1024x2048 .bf16) (W) (K : PUnit → sProp 𝕄) :
    iprop(owns (c : Thread nD τ) (st0_0 t) fullShare (iblk m c 0 t)
          ∗ owns (c : Thread nD τ) (st0_1 t) fullShare (iblk m c 1 t)
          ∗ owns (c : Thread nD τ) (st0_2 t) fullShare (iblk m c 2 t)
          ∗ owns (c : Thread nD τ) (st0_3 t) fullShare (iblk m c 3 t)
          ∗ owns (c : Thread nD τ) (st0_4 t) fullShare o
          ∗ owns (c : Thread nD τ) hM fullShare h
          ∗ rested c (XV m c) (blkF (t.val / 8))
          ∗ owes (c : Thread nD τ) 0 W
          ∗ (iprop(owns (c : Thread nD τ) (st0_0 t) fullShare (iblk m c 0 t)
          ∗ owns (c : Thread nD τ) (st0_1 t) fullShare (iblk m c 1 t)
          ∗ owns (c : Thread nD τ) (st0_2 t) fullShare (iblk m c 2 t)
          ∗ owns (c : Thread nD τ) (st0_3 t) fullShare (iblk m c 3 t)
          ∗ owns (c : Thread nD τ) (st0_4 t) fullShare (left7 (atD m c t h1 h3 h4 o h).1)
          ∗ owns (c : Thread nD τ) hM fullShare h
          ∗ flying c (XV m c) (blkF ((t.val + 1) / 8))
          ∗ (∃ W', owes (c : Thread nD τ) 0 W')) -∗ K ⟨⟩))
      ⊢ wp frame (wpE (defs₀ (F := F)) Variants.none c none) Set.univ (bodyAt0 t) K := by
  unfold bodyAt0
  unfold rested
  iintro ⟨H0, H1, H2, H3, H4, H5, ⟨HB, HX, Hc0, Hc1, Hc2, Hc3, Hc4, Hc5, Hc6, Hc7⟩, HW, Hk⟩
  ihave HP := (Entails.of_eq (pieces c _)) $$ HB
  icases HP with ⟨Hb0, Hb1, Hb2, Hb3, Hb4, Hb5, Hb6, Hb7⟩
  iapply ((atD m c t h1 h3 h4 o h).2 W K)
  isplitl [H0]; · iexact H0
  isplitl [H1]; · iexact H1
  isplitl [H2]; · iexact H2
  isplitl [H3]; · iexact H3
  isplitl [H4]; · iexact H4
  isplitl [H5]; · iexact H5
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hb7]; · iexact Hb7
  isplitl [HX]; · iexact HX
  isplitl [HW]; · iexact HW
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  iintro ⟨H0, H1, H2, H3, H4, H5, HW, HR, Hc0, Hc1, Hc2, Hc3, Hc4, Hc5, Hc6, Hc7⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (coverD m c t h1 h3 h4 o h)
  isplitl [H5]; · iexact H5
  isplitl [HR Hc0 Hc1 Hc2 Hc3 Hc4 Hc5 Hc6 Hc7]
  · unfold flying
    isplitl [HR]; · iexact HR
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  iexists _; iexact HW

set_option maxHeartbeats 4000000 in
/-- The body at the last point. -/
theorem step_E (c : Dev nD) (t : Fin cfg0.N) (h1 : ¬first (grid0.coords t)) (h3 : last (grid0.coords t)) (h4 : ¬more (grid0.coords t)) (o : Vec F S1024x2048 .f32) (h : Vec F S1024x2048 .bf16) (W) (K : PUnit → sProp 𝕄) :
    iprop(owns (c : Thread nD τ) (st0_0 t) fullShare (iblk m c 0 t)
          ∗ owns (c : Thread nD τ) (st0_1 t) fullShare (iblk m c 1 t)
          ∗ owns (c : Thread nD τ) (st0_2 t) fullShare (iblk m c 2 t)
          ∗ owns (c : Thread nD τ) (st0_3 t) fullShare (iblk m c 3 t)
          ∗ owns (c : Thread nD τ) (st0_4 t) fullShare o
          ∗ owns (c : Thread nD τ) hM fullShare h
          ∗ rested c (XV m c) (blkF (t.val / 8))
          ∗ owes (c : Thread nD τ) 0 W
          ∗ (iprop(owns (c : Thread nD τ) (st0_0 t) fullShare (iblk m c 0 t)
          ∗ owns (c : Thread nD τ) (st0_1 t) fullShare (iblk m c 1 t)
          ∗ owns (c : Thread nD τ) (st0_2 t) fullShare (iblk m c 2 t)
          ∗ owns (c : Thread nD τ) (st0_3 t) fullShare (iblk m c 3 t)
          ∗ owns (c : Thread nD τ) (st0_4 t) fullShare (left7 (atE m c t h1 h3 h4 o h).1)
          ∗ owns (c : Thread nD τ) hM fullShare h
          ∗ rested c (XV m c) (blkF (t.val / 8))
          ∗ (∃ W', owes (c : Thread nD τ) 0 W')) -∗ K ⟨⟩))
      ⊢ wp frame (wpE (defs₀ (F := F)) Variants.none c none) Set.univ (bodyAt0 t) K := by
  unfold bodyAt0
  unfold rested
  iintro ⟨H0, H1, H2, H3, H4, H5, ⟨HB, HX, Hc0, Hc1, Hc2, Hc3, Hc4, Hc5, Hc6, Hc7⟩, HW, Hk⟩
  iapply ((atE m c t h1 h3 h4 o h).2 K)
  isplitl [H0]; · iexact H0
  isplitl [H1]; · iexact H1
  isplitl [H2]; · iexact H2
  isplitl [H3]; · iexact H3
  isplitl [H4]; · iexact H4
  isplitl [H5]; · iexact H5
  isplitl [HB]; · iexact HB
  iintro ⟨H0, H1, H2, H3, H4, H5, HB⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (coverE m c t h1 h3 h4 o h)
  isplitl [H5]; · iexact H5
  isplitl [HB HX Hc0 Hc1 Hc2 Hc3 Hc4 Hc5 Hc6 Hc7]
  · skip
    isplitl [HB]; · iexact HB
    isplitl [HX]; · iexact HX
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  iexists _; iexact HW

end Cert.Kernel2Ideal.Mlp

end
-- ==== Proof.Kernel2Ideal.Frame.lean ====
module

public import proofs.«01_k».proof.Proof.Kernel2Ideal.Steps

@[expose] public section

set_option maxRecDepth 16384

noncomputable section

namespace Cert.Kernel2Ideal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the output block and the scratch of normalised rows hold after the point `n`: the body's step from what the point
before left (at the first point, from anything). -/
def outsAt (c : Dev nD) : (n : ℕ) → n < cfg0.N → Vec F S1024x2048 .f32 × Vec F S1024x2048 .bf16
  | 0, hn => stepAt m c ⟨0, hn⟩ (left7 []) (left8 [])
  | n + 1, hn => stepAt m c ⟨n + 1, hn⟩ (outsAt c n (Nat.lt_of_succ_lt hn)).1 (outsAt c n (Nat.lt_of_succ_lt hn)).2

/-- The step at a first step of a row block does not look at what the buffers held. -/
theorem stepAt_first (c : Dev nD) (t : Fin cfg0.N) (h1 : first (grid0.coords t)) (o o' : Vec F S1024x2048 .f32) (h h' : Vec F S1024x2048 .bf16) :
    stepAt m c t o h = stepAt m c t o' h' := by
  unfold stepAt; rw [dif_pos h1, dif_pos h1]
/-- `outsAt` at a first step of a row block does not look at what the buffers held. -/
theorem outsAt_first (c : Dev nD) (t : Fin cfg0.N) (h1 : first (grid0.coords t)) (o : Vec F S1024x2048 .f32) (h : Vec F S1024x2048 .bf16) :
    outsAt m c t.val t.isLt = stepAt m c t o h := by
  obtain ⟨n, hn⟩ := t
  cases n with
  | zero => exact stepAt_first m c _ h1 _ _ _ _
  | succ n => exact stepAt_first m c _ h1 _ _ _ _

/-- `outsAt` after a point that is not the first. -/
theorem outsAt_pos (c : Dev nD) (t : Fin cfg0.N) (hz : t.val ≠ 0) :
    outsAt m c t.val t.isLt = stepAt m c t (outsAt m c (t.val - 1) (Nat.lt_of_le_of_lt (Nat.sub_le _ _) t.isLt)).1
      (outsAt m c (t.val - 1) (Nat.lt_of_le_of_lt (Nat.sub_le _ _) t.isLt)).2 := by
  obtain ⟨n, hn⟩ := t
  cases n with
  | zero => exact absurd rfl hz
  | succ n => rfl

/-- The body's own semaphores: the eight chunks'. -/
abbrev osem : Fin 8 → SemLoc sig := ![SemLoc.dma ((cc0_scratch2.slice (Rect.unit (s := S8) ![0] S1.size inb_S8_S1_0)).squeeze S_ squeezes_S1_S_).sem, SemLoc.dma ((cc0_scratch2.slice (Rect.unit (s := S8) ![1] S1.size inb_S8_S1_1)).squeeze S_ squeezes_S1_S_).sem, SemLoc.dma ((cc0_scratch2.slice (Rect.unit (s := S8) ![2] S1.size inb_S8_S1_2)).squeeze S_ squeezes_S1_S_).sem, SemLoc.dma ((cc0_scratch2.slice (Rect.unit (s := S8) ![3] S1.size inb_S8_S1_3)).squeeze S_ squeezes_S1_S_).sem, SemLoc.dma ((cc0_scratch2.slice (Rect.unit (s := S8) ![4] S1.size inb_S8_S1_4)).squeeze S_ squeezes_S1_S_).sem, SemLoc.dma ((cc0_scratch2.slice (Rect.unit (s := S8) ![5] S1.size inb_S8_S1_5)).squeeze S_ squeezes_S1_S_).sem, SemLoc.dma ((cc0_scratch2.slice (Rect.unit (s := S8) ![6] S1.size inb_S8_S1_6)).squeeze S_ squeezes_S1_S_).sem, SemLoc.dma ((cc0_scratch2.slice (Rect.unit (s := S8) ![7] S1.size inb_S8_S1_7)).squeeze S_ squeezes_S1_S_).sem]
/-- They are scoped, distinct, and no window's. -/
theorem ownSemFacts : Pipeline.OwnSemFacts spec0 osem := by decide
/-- The array the body addresses itself: the input rows. -/
abbrev HR : Finset (Ref sig .tc) := {main_arg0}
theorem HR_sub : HR ⊆ Pipeline.restRefs sig spec0 := by
  intro b hb
  rw [Finset.mem_singleton.mp hb]
  exact Pipeline.mem_restRefs_of main_arg0 (by decide) (by decide)

/-- The body's semaphores at zero are the eight chunks'. -/
theorem ownSems_eq (c : Dev nD) :
    (Pipeline.ownSems0 (Ix := Unit) (Name := ℕ) (U := Pipeline.UD sig nD τ) (Lvl := ℕ) (Val := Elt F) (τ := τ) osem c : sProp 𝕄)
      = iprop(cell0 c ∗ cell1 c ∗ cell2 c ∗ cell3 c ∗ cell4 c ∗ cell5 c ∗ cell6 c ∗ cell7 c) :=
  Pipeline.ownSems0_eq_of_list c osem [0, 1, 2, 3, 4, 5, 6, 7] (by decide) (by decide)

/-- The input rows held whole are the array as the region finds it. -/
theorem array_held (c : Dev nD) :
    (held c xM (xG (XV m c)) : sProp 𝕄) = (((c : Thread nD τ).loc main_arg0) ↦{fullShare} V m c main_arg0) := by
  unfold held
  rw [show xG (XV m c) = V m c main_arg0 from ((Memref.isWhole_whole main_arg0).eq_unread rfl).symm, show xM.view.set = Finset.univ from View.set_whole _]
/-- The block scratch held at some contents is the buffer at some contents. -/
theorem block_held (c : Dev nD) (G : xbM.view.ty.Contents (Elt F)) :
    (held c xbM G : sProp 𝕄) = (((c : Thread nD τ).loc cc0_scratch1) ↦{fullShare} G) := by
  unfold held
  rw [show xbM.view.set = Finset.univ from View.set_whole _]

/-- What the launch hands over, as the body's first step takes it. -/
theorem phi_enter (c : Dev nD) : (Pipeline.ΦD osem spec0 HR (V m) c : sProp 𝕄)
    ⊢ iprop((∃ d, owns (c : Thread nD τ) hM fullShare d) ∗ launched c (XV m c) ∗ (∃ r, prngReg c r)) := by
  rw [Pipeline.ΦD_eq, scopedRest0_eq, ownSems_eq, bigSep_singleton]
  unfold launched
  rw [array_held m c]
  simp only [owns_whole, block_held]
  iintro ⟨⟨H8, HG⟩, Hg, ⟨Hc0, Hc1, Hc2, Hc3, Hc4, Hc5, Hc6, Hc7⟩, HX⟩
  isplitl [H8]; · iexact H8
  isplitr [Hg]
  · isplitl [HG]; · iexact HG
    isplitl [HX]; · iexact HX
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  iexact Hg
/-- What is left after the last step gives back what the launch handed over. -/
theorem phi_leave (c : Dev nD) (b : Fin 32) :
    iprop((∃ d, owns (c : Thread nD τ) hM fullShare d) ∗ rested c (XV m c) b ∗ (∃ r, prngReg c r)) ⊢ (Pipeline.ΦD osem spec0 HR (V m) c : sProp 𝕄) := by
  rw [Pipeline.ΦD_eq, scopedRest0_eq, ownSems_eq, bigSep_singleton]
  unfold rested
  rw [array_held m c]
  simp only [owns_whole, block_held]
  iintro ⟨H8, ⟨HG, HX, Hc0, Hc1, Hc2, Hc3, Hc4, Hc5, Hc6, Hc7⟩, Hg⟩
  isplitl [H8 HG]
  · isplitl [H8]; · iexact H8
    iexists _; iexact HG
  isplitl [Hg]; · iexact Hg
  isplitr [HX]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  iexact HX

/-- At the first step of a later row block the next chunks are in flight. -/
theorem between_fly (c : Dev nD) (X : Vec F S32768x2048 .f32) (n : ℕ) (h : n % 8 = 0) (h' : n < 256) : (between c X n : sProp 𝕄) = flying c X (blkF (n / 8)) :=
  if_pos ⟨h, h'⟩
/-- At any other step the block is at rest. -/
theorem between_rest (c : Dev nD) (X : Vec F S32768x2048 .f32) (n : ℕ) (h : n % 8 ≠ 0) : (between c X n : sProp 𝕄) = rested c X (blkF (n / 8)) :=
  (if_neg fun h' => h h'.1).trans (by rw [show (n - 1) / 8 = n / 8 by omega])
/-- After a step the block is at rest unless a further block is on its way. -/
theorem between_next (c : Dev nD) (X : Vec F S32768x2048 .f32) (n : ℕ) (h : ¬((n + 1) % 8 = 0 ∧ n + 1 < 256)) : (between c X (n + 1) : sProp 𝕄) = rested c X (blkF (n / 8)) :=
  if_neg h

/-- The invariant before position `n`: the scratch of normalised rows at what the point before left, and what the body keeps
of its copies; before the first point what the launch hands over. -/
def PhiS (c : Dev nD) : (n : ℕ) → n ≤ cfg0.N → sProp 𝕄
  | 0, _ => Pipeline.ΦD osem spec0 HR (V m) c
  | n + 1, hn => iprop(owns (c : Thread nD τ) hM fullShare (outsAt m c n hn).2 ∗ between c (XV m c) (n + 1) ∗ (∃ r, prngReg c r))
theorem PhiS_zero (c : Dev nD) (n : ℕ) (h : n ≤ cfg0.N) (hz : n = 0) : PhiS m c n h = Pipeline.ΦD osem spec0 HR (V m) c := by
  subst hz; rfl
theorem PhiS_succ (c : Dev nD) (n : ℕ) (hn : n < cfg0.N) :
    PhiS m c (n + 1) hn = iprop(owns (c : Thread nD τ) hM fullShare (outsAt m c n hn).2 ∗ between c (XV m c) (n + 1) ∗ (∃ r, prngReg c r)) := rfl
theorem PhiS_pos (c : Dev nD) (n : ℕ) (h : n ≤ cfg0.N) (hz : n ≠ 0) :
    PhiS m c n h = iprop(owns (c : Thread nD τ) hM fullShare (outsAt m c (n - 1) (by omega)).2 ∗ between c (XV m c) n ∗ (∃ r, prngReg c r)) := by
  cases n with
  | zero => exact absurd rfl hz
  | succ n => rfl

/-- The pipeline's proof data on core `c`: each input's buffer ends a point at its block, the output's at `outsAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q _ := fullShare
  owed _ := 0

/-- The proof data's arrays are what the region finds. -/
theorem A_eq (c : Dev nD) (w : Fin cfg0.W) : (dats m 0 c).A w = V m c (Pipeline.arrRef spec0 w) := by
  dsimp only [dats]
/-- The invariant at a point's start, at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0 (c : Dev nD) (t : Fin cfg0.N) : (dats m 0 c).after 0 t = iblk m c 0 t := by dsimp only [dats]
/-- Window 0's buffer holds its block at every point. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem after1 (c : Dev nD) (t : Fin cfg0.N) : (dats m 0 c).after 1 t = iblk m c 1 t := by dsimp only [dats]
/-- Window 1's buffer holds its block at every point. -/
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem after2 (c : Dev nD) (t : Fin cfg0.N) : (dats m 0 c).after 2 t = iblk m c 2 t := by dsimp only [dats]
/-- Window 2's buffer holds its block at every point. -/
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem after3 (c : Dev nD) (t : Fin cfg0.N) : (dats m 0 c).after 3 t = iblk m c 3 t := by dsimp only [dats]
/-- Window 3's buffer holds its block at every point. -/
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem after4 (c : Dev nD) (t : Fin cfg0.N) : (dats m 0 c).after 4 t = (outsAt m c t.val t.isLt).1 := by dsimp only [dats]
/-- Within a row block the output's buffer holds what the point before left. -/
theorem before4 (c : Dev nD) (t : Fin cfg0.N) (h : t.val % 8 ≠ 0) (d) :
    (dats m 0 c).before 4 t d = (outsAt m c (t.val - 1) (Nat.lt_of_le_of_lt (Nat.sub_le _ _) t.isLt)).1 :=
  ((dats m 0 c).before_out_kept 4 rfl t (fun hz => h (by rw [hz]))
    (Bool.eq_false_iff.mpr fun hf => by have := (flush0_4 _).mp hf; dsimp only at this; omega) (fun _ => rfl) (fun _ _ => rfl) d).trans
    (after4 m c _)

set_option maxHeartbeats 4000000 in
/-- The body at any point, from what the pipeline hands it to what the pipeline takes back. -/
theorem sound_body (c : Dev nD) (t : Fin cfg0.N) :
    iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
      ⊢ wp frame (wpE (defs₀ (F := F)) Variants.none c none) Set.univ (bodyAt0 t) (fun _ =>
    iprop((dats m 0 c).Φ t.succ
    ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))) := by
  have hlt : t.val < 256 := t.isLt
  simp only [before0, before1, before2, before3]
  unfold Dat.owesAt Pipeline.owesWithin
  rw [show (dats m 0 c).owed t.castSucc = 0 from rfl, show (dats m 0 c).owed t.succ = 0 from rfl,
    after0, after1, after2, after3, after4]
  rw [show (dats m 0 c).Φ t.succ = PhiS m c (t.val + 1) t.isLt from rfl, PhiS_succ, PhiS_castSucc m c t]
  by_cases h1 : first (grid0.coords t)
  · have a1 := (hfirst t).mp h1
    have h3 := notlast t h1
    rw [between_next c _ t.val (by omega), outsAt_first m c t h1 (left7 []) (left8 [])]
    by_cases h2 : start (grid0.coords t)
    · have hz : t.val = 0 := by have := (hstart t).mp h2; omega
      rw [show stepAt m c t _ _ = _ from (dif_pos h1).trans (dif_pos h2), PhiS_zero m c _ _ hz, show blkF (t.val / 8) = 0 by rw [hz]; rfl]
      dsimp only
      iintro ⟨HP, ⟨%W, -, HW⟩, ⟨%d0, H0⟩, ⟨%d1, H1⟩, ⟨%d2, H2⟩, ⟨%d3, H3⟩, ⟨%d4, H4⟩⟩
      ihave HP' := (phi_enter m c) $$ HP
      icases HP' with ⟨H8, HM, Hg⟩
      iapply (step_A m c t h1 h2 h3 W _)
      isplitl [H0]; · iexact H0
      isplitl [H1]; · iexact H1
      isplitl [H2]; · iexact H2
      isplitl [H3]; · iexact H3
      isplitl [H4]; · iexists _; iexact H4
      isplitl [H8]; · iexact H8
      isplitl [HM]; · iexact HM
      isplitl [HW]; · iexact HW
      iintro ⟨H0, H1, H2, H3, H4, H8, HM, ⟨%W', HW⟩⟩
      isplitl [H8 HM Hg]
      · isplitl [H8]; · iexact H8
        isplitl [HM]; · iexact HM
        iexact Hg
      isplitl [HW]
      · iexists W'; isplitr; · ipureintro; exact fun _ _ => Or.inl trivial
        iexact HW
      isplitl [H0]; · iexact H0
      isplitl [H1]; · iexact H1
      isplitl [H2]; · iexact H2
      isplitl [H3]; · iexact H3
      iexact H4
    · have hz : t.val ≠ 0 := fun hz => h2 ((hstart t).mpr (by omega))
      rw [show stepAt m c t _ _ = _ from (dif_pos h1).trans (dif_neg h2), PhiS_pos m c _ _ hz, between_fly c _ t.val a1 hlt]
      dsimp only
      iintro ⟨⟨H8, HM, Hg⟩, ⟨%W, -, HW⟩, ⟨%d0, H0⟩, ⟨%d1, H1⟩, ⟨%d2, H2⟩, ⟨%d3, H3⟩, ⟨%d4, H4⟩⟩
      iapply (step_B m c t h1 h2 h3 W _)
      isplitl [H0]; · iexact H0
      isplitl [H1]; · iexact H1
      isplitl [H2]; · iexact H2
      isplitl [H3]; · iexact H3
      isplitl [H4]; · iexists _; iexact H4
      isplitl [H8]; · iexists _; iexact H8
      isplitl [HM]; · iexact HM
      isplitl [HW]; · iexact HW
      iintro ⟨H0, H1, H2, H3, H4, H8, HM, ⟨%W', HW⟩⟩
      isplitl [H8 HM Hg]
      · isplitl [H8]; · iexact H8
        isplitl [HM]; · iexact HM
        iexact Hg
      isplitl [HW]
      · iexists W'; isplitr; · ipureintro; exact fun _ _ => Or.inl trivial
        iexact HW
      isplitl [H0]; · iexact H0
      isplitl [H1]; · iexact H1
      isplitl [H2]; · iexact H2
      isplitl [H3]; · iexact H3
      iexact H4
  · have a1 : t.val % 8 ≠ 0 := fun h => h1 ((hfirst t).mpr h)
    have hz : t.val ≠ 0 := fun hz => a1 (by rw [hz])
    simp only [before4 m c t a1]
    rw [PhiS_pos m c _ _ hz, between_rest c _ t.val a1, outsAt_pos m c t hz]
    by_cases h3 : last (grid0.coords t)
    · have a3 := (hlast t).mp h3
      by_cases h4 : more (grid0.coords t)
      · have a4 := (hmore t).mp h4
        rw [show stepAt m c t _ _ = _ from (dif_neg h1).trans ((dif_pos h3).trans (dif_pos h4)), between_fly c _ (t.val + 1) (by omega) (by omega)]
        dsimp only
        iintro ⟨⟨H8, HM, Hg⟩, ⟨%W, -, HW⟩, ⟨%d0, H0⟩, ⟨%d1, H1⟩, ⟨%d2, H2⟩, ⟨%d3, H3⟩, ⟨%d4, H4⟩⟩
        iapply (step_D m c t h1 h3 h4 _ _ W _)
        isplitl [H0]; · iexact H0
        isplitl [H1]; · iexact H1
        isplitl [H2]; · iexact H2
        isplitl [H3]; · iexact H3
        isplitl [H4]; · iexact H4
        isplitl [H8]; · iexact H8
        isplitl [HM]; · iexact HM
        isplitl [HW]; · iexact HW
        iintro ⟨H0, H1, H2, H3, H4, H8, HM, ⟨%W', HW⟩⟩
        isplitl [H8 HM Hg]
        · isplitl [H8]; · iexact H8
          isplitl [HM]; · iexact HM
          iexact Hg
        isplitl [HW]
        · iexists W'; isplitr; · ipureintro; exact fun _ _ => Or.inl trivial
          iexact HW
        isplitl [H0]; · iexact H0
        isplitl [H1]; · iexact H1
        isplitl [H2]; · iexact H2
        isplitl [H3]; · iexact H3
        iexact H4
      · have a4 : ¬t.val < 248 := fun h => h4 ((hmore t).mpr h)
        rw [show stepAt m c t _ _ = _ from (dif_neg h1).trans ((dif_pos h3).trans (dif_neg h4)), between_next c _ t.val (by omega)]
        dsimp only
        iintro ⟨⟨H8, HM, Hg⟩, ⟨%W, -, HW⟩, ⟨%d0, H0⟩, ⟨%d1, H1⟩, ⟨%d2, H2⟩, ⟨%d3, H3⟩, ⟨%d4, H4⟩⟩
        iapply (step_E m c t h1 h3 h4 _ _ W _)
        isplitl [H0]; · iexact H0
        isplitl [H1]; · iexact H1
        isplitl [H2]; · iexact H2
        isplitl [H3]; · iexact H3
        isplitl [H4]; · iexact H4
        isplitl [H8]; · iexact H8
        isplitl [HM]; · iexact HM
        isplitl [HW]; · iexact HW
        iintro ⟨H0, H1, H2, H3, H4, H8, HM, ⟨%W', HW⟩⟩
        isplitl [H8 HM Hg]
        · isplitl [H8]; · iexact H8
          isplitl [HM]; · iexact HM
          iexact Hg
        isplitl [HW]
        · iexists W'; isplitr; · ipureintro; exact fun _ _ => Or.inl trivial
          iexact HW
        isplitl [H0]; · iexact H0
        isplitl [H1]; · iexact H1
        isplitl [H2]; · iexact H2
        isplitl [H3]; · iexact H3
        iexact H4
    · have a3 : t.val % 8 ≠ 7 := fun h => h3 ((hlast t).mpr h)
      rw [show stepAt m c t _ _ = _ from (dif_neg h1).trans (dif_neg h3), between_next c _ t.val (by omega)]
      dsimp only
      iintro ⟨⟨H8, HM, Hg⟩, ⟨%W, -, HW⟩, ⟨%d0, H0⟩, ⟨%d1, H1⟩, ⟨%d2, H2⟩, ⟨%d3, H3⟩, ⟨%d4, H4⟩⟩
      iapply (step_C m c t h1 h3 _ _ W _)
      isplitl [H0]; · iexact H0
      isplitl [H1]; · iexact H1
      isplitl [H2]; · iexact H2
      isplitl [H3]; · iexact H3
      isplitl [H4]; · iexact H4
      isplitl [H8]; · iexact H8
      isplitl [HM]; · iexact HM
      isplitl [HW]; · iexact HW
      iintro ⟨H0, H1, H2, H3, H4, H8, HM, ⟨%W', HW⟩⟩
      isplitl [H8 HM Hg]
      · isplitl [H8]; · iexact H8
        isplitl [HM]; · iexact HM
        iexact Hg
      isplitl [HW]
      · iexists W'; isplitr; · ipureintro; exact fun _ _ => Or.inl trivial
        iexact HW
      isplitl [H0]; · iexact H0
      isplitl [H1]; · iexact H1
      isplitl [H2]; · iexact H2
      isplitl [H3]; · iexact H3
      iexact H4

/-- The body table's row at point `t`'s slots is the body at `t`. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦD osem spec0 HR (V m) c ⊢ (dats m 0 c).Φ 0 := by
  rw [show (dats m 0 c).Φ 0 = PhiS m c 0 (Nat.zero_le _) from rfl, PhiS_zero m c 0 _ rfl]

/-- After the last point the invariant gives back what the launch handed over. -/
theorem hout (c : Dev nD) : (dats m 0 c).Φ (Fin.last cfg0.N) ⊢ Pipeline.ΦD osem spec0 HR (V m) c := by
  rw [show (dats m 0 c).Φ (Fin.last cfg0.N) = PhiS m c 256 (Nat.le_refl _) from rfl, PhiS_succ m c 255 (by decide),
    between_next c _ 255 (by omega)]
  refine BIBase.Entails.trans ?_ (phi_leave m c (blkF (255 / 8)))
  iintro ⟨H8, HM, Hg⟩
  isplitl [H8]; · iexists _; iexact H8
  isplitl [HM]; · iexact HM
  iexact Hg

set_option backward.isDefEq.respectTransparency.types false in
/-- The launch: every fair execution terminates with the pipeline's arrays at what the proof data gives and every counter
at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem defs₀ Variants.none ownSemFacts HR HR_sub m ρ main
    (hbody := fun c => (body_obligation m c).loose) (hshare := fun c w => (dats m 0 c).share_full (fun _ => rfl) w)
    (howed := fun _ _ => rfl) (V := V m)
    (hmain := Pipeline.hmain_prefix cfgs 0 defs₀ Variants.none m main hostOps0 hostOps0_sub hostOps0_fresh main_chain)
    (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays after the run are as launched. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c)⟩

/-- The frame: from any memory every fair execution terminates with the argument arrays unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨args_kept m r h.1, h.2⟩) (run_main_quiescent m ρ)

end Cert.Kernel2Ideal.Mlp

end
-- ==== Proof.Twin.lean ====
module

public import proofs.«01_k».proof.Defs
public import proofs.«01_k».proof.Proof.Gen.Kernel2
public import proofs.«01_k».proof.Proof.Kernel2Ideal.Frame

@[expose] public section

set_option maxRecDepth 16384

noncomputable section

namespace Cert.Proof

open Idealize.ShloMosaic Idealize.SL.Sem

variable {F : FTy → Type} [FloatOps F]
/-- The two programs' bodies are the same. -/
theorem bodies : @Cert.Kernel2.defs₀ F _ Cert.Kernel2.Gen.facts = @Cert.Kernel2Ideal.defs₀ F _ Cert.Kernel2Ideal.Gen.facts := by
  unfold Cert.Kernel2.defs₀ Cert.Kernel2Ideal.defs₀
  refine congrArg Defs.onTc ?_
  funext l a
  match l, a with
  | ⟨0, _⟩, (t, sl) => rfl
/-- With their pipelines too. -/
theorem tables : @Cert.Kernel2.defs F _ Cert.Kernel2.Gen.facts = @Cert.Kernel2Ideal.defs F _ Cert.Kernel2Ideal.Gen.facts :=
  congrArg (Pipeline.defs (Cert.Kernel2Ideal.pcfgs (F := F))) bodies

/-- The programs on every thread are the same. -/
theorem mains : @Cert.Kernel2.main F _ Cert.Kernel2.Gen.facts = @Cert.Kernel2Ideal.main F _ Cert.Kernel2Ideal.Gen.facts := rfl

/-- The frame of the kernel as printed. -/
theorem frame_kernel2 : Cert.quiescent_Kernel2 (hKernel2 := Cert.Kernel2.Gen.facts) := by
  intro m ρ _
  rw [tables, mains]
  exact Cert.Kernel2Ideal.Mlp.frame (F := Bits) m ρ

end Cert.Proof

end
-- ==== Proof.Kernel2Ideal.Store.lean ====
module

public import proofs.«01_k».proof.Proof.Kernel2Ideal.Steps
public import Idealize.ShloMosaic.Lib.Pipeline.ValueKit

@[expose] public section

set_option maxRecDepth 16384

noncomputable section

namespace Cert.Kernel2Ideal.Mlp

open Idealize.ShloMosaic Idealize.ShloMosaic.TcCoe Idealize.ShloMosaic.Tactic
open Idealize.SL.Sem
open Idealize.ShloMosaic.Pipeline (Dat Cfg Window BodyObligation cellOf)
open Cert.Kernel2Ideal.Gen

variable {F : FTy → Type} [FloatOps F]

/-- A block's columns, 512 at a time. -/
theorem cr_inb : ∀ (n : Fin 4) (a : Fin 2), (![0, 512 * n.val] : Fin 2 → ℕ) a + S1024x512.size a ≤ S1024x2048.size a := by decide
abbrev cr (n : Fin 4) : Rect S1024x2048 := Rect.unit (s := S1024x2048) ![0, 512 * n.val] S1024x512.size (cr_inb n)
/-- The whole of a block. -/
abbrev wr : Rect S1024x2048 := Rect.unit (s := S1024x2048) ![0, 0] S1024x2048.size inb_S1024x2048_S1024x2048_0_0

/-- A store of 512 columns. -/
abbrev colP (n : Fin 4) (p : Vec F S1024x512 .f32) : View.Piece (Elt F) S1024x2048 .f32 := ⟨cr n, p⟩
/-- A store of 128 rows. -/
abbrev rowP (k : Fin 8) (p : Vec F S128x2048 .f32) : View.Piece (Elt F) S1024x2048 .f32 := ⟨xr k, p⟩

/-- A step's stores into the output block: each 512 columns are what was there and a product added. -/
def colsL (u : FVec F S1024x1024 .bf16) (o : Vec F S1024x2048 .f32) (w : Vec F S1024x2048 .bf16) : List (View.Piece (Elt F) S1024x2048 .f32) :=
  [colP 3 (k0_pay2 u (View.ld o (cr 3)) (View.ld w (cr 3))), colP 2 (k0_pay2 u (View.ld o (cr 2)) (View.ld w (cr 2))),
   colP 1 (k0_pay2 u (View.ld o (cr 1)) (View.ld w (cr 1))), colP 0 (k0_pay2 u (View.ld o (cr 0)) (View.ld w (cr 0)))]

/-- The first step's stores: the block is cleared before, and read back from the stores. -/
def zero0 : List (View.Piece (Elt F) S1024x2048 .f32) := [⟨wr, k0_pay17⟩]
def next (v : View sig .tc .vmem S1024x2048 .f32) (u : FVec F S1024x1024 .bf16) (w : Vec F S1024x2048 .bf16) (n : Fin 4)
    (L : List (View.Piece (Elt F) S1024x2048 .f32)) : List (View.Piece (Elt F) S1024x2048 .f32) :=
  colP n (k0_pay2 u (v.readCov L (cr n).toLoadRect) (View.ld w (cr n))) :: L
def zeroL (v : View sig .tc .vmem S1024x2048 .f32) (u : FVec F S1024x1024 .bf16) (w : Vec F S1024x2048 .bf16) : List (View.Piece (Elt F) S1024x2048 .f32) :=
  next v u w 3 (next v u w 2 (next v u w 1 (next v u w 0 zero0)))

/-- The last step's stores of 128 rows each, after others: the rows as they stand, normalised, are added to the input's. -/
def fin (v : View sig .tc .vmem S1024x2048 .f32) (x : Vec F S1024x2048 .f32) (g : Vec F S1x2048 .f32) (k : Fin 8)
    (L : List (View.Piece (Elt F) S1024x2048 .f32)) : List (View.Piece (Elt F) S1024x2048 .f32) :=
  rowP k (k0_pay4 (v.readCov L (xr k).toLoadRect) (View.ld x (xr k)) g) :: L
def rowsL (v : View sig .tc .vmem S1024x2048 .f32) (C : List (View.Piece (Elt F) S1024x2048 .f32)) (x : Vec F S1024x2048 .f32) (g : Vec F S1x2048 .f32) :
    List (View.Piece (Elt F) S1024x2048 .f32) :=
  fin v x g 7 (fin v x g 6 (fin v x g 5 (fin v x g 4 (fin v x g 3 (fin v x g 2 (fin v x g 1 (fin v x g 0 C)))))))

/-- The block's rows read back from the scratch they lie in. -/
def shown8 (h : Vec F S1024x2048 .bf16) : Vec F S1024x2048 .bf16 := hM.view.read (Elt F) ((Memref.isWhole_whole cc0_scratch0).unread h)
theorem shown8_eq (h : Vec F S1024x2048 .bf16) : shown8 h = h := (Memref.isWhole_whole cc0_scratch0).read_unread h
def shownX (x : Vec F S1024x2048 .f32) : Vec F S1024x2048 .f32 := xbM.view.read (Elt F) (xbG x)
theorem shownX_eq (x : Vec F S1024x2048 .f32) : shownX x = x := (Memref.isWhole_whole cc0_scratch1).read_unread x

/-- The normalised rows of a block. -/
def hn (x : Vec F S1024x2048 .f32) (g : Vec F S1x2048 .f32) : FVec F S1024x2048 .bf16 := k0_pay16 x (k0_pay3 x) g

variable (m : (ℓ : Loc nD τ sig) → Buf (Elt F) ℓ)

/-- What a first step leaves in the scratch of normalised rows. -/
theorem h_A (c : Dev nD) (t : Fin cfg0.N) (h1 : first (grid0.coords t)) (h2 : start (grid0.coords t)) (h3 : ¬last (grid0.coords t)) :
    left8 (atA m c t h1 h2 h3).2.1 = hn (rows (XV m c) 0) (iblk m c 0 t) := by
  refine Eq.trans ?_ (congrArg (fun x => hn x (iblk m c 0 t)) (shownX_eq (rows (XV m c) 0)))
  unfold atA
  frame_out
  rfl
theorem h_B (c : Dev nD) (t : Fin cfg0.N) (h1 : first (grid0.coords t)) (h2 : ¬start (grid0.coords t)) (h3 : ¬last (grid0.coords t)) :
    left8 (atB m c t h1 h2 h3).2.1 = hn (rows (XV m c) (blkF (t.val / 8))) (iblk m c 0 t) := by
  refine Eq.trans ?_ (congrArg (fun x => hn x (iblk m c 0 t)) (shownX_eq (rows (XV m c) (blkF (t.val / 8)))))
  unfold atB
  frame_out
  rfl

/-- What a first step leaves in the output block. -/
theorem o_A (c : Dev nD) (t : Fin cfg0.N) (h1 : first (grid0.coords t)) (h2 : start (grid0.coords t)) (h3 : ¬last (grid0.coords t)) :
    left7 (atA m c t h1 h2 h3).1 = View.canon (zeroL (st0_4 t).view (k0_pay18 (hn (rows (XV m c) 0) (iblk m c 0 t)) (iblk m c 1 t)) (iblk m c 2 t)) := by
  refine Eq.trans ?_ (congrArg (fun x => View.canon (zeroL (st0_4 t).view (k0_pay18 (hn x (iblk m c 0 t)) (iblk m c 1 t)) (iblk m c 2 t))) (shownX_eq (rows (XV m c) 0)))
  unfold atA
  frame_out
  rfl
theorem o_B (c : Dev nD) (t : Fin cfg0.N) (h1 : first (grid0.coords t)) (h2 : ¬start (grid0.coords t)) (h3 : ¬last (grid0.coords t)) :
    left7 (atB m c t h1 h2 h3).1 = View.canon (zeroL (st0_4 t).view (k0_pay18 (hn (rows (XV m c) (blkF (t.val / 8))) (iblk m c 0 t)) (iblk m c 1 t)) (iblk m c 2 t)) := by
  refine Eq.trans ?_ (congrArg (fun x => View.canon (zeroL (st0_4 t).view (k0_pay18 (hn x (iblk m c 0 t)) (iblk m c 1 t)) (iblk m c 2 t))) (shownX_eq (rows (XV m c) (blkF (t.val / 8)))))
  unfold atB
  frame_out
  rfl
/-- What a step between leaves in the output block. -/
theorem o_C (c : Dev nD) (t : Fin cfg0.N) (h1 : ¬first (grid0.coords t)) (h3 : ¬last (grid0.coords t)) (o : Vec F S1024x2048 .f32) (h : Vec F S1024x2048 .bf16) :
    left7 (atC m c t h1 h3 o h).1 = View.canon (colsL (k0_pay18 h (iblk m c 1 t)) o (iblk m c 2 t)) := by
  refine Eq.trans ?_ (congrArg (fun h => View.canon (colsL (k0_pay18 h (iblk m c 1 t)) o (iblk m c 2 t))) (shown8_eq h))
  unfold atC
  frame_out
  rfl
/-- What a last step leaves in the output block. -/
theorem o_D (c : Dev nD) (t : Fin cfg0.N) (h1 : ¬first (grid0.coords t)) (h3 : last (grid0.coords t)) (h4 : more (grid0.coords t)) (o : Vec F S1024x2048 .f32) (h : Vec F S1024x2048 .bf16) :
    left7 (atD m c t h1 h3 h4 o h).1 = View.canon (rowsL (st0_4 t).view (colsL (k0_pay18 h (iblk m c 1 t)) o (iblk m c 2 t)) (rows (XV m c) (blkF (t.val / 8))) (iblk m c 3 t)) := by
  refine Eq.trans ?_ (congrArg₂ (fun h x => View.canon (rowsL (st0_4 t).view (colsL (k0_pay18 h (iblk m c 1 t)) o (iblk m c 2 t)) x (iblk m c 3 t))) (shown8_eq h) (shownX_eq (rows (XV m c) (blkF (t.val / 8)))))
  unfold atD
  frame_out
  rfl
theorem o_E (c : Dev nD) (t : Fin cfg0.N) (h1 : ¬first (grid0.coords t)) (h3 : last (grid0.coords t)) (h4 : ¬more (grid0.coords t)) (o : Vec F S1024x2048 .f32) (h : Vec F S1024x2048 .bf16) :
    left7 (atE m c t h1 h3 h4 o h).1 = View.canon (rowsL (st0_4 t).view (colsL (k0_pay18 h (iblk m c 1 t)) o (iblk m c 2 t)) (rows (XV m c) (blkF (t.val / 8))) (iblk m c 3 t)) := by
  refine Eq.trans ?_ (congrArg₂ (fun h x => View.canon (rowsL (st0_4 t).view (colsL (k0_pay18 h (iblk m c 1 t)) o (iblk m c 2 t)) x (iblk m c 3 t))) (shown8_eq h) (shownX_eq (rows (XV m c) (blkF (t.val / 8)))))
  unfold atE
  frame_out
  rfl

end Cert.Kernel2Ideal.Mlp

end
-- ==== Proof.Kernel2Ideal.Canon.lean ====
module

public import proofs.«01_k».proof.Proof.Kernel2Ideal.Store
public import Idealize.ShloMosaic.Lib.Pointwise

@[expose] public section

set_option maxRecDepth 16384

noncomputable section

namespace Cert.Kernel2Ideal.Mlp

open Idealize.ShloMosaic Idealize.ShloMosaic.TcCoe Idealize.ShloMosaic.Tactic
open Cert.Kernel2Ideal.Gen

variable {F : FTy → Type} [FloatOps F]

/-- Column `l` of the block's columns number `n`. -/
abbrev cc (n : Fin 4) (l : Fin 512) : Fin 2048 := ⟨512 * n.val + l.val, by omega⟩
/-- Row `r` of the block's rows number `k`. -/
abbrev rc (k : Fin 8) (r : Fin 128) : Fin 1024 := ⟨128 * k.val + r.val, by omega⟩

theorem cr_idx (n : Fin 4) (r : Fin 1024) (l : Fin 512) : (cr n).emb (ix2 r l : S1024x512.Idx) = (ix2 r (cc n l) : S1024x2048.Idx) := by
  funext a
  match a with
  | ⟨0, _⟩ => exact Fin.ext (show 0 + 1 * r.val = r.val by omega)
  | ⟨1, _⟩ => exact Fin.ext (show 512 * n.val + 1 * l.val = 512 * n.val + l.val by omega)
theorem xr_idx (k : Fin 8) (r : Fin 128) (l : Fin 2048) : (xr k).emb (ix2 r l : S128x2048.Idx) = (ix2 (rc k r) l : S1024x2048.Idx) := by
  funext a
  match a with
  | ⟨0, _⟩ => exact Fin.ext (show 128 * k.val + 1 * r.val = 128 * k.val + r.val by omega)
  | ⟨1, _⟩ => exact Fin.ext (show 0 + 1 * l.val = l.val by omega)

/-- The last store of columns, read; and an earlier content, read beside it. -/
theorem col_hit (n : Fin 4) (p : Vec F S1024x512 .f32) (L : List (View.Piece (Elt F) S1024x2048 .f32)) (r : Fin 1024) (l : Fin 512) :
    View.canon (colP n p :: L) (ix2 r (cc n l)) = p (ix2 r l) :=
  (congrArg (View.canon (colP n p :: L)) (cr_idx n r l).symm).trans (View.canon_cons_emb (cr n) p L (ix2 r l : S1024x512.Idx))
theorem col_skip (n k : Fin 4) (h : n ≠ k) (p : Vec F S1024x512 .f32) (L : List (View.Piece (Elt F) S1024x2048 .f32)) (r : Fin 1024) (l : Fin 512) :
    View.canon (colP k p :: L) (ix2 r (cc n l)) = View.canon L (ix2 r (cc n l)) := by
  refine View.canon_cons_of_not_mem _ _ fun hm => ?_
  have hm' : (ix2 r (cc n l) : S1024x2048.Idx) ∈ (cr k).set := hm
  have h1 := Rect.mem_set_unit.mp hm' 1
  have e1 : 512 * k.val ≤ 512 * n.val + l.val ∧ 512 * n.val + l.val < 512 * k.val + 512 := h1
  exact h (Fin.ext (by omega))
/-- The same of a store of rows. -/
theorem row_hit (k : Fin 8) (p : Vec F S128x2048 .f32) (L : List (View.Piece (Elt F) S1024x2048 .f32)) (r : Fin 128) (l : Fin 2048) :
    View.canon (rowP k p :: L) (ix2 (rc k r) l) = p (ix2 r l) :=
  (congrArg (View.canon (rowP k p :: L)) (xr_idx k r l).symm).trans (View.canon_cons_emb (xr k) p L (ix2 r l : S128x2048.Idx))
theorem row_skip (q k : Fin 8) (h : q ≠ k) (p : Vec F S128x2048 .f32) (L : List (View.Piece (Elt F) S1024x2048 .f32)) (r : Fin 128) (l : Fin 2048) :
    View.canon (rowP k p :: L) (ix2 (rc q r) l) = View.canon L (ix2 (rc q r) l) := by
  refine View.canon_cons_of_not_mem _ _ fun hm => ?_
  have hm' : (ix2 (rc q r) l : S1024x2048.Idx) ∈ (xr k).set := hm
  have h1 := Rect.mem_set_unit.mp hm' 0
  have e1 : 128 * k.val ≤ 128 * q.val + r.val ∧ 128 * q.val + r.val < 128 * k.val + 128 := h1
  exact h (Fin.ext (by omega))

/-- A step's stores leave, at a column of the columns number `n`, that store's payload. -/
theorem cols_at (u : FVec F S1024x1024 .bf16) (o : Vec F S1024x2048 .f32) (w : Vec F S1024x2048 .bf16) (n : Fin 4) (r : Fin 1024) (l : Fin 512) :
    View.canon (colsL u o w) (ix2 r (cc n l)) = k0_pay2 u (View.ld o (cr n)) (View.ld w (cr n)) (ix2 r l) := by
  unfold colsL
  match n with
  | 0 => rw [col_skip 0 3 (by decide), col_skip 0 2 (by decide), col_skip 0 1 (by decide), col_hit 0]
  | 1 => rw [col_skip 1 3 (by decide), col_skip 1 2 (by decide), col_hit 1]
  | 2 => rw [col_skip 2 3 (by decide), col_hit 2]
  | 3 => rw [col_hit 3]

/-- The stores `L` cover the block and leave the columns from number `n` on cleared. -/
def Cleared (n : ℕ) (L : List (View.Piece (Elt F) S1024x2048 .f32)) : Prop :=
  (∀ y, ∃ p ∈ L, y ∈ p.1.set) ∧ ∀ k : Fin 4, n ≤ k.val → ∀ (r : Fin 1024) (l : Fin 512), View.canon L (ix2 r (cc k l)) = (k0_pay17 : FVec F S1024x2048 .f32) (ix2 r (cc k l))

theorem whole_mem (y : S1024x2048.Idx) : y ∈ wr.set := by
  refine Rect.mem_set_unit.mpr fun a => ?_
  have h := (y a).isLt
  match a, h with
  | ⟨0, _⟩, h => exact ⟨Nat.zero_le _, lt_of_lt_of_eq h (Nat.zero_add _).symm⟩
  | ⟨1, _⟩, h => exact ⟨Nat.zero_le _, lt_of_lt_of_eq h (Nat.zero_add _).symm⟩

theorem wr_idx (y : S1024x2048.Idx) : wr.emb y = y := by
  funext a
  match a with
  | ⟨0, _⟩ => exact Fin.ext (show 0 + 1 * (y 0).val = (y 0).val by omega)
  | ⟨1, _⟩ => exact Fin.ext (show 0 + 1 * (y 1).val = (y 1).val by omega)

theorem whole_at (p : Vec F S1024x2048 .f32) (L : List (View.Piece (Elt F) S1024x2048 .f32)) (y : S1024x2048.Idx) :
    View.canon ((⟨wr, p⟩ : View.Piece (Elt F) S1024x2048 .f32) :: L) y = p y :=
  (congrArg (View.canon ((⟨wr, p⟩ : View.Piece (Elt F) S1024x2048 .f32) :: L)) (wr_idx y).symm).trans (View.canon_cons_emb wr p L y)

theorem zero0_at (y : S1024x2048.Idx) : View.canon (zero0 (F := F)) y = (k0_pay17 : FVec F S1024x2048 .f32) y := by
  unfold zero0
  rw [whole_at]

theorem cleared_zero : Cleared (F := F) 0 zero0 :=
  ⟨fun y => ⟨_, List.mem_cons_self, whole_mem y⟩, fun k _ r l => zero0_at _⟩

variable (v : View sig .tc .vmem S1024x2048 .f32)

theorem next_eq (u : FVec F S1024x1024 .bf16) (w : Vec F S1024x2048 .bf16) (n : Fin 4) (L : List (View.Piece (Elt F) S1024x2048 .f32)) (hL : Cleared n.val L) :
    next v u w n L = colP n (k0_pay2 u (View.ld (k0_pay17 : FVec F S1024x2048 .f32) (cr n)) (View.ld w (cr n))) :: L := by
  unfold next
  rw [show v.readCov L (cr n).toLoadRect = View.ld (k0_pay17 : FVec F S1024x2048 .f32) (cr n) from ?_]
  rw [View.readCov_eq_canon_ld v L (cr n) hL.1]
  funext j
  have e : (j : S1024x512.Idx) = ix2 (j 0 : Fin 1024) (j 1 : Fin 512) := by
    funext a
    match a with
    | ⟨0, _⟩ => rfl
    | ⟨1, _⟩ => rfl
  have e2 := (congrArg (cr n).emb e).trans (cr_idx n (j 0) (j 1))
  exact (congrArg (View.canon L) e2).trans ((hL.2 n le_rfl (j 0) (j 1)).trans (congrArg _ e2.symm))

theorem cleared_next (u : FVec F S1024x1024 .bf16) (w : Vec F S1024x2048 .bf16) (n : Fin 4) (L : List (View.Piece (Elt F) S1024x2048 .f32)) (hL : Cleared n.val L) :
    Cleared (n.val + 1) (next v u w n L) :=
  ⟨fun y => let ⟨p, hp, hy⟩ := hL.1 y; ⟨p, List.mem_cons_of_mem _ hp, hy⟩,
    fun k hk r l => (col_skip k n (fun h => by subst h; omega) _ L r l).trans (hL.2 k (by omega) r l)⟩

/-- A first step's stores leave, at a column of the columns number `n`, the product added to the cleared block. -/
theorem zero_at (u : FVec F S1024x1024 .bf16) (w : Vec F S1024x2048 .bf16) (n : Fin 4) (r : Fin 1024) (l : Fin 512) :
    View.canon (zeroL v u w) (ix2 r (cc n l)) = k0_pay2 u (View.ld (k0_pay17 : FVec F S1024x2048 .f32) (cr n)) (View.ld w (cr n)) (ix2 r l) := by
  have c0 := cleared_zero (F := F)
  have c1 := cleared_next v u w 0 _ c0
  have c2 := cleared_next v u w 1 _ c1
  have c3 := cleared_next v u w 2 _ c2
  unfold zeroL
  rw [next_eq v u w 3 _ c3, next_eq v u w 2 _ c2, next_eq v u w 1 _ c1, next_eq v u w 0 _ c0]
  match n with
  | 0 => rw [col_skip 0 3 (by decide), col_skip 0 2 (by decide), col_skip 0 1 (by decide), col_hit 0]
  | 1 => rw [col_skip 1 3 (by decide), col_skip 1 2 (by decide), col_hit 1]
  | 2 => rw [col_skip 2 3 (by decide), col_hit 2]
  | 3 => rw [col_hit 3]

/-- The stores `L` cover the block and leave the rows from number `n` on at the contents `C`. -/
def Kept (C : Vec F S1024x2048 .f32) (n : ℕ) (L : List (View.Piece (Elt F) S1024x2048 .f32)) : Prop :=
  (∀ y, ∃ p ∈ L, y ∈ p.1.set) ∧ ∀ k : Fin 8, n ≤ k.val → ∀ (r : Fin 128) (l : Fin 2048), View.canon L (ix2 (rc k r) l) = C (ix2 (rc k r) l)

variable (C : Vec F S1024x2048 .f32) (x : Vec F S1024x2048 .f32) (g : Vec F S1x2048 .f32)

theorem fin_eq (k : Fin 8) (L : List (View.Piece (Elt F) S1024x2048 .f32)) (hL : Kept C k.val L) :
    fin v x g k L = rowP k (k0_pay4 (View.ld C (xr k)) (View.ld x (xr k)) g) :: L := by
  unfold fin
  rw [show v.readCov L (xr k).toLoadRect = View.ld C (xr k) from ?_]
  rw [View.readCov_eq_canon_ld v L (xr k) hL.1]
  funext j
  have e : (j : S128x2048.Idx) = ix2 (j 0 : Fin 128) (j 1 : Fin 2048) := by
    funext a
    match a with
    | ⟨0, _⟩ => rfl
    | ⟨1, _⟩ => rfl
  have e2 := (congrArg (xr k).emb e).trans (xr_idx k (j 0) (j 1))
  exact (congrArg (View.canon L) e2).trans ((hL.2 k le_rfl (j 0) (j 1)).trans (congrArg _ e2.symm))

theorem kept_fin (k : Fin 8) (L : List (View.Piece (Elt F) S1024x2048 .f32)) (hL : Kept C k.val L) : Kept C (k.val + 1) (fin v x g k L) :=
  ⟨fun y => let ⟨p, hp, hy⟩ := hL.1 y; ⟨p, List.mem_cons_of_mem _ hp, hy⟩,
    fun q hq r l => (row_skip q k (fun h => by subst h; omega) _ L r l).trans (hL.2 q (by omega) r l)⟩

/-- A last step's stores leave, at a row of the rows number `q`, that store's payload of the contents before. -/
theorem rows_at (L : List (View.Piece (Elt F) S1024x2048 .f32)) (hc : ∀ y, ∃ p ∈ L, y ∈ p.1.set) (q : Fin 8) (r : Fin 128) (l : Fin 2048) :
    View.canon (rowsL v L x g) (ix2 (rc q r) l) = k0_pay4 (View.ld (View.canon L) (xr q)) (View.ld x (xr q)) g (ix2 r l) := by
  have c0 : Kept (View.canon L) 0 L := ⟨hc, fun _ _ _ _ => rfl⟩
  have c1 := kept_fin v _ x g 0 _ c0
  have c2 := kept_fin v _ x g 1 _ c1
  have c3 := kept_fin v _ x g 2 _ c2
  have c4 := kept_fin v _ x g 3 _ c3
  have c5 := kept_fin v _ x g 4 _ c4
  have c6 := kept_fin v _ x g 5 _ c5
  have c7 := kept_fin v _ x g 6 _ c6
  unfold rowsL
  rw [fin_eq v _ x g 7 _ c7, fin_eq v _ x g 6 _ c6, fin_eq v _ x g 5 _ c5, fin_eq v _ x g 4 _ c4, fin_eq v _ x g 3 _ c3, fin_eq v _ x g 2 _ c2,
    fin_eq v _ x g 1 _ c1, fin_eq v _ x g 0 _ c0]
  match q with
  | 0 => rw [row_skip 0 7 (by decide), row_skip 0 6 (by decide), row_skip 0 5 (by decide), row_skip 0 4 (by decide), row_skip 0 3 (by decide), row_skip 0 2 (by decide), row_skip 0 1 (by decide), row_hit 0]
  | 1 => rw [row_skip 1 7 (by decide), row_skip 1 6 (by decide), row_skip 1 5 (by decide), row_skip 1 4 (by decide), row_skip 1 3 (by decide), row_skip 1 2 (by decide), row_hit 1]
  | 2 => rw [row_skip 2 7 (by decide), row_skip 2 6 (by decide), row_skip 2 5 (by decide), row_skip 2 4 (by decide), row_skip 2 3 (by decide), row_hit 2]
  | 3 => rw [row_skip 3 7 (by decide), row_skip 3 6 (by decide), row_skip 3 5 (by decide), row_skip 3 4 (by decide), row_hit 3]
  | 4 => rw [row_skip 4 7 (by decide), row_skip 4 6 (by decide), row_skip 4 5 (by decide), row_hit 4]
  | 5 => rw [row_skip 5 7 (by decide), row_skip 5 6 (by decide), row_hit 5]
  | 6 => rw [row_skip 6 7 (by decide), row_hit 6]
  | 7 => rw [row_hit 7]

/-- A step's four stores cover the block. -/
theorem cols_cover (u : FVec F S1024x1024 .bf16) (o : Vec F S1024x2048 .f32) (w : Vec F S1024x2048 .bf16) (y : S1024x2048.Idx) : ∃ p ∈ colsL u o w, y ∈ p.1.set :=
  View.cover_of_tiledL (colsL u o w) S1024x512.size (by sl_kernel_rfl) y

end Cert.Kernel2Ideal.Mlp

end
-- ==== Proof.Math.Mlp.lean ====
module

public import Idealize.ShloMosaic.Lib.Pointwise
public import Idealize.ShloMosaic.Lib.Pipeline.ValueKit

@[expose] public section

noncomputable section

namespace Cert.SquaredRelu

open Idealize.ShloMosaic

/-- A row over the root of its mean square, scaled. -/
def norm (f g : Fin 2048 → EReal) (k : Fin 2048) : EReal :=
  f k * Ideal.rsqrt (Ideal.div (∑ x, f x * f x) (Ideal.ofBits .f32 0x45000000#32) + Ideal.ofBits .f32 0x358637BD#32) * g k
/-- The square of the positive part. -/
def psq (a : EReal) : EReal := max a 0 * max a 0

variable (x : Fin 32768 → Fin 2048 → EReal) (g₁ : Fin 2048 → EReal) (up : Fin 2048 → Fin 8192 → EReal)
  (down : Fin 8192 → Fin 2048 → EReal) (g₂ : Fin 2048 → EReal)

/-- The hidden layer. -/
def hid (R : Fin 32768) (d : Fin 8192) : EReal := psq (∑ k, norm (x R) g₁ k * up k d)
/-- The hidden layer, projected down. -/
def out (R : Fin 32768) (l : Fin 2048) : EReal := ∑ d, hid x g₁ up R d * down d l
/-- The layer: the projected hidden layer, normalised, is added to its input. -/
def layer (R : Fin 32768) (l : Fin 2048) : EReal := x R l + norm (out x g₁ up down R) g₂ l

/-- Hidden column `d` of the columns number `j`. -/
def hc (j : ℕ) (d : Fin 1024) : Fin 8192 := ⟨(1024 * j + d.val) % 8192, Nat.mod_lt _ (by decide)⟩
/-- What the hidden columns number `j` add to the projection. -/
def term (R : Fin 32768) (l : Fin 2048) (j : ℕ) : EReal := ∑ d, hid x g₁ up R (hc j d) * down (hc j d) l
/-- The projection of the first `n` blocks of hidden columns. -/
def part (n : ℕ) (R : Fin 32768) (l : Fin 2048) : EReal := ∑ j ∈ Finset.range n, term x g₁ up down R l j

theorem part_one (R : Fin 32768) (l : Fin 2048) : part x g₁ up down 1 R l = 0 + term x g₁ up down R l 0 := by
  unfold part; rw [Finset.sum_range_succ, Finset.sum_range_zero]
theorem part_succ (n : ℕ) (R : Fin 32768) (l : Fin 2048) : part x g₁ up down (n + 1) R l = part x g₁ up down n R l + term x g₁ up down R l n := by
  unfold part; rw [Finset.sum_range_succ]

/-- The eight blocks of hidden columns are all of them. -/
theorem part_eight (R : Fin 32768) (l : Fin 2048) : part x g₁ up down 8 R l = out x g₁ up down R l := by
  unfold part out
  rw [Finset.sum_range]
  refine Fin.sum_mul_add_congr (S := 8) (n := 1024) (f := fun d => hid x g₁ up R d * down d l) fun s k h => ?_
  have e : hc s.val k = ⟨s.val * 1024 + k.val, h⟩ := Fin.ext (by show (1024 * s.val + k.val) % 8192 = s.val * 1024 + k.val; omega)
  rw [e]

end Cert.SquaredRelu

end
-- ==== Proof.Kernel2Ideal.Pay.lean ====
module

public import proofs.«01_k».proof.Proof.Kernel2Ideal.Store
public import proofs.«01_k».proof.Proof.Math.Mlp

@[expose] public section

set_option maxRecDepth 16384

noncomputable section

namespace Cert.Kernel2Ideal.Mlp

open Idealize.ShloMosaic Idealize.ShloMosaic.TcCoe Idealize.ShloMosaic.Tactic
open Cert.Kernel2Ideal.Gen Cert.SquaredRelu

/-- The payloads at an index. -/
theorem hn_at (x : Vec Ideal S1024x2048 .f32) (g : Vec Ideal S1x2048 .f32) (r : Fin 1024) (k : Fin 2048) :
    hn x g (ix2 r k) = norm (fun k => x (ix2 r k)) (fun k => g (ix2 (0 : Fin 1) k)) k := by
  pointwise [hn, k0_pay16, k0_pay3]
  rfl
theorem u_at (h : Vec Ideal S1024x2048 .bf16) (w : Vec Ideal S2048x1024 .bf16) (r d : Fin 1024) :
    k0_pay18 h w (ix2 r d) = psq (∑ x, h (ix2 r x) * w (ix2 x d)) := by
  pointwise [k0_pay18]
  rfl
theorem acc_at (u : FVec Ideal S1024x1024 .bf16) (o : Vec Ideal S1024x512 .f32) (w : Vec Ideal S1024x512 .bf16) (r : Fin 1024) (l : Fin 512) :
    k0_pay2 u o w (ix2 r l) = o (ix2 r l) + ∑ x, u (ix2 r x) * w (ix2 x l) := by
  pointwise [k0_pay2]
theorem fin_at (o : Vec Ideal S128x2048 .f32) (x : Vec Ideal S128x2048 .f32) (g : Vec Ideal S1x2048 .f32) (r : Fin 128) (l : Fin 2048) :
    k0_pay4 o x g (ix2 r l) = x (ix2 r l) + norm (fun k => o (ix2 r k)) (fun k => g (ix2 (0 : Fin 1) k)) l := by
  pointwise [k0_pay4]
  rfl
theorem clear_at (r : Fin 1024) (l : Fin 2048) : (k0_pay17 : FVec Ideal S1024x2048 .f32) (ix2 r l) = 0 := by
  pointwise [k0_pay17]

end Cert.Kernel2Ideal.Mlp

end
-- ==== Proof.Kernel2Ideal.Reads.lean ====
module

public import proofs.«01_k».proof.Proof.Kernel2Ideal.Frame
public import proofs.«01_k».proof.Proof.Kernel2Ideal.Canon
public import proofs.«01_k».proof.Proof.Kernel2Ideal.Pay
public import proofs.«01_k».proof.Proof.Math.Mlp

@[expose] public section

set_option maxRecDepth 16384

noncomputable section

namespace Cert.Kernel2Ideal.Mlp

open Idealize.ShloMosaic Idealize.ShloMosaic.TcCoe Idealize.ShloMosaic.Tactic
open Cert.Kernel2Ideal.Gen Cert.SquaredRelu

variable (m : (ℓ : Loc nD τ sig) → Buf (Elt Ideal) ℓ)

/-- The arguments, by row and column. -/
def ax (c : Dev nD) (R : Fin 32768) (k : Fin 2048) : EReal := (m ((c : Thread nD τ).loc main_arg0) : FVec Ideal S32768x2048 .f32) (ix2 R k)
def ag1 (c : Dev nD) (k : Fin 2048) : EReal := (m ((c : Thread nD τ).loc main_arg1) : FVec Ideal S1x2048 .f32) (ix2 (0 : Fin 1) k)
def aup (c : Dev nD) (k : Fin 2048) (d : Fin 8192) : EReal := (m ((c : Thread nD τ).loc main_arg2) : FVec Ideal S1x2048x8192 .f32) (ix3 (0 : Fin 1) k d)
def adown (c : Dev nD) (d : Fin 8192) (l : Fin 2048) : EReal := (m ((c : Thread nD τ).loc main_arg3) : FVec Ideal S1x8192x2048 .f32) (ix3 (0 : Fin 1) d l)
def ag2 (c : Dev nD) (k : Fin 2048) : EReal := (m ((c : Thread nD τ).loc main_arg4) : FVec Ideal S1x2048 .f32) (ix2 (0 : Fin 1) k)

/-- The windows' block indices, at every step. -/
theorem idx : ∀ t : Fin cfg0.N, win0_0.index t = ![0, 0] ∧ win0_1.index t = ![0, t.val % 8] ∧ win0_2.index t = ![t.val % 8, 0]
    ∧ win0_3.index t = ![0, 0] ∧ win0_4.index t = ![t.val / 8, 0] :=
  (by decide +kernel : ∀ t : Fin grid0.N, _)

theorem V_v1 (c : Dev nD) (k : Fin 2048) : (V m c main_v1 : FVec Ideal S1x2048 .f32) (ix2 (0 : Fin 1) k) = ag1 m c k := by
  entry_read; pointwise [ag1]
theorem V_v3 (c : Dev nD) (k : Fin 2048) (d : Fin 8192) : (V m c main_v3 : FVec Ideal S2048x8192 .bf16) (ix2 k d) = aup m c k d := by
  entry_read; pointwise [aup]
theorem V_v5 (c : Dev nD) (d : Fin 8192) (l : Fin 2048) : (V m c main_v5 : FVec Ideal S8192x2048 .bf16) (ix2 d l) = adown m c d l := by
  entry_read; pointwise [adown]
theorem V_v7 (c : Dev nD) (k : Fin 2048) : (V m c main_v7 : FVec Ideal S1x2048 .f32) (ix2 (0 : Fin 1) k) = ag2 m c k := by
  entry_read; pointwise [ag2]

/-- The steps' blocks, at an index. -/
theorem X0_at (c : Dev nD) (t : Fin cfg0.N) (k : Fin 2048) : (iblk m c 0 t : Vec Ideal S1x2048 .f32) (ix2 (0 : Fin 1) k) = ag1 m c k := by
  rw [← V_v1]
  show (V m c main_v1 : FVec Ideal S1x2048 .f32) _ = _
  refine congrArg (V m c main_v1 : FVec Ideal S1x2048 .f32) ?_
  blk_ext [idx t]
theorem X1_at (c : Dev nD) (t : Fin cfg0.N) (k : Fin 2048) (d : Fin 1024) : (iblk m c 1 t : Vec Ideal S2048x1024 .bf16) (ix2 k d) = aup m c k (hc (t.val % 8) d) := by
  rw [← V_v3]
  show (V m c main_v3 : FVec Ideal S2048x8192 .bf16) _ = _
  refine congrArg (V m c main_v3 : FVec Ideal S2048x8192 .bf16) ?_
  blk_ext [idx t, hc]
theorem X2_at (c : Dev nD) (t : Fin cfg0.N) (d : Fin 1024) (l : Fin 2048) : (iblk m c 2 t : Vec Ideal S1024x2048 .bf16) (ix2 d l) = adown m c (hc (t.val % 8) d) l := by
  rw [← V_v5]
  show (V m c main_v5 : FVec Ideal S8192x2048 .bf16) _ = _
  refine congrArg (V m c main_v5 : FVec Ideal S8192x2048 .bf16) ?_
  blk_ext [idx t, hc]
theorem X3_at (c : Dev nD) (t : Fin cfg0.N) (k : Fin 2048) : (iblk m c 3 t : Vec Ideal S1x2048 .f32) (ix2 (0 : Fin 1) k) = ag2 m c k := by
  rw [← V_v7]
  show (V m c main_v7 : FVec Ideal S1x2048 .f32) _ = _
  refine congrArg (V m c main_v7 : FVec Ideal S1x2048 .f32) ?_
  blk_ext [idx t]

/-- The row of the input that row `r` of block `b` is. -/
def tr (b : Fin 32) (r : Fin 1024) : Fin 32768 := ⟨1024 * b.val + r.val, by omega⟩

theorem rows_XV (c : Dev nD) (b : Fin 32) (r : Fin 1024) (k : Fin 2048) : rows (XV m c) b (ix2 r k) = ax m c (tr b r) k := by
  have e : (Rect.unit (s := S32768x2048) ![1024 * b.val, 0] S1024x2048.size (xrow_inb b)).emb (ix2 r k : S1024x2048.Idx) = (ix2 (tr b r) k : S32768x2048.Idx) := by
    funext a
    match a with
    | ⟨0, _⟩ => exact Fin.ext (show 1024 * b.val + 1 * r.val = 1024 * b.val + r.val by omega)
    | ⟨1, _⟩ => exact Fin.ext (show 0 + 1 * k.val = k.val by omega)
  have e2 : XV m c = (m ((c : Thread nD τ).loc main_arg0) : FVec Ideal S32768x2048 .f32) := V_main_arg0 m c
  unfold rows ax
  rw [e2]
  exact congrArg _ e

end Cert.Kernel2Ideal.Mlp

end
-- ==== Proof.Kernel2Ideal.Result.lean ====
module

public import proofs.«01_k».proof.Proof.Kernel2Ideal.Reads

@[expose] public section

set_option maxRecDepth 16384

noncomputable section

namespace Cert.Kernel2Ideal.Mlp

open Idealize.ShloMosaic Idealize.ShloMosaic.TcCoe Idealize.ShloMosaic.Tactic
open Idealize.SL.Sem
open Cert.Kernel2Ideal.Gen Cert.SquaredRelu

variable (m : (ℓ : Loc nD τ sig) → Buf (Elt Ideal) ℓ)

/-- An index of the block by its columns, or by its rows. -/
theorem split_col (l : Fin 2048) : l = cc ⟨l.val / 512, by omega⟩ ⟨l.val % 512, by omega⟩ :=
  Fin.ext (by show l.val = 512 * (l.val / 512) + l.val % 512; omega)
theorem split_row (r : Fin 1024) : r = rc ⟨r.val / 128, by omega⟩ ⟨r.val % 128, by omega⟩ :=
  Fin.ext (by show r.val = 128 * (r.val / 128) + r.val % 128; omega)

theorem ld_col {e : EltTy} (o : Vec Ideal S1024x2048 e) (n : Fin 4) (r : Fin 1024) (l : Fin 512) :
    View.ld o (cr n) (ix2 r l : S1024x512.Idx) = o (ix2 r (cc n l)) := congrArg o (cr_idx n r l)
theorem ld_row {e : EltTy} (o : Vec Ideal S1024x2048 e) (n : Fin 8) (r : Fin 128) (l : Fin 2048) :
    View.ld o (xr n) (ix2 r l : S128x2048.Idx) = o (ix2 (rc n r) l) := congrArg o (xr_idx n r l)

/-- A step adds a product to the block. -/
theorem cols_val (u : FVec Ideal S1024x1024 .bf16) (o : Vec Ideal S1024x2048 .f32) (w : Vec Ideal S1024x2048 .bf16) (r : Fin 1024) (l : Fin 2048) :
    View.canon (colsL u o w) (ix2 r l) = o (ix2 r l) + ∑ d, u (ix2 r d) * w (ix2 d l) := by
  rw [split_col l, cols_at, acc_at, ld_col]
  refine congrArg₂ (· + ·) rfl (Finset.sum_congr rfl fun d _ => congrArg₂ (· * ·) rfl (ld_col w _ d _))
/-- A first step leaves the product. -/
theorem zero_val (v : View sig .tc .vmem S1024x2048 .f32) (u : FVec Ideal S1024x1024 .bf16) (w : Vec Ideal S1024x2048 .bf16) (r : Fin 1024) (l : Fin 2048) :
    View.canon (zeroL v u w) (ix2 r l) = 0 + ∑ d, u (ix2 r d) * w (ix2 d l) := by
  rw [split_col l, zero_at, acc_at, ld_col, clear_at]
  refine congrArg₂ (· + ·) rfl (Finset.sum_congr rfl fun d _ => congrArg₂ (· * ·) rfl (ld_col w _ d _))
/-- A last step's stores of rows: the contents before, normalised, are added to the input's rows. -/
theorem rows_val (v : View sig .tc .vmem S1024x2048 .f32) (L : List (View.Piece (Elt Ideal) S1024x2048 .f32)) (hL : ∀ y, ∃ p ∈ L, y ∈ p.1.set)
    (x : Vec Ideal S1024x2048 .f32) (g : Vec Ideal S1x2048 .f32) (r : Fin 1024) (l : Fin 2048) :
    View.canon (rowsL v L x g) (ix2 r l) = x (ix2 r l) + norm (fun k => View.canon L (ix2 r k)) (fun k => g (ix2 (0 : Fin 1) k)) l := by
  rw [split_row r, rows_at v x g L hL, fin_at, ld_row]
  exact congrArg₂ (· + ·) rfl (congrArg (fun f => norm f _ l) (funext fun k => ld_row (View.canon L) _ _ k))

/-- The row block of a step. -/
abbrev bk (t : Fin cfg0.N) : Fin 32 := blkF (t.val / 8)

/-- A row block's normalised rows, and the hidden columns of a step. -/
theorem hn_val (c : Dev nD) (t : Fin cfg0.N) (r : Fin 1024) (k : Fin 2048) :
    hn (rows (XV m c) (bk t)) (iblk m c 0 t) (ix2 r k) = norm (ax m c (tr (bk t) r)) (ag1 m c) k := by
  rw [hn_at]
  exact congrArg₂ (fun f g => norm f g k) (funext fun k => rows_XV m c _ r k) (funext fun k => X0_at m c t k)
theorem u_val (c : Dev nD) (t : Fin cfg0.N) (h : Vec Ideal S1024x2048 .bf16) (hh : ∀ r k, h (ix2 r k) = norm (ax m c (tr (bk t) r)) (ag1 m c) k) (r d : Fin 1024) :
    k0_pay18 h (iblk m c 1 t) (ix2 r d) = hid (ax m c) (ag1 m c) (aup m c) (tr (bk t) r) (hc (t.val % 8) d) := by
  rw [u_at]
  exact congrArg psq (Finset.sum_congr rfl fun k _ => congrArg₂ (· * ·) (hh r k) (X1_at m c t k d))
theorem term_val (c : Dev nD) (t : Fin cfg0.N) (h : Vec Ideal S1024x2048 .bf16) (hh : ∀ r k, h (ix2 r k) = norm (ax m c (tr (bk t) r)) (ag1 m c) k) (r : Fin 1024) (l : Fin 2048) :
    (∑ d, k0_pay18 h (iblk m c 1 t) (ix2 r d) * (iblk m c 2 t : Vec Ideal S1024x2048 .bf16) (ix2 d l))
      = term (ax m c) (ag1 m c) (aup m c) (adown m c) (tr (bk t) r) l (t.val % 8) :=
  Finset.sum_congr rfl fun d _ => congrArg₂ (· * ·) (u_val m c t h hh r d) (X2_at m c t d l)

/-- The step as one equation in each of its three kinds. -/
theorem step_first (c : Dev nD) (t : Fin cfg0.N) (h0 : t.val % 8 = 0) :
    outsAt m c t.val t.isLt = (View.canon (zeroL (st0_4 t).view (k0_pay18 (hn (rows (XV m c) (bk t)) (iblk m c 0 t)) (iblk m c 1 t)) (iblk m c 2 t)),
      hn (rows (XV m c) (bk t)) (iblk m c 0 t)) := by
  have h1 := (hfirst t).mpr h0
  rw [outsAt_first m c t h1 (left7 []) (left8 [])]
  by_cases h2 : start (grid0.coords t)
  · have hz : bk t = 0 := by
      have := (hstart t).mp h2
      exact Fin.ext (show t.val / 8 % 32 = 0 by omega)
    rw [show stepAt m c t _ _ = _ from (dif_pos h1).trans (dif_pos h2), o_A, h_A, hz]
  · rw [show stepAt m c t _ _ = _ from (dif_pos h1).trans (dif_neg h2), o_B, h_B]
theorem step_between (c : Dev nD) (t : Fin cfg0.N) (h0 : t.val % 8 ≠ 0) (h7 : t.val % 8 ≠ 7) (o : Vec Ideal S1024x2048 .f32) (h : Vec Ideal S1024x2048 .bf16) :
    stepAt m c t o h = (View.canon (colsL (k0_pay18 h (iblk m c 1 t)) o (iblk m c 2 t)), h) := by
  have h1 : ¬first (grid0.coords t) := fun h => h0 ((hfirst t).mp h)
  have h3 : ¬last (grid0.coords t) := fun h => h7 ((hlast t).mp h)
  rw [show stepAt m c t _ _ = _ from (dif_neg h1).trans (dif_neg h3), o_C]
theorem step_last (c : Dev nD) (t : Fin cfg0.N) (h7 : t.val % 8 = 7) (o : Vec Ideal S1024x2048 .f32) (h : Vec Ideal S1024x2048 .bf16) :
    stepAt m c t o h = (View.canon (rowsL (st0_4 t).view (colsL (k0_pay18 h (iblk m c 1 t)) o (iblk m c 2 t)) (rows (XV m c) (bk t)) (iblk m c 3 t)), h) := by
  have h1 : ¬first (grid0.coords t) := fun h => by have := (hfirst t).mp h; omega
  have h3 := (hlast t).mpr h7
  by_cases h4 : more (grid0.coords t)
  · rw [show stepAt m c t _ _ = _ from (dif_neg h1).trans ((dif_pos h3).trans (dif_pos h4)), o_D]
  · rw [show stepAt m c t _ _ = _ from (dif_neg h1).trans ((dif_pos h3).trans (dif_neg h4)), o_E]

/-- After a step the scratch holds the row block's normalised rows, and before the last step of the row block the output block
holds the projection of the hidden columns so far. -/
def Held (c : Dev nD) (t : Fin cfg0.N) : Prop :=
  (∀ r k, (outsAt m c t.val t.isLt).2 (ix2 r k) = norm (ax m c (tr (bk t) r)) (ag1 m c) k)
  ∧ (t.val % 8 ≠ 7 → ∀ r l, (outsAt m c t.val t.isLt).1 (ix2 r l) = part (ax m c) (ag1 m c) (aup m c) (adown m c) (t.val % 8 + 1) (tr (bk t) r) l)

theorem held_first (c : Dev nD) (t : Fin cfg0.N) (h0 : t.val % 8 = 0) : Held m c t := by
  unfold Held
  rw [step_first m c t h0]
  refine ⟨hn_val m c t, fun _ r l => ?_⟩
  dsimp only
  rw [zero_val, term_val m c t _ (hn_val m c t), h0, part_one]

/-- The step before. -/
abbrev pv (t : Fin cfg0.N) : Fin cfg0.N := ⟨t.val - 1, Nat.lt_of_le_of_lt (Nat.sub_le _ _) t.isLt⟩

theorem held_pv (c : Dev nD) (t : Fin cfg0.N) (h0 : t.val % 8 ≠ 0) (hp : Held m c (pv t)) :
    (∀ r k, (outsAt m c (pv t).val (pv t).isLt).2 (ix2 r k) = norm (ax m c (tr (bk t) r)) (ag1 m c) k)
    ∧ ∀ r l, (outsAt m c (pv t).val (pv t).isLt).1 (ix2 r l) = part (ax m c) (ag1 m c) (aup m c) (adown m c) (t.val % 8) (tr (bk t) r) l := by
  have eb : bk (pv t) = bk t := Fin.ext (show (t.val - 1) / 8 % 32 = t.val / 8 % 32 by omega)
  have ej : (pv t).val % 8 + 1 = t.val % 8 := show (t.val - 1) % 8 + 1 = t.val % 8 by omega
  obtain ⟨ha, hb⟩ := hp
  rw [eb] at ha hb
  rw [ej] at hb
  exact ⟨ha, hb (by omega)⟩

theorem held_next (c : Dev nD) (t : Fin cfg0.N) (h0 : t.val % 8 ≠ 0) (hp : Held m c (pv t)) : Held m c t := by
  obtain ⟨ha, hb⟩ := held_pv m c t h0 hp
  have hz : t.val ≠ 0 := fun hz => h0 (by rw [hz])
  unfold Held
  rw [outsAt_pos m c t hz]
  by_cases h7 : t.val % 8 = 7
  · rw [step_last m c t h7]
    exact ⟨ha, fun h => absurd h7 h⟩
  · rw [step_between m c t h0 h7]
    refine ⟨ha, fun _ r l => ?_⟩
    dsimp only
    rw [cols_val, term_val m c t _ ha, part_succ]
    exact congrArg₂ (· + ·) (hb r l) rfl

theorem held_all : ∀ (n : ℕ) (c : Dev nD) (t : Fin cfg0.N), t.val = n → Held m c t
  | 0, c, t, h => held_first m c t (by rw [h])
  | n + 1, c, t, h => by
    by_cases h0 : t.val % 8 = 0
    · exact held_first m c t h0
    · exact held_next m c t h0 (held_all n c (pv t) (by show t.val - 1 = n; omega))

/-- After a row block's last step the output block holds the layer's rows. -/
theorem out_spec (c : Dev nD) (t : Fin cfg0.N) (h7 : t.val % 8 = 7) (r : Fin 1024) (l : Fin 2048) :
    (outsAt m c t.val t.isLt).1 (ix2 r l) = layer (ax m c) (ag1 m c) (aup m c) (adown m c) (ag2 m c) (tr (bk t) r) l := by
  have h0 : t.val % 8 ≠ 0 := by omega
  obtain ⟨ha, hb⟩ := held_pv m c t h0 (held_all m _ c (pv t) rfl)
  have hz : t.val ≠ 0 := fun hz => h0 (by rw [hz])
  rw [outsAt_pos m c t hz, step_last m c t h7]
  dsimp only
  rw [rows_val _ _ (cols_cover _ _ _), rows_XV]
  unfold layer
  refine congrArg₂ (· + ·) rfl (congrArg₂ (fun f g => norm f g l) (funext fun k => ?_) (funext fun k => X3_at m c t k))
  rw [cols_val, term_val m c t _ ha, ← part_eight, h7, part_succ]
  exact congrArg₂ (· + ·) ((hb r k).trans (by rw [h7])) rfl

/-- The layer as an array. -/
def result (c : Dev nD) : FVec Ideal S32768x2048 .f32 := fun y => layer (ax m c) (ag1 m c) (aup m c) (adown m c) (ag2 m c) (y 0) (y 1)

/-- The output array after the run. -/
theorem final (c : Dev nD) : (dats m 0 c).arrAt 4 cfg0.N = result m c := by
  refine (dats m 0 c).arrAt_eq_of_covers 4 _ (by decide +kernel) fun t hf y => ?_
  have ht := (flush0_4 t).mp hf
  have htn : t.val < 256 := t.isLt
  have h := out_spec m c t (by omega) (y 0) (y 1)
  rw [after4]
  blk_simp
  have ey : (y : S1024x2048.Idx) = ix2 (y 0 : Fin 1024) (y 1 : Fin 2048) := by
    funext a
    match a with
    | ⟨0, _⟩ => rfl
    | ⟨1, _⟩ => rfl
  refine (congrArg (outsAt m c t.val t.isLt).1 ey).trans (h.trans ?_)
  show layer _ _ _ _ _ _ _ = layer _ _ _ _ _ _ _
  congr 1
  · apply Fin.ext
    blk_simp [idx t]
    show 1024 * (t.val / 8 % 32) + (y 0).val = _
    omega
  · apply Fin.ext
    blk_simp [idx t]

/-- The kernel ends with the output array at the layer, its arguments unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m ρ) (frame m ρ))
  refine ⟨?_, h.2.1 c⟩
  exact ((h.1 c).1 4).trans (final m c)

end Cert.Kernel2Ideal.Mlp

end
-- ==== Proof.Reference2.lean ====
module

public import proofs.«01_k».proof.Proof.Gen.Reference2Ideal.Run
public import proofs.«01_k».proof.Proof.Math.Mlp

@[expose] public section

set_option maxRecDepth 16384

noncomputable section

namespace Cert.Reference2Ideal.Mlp

open Idealize.ShloMosaic Idealize.ShloMosaic.TcCoe
open Cert.Reference2Ideal Cert.Reference2Ideal.Gen Cert.Reference2Ideal.Value Cert.SquaredRelu

/-- Rows normalised and scaled. -/
def rms (a : FVec Ideal S32768x2048 .f32) (g : FVec Ideal S1x2048 .f32) : FVec Ideal S32768x2048 .f32 :=
  mulf (mulf a (broadcastInDim S32768x2048 ![0, 1] bcast_S32768x1_S32768x2048_0_1 (Host.rsqrt (addf (Host.divf (broadcastInDim S32768x1 ![0] bcast_S32768_S32768x1_0 (Host.reduceAdd (mulf a a) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32))))))
    (broadcastInDim S32768x2048 ![0, 1] bcast_S1x2048_S32768x2048_0_1 (broadcastInDim S1x2048 ![1] bcast_S2048_S1x2048_1 (shapeCast _ g shapeCasts_S1x2048_S2048)))

/-- The hidden layer before its square. -/
def relu (h : FVec Ideal S32768x2048 .f32) (u : FVec Ideal S1x2048x8192 .f32) : FVec Ideal S32768x8192 .f32 :=
  maximumf (Host.dotGeneral dot_S32768x2048_S2048x8192_S32768x8192_1_0_0_1_n_n none h (shapeCast _ u shapeCasts_S1x2048x8192_S2048x8192)) (broadcastInDim S32768x8192 ![] bcast_S_S32768x8192 (constant S_ .f32 0x00000000#32))

/-- The hidden layer, squared and projected down. -/
def proj (r : FVec Ideal S32768x8192 .f32) (d : FVec Ideal S1x8192x2048 .f32) : FVec Ideal S32768x2048 .f32 :=
  Host.dotGeneral dot_S32768x8192_S8192x2048_S32768x2048_1_0_0_1_n_n none (mulf r r) (shapeCast _ d shapeCasts_S1x8192x2048_S8192x2048)

variable (x : FVec Ideal S32768x2048 .f32) (g₁ : FVec Ideal S1x2048 .f32) (u : FVec Ideal S1x2048x8192 .f32) (d : FVec Ideal S1x8192x2048 .f32)
  (g₂ : FVec Ideal S1x2048 .f32)

/-- The reference's result. -/
def res : FVec Ideal S32768x2048 .f32 := addf x (rms (proj (relu (rms x g₁) u) d) g₂)

theorem reduces : S32768x2048.Reduces [1] S32768 := by decide

theorem lift_at (R : Fin 32768) (k : Fin 2048) : reduces.lift (ix1 R) k = ix2 R k := by
  funext a
  match a with
  | 0 => exact Fin.ext rfl
  | 1 => exact Fin.ext rfl

theorem rowsum_at (a : FVec Ideal S32768x2048 .f32) (f : Fin 2048 → EReal) (R : Fin 32768) (hf : ∀ k, a (ix2 R k) = f k) :
    Ideal.hostReduceAdd reducesTo_S32768x2048_S32768_d1 a 0 (ix1 R) = ∑ k, f k := by
  rw [Ideal.hostReduceAdd_single _ reduces, zero_add]
  exact Finset.sum_congr rfl fun k _ => (congrArg a (lift_at R k)).trans (hf k)

theorem rms_at (a : FVec Ideal S32768x2048 .f32) (g : FVec Ideal S1x2048 .f32) (R : Fin 32768) (k : Fin 2048) :
    rms a g (ix2 R k) = norm (fun k => a (ix2 R k)) (fun k => g (ix2 (0 : Fin 1) k)) k := by
  pointwise [rms]
  rfl
theorem relu_at (h : FVec Ideal S32768x2048 .f32) (R : Fin 32768) (e : Fin 8192) :
    relu h u (ix2 R e) = max (∑ k, h (ix2 R k) * u (ix3 (0 : Fin 1) k e)) 0 := by
  pointwise [relu]
theorem proj_at (r : FVec Ideal S32768x8192 .f32) (R : Fin 32768) (l : Fin 2048) :
    proj r d (ix2 R l) = ∑ e, r (ix2 R e) * r (ix2 R e) * d (ix3 (0 : Fin 1) e l) := by
  pointwise [proj]
theorem res_at (R : Fin 32768) (l : Fin 2048) :
    res x g₁ u d g₂ (ix2 R l) = layer (fun R k => x (ix2 R k)) (fun k => g₁ (ix2 (0 : Fin 1) k)) (fun k e => u (ix3 (0 : Fin 1) k e))
      (fun e l => d (ix3 (0 : Fin 1) e l)) (fun k => g₂ (ix2 (0 : Fin 1) k)) R l := by
  show x (ix2 R l) + rms (proj (relu (rms x g₁) u) d) g₂ (ix2 R l) = _
  rw [rms_at]
  unfold layer
  have e : (fun k => proj (relu (rms x g₁) u) d (ix2 R k)) = out (fun R k => x (ix2 R k)) (fun k => g₁ (ix2 (0 : Fin 1) k)) (fun k e => u (ix3 (0 : Fin 1) k e))
      (fun e l => d (ix3 (0 : Fin 1) e l)) R := funext fun k => by
    rw [proj_at]
    unfold out
    refine Finset.sum_congr rfl fun e _ => ?_
    rw [relu_at]
    unfold hid psq
    simp only [rms_at]
  rw [e]

/-- It is what the run leaves in the result. -/
theorem res_out_eq (m : (ℓ : Loc nD τ sig) → Buf (Elt Ideal) ℓ) (c : Dev nD) :
    res_main_v34 m c = res (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.Reference2Ideal.Mlp

end
-- ==== Proof.Math.Proj.lean ====
module

public import proofs.«01_k».proof.Proof.Math.Mlp

@[expose] public section

noncomputable section

namespace Cert.Projections

open Idealize.ShloMosaic Cert.SquaredRelu

/-- The two branches added, projected. -/
def mixed (p q : Fin 32768 → Fin 2048 → EReal) (w : Fin 2048 → Fin 2048 → EReal) (R : Fin 32768) (l : Fin 2048) : EReal :=
  ∑ k, (p R k + q R k) * w k l
/-- The projected sum, normalised, is added to the layer's input. -/
def merged (p q : Fin 32768 → Fin 2048 → EReal) (w : Fin 2048 → Fin 2048 → EReal) (x : Fin 32768 → Fin 2048 → EReal) (g : Fin 2048 → EReal)
    (R : Fin 32768) (l : Fin 2048) : EReal := x R l + norm (mixed p q w R) g l
/-- The normalised rows, projected. -/
def entering (x : Fin 32768 → Fin 2048 → EReal) (g : Fin 2048 → EReal) (w : Fin 2048 → Fin 10752 → EReal) (R : Fin 32768) (l : Fin 10752) : EReal :=
  ∑ k, norm (x R) g k * w k l

end Cert.Projections

end
-- ==== Proof.Kernel3Ideal.Result.lean ====
module

public import proofs.«01_k».proof.Proof.Gen.Kernel3Ideal.Value
public import proofs.«01_k».proof.Proof.Math.Proj
public import Idealize.ShloMosaic.Lib.Pipeline.ValueKit

@[expose] public section

set_option maxRecDepth 16384

noncomputable section

namespace Cert.Kernel3Ideal.Out

open Idealize.ShloMosaic Idealize.ShloMosaic.TcCoe Idealize.ShloMosaic.Tactic
open Idealize.SL.Sem
open Cert.Kernel3Ideal.Gen Cert.SquaredRelu Cert.Projections

variable (m : (ℓ : Loc nD τ sig) → Buf (Elt Ideal) ℓ)

/-- The arguments, by row and column. -/
def ap (c : Dev nD) (R : Fin 32768) (k : Fin 2048) : EReal := (m ((c : Thread nD τ).loc main_arg0) : FVec Ideal S32768x2048 .bf16) (ix2 R k)
def aq (c : Dev nD) (R : Fin 32768) (k : Fin 2048) : EReal := (m ((c : Thread nD τ).loc main_arg1) : FVec Ideal S32768x2048 .bf16) (ix2 R k)
def aw (c : Dev nD) (k l : Fin 2048) : EReal := (m ((c : Thread nD τ).loc main_arg2) : FVec Ideal S1x2048x2048 .f32) (ix3 (0 : Fin 1) k l)
def ax (c : Dev nD) (R : Fin 32768) (k : Fin 2048) : EReal := (m ((c : Thread nD τ).loc main_arg3) : FVec Ideal S32768x2048 .f32) (ix2 R k)
def ag (c : Dev nD) (k : Fin 2048) : EReal := (m ((c : Thread nD τ).loc main_arg4) : FVec Ideal S1x2048 .f32) (ix2 (0 : Fin 1) k)

/-- The windows' block indices, at every step. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] :=
  (by decide +kernel : ∀ t : Fin grid0.N, _)

theorem V_v1 (c : Dev nD) (k l : Fin 2048) : (V m c main_v1 : FVec Ideal S2048x2048 .bf16) (ix2 k l) = aw m c k l := by
  entry_read; pointwise [aw]
theorem V_v3 (c : Dev nD) (k : Fin 2048) : (V m c main_v3 : FVec Ideal S1x2048 .f32) (ix2 (0 : Fin 1) k) = ag m c k := by
  entry_read; pointwise [ag]

/-- The row of the array that row `r` of step `t`'s block is. -/
def tr (t : Fin cfg0.N) (r : Fin 512) : Fin 32768 := ⟨512 * t.val + r.val, by have : t.val < 64 := t.isLt; omega⟩

/-- The steps' blocks, at an index. -/
theorem X0_at (c : Dev nD) (t : Fin cfg0.N) (r : Fin 512) (k : Fin 2048) : (iblk m c 0 t : Vec Ideal S512x2048 .bf16) (ix2 r k) = ap m c (tr t r) k := by
  have e := V_main_arg0 m c
  show (V m c main_arg0 : FVec Ideal S32768x2048 .bf16) _ = _
  rw [e]
  refine congrArg (m ((c : Thread nD τ).loc main_arg0) : FVec Ideal S32768x2048 .bf16) ?_
  blk_ext [idx t, tr]
theorem X1_at (c : Dev nD) (t : Fin cfg0.N) (r : Fin 512) (k : Fin 2048) : (iblk m c 1 t : Vec Ideal S512x2048 .bf16) (ix2 r k) = aq m c (tr t r) k := by
  have e := V_main_arg1 m c
  show (V m c main_arg1 : FVec Ideal S32768x2048 .bf16) _ = _
  rw [e]
  refine congrArg (m ((c : Thread nD τ).loc main_arg1) : FVec Ideal S32768x2048 .bf16) ?_
  blk_ext [idx t, tr]
theorem X2_at (c : Dev nD) (t : Fin cfg0.N) (k l : Fin 2048) : (iblk m c 2 t : Vec Ideal S2048x2048 .bf16) (ix2 k l) = aw m c k l := by
  rw [← V_v1]
  show (V m c main_v1 : FVec Ideal S2048x2048 .bf16) _ = _
  refine congrArg (V m c main_v1 : FVec Ideal S2048x2048 .bf16) ?_
  blk_ext [idx t]
theorem X3_at (c : Dev nD) (t : Fin cfg0.N) (r : Fin 512) (k : Fin 2048) : (iblk m c 3 t : Vec Ideal S512x2048 .f32) (ix2 r k) = ax m c (tr t r) k := by
  have e := V_main_arg3 m c
  show (V m c main_arg3 : FVec Ideal S32768x2048 .f32) _ = _
  rw [e]
  refine congrArg (m ((c : Thread nD τ).loc main_arg3) : FVec Ideal S32768x2048 .f32) ?_
  blk_ext [idx t, tr]
theorem X4_at (c : Dev nD) (t : Fin cfg0.N) (k : Fin 2048) : (iblk m c 4 t : Vec Ideal S1x2048 .f32) (ix2 (0 : Fin 1) k) = ag m c k := by
  rw [← V_v3]
  show (V m c main_v3 : FVec Ideal S1x2048 .f32) _ = _
  refine congrArg (V m c main_v3 : FVec Ideal S1x2048 .f32) ?_
  blk_ext [idx t]

/-- What a step stores, at an index. -/
theorem pay_at (p q : Vec Ideal S512x2048 .bf16) (w : Vec Ideal S2048x2048 .bf16) (x : Vec Ideal S512x2048 .f32) (g : Vec Ideal S1x2048 .f32) (r : Fin 512) (l : Fin 2048) :
    k0_pay1 p q w x g (ix2 r l) = x (ix2 r l) + norm (fun l => ∑ k, (p (ix2 r k) + q (ix2 r k)) * w (ix2 k l)) (fun k => g (ix2 (0 : Fin 1) k)) l := by
  pointwise [k0_pay1]
  rfl
/-- A window at the origin with a shape's own sizes is the whole shape. -/
theorem origin_idx {s : Shape} (off : Fin s.rank → ℕ) (h0 : ∀ a, off a = 0) (inb : ∀ a, off a + s.size a ≤ s.size a) (y : s.Idx) :
    (Rect.unit (s := s) off s.size inb).emb y = y :=
  funext fun a => Fin.ext (by show off a + 1 * (y a).val = (y a).val; rw [h0]; omega)
theorem ld_whole {s : Shape} {e : EltTy} (off : Fin s.rank → ℕ) (h0 : ∀ a, off a = 0) (inb : ∀ a, off a + s.size a ≤ s.size a) (x : Vec Ideal s e) :
    View.ld x (Rect.unit (s := s) off s.size inb) = x := funext fun y => congrArg x (origin_idx off h0 inb y)
/-- The output block of a step is the payload of its blocks. -/
theorem out_at (p q : Vec Ideal S512x2048 .bf16) (w : Vec Ideal S2048x2048 .bf16) (x : Vec Ideal S512x2048 .f32) (g : Vec Ideal S1x2048 .f32) (y : S512x2048.Idx) :
    out0_5 p q w x g y = k0_pay1 p q w x g y := by
  unfold out0_5
  rw [show View.ld p r0_0 = p from ld_whole (s := S512x2048) ![0, 0] (by decide) _ p, show View.ld q r0_0 = q from ld_whole (s := S512x2048) ![0, 0] (by decide) _ q,
    show View.ld w r0_1 = w from ld_whole (s := S2048x2048) ![0, 0] (by decide) _ w, show View.ld x r0_0 = x from ld_whole (s := S512x2048) ![0, 0] (by decide) _ x,
    show View.ld g r0_2 = g from ld_whole (s := S1x2048) ![0, 0] (by decide) _ g]
  generalize k0_pay1 p q w x g = v
  have h := View.canon_cons_emb (Val := Elt Ideal) (e := .f32) r0_0 v [] y
  rw [show r0_0.emb y = y from origin_idx (s := S512x2048) ![0, 0] (by decide) _ y] at h
  exact h

/-- The result as an array. -/
def result (c : Dev nD) : FVec Ideal S32768x2048 .f32 := fun y => merged (ap m c) (aq m c) (aw m c) (ax m c) (ag m c) (y 0) (y 1)

/-- A step's output block holds the result's rows. -/
theorem out_spec (c : Dev nD) (t : Fin cfg0.N) (r : Fin 512) (l : Fin 2048) :
    out0_5 (iblk m c 0 t) (iblk m c 1 t) (iblk m c 2 t) (iblk m c 3 t) (iblk m c 4 t) (ix2 r l) = merged (ap m c) (aq m c) (aw m c) (ax m c) (ag m c) (tr t r) l := by
  rw [out_at, pay_at]
  unfold merged
  refine congrArg₂ (· + ·) (X3_at m c t r l) (congrArg₂ (fun f g => norm f g l) (funext fun j => ?_) (funext fun k => X4_at m c t k))
  exact Finset.sum_congr rfl fun k _ => congrArg₂ (· * ·) (congrArg₂ (· + ·) (X0_at m c t r k) (X1_at m c t r k)) (X2_at m c t k j)

set_option maxHeartbeats 2000000 in
/-- The output array after the run. -/
theorem final (c : Dev nD) : (dats m 0 c).arrAt 5 cfg0.N = result m c := by
  refine (dats m 0 c).arrAt_eq_of_covers 5 _ (by decide +kernel) fun t hf y => ?_
  have h := out_spec m c t (y 0) (y 1)
  rw [after0_5]
  blk_simp
  have ey : (y : S512x2048.Idx) = ix2 (y 0 : Fin 512) (y 1 : Fin 2048) := by
    funext a
    match a with
    | ⟨0, _⟩ => rfl
    | ⟨1, _⟩ => rfl
  refine (congrArg (out0_5 (iblk m c 0 t) (iblk m c 1 t) (iblk m c 2 t) (iblk m c 3 t) (iblk m c 4 t)) ey).trans (h.trans ?_)
  show merged _ _ _ _ _ _ _ = merged _ _ _ _ _ _ _
  congr 1
  · apply Fin.ext
    blk_simp [idx t]
    show 512 * t.val + (y 0).val = _
    omega
  · apply Fin.ext
    blk_simp [idx t]

/-- The kernel ends with the output array at the result, its arguments unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (final m c), (h c).2⟩) (Cert.Kernel3Ideal.Value.run_blocks (F := Ideal) m ρ)

end Cert.Kernel3Ideal.Out

end
-- ==== Proof.Twin3.lean ====
module

public import proofs.«01_k».proof.Defs
public import proofs.«01_k».proof.Proof.Gen.Kernel3
public import proofs.«01_k».proof.Proof.Gen.Kernel3Ideal.Frame

@[expose] public section

set_option maxRecDepth 16384

noncomputable section

namespace Cert.Proof

open Idealize.ShloMosaic Idealize.SL.Sem

variable {F : FTy → Type} [FloatOps F]
/-- The two programs' bodies are the same. -/
theorem bodies3 : @Cert.Kernel3.defs₀ F _ Cert.Kernel3.Gen.facts = @Cert.Kernel3Ideal.defs₀ F _ Cert.Kernel3Ideal.Gen.facts := by
  unfold Cert.Kernel3.defs₀ Cert.Kernel3Ideal.defs₀
  refine congrArg Defs.onTc ?_
  funext l a
  match l, a with
  | ⟨0, _⟩, (t, sl) => rfl
/-- With their pipelines too. -/
theorem tables3 : @Cert.Kernel3.defs F _ Cert.Kernel3.Gen.facts = @Cert.Kernel3Ideal.defs F _ Cert.Kernel3Ideal.Gen.facts :=
  congrArg (Pipeline.defs (Cert.Kernel3Ideal.pcfgs (F := F))) bodies3

/-- The programs on every thread are the same. -/
theorem mains3 : @Cert.Kernel3.main F _ Cert.Kernel3.Gen.facts = @Cert.Kernel3Ideal.main F _ Cert.Kernel3Ideal.Gen.facts := rfl

/-- The frame of the kernel as printed. -/
theorem frame_kernel3 : Cert.quiescent_Kernel3 (hKernel3 := Cert.Kernel3.Gen.facts) := by
  intro m ρ _
  rw [tables3, mains3]
  exact Cert.Kernel3Ideal.Gen.frame (F := Bits) m ρ

end Cert.Proof

end
-- ==== Proof.Reference3.lean ====
module

public import proofs.«01_k».proof.Proof.Gen.Reference3Ideal.Run
public import proofs.«01_k».proof.Proof.Reference2
public import proofs.«01_k».proof.Proof.Math.Proj

@[expose] public section

set_option maxRecDepth 16384

noncomputable section

namespace Cert.Reference3Ideal.Out

open Idealize.ShloMosaic Idealize.ShloMosaic.TcCoe Idealize.SL.Sem
open Cert.Reference3Ideal Cert.Reference3Ideal.Gen Cert.SquaredRelu Cert.Projections
open Cert.Reference2Ideal.Mlp (rms rms_at)

variable (p q : FVec Ideal S32768x2048 .bf16) (w : FVec Ideal S1x2048x2048 .f32) (x : FVec Ideal S32768x2048 .f32) (g : FVec Ideal S1x2048 .f32)

/-- The two branches added and projected. -/
def mix : FVec Ideal S32768x2048 .f32 :=
  Host.dotGeneral dot_S32768x2048_S2048x2048_S32768x2048_1_0_0_1_n_n none (addf (extf .f32 p bitsLt_bf16_f32) (extf .f32 q bitsLt_bf16_f32)) (shapeCast _ w shapeCasts_S1x2048x2048_S2048x2048)
/-- The reference's result. -/
def res : FVec Ideal S32768x2048 .f32 := addf x (rms (mix p q w) g)

theorem mix_at (R : Fin 32768) (l : Fin 2048) :
    mix p q w (ix2 R l) = mixed (fun R k => p (ix2 R k)) (fun R k => q (ix2 R k)) (fun k l => w (ix3 (0 : Fin 1) k l)) R l := by
  pointwise [mix, mixed]
/-- The reference's result at an index. -/
theorem res_at (R : Fin 32768) (l : Fin 2048) :
    res p q w x g (ix2 R l) = merged (fun R k => p (ix2 R k)) (fun R k => q (ix2 R k)) (fun k l => w (ix3 (0 : Fin 1) k l)) (fun R k => x (ix2 R k))
      (fun k => g (ix2 (0 : Fin 1) k)) R l := by
  show x (ix2 R l) + rms (mix p q w) g (ix2 R l) = _
  rw [rms_at]
  unfold merged
  simp only [mix_at]
/-- It is what the run leaves in the result. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = res (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.Reference3Ideal.Value.run (F := Ideal) m ρ

end Cert.Reference3Ideal.Out

end
-- ==== Proof.Kernel4Ideal.Kit.lean ====
module

public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Gen.Kernel4Ideal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel4Ideal.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (Pipeline.UD sig nD τ) ℕ

/-- The body's condition for the first step of a row block: the block's step is 0. -/
abbrev first (i : grid0.Coords) : Prop := k0_cond1 i = 1#1
/-- At the point `t`: `t` is a multiple of 7. -/
theorem hfirst : ∀ t : Fin cfg0.N, first (grid0.coords t) ↔ t.val % 7 = 0 :=
  (by decide +kernel : ∀ t : Fin grid0.N, first (grid0.coords t) ↔ t.val % 7 = 0)
/-- The body's condition for the first row block. -/
abbrev start (i : grid0.Coords) : Prop := Scalar.cmpi .ne (Scalar.extui (Scalar.cmpi .eq (BitVec.ofNat 32 (i 0).val) 0#32)) 0#32 = 1#1
/-- At the point `t`: `t` is below 7. -/
theorem hstart : ∀ t : Fin cfg0.N, start (grid0.coords t) ↔ t.val < 7 :=
  (by decide +kernel : ∀ t : Fin grid0.N, start (grid0.coords t) ↔ t.val < 7)
/-- The conditions under which the chunks of a further row block are copied in. -/
abbrev more (i : grid0.Coords) : Prop := k0_cond3 i = 1#1 ∧ k0_cond4 i = 1#1 ∧ k0_cond5 i = 1#1 ∧ k0_cond6 i = 1#1 ∧ k0_cond7 i = 1#1 ∧ k0_cond8 i = 1#1 ∧ k0_cond9 i = 1#1 ∧ k0_cond10 i = 1#1
/-- The conditions under which no further row block follows. -/
abbrev ended (i : grid0.Coords) : Prop := ¬k0_cond3 i = 1#1 ∧ ¬k0_cond4 i = 1#1 ∧ ¬k0_cond5 i = 1#1 ∧ ¬k0_cond6 i = 1#1 ∧ ¬k0_cond7 i = 1#1 ∧ ¬k0_cond8 i = 1#1 ∧ ¬k0_cond9 i = 1#1 ∧ ¬k0_cond10 i = 1#1
/-- A further row block follows the points below 105. -/
theorem hmore : ∀ t : Fin cfg0.N, t.val < 105 → more (grid0.coords t) :=
  (by decide +kernel : ∀ t : Fin grid0.N, t.val < 105 → more (grid0.coords t))
/-- No further row block follows the points from 105 on. -/
theorem hended : ∀ t : Fin cfg0.N, ¬t.val < 105 → ended (grid0.coords t) :=
  (by decide +kernel : ∀ t : Fin grid0.N, ¬t.val < 105 → ended (grid0.coords t))

/-- The rows of `x` that the copy of chunk 0 of the next block starts from. -/
instance closed2 (i : grid0.Coords) : ClosedOff (k0_off2 i) := ⟨![((i 0).val + 1) * 2048 + 0, 0], (by decide +kernel : ∀ i : grid0.Coords, k0_off2 i = ![((i 0).val + 1) * 2048 + 0, 0]) i⟩
/-- The rows of `x` that the copy of chunk 1 of the next block starts from. -/
instance closed3 (i : grid0.Coords) : ClosedOff (k0_off3 i) := ⟨![((i 0).val + 1) * 2048 + 256, 0], (by decide +kernel : ∀ i : grid0.Coords, k0_off3 i = ![((i 0).val + 1) * 2048 + 256, 0]) i⟩
/-- The rows of `x` that the copy of chunk 2 of the next block starts from. -/
instance closed4 (i : grid0.Coords) : ClosedOff (k0_off4 i) := ⟨![((i 0).val + 1) * 2048 + 512, 0], (by decide +kernel : ∀ i : grid0.Coords, k0_off4 i = ![((i 0).val + 1) * 2048 + 512, 0]) i⟩
/-- The rows of `x` that the copy of chunk 3 of the next block starts from. -/
instance closed5 (i : grid0.Coords) : ClosedOff (k0_off5 i) := ⟨![((i 0).val + 1) * 2048 + 768, 0], (by decide +kernel : ∀ i : grid0.Coords, k0_off5 i = ![((i 0).val + 1) * 2048 + 768, 0]) i⟩
/-- The rows of `x` that the copy of chunk 4 of the next block starts from. -/
instance closed6 (i : grid0.Coords) : ClosedOff (k0_off6 i) := ⟨![((i 0).val + 1) * 2048 + 1024, 0], (by decide +kernel : ∀ i : grid0.Coords, k0_off6 i = ![((i 0).val + 1) * 2048 + 1024, 0]) i⟩
/-- The rows of `x` that the copy of chunk 5 of the next block starts from. -/
instance closed7 (i : grid0.Coords) : ClosedOff (k0_off7 i) := ⟨![((i 0).val + 1) * 2048 + 1280, 0], (by decide +kernel : ∀ i : grid0.Coords, k0_off7 i = ![((i 0).val + 1) * 2048 + 1280, 0]) i⟩
/-- The rows of `x` that the copy of chunk 6 of the next block starts from. -/
instance closed8 (i : grid0.Coords) : ClosedOff (k0_off8 i) := ⟨![((i 0).val + 1) * 2048 + 1536, 0], (by decide +kernel : ∀ i : grid0.Coords, k0_off8 i = ![((i 0).val + 1) * 2048 + 1536, 0]) i⟩
/-- The rows of `x` that the copy of chunk 7 of the next block starts from. -/
instance closed9 (i : grid0.Coords) : ClosedOff (k0_off9 i) := ⟨![((i 0).val + 1) * 2048 + 1792, 0], (by decide +kernel : ∀ i : grid0.Coords, k0_off9 i = ![((i 0).val + 1) * 2048 + 1792, 0]) i⟩

/-- The input rows, left in high-bandwidth memory. -/
abbrev xM : Memref sig .tc .hbm S32768x2048 .f32 := Memref.whole main_arg0
/-- The scratch that holds the block's normalised rows. -/
abbrev hM : Memref sig .tc .vmem S2048x2048 .bf16 := Memref.whole cc0_scratch0
/-- The scratch that holds the block's input rows. -/
abbrev xbM : Memref sig .tc .vmem S2048x2048 .f32 := Memref.whole cc0_scratch1
/-- The elements of a memref, held by core `c` at the contents `f`. -/
def held {sp : Space} {s : Shape} {e : EltTy} (c : Dev nD) (M : Memref sig .tc sp s e) (f : M.view.ty.Contents (Elt F)) : sProp 𝕄 :=
  M.view.loc (c : Thread nD τ) ↦[M.view.set]{fullShare} f
/-- Chunk 0's semaphore. -/
abbrev sem0 : SemLoc sig := SemLoc.dma ((cc0_scratch2.slice (Rect.unit (s := S8) ![0] S1.size inb_S8_S1_0)).squeeze S_ squeezes_S1_S_).sem
/-- Chunk 0's semaphore, its counter at zero. -/
abbrev cell0 (c : Dev nD) : sProp 𝕄 := semVal ((c : Thread nD τ), SemLoc.dma ((cc0_scratch2.slice (Rect.unit (s := S8) ![0] S1.size inb_S8_S1_0)).squeeze S_ squeezes_S1_S_).sem) 0
/-- Chunk 0 of the scratch that holds the block's input rows. -/
abbrev xc0 : Memref sig .tc .vmem S256x2048 .f32 := xbM.slice (Rect.unit (s := S2048x2048) ![0, 0] S256x2048.size inb_S2048x2048_S256x2048_0_0) (fun _ => rfl)
/-- Chunk 1's semaphore. -/
abbrev sem1 : SemLoc sig := SemLoc.dma ((cc0_scratch2.slice (Rect.unit (s := S8) ![1] S1.size inb_S8_S1_1)).squeeze S_ squeezes_S1_S_).sem
/-- Chunk 1's semaphore, its counter at zero. -/
abbrev cell1 (c : Dev nD) : sProp 𝕄 := semVal ((c : Thread nD τ), SemLoc.dma ((cc0_scratch2.slice (Rect.unit (s := S8) ![1] S1.size inb_S8_S1_1)).squeeze S_ squeezes_S1_S_).sem) 0
/-- Chunk 1 of the scratch that holds the block's input rows. -/
abbrev xc1 : Memref sig .tc .vmem S256x2048 .f32 := xbM.slice (Rect.unit (s := S2048x2048) ![256, 0] S256x2048.size inb_S2048x2048_S256x2048_256_0) (fun _ => rfl)
/-- Chunk 2's semaphore. -/
abbrev sem2 : SemLoc sig := SemLoc.dma ((cc0_scratch2.slice (Rect.unit (s := S8) ![2] S1.size inb_S8_S1_2)).squeeze S_ squeezes_S1_S_).sem
/-- Chunk 2's semaphore, its counter at zero. -/
abbrev cell2 (c : Dev nD) : sProp 𝕄 := semVal ((c : Thread nD τ), SemLoc.dma ((cc0_scratch2.slice (Rect.unit (s := S8) ![2] S1.size inb_S8_S1_2)).squeeze S_ squeezes_S1_S_).sem) 0
/-- Chunk 2 of the scratch that holds the block's input rows. -/
abbrev xc2 : Memref sig .tc .vmem S256x2048 .f32 := xbM.slice (Rect.unit (s := S2048x2048) ![512, 0] S256x2048.size inb_S2048x2048_S256x2048_512_0) (fun _ => rfl)
/-- Chunk 3's semaphore. -/
abbrev sem3 : SemLoc sig := SemLoc.dma ((cc0_scratch2.slice (Rect.unit (s := S8) ![3] S1.size inb_S8_S1_3)).squeeze S_ squeezes_S1_S_).sem
/-- Chunk 3's semaphore, its counter at zero. -/
abbrev cell3 (c : Dev nD) : sProp 𝕄 := semVal ((c : Thread nD τ), SemLoc.dma ((cc0_scratch2.slice (Rect.unit (s := S8) ![3] S1.size inb_S8_S1_3)).squeeze S_ squeezes_S1_S_).sem) 0
/-- Chunk 3 of the scratch that holds the block's input rows. -/
abbrev xc3 : Memref sig .tc .vmem S256x2048 .f32 := xbM.slice (Rect.unit (s := S2048x2048) ![768, 0] S256x2048.size inb_S2048x2048_S256x2048_768_0) (fun _ => rfl)
/-- Chunk 4's semaphore. -/
abbrev sem4 : SemLoc sig := SemLoc.dma ((cc0_scratch2.slice (Rect.unit (s := S8) ![4] S1.size inb_S8_S1_4)).squeeze S_ squeezes_S1_S_).sem
/-- Chunk 4's semaphore, its counter at zero. -/
abbrev cell4 (c : Dev nD) : sProp 𝕄 := semVal ((c : Thread nD τ), SemLoc.dma ((cc0_scratch2.slice (Rect.unit (s := S8) ![4] S1.size inb_S8_S1_4)).squeeze S_ squeezes_S1_S_).sem) 0
/-- Chunk 4 of the scratch that holds the block's input rows. -/
abbrev xc4 : Memref sig .tc .vmem S256x2048 .f32 := xbM.slice (Rect.unit (s := S2048x2048) ![1024, 0] S256x2048.size inb_S2048x2048_S256x2048_1024_0) (fun _ => rfl)
/-- Chunk 5's semaphore. -/
abbrev sem5 : SemLoc sig := SemLoc.dma ((cc0_scratch2.slice (Rect.unit (s := S8) ![5] S1.size inb_S8_S1_5)).squeeze S_ squeezes_S1_S_).sem
/-- Chunk 5's semaphore, its counter at zero. -/
abbrev cell5 (c : Dev nD) : sProp 𝕄 := semVal ((c : Thread nD τ), SemLoc.dma ((cc0_scratch2.slice (Rect.unit (s := S8) ![5] S1.size inb_S8_S1_5)).squeeze S_ squeezes_S1_S_).sem) 0
/-- Chunk 5 of the scratch that holds the block's input rows. -/
abbrev xc5 : Memref sig .tc .vmem S256x2048 .f32 := xbM.slice (Rect.unit (s := S2048x2048) ![1280, 0] S256x2048.size inb_S2048x2048_S256x2048_1280_0) (fun _ => rfl)
/-- Chunk 6's semaphore. -/
abbrev sem6 : SemLoc sig := SemLoc.dma ((cc0_scratch2.slice (Rect.unit (s := S8) ![6] S1.size inb_S8_S1_6)).squeeze S_ squeezes_S1_S_).sem
/-- Chunk 6's semaphore, its counter at zero. -/
abbrev cell6 (c : Dev nD) : sProp 𝕄 := semVal ((c : Thread nD τ), SemLoc.dma ((cc0_scratch2.slice (Rect.unit (s := S8) ![6] S1.size inb_S8_S1_6)).squeeze S_ squeezes_S1_S_).sem) 0
/-- Chunk 6 of the scratch that holds the block's input rows. -/
abbrev xc6 : Memref sig .tc .vmem S256x2048 .f32 := xbM.slice (Rect.unit (s := S2048x2048) ![1536, 0] S256x2048.size inb_S2048x2048_S256x2048_1536_0) (fun _ => rfl)
/-- Chunk 7's semaphore. -/
abbrev sem7 : SemLoc sig := SemLoc.dma ((cc0_scratch2.slice (Rect.unit (s := S8) ![7] S1.size inb_S8_S1_7)).squeeze S_ squeezes_S1_S_).sem
/-- Chunk 7's semaphore, its counter at zero. -/
abbrev cell7 (c : Dev nD) : sProp 𝕄 := semVal ((c : Thread nD τ), SemLoc.dma ((cc0_scratch2.slice (Rect.unit (s := S8) ![7] S1.size inb_S8_S1_7)).squeeze S_ squeezes_S1_S_).sem) 0
/-- Chunk 7 of the scratch that holds the block's input rows. -/
abbrev xc7 : Memref sig .tc .vmem S256x2048 .f32 := xbM.slice (Rect.unit (s := S2048x2048) ![1792, 0] S256x2048.size inb_S2048x2048_S256x2048_1792_0) (fun _ => rfl)

end Cert.Kernel4Ideal.In

end
-- ==== Proof.Kernel4Ideal.Pieces.lean ====
module

public import proofs.«01_k».proof.Proof.Kernel4Ideal.Kit

@[expose] public section

set_option maxRecDepth 16384

noncomputable section

namespace Cert.Kernel4Ideal.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (Pipeline.UD sig nD τ) ℕ

/-- The rows of chunk `r` lie inside the block. -/
theorem xr_inb : ∀ (r : Fin 8) (a : Fin 2), (![256 * r.val, 0] : Fin 2 → ℕ) a + S256x2048.size a ≤ S2048x2048.size a := by decide
/-- The rows of chunk `r` of a block. -/
abbrev xr (r : Fin 8) : Rect S2048x2048 := Rect.unit (s := S2048x2048) ![256 * r.val, 0] S256x2048.size (xr_inb r)
/-- The rows of chunk `r` of block `b` lie inside the array. -/
theorem xs_inb : ∀ (b : Fin 16) (r : Fin 8) (a : Fin 2), (![2048 * b.val + 256 * r.val, 0] : Fin 2 → ℕ) a + S256x2048.size a ≤ S32768x2048.size a := by decide +kernel
/-- Chunk `r` of block `b` of the input rows. -/
abbrev xs (b : Fin 16) (r : Fin 8) : Memref sig .tc .hbm S256x2048 .f32 :=
  xM.slice (Rect.unit (s := S32768x2048) ![2048 * b.val + 256 * r.val, 0] S256x2048.size (xs_inb b r)) (fun _ => rfl)
/-- The rows of block `b` lie inside the array. -/
theorem xrow_inb : ∀ (b : Fin 16) (a : Fin 2), (![2048 * b.val, 0] : Fin 2 → ℕ) a + S2048x2048.size a ≤ S32768x2048.size a := by decide +kernel
/-- Block `b` of the input rows. -/
def rows (X : Vec F S32768x2048 .f32) (b : Fin 16) : Vec F S2048x2048 .f32 :=
  fun y => X ((Rect.unit (s := S32768x2048) ![2048 * b.val, 0] S2048x2048.size (xrow_inb b)).emb y)
/-- The input array's contents at the rows `X`. -/
abbrev xG (X : Vec F S32768x2048 .f32) : xM.view.ty.Contents (Elt F) := (Memref.isWhole_whole main_arg0).unread X
/-- The scratch's contents at the block `v`. -/
abbrev xbG (v : Vec F S2048x2048 .f32) : xbM.view.ty.Contents (Elt F) := (Memref.isWhole_whole cc0_scratch1).unread v

/-- A family over eight indices, written out. -/
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide, bigSep_insert (by decide), bigSep_insert (by decide), bigSep_insert (by decide), bigSep_insert (by decide), bigSep_insert (by decide), bigSep_insert (by decide), bigSep_insert (by decide), bigSep_singleton]
  rfl

/-- The scratch for the rows, held whole, is its eight chunks. -/
theorem pieces (c : Dev nD) (G : xbM.view.ty.Contents (Elt F)) :
    (held c xbM G : sProp 𝕄) = iprop(held c xc0 G ∗ held c xc1 G ∗ held c xc2 G ∗ held c xc3 G ∗ held c xc4 G ∗ held c xc5 G ∗ held c xc6 G ∗ held c xc7 G) := by
  have hb := Ring.pointsTo_blocks (sig := sig) (Ix := Unit) (Val := Elt F) (Name := ℕ) (U := Pipeline.UD sig nD τ) (Lvl := ℕ)
    (ℓ := xbM.view.loc (c : Thread nD τ)) (fun r : Fin 8 => (xr r).set)
    (fun b b' h => Ring.lead_disjoint (s := S2048x2048) (0 : Fin 2) 256 (fun r : Fin 8 => ![256 * r.val, 0]) S256x2048.size xr_inb (fun _ => rfl) rfl b b' h)
    (Ring.lead_cover (s := S2048x2048) (0 : Fin 2) 256 (fun r : Fin 8 => ![256 * r.val, 0]) S256x2048.size xr_inb (fun _ => rfl) (fun r => (by decide : ∀ (r : Fin 8) (a : Fin 2), a ≠ 0 → (![256 * r.val, 0] : Fin 2 → ℕ) a = 0) r) rfl (by decide) rfl)
    (q := fullShare) G
  rw [bigSep_eight] at hb
  unfold held
  rw [show xbM.view.set = Finset.univ from View.set_whole _]
  refine hb.trans ?_
  rw [show xc0.view.set = (xr 0).set from View.set_slice_whole _ _, show xc1.view.set = (xr 1).set from View.set_slice_whole _ _, show xc2.view.set = (xr 2).set from View.set_slice_whole _ _, show xc3.view.set = (xr 3).set from View.set_slice_whole _ _, show xc4.view.set = (xr 4).set from View.set_slice_whole _ _, show xc5.view.set = (xr 5).set from View.set_slice_whole _ _, show xc6.view.set = (xr 6).set from View.set_slice_whole _ _, show xc7.view.set = (xr 7).set from View.set_slice_whole _ _]

/-- A memref written whole with what another content shows through it is held at that content. -/
theorem landed {sp : Space} {s : Shape} {e : EltTy} (c : Dev nD) (M : Memref sig .tc sp s e) (f g : M.view.ty.Contents (Elt F)) (p : s.Idx → Elt F e)
    (h : ∀ z, p z = M.view.read (Elt F) g z) :
    (held c M (M.view.writes (Elt F) f [⟨Rect.whole s, p⟩]) : sProp 𝕄) = held c M g := by
  unfold held
  refine pointsTo_congr fun i hi => ?_
  obtain ⟨z, -, rfl⟩ := Finset.mem_map.mp hi
  have hz := h z
  rw [← View.write_univ_eq_writes_whole, View.writes_nil, View.write_emb_of_mem _ _ (Finset.mem_univ _), hz, View.read_apply, cast_cast, cast_eq]

/-- A chunk of the array shows what the block's chunk in the scratch shows. -/
theorem chunk_read (X : Vec F S32768x2048 .f32) (b : Fin 16) (r : Fin 8) (off : Fin 2 → ℕ) (inb : ∀ a, off a + S256x2048.size a ≤ S32768x2048.size a)
    (hoff : off = ![2048 * b.val + 256 * r.val, 0]) (z : S256x2048.Idx) :
    (xM.slice (Rect.unit (s := S32768x2048) off S256x2048.size inb) (fun _ => rfl)).view.read (Elt F) (xG X) z
      = (xbM.slice (xr r) (fun _ => rfl)).view.read (Elt F) (xbG (rows X b)) z := by
  subst hoff
  have hX := congrFun ((Memref.isWhole_whole main_arg0).read_unread (Val := Elt F) X) ((Rect.unit (s := S32768x2048) ![2048 * b.val + 256 * r.val, 0] S256x2048.size inb).emb z)
  have hB := congrFun ((Memref.isWhole_whole cc0_scratch1).read_unread (Val := Elt F) (rows X b)) ((xr r).emb z)
  refine Eq.trans hX (Eq.trans ?_ hB.symm)
  unfold rows
  refine congrArg X (funext fun a => Fin.ext ?_)
  fin_cases a
  · show 2048 * b.val + 256 * r.val + 1 * (z 0).val = 2048 * b.val + 1 * (256 * r.val + 1 * (z 0).val)
    omega
  · show 0 + 1 * (z 1).val = 0 + 1 * (0 + 1 * (z 1).val)
    omega

/-- The element sets of a block's chunks are disjoint. -/
theorem xs_disjoint (b : Fin 16) (r r' : Fin 8) (h : r ≠ r') : Disjoint (xs b r).view.set (xs b r').view.set := by
  rw [show (xs b r).view.set = (Rect.unit (s := S32768x2048) ![2048 * b.val + 256 * r.val, 0] S256x2048.size (xs_inb b r)).set from View.set_slice_whole _ _,
    show (xs b r').view.set = (Rect.unit (s := S32768x2048) ![2048 * b.val + 256 * r'.val, 0] S256x2048.size (xs_inb b r')).set from View.set_slice_whole _ _,
    Finset.disjoint_left]
  intro i hi hi'
  have h1 := Rect.mem_set_unit.mp hi 0
  have h2 := Rect.mem_set_unit.mp hi' 0
  have e1 : 2048 * b.val + 256 * r.val ≤ (i 0).val ∧ (i 0).val < 2048 * b.val + 256 * r.val + 256 := h1
  have e2 : 2048 * b.val + 256 * r'.val ≤ (i 0).val ∧ (i 0).val < 2048 * b.val + 256 * r'.val + 256 := h2
  exact h (Fin.ext (by omega))

/-- The eight chunks of block `b` of the input rows, held. -/
def rowsHeld (c : Dev nD) (X : Vec F S32768x2048 .f32) (b : Fin 16) : sProp 𝕄 :=
  iprop(held c (xs b 0) (xG X) ∗ held c (xs b 1) (xG X) ∗ held c (xs b 2) (xG X) ∗ held c (xs b 3) (xG X) ∗ held c (xs b 4) (xG X) ∗ held c (xs b 5) (xG X) ∗ held c (xs b 6) (xG X) ∗ held c (xs b 7) (xG X))
/-- Two blocks' chunks share no element. -/
theorem xs_disjoint' (b b' : Fin 16) (h : b ≠ b') (r r' : Fin 8) : Disjoint (xs b r).view.set (xs b' r').view.set := by
  rw [show (xs b r).view.set = (Rect.unit (s := S32768x2048) ![2048 * b.val + 256 * r.val, 0] S256x2048.size (xs_inb b r)).set from View.set_slice_whole _ _,
    show (xs b' r').view.set = (Rect.unit (s := S32768x2048) ![2048 * b'.val + 256 * r'.val, 0] S256x2048.size (xs_inb b' r')).set from View.set_slice_whole _ _,
    Finset.disjoint_left]
  intro i hi hi'
  have h1 := Rect.mem_set_unit.mp hi 0
  have h2 := Rect.mem_set_unit.mp hi' 0
  have e1 : 2048 * b.val + 256 * r.val ≤ (i 0).val ∧ (i 0).val < 2048 * b.val + 256 * r.val + 256 := h1
  have e2 : 2048 * b'.val + 256 * r'.val ≤ (i 0).val ∧ (i 0).val < 2048 * b'.val + 256 * r'.val + 256 := h2
  have := r.isLt
  have := r'.isLt
  exact h (Fin.ext (by omega))
/-- The eight chunks of a block, held, are the block's elements held. -/
theorem rowsHeld_eq (c : Dev nD) (X : Vec F S32768x2048 .f32) (b : Fin 16) :
    (rowsHeld c X b : sProp 𝕄) = (xM.view.loc (c : Thread nD τ) ↦[Finset.univ.biUnion fun r : Fin 8 => (xs b r).view.set]{fullShare} xG X) := by
  have hb := pointsTo_biUnion (sig := sig) (Ix := Unit) (Val := Elt F) (Name := ℕ) (U := Pipeline.UD sig nD τ) (Lvl := ℕ) (q := fullShare) (f := xG X)
    (ℓ := xM.view.loc (c : Thread nD τ)) Finset.univ (fun r : Fin 8 => (xs b r).view.set) (fun r _ r' _ h => xs_disjoint b r r' h)
  rw [bigSep_eight] at hb
  exact hb.symm
/-- The array's elements outside the block `b`. -/
def rest (c : Dev nD) (X : Vec F S32768x2048 .f32) (b : Fin 16) : sProp 𝕄 :=
  xM.view.loc (c : Thread nD τ) ↦[xM.view.set \ Finset.univ.biUnion fun r : Fin 8 => (xs b r).view.set]{fullShare} xG X
/-- The array's elements outside the blocks `b` and `b'`. -/
def rest2 (c : Dev nD) (X : Vec F S32768x2048 .f32) (b b' : Fin 16) : sProp 𝕄 :=
  xM.view.loc (c : Thread nD τ) ↦[(xM.view.set \ Finset.univ.biUnion fun r : Fin 8 => (xs b r).view.set) \ Finset.univ.biUnion fun r : Fin 8 => (xs b' r).view.set]{fullShare} xG X
/-- The array, held whole, is a block's eight chunks and the rest. -/
theorem array_eq (c : Dev nD) (X : Vec F S32768x2048 .f32) (b : Fin 16) :
    (held c xM (xG X) : sProp 𝕄) ⊣⊢ iprop(rowsHeld c X b ∗ rest c X b) := by
  have hsub : Finset.univ.biUnion (fun r : Fin 8 => (xs b r).view.set) ⊆ xM.view.set := by
    rw [show xM.view.set = Finset.univ from View.set_whole _]; exact Finset.subset_univ _
  rw [rowsHeld_eq]
  unfold held rest
  exact pointsTo_split_subset hsub
/-- The elements outside one block are another block's eight chunks and the elements outside both. -/
theorem rest_eq (c : Dev nD) (X : Vec F S32768x2048 .f32) (b b' : Fin 16) (h : b ≠ b') :
    (rest c X b : sProp 𝕄) ⊣⊢ iprop(rowsHeld c X b' ∗ rest2 c X b b') := by
  have hsub : Finset.univ.biUnion (fun r : Fin 8 => (xs b' r).view.set) ⊆ xM.view.set \ Finset.univ.biUnion (fun r : Fin 8 => (xs b r).view.set) := by
    rw [Finset.subset_sdiff]
    refine ⟨?_, ?_⟩
    · rw [show xM.view.set = Finset.univ from View.set_whole _]; exact Finset.subset_univ _
    · rw [Finset.disjoint_biUnion_left]; intro r _
      rw [Finset.disjoint_biUnion_right]; intro r' _
      exact xs_disjoint' b' b (Ne.symm h) r r'
  rw [rowsHeld_eq]
  unfold rest rest2
  exact pointsTo_split_subset hsub
/-- The elements outside two blocks do not depend on their order. -/
theorem rest2_comm (c : Dev nD) (X : Vec F S32768x2048 .f32) (b b' : Fin 16) : (rest2 c X b b' : sProp 𝕄) = rest2 c X b' b := by
  unfold rest2; rw [sdiff_sdiff_comm]
/-- A chunk named by its offset is the block's. -/
theorem src_eq (c : Dev nD) (X : Vec F S32768x2048 .f32) (b : Fin 16) (r : Fin 8) (off : Fin 2 → ℕ) (inb : ∀ a, off a + S256x2048.size a ≤ S32768x2048.size a)
    (hoff : off = ![2048 * b.val + 256 * r.val, 0]) :
    (held c (xM.slice (Rect.unit (s := S32768x2048) off S256x2048.size inb) (fun _ => rfl)) (xG X) : sProp 𝕄) = held c (xs b r) (xG X) := by
  subst hoff; rfl
/-- A chunk of a block in flight: its end hands back the chunk at the block's rows and the rows it was copied from. -/
def flight (c : Dev nD) (X : Vec F S32768x2048 .f32) (b : Fin 16) (r : Fin 8) (M : Memref sig .tc .vmem S256x2048 .f32) (G : M.view.ty.Contents (Elt F)) (σ : SemLoc sig) : sProp 𝕄 :=
  Transfers.Flight countersEmb (c : Thread nD τ) σ () 65536 iprop(held c M G ∗ held c (xs b r) (xG X))
/-- What the body's issue of a chunk leaves is the flight. -/
theorem issued (c : Dev nD) (X : Vec F S32768x2048 .f32) (b : Fin 16) (r : Fin 8) (M : Memref sig .tc .vmem S256x2048 .f32) (f G : M.view.ty.Contents (Elt F)) (σ : SemLoc sig)
    (off : Fin 2 → ℕ) (inb : ∀ a, off a + S256x2048.size a ≤ S32768x2048.size a) (hoff : off = ![2048 * b.val + 256 * r.val, 0])
    (h : ∀ z, (xM.slice (Rect.unit (s := S32768x2048) off S256x2048.size inb) (fun _ => rfl)).view.read (Elt F) (xG X) z = M.view.read (Elt F) G z) :
    (Transfers.Flight countersEmb (c : Thread nD τ) σ () 65536
      iprop((M.view.loc (c : Thread nD τ) ↦[M.view.set]{fullShare} M.view.writes (Elt F) f [⟨Rect.whole S256x2048,
          ReadAs.same.apply ((xM.slice (Rect.unit (s := S32768x2048) off S256x2048.size inb) (fun _ => rfl)).view.read (Elt F) (xG X))⟩])
        ∗ xM.view.loc (c : Thread nD τ) ↦[(xM.slice (Rect.unit (s := S32768x2048) off S256x2048.size inb) (fun _ => rfl)).view.set]{fullShare} xG X) : sProp 𝕄)
      = flight c X b r M G σ := by
  have h1 := landed c M f G _ h
  subst hoff
  unfold flight
  rw [← h1]
  rfl
/-- A chunk a copy has landed in holds what the rows it was copied from hold. -/
theorem copied {sp sp' : Space} {s : Shape} {e : EltTy} (c : Dev nD) (M : Memref sig .tc sp s e) (M' : Memref sig .tc sp' s e) (f g : M.view.ty.Contents (Elt F)) (X : M'.view.ty.Contents (Elt F))
    (h : ∀ z, M'.view.read (Elt F) X z = M.view.read (Elt F) g z) :
    (M.view.loc (c : Thread nD τ) ↦[M.view.set]{fullShare} M.view.writes (Elt F) f [⟨Rect.whole s, ReadAs.same.apply (M'.view.read (Elt F) X)⟩] : sProp 𝕄) = held c M g :=
  landed c M f g _ h
/-- Chunk 0 of block `b` in flight. -/
abbrev flight0 (c : Dev nD) (X : Vec F S32768x2048 .f32) (b : Fin 16) : sProp 𝕄 := flight c X b 0 xc0 (xbG (rows X b)) (SemLoc.dma ((cc0_scratch2.slice (Rect.unit (s := S8) ![0] S1.size inb_S8_S1_0)).squeeze S_ squeezes_S1_S_).sem)
/-- The rows that chunk 0 of the next block is copied from. -/
abbrev next0 (i : grid0.Coords) (h1 : first i) (h : k0_cond3 i = 1#1) : Memref sig .tc .hbm S256x2048 .f32 :=
  xM.slice (Rect.unit (s := S32768x2048) (k0_off2 i) S256x2048.size (k0_off2_inb i h1 h)) (fun _ => rfl)
/-- They are the next block's. -/
theorem src0 (i : grid0.Coords) (b : Fin 16) (hb : b.val = (i 0).val + 1) : k0_off2 i = ![2048 * b.val + 256 * (0 : Fin 8).val, 0] := by
  rw [(closed2 i).2, hb]; exact congrArg (fun n => (![n, 0] : Fin 2 → ℕ)) (by show _ = 2048 * ((i 0).val + 1) + 256 * 0; omega)
/-- Chunk 1 of block `b` in flight. -/
abbrev flight1 (c : Dev nD) (X : Vec F S32768x2048 .f32) (b : Fin 16) : sProp 𝕄 := flight c X b 1 xc1 (xbG (rows X b)) (SemLoc.dma ((cc0_scratch2.slice (Rect.unit (s := S8) ![1] S1.size inb_S8_S1_1)).squeeze S_ squeezes_S1_S_).sem)
/-- The rows that chunk 1 of the next block is copied from. -/
abbrev next1 (i : grid0.Coords) (h1 : first i) (h : k0_cond4 i = 1#1) : Memref sig .tc .hbm S256x2048 .f32 :=
  xM.slice (Rect.unit (s := S32768x2048) (k0_off3 i) S256x2048.size (k0_off3_inb i h1 h)) (fun _ => rfl)
/-- They are the next block's. -/
theorem src1 (i : grid0.Coords) (b : Fin 16) (hb : b.val = (i 0).val + 1) : k0_off3 i = ![2048 * b.val + 256 * (1 : Fin 8).val, 0] := by
  rw [(closed3 i).2, hb]; exact congrArg (fun n => (![n, 0] : Fin 2 → ℕ)) (by show _ = 2048 * ((i 0).val + 1) + 256 * 1; omega)
/-- Chunk 2 of block `b` in flight. -/
abbrev flight2 (c : Dev nD) (X : Vec F S32768x2048 .f32) (b : Fin 16) : sProp 𝕄 := flight c X b 2 xc2 (xbG (rows X b)) (SemLoc.dma ((cc0_scratch2.slice (Rect.unit (s := S8) ![2] S1.size inb_S8_S1_2)).squeeze S_ squeezes_S1_S_).sem)
/-- The rows that chunk 2 of the next block is copied from. -/
abbrev next2 (i : grid0.Coords) (h1 : first i) (h : k0_cond5 i = 1#1) : Memref sig .tc .hbm S256x2048 .f32 :=
  xM.slice (Rect.unit (s := S32768x2048) (k0_off4 i) S256x2048.size (k0_off4_inb i h1 h)) (fun _ => rfl)
/-- They are the next block's. -/
theorem src2 (i : grid0.Coords) (b : Fin 16) (hb : b.val = (i 0).val + 1) : k0_off4 i = ![2048 * b.val + 256 * (2 : Fin 8).val, 0] := by
  rw [(closed4 i).2, hb]; exact congrArg (fun n => (![n, 0] : Fin 2 → ℕ)) (by show _ = 2048 * ((i 0).val + 1) + 256 * 2; omega)
/-- Chunk 3 of block `b` in flight. -/
abbrev flight3 (c : Dev nD) (X : Vec F S32768x2048 .f32) (b : Fin 16) : sProp 𝕄 := flight c X b 3 xc3 (xbG (rows X b)) (SemLoc.dma ((cc0_scratch2.slice (Rect.unit (s := S8) ![3] S1.size inb_S8_S1_3)).squeeze S_ squeezes_S1_S_).sem)
/-- The rows that chunk 3 of the next block is copied from. -/
abbrev next3 (i : grid0.Coords) (h1 : first i) (h : k0_cond6 i = 1#1) : Memref sig .tc .hbm S256x2048 .f32 :=
  xM.slice (Rect.unit (s := S32768x2048) (k0_off5 i) S256x2048.size (k0_off5_inb i h1 h)) (fun _ => rfl)
/-- They are the next block's. -/
theorem src3 (i : grid0.Coords) (b : Fin 16) (hb : b.val = (i 0).val + 1) : k0_off5 i = ![2048 * b.val + 256 * (3 : Fin 8).val, 0] := by
  rw [(closed5 i).2, hb]; exact congrArg (fun n => (![n, 0] : Fin 2 → ℕ)) (by show _ = 2048 * ((i 0).val + 1) + 256 * 3; omega)
/-- Chunk 4 of block `b` in flight. -/
abbrev flight4 (c : Dev nD) (X : Vec F S32768x2048 .f32) (b : Fin 16) : sProp 𝕄 := flight c X b 4 xc4 (xbG (rows X b)) (SemLoc.dma ((cc0_scratch2.slice (Rect.unit (s := S8) ![4] S1.size inb_S8_S1_4)).squeeze S_ squeezes_S1_S_).sem)
/-- The rows that chunk 4 of the next block is copied from. -/
abbrev next4 (i : grid0.Coords) (h1 : first i) (h : k0_cond7 i = 1#1) : Memref sig .tc .hbm S256x2048 .f32 :=
  xM.slice (Rect.unit (s := S32768x2048) (k0_off6 i) S256x2048.size (k0_off6_inb i h1 h)) (fun _ => rfl)
/-- They are the next block's. -/
theorem src4 (i : grid0.Coords) (b : Fin 16) (hb : b.val = (i 0).val + 1) : k0_off6 i = ![2048 * b.val + 256 * (4 : Fin 8).val, 0] := by
  rw [(closed6 i).2, hb]; exact congrArg (fun n => (![n, 0] : Fin 2 → ℕ)) (by show _ = 2048 * ((i 0).val + 1) + 256 * 4; omega)
/-- Chunk 5 of block `b` in flight. -/
abbrev flight5 (c : Dev nD) (X : Vec F S32768x2048 .f32) (b : Fin 16) : sProp 𝕄 := flight c X b 5 xc5 (xbG (rows X b)) (SemLoc.dma ((cc0_scratch2.slice (Rect.unit (s := S8) ![5] S1.size inb_S8_S1_5)).squeeze S_ squeezes_S1_S_).sem)
/-- The rows that chunk 5 of the next block is copied from. -/
abbrev next5 (i : grid0.Coords) (h1 : first i) (h : k0_cond8 i = 1#1) : Memref sig .tc .hbm S256x2048 .f32 :=
  xM.slice (Rect.unit (s := S32768x2048) (k0_off7 i) S256x2048.size (k0_off7_inb i h1 h)) (fun _ => rfl)
/-- They are the next block's. -/
theorem src5 (i : grid0.Coords) (b : Fin 16) (hb : b.val = (i 0).val + 1) : k0_off7 i = ![2048 * b.val + 256 * (5 : Fin 8).val, 0] := by
  rw [(closed7 i).2, hb]; exact congrArg (fun n => (![n, 0] : Fin 2 → ℕ)) (by show _ = 2048 * ((i 0).val + 1) + 256 * 5; omega)
/-- Chunk 6 of block `b` in flight. -/
abbrev flight6 (c : Dev nD) (X : Vec F S32768x2048 .f32) (b : Fin 16) : sProp 𝕄 := flight c X b 6 xc6 (xbG (rows X b)) (SemLoc.dma ((cc0_scratch2.slice (Rect.unit (s := S8) ![6] S1.size inb_S8_S1_6)).squeeze S_ squeezes_S1_S_).sem)
/-- The rows that chunk 6 of the next block is copied from. -/
abbrev next6 (i : grid0.Coords) (h1 : first i) (h : k0_cond9 i = 1#1) : Memref sig .tc .hbm S256x2048 .f32 :=
  xM.slice (Rect.unit (s := S32768x2048) (k0_off8 i) S256x2048.size (k0_off8_inb i h1 h)) (fun _ => rfl)
/-- They are the next block's. -/
theorem src6 (i : grid0.Coords) (b : Fin 16) (hb : b.val = (i 0).val + 1) : k0_off8 i = ![2048 * b.val + 256 * (6 : Fin 8).val, 0] := by
  rw [(closed8 i).2, hb]; exact congrArg (fun n => (![n, 0] : Fin 2 → ℕ)) (by show _ = 2048 * ((i 0).val + 1) + 256 * 6; omega)
/-- Chunk 7 of block `b` in flight. -/
abbrev flight7 (c : Dev nD) (X : Vec F S32768x2048 .f32) (b : Fin 16) : sProp 𝕄 := flight c X b 7 xc7 (xbG (rows X b)) (SemLoc.dma ((cc0_scratch2.slice (Rect.unit (s := S8) ![7] S1.size inb_S8_S1_7)).squeeze S_ squeezes_S1_S_).sem)
/-- The rows that chunk 7 of the next block is copied from. -/
abbrev next7 (i : grid0.Coords) (h1 : first i) (h : k0_cond10 i = 1#1) : Memref sig .tc .hbm S256x2048 .f32 :=
  xM.slice (Rect.unit (s := S32768x2048) (k0_off9 i) S256x2048.size (k0_off9_inb i h1 h)) (fun _ => rfl)
/-- They are the next block's. -/
theorem src7 (i : grid0.Coords) (b : Fin 16) (hb : b.val = (i 0).val + 1) : k0_off9 i = ![2048 * b.val + 256 * (7 : Fin 8).val, 0] := by
  rw [(closed9 i).2, hb]; exact congrArg (fun n => (![n, 0] : Fin 2 → ℕ)) (by show _ = 2048 * ((i 0).val + 1) + 256 * 7; omega)

end Cert.Kernel4Ideal.In

end
-- ==== Proof.Kernel4Ideal.RunA.lean ====
module

public import proofs.«01_k».proof.Proof.Kernel4Ideal.Pieces

@[expose] public section

set_option maxRecDepth 16384

noncomputable section

namespace Cert.Kernel4Ideal.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (Pipeline.UD sig nD τ) ℕ

set_option maxHeartbeats 24000000 in
/-- The stores of one run of the body, and the run: at the first point, which copies the first row block in and starts the
second's chunks. -/
noncomputable def runA (c : Dev nD) (i : grid0.Coords) (hb : (1 : Fin 16).val = (i 0).val + 1) (arg3 : Memref sig .tc .vmem S1x2048 .f32) (harg3 : arg3.IsWhole) (arg4 : Memref sig .tc .vmem S2048x1536 .bf16) (harg4 : arg4.IsWhole) (arg5 : Memref sig .tc .vmem S2048x1536 .bf16) (harg5 : arg5.IsWhole)
    (h1 : first i) (h2 : start i) (m0 : k0_cond3 i = 1#1) (m1 : k0_cond4 i = 1#1) (m2 : k0_cond5 i = 1#1) (m3 : k0_cond6 i = 1#1) (m4 : k0_cond7 i = 1#1) (m5 : k0_cond8 i = 1#1) (m6 : k0_cond9 i = 1#1) (m7 : k0_cond10 i = 1#1)
    (x0 : Vec F S1x2048 .f32) (x1 : Vec F S2048x1536 .bf16) (X : Vec F S32768x2048 .f32) :
    (LO : List (View.Piece (Elt F) S2048x1536 .bf16)) ×' { LH : List (View.Piece (Elt F) S2048x2048 .bf16) //
      ∀ (G : xbM.view.ty.Contents (Elt F)) (W) (K : PUnit → sProp 𝕄),
        iprop(owns (c : Thread nD τ) arg3 fullShare x0
          ∗ owns (c : Thread nD τ) arg4 fullShare x1
          ∗ (∃ d, owns (c : Thread nD τ) arg5 fullShare d)
          ∗ (∃ d, owns (c : Thread nD τ) hM fullShare d)
          ∗ held c xc0 G
          ∗ held c xc1 G
          ∗ held c xc2 G
          ∗ held c xc3 G
          ∗ held c xc4 G
          ∗ held c xc5 G
          ∗ held c xc6 G
          ∗ held c xc7 G
          ∗ held c (xM.slice (Rect.unit (s := S32768x2048) ![0, 0] S256x2048.size inb_S32768x2048_S256x2048_0_0) (fun _ => rfl)) (xG X)
          ∗ held c (xM.slice (Rect.unit (s := S32768x2048) ![256, 0] S256x2048.size inb_S32768x2048_S256x2048_256_0) (fun _ => rfl)) (xG X)
          ∗ held c (xM.slice (Rect.unit (s := S32768x2048) ![512, 0] S256x2048.size inb_S32768x2048_S256x2048_512_0) (fun _ => rfl)) (xG X)
          ∗ held c (xM.slice (Rect.unit (s := S32768x2048) ![768, 0] S256x2048.size inb_S32768x2048_S256x2048_768_0) (fun _ => rfl)) (xG X)
          ∗ held c (xM.slice (Rect.unit (s := S32768x2048) ![1024, 0] S256x2048.size inb_S32768x2048_S256x2048_1024_0) (fun _ => rfl)) (xG X)
          ∗ held c (xM.slice (Rect.unit (s := S32768x2048) ![1280, 0] S256x2048.size inb_S32768x2048_S256x2048_1280_0) (fun _ => rfl)) (xG X)
          ∗ held c (xM.slice (Rect.unit (s := S32768x2048) ![1536, 0] S256x2048.size inb_S32768x2048_S256x2048_1536_0) (fun _ => rfl)) (xG X)
          ∗ held c (xM.slice (Rect.unit (s := S32768x2048) ![1792, 0] S256x2048.size inb_S32768x2048_S256x2048_1792_0) (fun _ => rfl)) (xG X)
          ∗ held c (next0 i h1 m0) (xG X)
          ∗ held c (next1 i h1 m1) (xG X)
          ∗ held c (next2 i h1 m2) (xG X)
          ∗ held c (next3 i h1 m3) (xG X)
          ∗ held c (next4 i h1 m4) (xG X)
          ∗ held c (next5 i h1 m5) (xG X)
          ∗ held c (next6 i h1 m6) (xG X)
          ∗ held c (next7 i h1 m7) (xG X)
          ∗ cell0 c
          ∗ cell1 c
          ∗ cell2 c
          ∗ cell3 c
          ∗ cell4 c
          ∗ cell5 c
          ∗ cell6 c
          ∗ cell7 c
          ∗ owes (c : Thread nD τ) 0 W
          ∗ (iprop(owns (c : Thread nD τ) arg3 fullShare x0
          ∗ owns (c : Thread nD τ) arg4 fullShare x1
          ∗ (∃ f, arg5.view.loc (c : Thread nD τ) ↦[arg5.view.set]{fullShare} arg5.view.writes (Elt F) f LO)
          ∗ (∃ f, hM.view.loc (c : Thread nD τ) ↦[hM.view.set]{fullShare} hM.view.writes (Elt F) f LH)
          ∗ flight0 c X 1
          ∗ flight1 c X 1
          ∗ flight2 c X 1
          ∗ flight3 c X 1
          ∗ flight4 c X 1
          ∗ flight5 c X 1
          ∗ flight6 c X 1
          ∗ flight7 c X 1
          ∗ held c (xM.slice (Rect.unit (s := S32768x2048) ![0, 0] S256x2048.size inb_S32768x2048_S256x2048_0_0) (fun _ => rfl)) (xG X)
          ∗ held c (xM.slice (Rect.unit (s := S32768x2048) ![256, 0] S256x2048.size inb_S32768x2048_S256x2048_256_0) (fun _ => rfl)) (xG X)
          ∗ held c (xM.slice (Rect.unit (s := S32768x2048) ![512, 0] S256x2048.size inb_S32768x2048_S256x2048_512_0) (fun _ => rfl)) (xG X)
          ∗ held c (xM.slice (Rect.unit (s := S32768x2048) ![768, 0] S256x2048.size inb_S32768x2048_S256x2048_768_0) (fun _ => rfl)) (xG X)
          ∗ held c (xM.slice (Rect.unit (s := S32768x2048) ![1024, 0] S256x2048.size inb_S32768x2048_S256x2048_1024_0) (fun _ => rfl)) (xG X)
          ∗ held c (xM.slice (Rect.unit (s := S32768x2048) ![1280, 0] S256x2048.size inb_S32768x2048_S256x2048_1280_0) (fun _ => rfl)) (xG X)
          ∗ held c (xM.slice (Rect.unit (s := S32768x2048) ![1536, 0] S256x2048.size inb_S32768x2048_S256x2048_1536_0) (fun _ => rfl)) (xG X)
          ∗ held c (xM.slice (Rect.unit (s := S32768x2048) ![1792, 0] S256x2048.size inb_S32768x2048_S256x2048_1792_0) (fun _ => rfl)) (xG X)
          ∗ (∃ W', owes (c : Thread nD τ) 0 W')) -∗ K ⟨⟩))
          ⊢ wp frame (wpE (defs₀ (F := F)) Variants.none c none) Set.univ (cc0_in_proj i xM (Memref.isWhole_whole _) arg3 harg3 arg4 harg4 arg5 harg5 hM (Memref.isWhole_whole _) xbM (Memref.isWhole_whole _) cc0_scratch2) K } := by
  refine ⟨?_, ?_, fun G W K => ?run⟩
  case run =>
    simp only [cc0_in_proj_eq_skeleton]; unfold cc0_in_proj_skel
    simp only [k0_part1_eq_skeleton, k0_part2_eq_skeleton, k0_part3_eq_skeleton, k0_part4_eq_skeleton, k0_part5_eq_skeleton, k0_part6_eq_skeleton, k0_part7_eq_skeleton]
    unfold owns next0 next1 next2 next3 next4 next5 next6 next7 held
    iintro ⟨⟨%farg3, %hfarg3, Harg3⟩, ⟨%farg4, %hfarg4, Harg4⟩, ⟨%d5, %farg5, -, Harg5⟩, ⟨%d6, %farg6, -, Harg6⟩, Hb0, Hb1, Hb2, Hb3, Hb4, Hb5, Hb6, Hb7, Hx0, Hx1, Hx2, Hx3, Hx4, Hx5, Hx6, Hx7, Hs0, Hs1, Hs2, Hs3, Hs4, Hs5, Hs6, Hs7, Hc0, Hc1, Hc2, Hc3, Hc4, Hc5, Hc6, Hc7, HW, Hk⟩
    obtain rfl := harg3.eq_unread hfarg3; obtain rfl := harg4.eq_unread hfarg4
    sl_exec (disch := first | sl_exact h1 | sl_exact h2 | sl_exact m0 | sl_exact m1 | sl_exact m2 | sl_exact m3 | sl_exact m4 | sl_exact m5 | sl_exact m6 | sl_exact m7)
    sl_step
    iapply Hk
    isplitl [Harg3]
    · iexists _; isplitr; · ipureintro; exact harg3.read_unread _
      iexact Harg3
    isplitl [Harg4]
    · iexists _; isplitr; · ipureintro; exact harg4.read_unread _
      iexact Harg4
    isplitl [Harg5]; · iexists _; iexact Harg5
    isplitl [Harg6]; · iexists _; iexact Harg6
    isplitl [Hc0]
    · iapply (Entails.of_eq (issued c X 1 0 xc0 _ (xbG (rows X 1)) (SemLoc.dma ((cc0_scratch2.slice (Rect.unit (s := S8) ![0] S1.size inb_S8_S1_0)).squeeze S_ squeezes_S1_S_).sem) (k0_off2 i) (k0_off2_inb i h1 m0) (src0 i 1 hb) (chunk_read X 1 0 _ _ (src0 i 1 hb)))); iexact Hc0
    isplitl [Hc1]
    · iapply (Entails.of_eq (issued c X 1 1 xc1 _ (xbG (rows X 1)) (SemLoc.dma ((cc0_scratch2.slice (Rect.unit (s := S8) ![1] S1.size inb_S8_S1_1)).squeeze S_ squeezes_S1_S_).sem) (k0_off3 i) (k0_off3_inb i h1 m1) (src1 i 1 hb) (chunk_read X 1 1 _ _ (src1 i 1 hb)))); iexact Hc1
    isplitl [Hc2]
    · iapply (Entails.of_eq (issued c X 1 2 xc2 _ (xbG (rows X 1)) (SemLoc.dma ((cc0_scratch2.slice (Rect.unit (s := S8) ![2] S1.size inb_S8_S1_2)).squeeze S_ squeezes_S1_S_).sem) (k0_off4 i) (k0_off4_inb i h1 m2) (src2 i 1 hb) (chunk_read X 1 2 _ _ (src2 i 1 hb)))); iexact Hc2
    isplitl [Hc3]
    · iapply (Entails.of_eq (issued c X 1 3 xc3 _ (xbG (rows X 1)) (SemLoc.dma ((cc0_scratch2.slice (Rect.unit (s := S8) ![3] S1.size inb_S8_S1_3)).squeeze S_ squeezes_S1_S_).sem) (k0_off5 i) (k0_off5_inb i h1 m3) (src3 i 1 hb) (chunk_read X 1 3 _ _ (src3 i 1 hb)))); iexact Hc3
    isplitl [Hc4]
    · iapply (Entails.of_eq (issued c X 1 4 xc4 _ (xbG (rows X 1)) (SemLoc.dma ((cc0_scratch2.slice (Rect.unit (s := S8) ![4] S1.size inb_S8_S1_4)).squeeze S_ squeezes_S1_S_).sem) (k0_off6 i) (k0_off6_inb i h1 m4) (src4 i 1 hb) (chunk_read X 1 4 _ _ (src4 i 1 hb)))); iexact Hc4
    isplitl [Hc5]
    · iapply (Entails.of_eq (issued c X 1 5 xc5 _ (xbG (rows X 1)) (SemLoc.dma ((cc0_scratch2.slice (Rect.unit (s := S8) ![5] S1.size inb_S8_S1_5)).squeeze S_ squeezes_S1_S_).sem) (k0_off7 i) (k0_off7_inb i h1 m5) (src5 i 1 hb) (chunk_read X 1 5 _ _ (src5 i 1 hb)))); iexact Hc5
    isplitl [Hc6]
    · iapply (Entails.of_eq (issued c X 1 6 xc6 _ (xbG (rows X 1)) (SemLoc.dma ((cc0_scratch2.slice (Rect.unit (s := S8) ![6] S1.size inb_S8_S1_6)).squeeze S_ squeezes_S1_S_).sem) (k0_off8 i) (k0_off8_inb i h1 m6) (src6 i 1 hb) (chunk_read X 1 6 _ _ (src6 i 1 hb)))); iexact Hc6
    isplitl [Hc7]
    · iapply (Entails.of_eq (issued c X 1 7 xc7 _ (xbG (rows X 1)) (SemLoc.dma ((cc0_scratch2.slice (Rect.unit (s := S8) ![7] S1.size inb_S8_S1_7)).squeeze S_ squeezes_S1_S_).sem) (k0_off9 i) (k0_off9_inb i h1 m7) (src7 i 1 hb) (chunk_read X 1 7 _ _ (src7 i 1 hb)))); iexact Hc7
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    iexists _; iexact HW

end Cert.Kernel4Ideal.In

end
-- ==== Proof.Kernel4Ideal.RunB.lean ====
module

public import proofs.«01_k».proof.Proof.Kernel4Ideal.Pieces

@[expose] public section

set_option maxRecDepth 16384

noncomputable section

namespace Cert.Kernel4Ideal.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (Pipeline.UD sig nD τ) ℕ

set_option maxHeartbeats 24000000 in
/-- The stores of one run of the body, and the run: at the first step of a row block between the first and the last, which
waits for the chunks in flight and starts the next block's. -/
noncomputable def runB (c : Dev nD) (i : grid0.Coords) (b b' : Fin 16) (hb : b'.val = (i 0).val + 1) (arg3 : Memref sig .tc .vmem S1x2048 .f32) (harg3 : arg3.IsWhole) (arg4 : Memref sig .tc .vmem S2048x1536 .bf16) (harg4 : arg4.IsWhole) (arg5 : Memref sig .tc .vmem S2048x1536 .bf16) (harg5 : arg5.IsWhole)
    (h1 : first i) (h2 : ¬start i) (m0 : k0_cond3 i = 1#1) (m1 : k0_cond4 i = 1#1) (m2 : k0_cond5 i = 1#1) (m3 : k0_cond6 i = 1#1) (m4 : k0_cond7 i = 1#1) (m5 : k0_cond8 i = 1#1) (m6 : k0_cond9 i = 1#1) (m7 : k0_cond10 i = 1#1)
    (x0 : Vec F S1x2048 .f32) (x1 : Vec F S2048x1536 .bf16) (X : Vec F S32768x2048 .f32) :
    (LO : List (View.Piece (Elt F) S2048x1536 .bf16)) ×' { LH : List (View.Piece (Elt F) S2048x2048 .bf16) //
      ∀ (W) (K : PUnit → sProp 𝕄),
        iprop(owns (c : Thread nD τ) arg3 fullShare x0
          ∗ owns (c : Thread nD τ) arg4 fullShare x1
          ∗ (∃ d, owns (c : Thread nD τ) arg5 fullShare d)
          ∗ (∃ d, owns (c : Thread nD τ) hM fullShare d)
          ∗ Transfers.Flight countersEmb (c : Thread nD τ) (SemLoc.dma ((cc0_scratch2.slice (Rect.unit (s := S8) ![0] S1.size inb_S8_S1_0)).squeeze S_ squeezes_S1_S_).sem) () 65536 iprop(held c xc0 (xbG (rows X b)) ∗ held c (xs b 0) (xG X))
          ∗ Transfers.Flight countersEmb (c : Thread nD τ) (SemLoc.dma ((cc0_scratch2.slice (Rect.unit (s := S8) ![1] S1.size inb_S8_S1_1)).squeeze S_ squeezes_S1_S_).sem) () 65536 iprop(held c xc1 (xbG (rows X b)) ∗ held c (xs b 1) (xG X))
          ∗ Transfers.Flight countersEmb (c : Thread nD τ) (SemLoc.dma ((cc0_scratch2.slice (Rect.unit (s := S8) ![2] S1.size inb_S8_S1_2)).squeeze S_ squeezes_S1_S_).sem) () 65536 iprop(held c xc2 (xbG (rows X b)) ∗ held c (xs b 2) (xG X))
          ∗ Transfers.Flight countersEmb (c : Thread nD τ) (SemLoc.dma ((cc0_scratch2.slice (Rect.unit (s := S8) ![3] S1.size inb_S8_S1_3)).squeeze S_ squeezes_S1_S_).sem) () 65536 iprop(held c xc3 (xbG (rows X b)) ∗ held c (xs b 3) (xG X))
          ∗ Transfers.Flight countersEmb (c : Thread nD τ) (SemLoc.dma ((cc0_scratch2.slice (Rect.unit (s := S8) ![4] S1.size inb_S8_S1_4)).squeeze S_ squeezes_S1_S_).sem) () 65536 iprop(held c xc4 (xbG (rows X b)) ∗ held c (xs b 4) (xG X))
          ∗ Transfers.Flight countersEmb (c : Thread nD τ) (SemLoc.dma ((cc0_scratch2.slice (Rect.unit (s := S8) ![5] S1.size inb_S8_S1_5)).squeeze S_ squeezes_S1_S_).sem) () 65536 iprop(held c xc5 (xbG (rows X b)) ∗ held c (xs b 5) (xG X))
          ∗ Transfers.Flight countersEmb (c : Thread nD τ) (SemLoc.dma ((cc0_scratch2.slice (Rect.unit (s := S8) ![6] S1.size inb_S8_S1_6)).squeeze S_ squeezes_S1_S_).sem) () 65536 iprop(held c xc6 (xbG (rows X b)) ∗ held c (xs b 6) (xG X))
          ∗ Transfers.Flight countersEmb (c : Thread nD τ) (SemLoc.dma ((cc0_scratch2.slice (Rect.unit (s := S8) ![7] S1.size inb_S8_S1_7)).squeeze S_ squeezes_S1_S_).sem) () 65536 iprop(held c xc7 (xbG (rows X b)) ∗ held c (xs b 7) (xG X))
          ∗ held c (next0 i h1 m0) (xG X)
          ∗ held c (next1 i h1 m1) (xG X)
          ∗ held c (next2 i h1 m2) (xG X)
          ∗ held c (next3 i h1 m3) (xG X)
          ∗ held c (next4 i h1 m4) (xG X)
          ∗ held c (next5 i h1 m5) (xG X)
          ∗ held c (next6 i h1 m6) (xG X)
          ∗ held c (next7 i h1 m7) (xG X)
          ∗ owes (c : Thread nD τ) 0 W
          ∗ (iprop(owns (c : Thread nD τ) arg3 fullShare x0
          ∗ owns (c : Thread nD τ) arg4 fullShare x1
          ∗ (∃ f, arg5.view.loc (c : Thread nD τ) ↦[arg5.view.set]{fullShare} arg5.view.writes (Elt F) f LO)
          ∗ (∃ f, hM.view.loc (c : Thread nD τ) ↦[hM.view.set]{fullShare} hM.view.writes (Elt F) f LH)
          ∗ flight0 c X b'
          ∗ flight1 c X b'
          ∗ flight2 c X b'
          ∗ flight3 c X b'
          ∗ flight4 c X b'
          ∗ flight5 c X b'
          ∗ flight6 c X b'
          ∗ flight7 c X b'
          ∗ held c (xs b 0) (xG X)
          ∗ held c (xs b 1) (xG X)
          ∗ held c (xs b 2) (xG X)
          ∗ held c (xs b 3) (xG X)
          ∗ held c (xs b 4) (xG X)
          ∗ held c (xs b 5) (xG X)
          ∗ held c (xs b 6) (xG X)
          ∗ held c (xs b 7) (xG X)
          ∗ (∃ W', owes (c : Thread nD τ) 0 W')) -∗ K ⟨⟩))
          ⊢ wp frame (wpE (defs₀ (F := F)) Variants.none c none) Set.univ (cc0_in_proj i xM (Memref.isWhole_whole _) arg3 harg3 arg4 harg4 arg5 harg5 hM (Memref.isWhole_whole _) xbM (Memref.isWhole_whole _) cc0_scratch2) K } := by
  refine ⟨?_, ?_, fun W K => ?run⟩
  case run =>
    simp only [cc0_in_proj_eq_skeleton]; unfold cc0_in_proj_skel
    simp only [k0_part1_eq_skeleton, k0_part2_eq_skeleton, k0_part3_eq_skeleton, k0_part4_eq_skeleton, k0_part5_eq_skeleton, k0_part6_eq_skeleton, k0_part7_eq_skeleton]
    unfold owns next0 next1 next2 next3 next4 next5 next6 next7 held
    iintro ⟨⟨%farg3, %hfarg3, Harg3⟩, ⟨%farg4, %hfarg4, Harg4⟩, ⟨%d5, %farg5, -, Harg5⟩, ⟨%d6, %farg6, -, Harg6⟩, Hc0, Hc1, Hc2, Hc3, Hc4, Hc5, Hc6, Hc7, Hs0, Hs1, Hs2, Hs3, Hs4, Hs5, Hs6, Hs7, HW, Hk⟩
    obtain rfl := harg3.eq_unread hfarg3; obtain rfl := harg4.eq_unread hfarg4
    sl_exec (disch := first | sl_exact h1 | sl_exact h2 | sl_exact m0 | sl_exact m1 | sl_exact m2 | sl_exact m3 | sl_exact m4 | sl_exact m5 | sl_exact m6 | sl_exact m7)
    sl_step
    iapply Hk
    isplitl [Harg3]
    · iexists _; isplitr; · ipureintro; exact harg3.read_unread _
      iexact Harg3
    isplitl [Harg4]
    · iexists _; isplitr; · ipureintro; exact harg4.read_unread _
      iexact Harg4
    isplitl [Harg5]; · iexists _; iexact Harg5
    isplitl [Harg6]; · iexists _; iexact Harg6
    isplitl [Hc0]
    · iapply (Entails.of_eq (issued c X b' 0 xc0 _ (xbG (rows X b')) (SemLoc.dma ((cc0_scratch2.slice (Rect.unit (s := S8) ![0] S1.size inb_S8_S1_0)).squeeze S_ squeezes_S1_S_).sem) (k0_off2 i) (k0_off2_inb i h1 m0) (src0 i b' hb) (chunk_read X b' 0 _ _ (src0 i b' hb)))); iexact Hc0
    isplitl [Hc1]
    · iapply (Entails.of_eq (issued c X b' 1 xc1 _ (xbG (rows X b')) (SemLoc.dma ((cc0_scratch2.slice (Rect.unit (s := S8) ![1] S1.size inb_S8_S1_1)).squeeze S_ squeezes_S1_S_).sem) (k0_off3 i) (k0_off3_inb i h1 m1) (src1 i b' hb) (chunk_read X b' 1 _ _ (src1 i b' hb)))); iexact Hc1
    isplitl [Hc2]
    · iapply (Entails.of_eq (issued c X b' 2 xc2 _ (xbG (rows X b')) (SemLoc.dma ((cc0_scratch2.slice (Rect.unit (s := S8) ![2] S1.size inb_S8_S1_2)).squeeze S_ squeezes_S1_S_).sem) (k0_off4 i) (k0_off4_inb i h1 m2) (src2 i b' hb) (chunk_read X b' 2 _ _ (src2 i b' hb)))); iexact Hc2
    isplitl [Hc3]
    · iapply (Entails.of_eq (issued c X b' 3 xc3 _ (xbG (rows X b')) (SemLoc.dma ((cc0_scratch2.slice (Rect.unit (s := S8) ![3] S1.size inb_S8_S1_3)).squeeze S_ squeezes_S1_S_).sem) (k0_off5 i) (k0_off5_inb i h1 m3) (src3 i b' hb) (chunk_read X b' 3 _ _ (src3 i b' hb)))); iexact Hc3
    isplitl [Hc4]
    · iapply (Entails.of_eq (issued c X b' 4 xc4 _ (xbG (rows X b')) (SemLoc.dma ((cc0_scratch2.slice (Rect.unit (s := S8) ![4] S1.size inb_S8_S1_4)).squeeze S_ squeezes_S1_S_).sem) (k0_off6 i) (k0_off6_inb i h1 m4) (src4 i b' hb) (chunk_read X b' 4 _ _ (src4 i b' hb)))); iexact Hc4
    isplitl [Hc5]
    · iapply (Entails.of_eq (issued c X b' 5 xc5 _ (xbG (rows X b')) (SemLoc.dma ((cc0_scratch2.slice (Rect.unit (s := S8) ![5] S1.size inb_S8_S1_5)).squeeze S_ squeezes_S1_S_).sem) (k0_off7 i) (k0_off7_inb i h1 m5) (src5 i b' hb) (chunk_read X b' 5 _ _ (src5 i b' hb)))); iexact Hc5
    isplitl [Hc6]
    · iapply (Entails.of_eq (issued c X b' 6 xc6 _ (xbG (rows X b')) (SemLoc.dma ((cc0_scratch2.slice (Rect.unit (s := S8) ![6] S1.size inb_S8_S1_6)).squeeze S_ squeezes_S1_S_).sem) (k0_off8 i) (k0_off8_inb i h1 m6) (src6 i b' hb) (chunk_read X b' 6 _ _ (src6 i b' hb)))); iexact Hc6
    isplitl [Hc7]
    · iapply (Entails.of_eq (issued c X b' 7 xc7 _ (xbG (rows X b')) (SemLoc.dma ((cc0_scratch2.slice (Rect.unit (s := S8) ![7] S1.size inb_S8_S1_7)).squeeze S_ squeezes_S1_S_).sem) (k0_off9 i) (k0_off9_inb i h1 m7) (src7 i b' hb) (chunk_read X b' 7 _ _ (src7 i b' hb)))); iexact Hc7
    isplitl [Hc0_src]; · iexact Hc0_src
    isplitl [Hc1_src]; · iexact Hc1_src
    isplitl [Hc2_src]; · iexact Hc2_src
    isplitl [Hc3_src]; · iexact Hc3_src
    isplitl [Hc4_src]; · iexact Hc4_src
    isplitl [Hc5_src]; · iexact Hc5_src
    isplitl [Hc6_src]; · iexact Hc6_src
    isplitl [Hc7_src]; · iexact Hc7_src
    iexists _; iexact HW

end Cert.Kernel4Ideal.In

end
-- ==== Proof.Kernel4Ideal.RunC.lean ====
module

public import proofs.«01_k».proof.Proof.Kernel4Ideal.Pieces

@[expose] public section

set_option maxRecDepth 16384

noncomputable section

namespace Cert.Kernel4Ideal.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (Pipeline.UD sig nD τ) ℕ

set_option maxHeartbeats 6000000 in
/-- The stores of one run of the body, and the run: at a later step of a row block. -/
noncomputable def runC (c : Dev nD) (i : grid0.Coords) (arg3 : Memref sig .tc .vmem S1x2048 .f32) (harg3 : arg3.IsWhole) (arg4 : Memref sig .tc .vmem S2048x1536 .bf16) (harg4 : arg4.IsWhole) (arg5 : Memref sig .tc .vmem S2048x1536 .bf16) (harg5 : arg5.IsWhole)
    (h1 : ¬first i) (x0 : Vec F S1x2048 .f32) (x1 : Vec F S2048x1536 .bf16) (h : Vec F S2048x2048 .bf16) :
    { LO : List (View.Piece (Elt F) S2048x1536 .bf16) //
      ∀ (K : PUnit → sProp 𝕄),
        iprop(owns (c : Thread nD τ) arg3 fullShare x0
          ∗ owns (c : Thread nD τ) arg4 fullShare x1
          ∗ (∃ d, owns (c : Thread nD τ) arg5 fullShare d)
          ∗ owns (c : Thread nD τ) hM fullShare h
          ∗ (iprop(owns (c : Thread nD τ) arg3 fullShare x0
          ∗ owns (c : Thread nD τ) arg4 fullShare x1
          ∗ (∃ f, arg5.view.loc (c : Thread nD τ) ↦[arg5.view.set]{fullShare} arg5.view.writes (Elt F) f LO)
          ∗ owns (c : Thread nD τ) hM fullShare h) -∗ K ⟨⟩))
          ⊢ wp frame (wpE (defs₀ (F := F)) Variants.none c none) Set.univ (cc0_in_proj i xM (Memref.isWhole_whole _) arg3 harg3 arg4 harg4 arg5 harg5 hM (Memref.isWhole_whole _) xbM (Memref.isWhole_whole _) cc0_scratch2) K } := by
  refine ⟨?_, fun K => ?run⟩
  case run =>
    simp only [cc0_in_proj_eq_skeleton]; unfold cc0_in_proj_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%farg3, %hfarg3, Harg3⟩, ⟨%farg4, %hfarg4, Harg4⟩, ⟨%d5, %farg5, -, Harg5⟩, ⟨%farg6, %hfarg6, Harg6⟩, Hk⟩
    obtain rfl := harg3.eq_unread hfarg3; obtain rfl := harg4.eq_unread hfarg4; obtain rfl := (Memref.isWhole_whole _).eq_unread hfarg6
    sl_exec (disch := first | sl_exact h1)
    sl_step
    iapply Hk
    isplitl [Harg3]
    · iexists _; isplitr; · ipureintro; exact harg3.read_unread _
      iexact Harg3
    isplitl [Harg4]
    · iexists _; isplitr; · ipureintro; exact harg4.read_unread _
      iexact Harg4
    isplitl [Harg5]; · iexists _; iexact Harg5
    iexists _; isplitr; · ipureintro; exact (Memref.isWhole_whole _).read_unread _
    iexact Harg6

end Cert.Kernel4Ideal.In

end
-- ==== Proof.Kernel4Ideal.RunD.lean ====
module

public import proofs.«01_k».proof.Proof.Kernel4Ideal.Pieces

@[expose] public section

set_option maxRecDepth 16384

noncomputable section

namespace Cert.Kernel4Ideal.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (Pipeline.UD sig nD τ) ℕ

set_option maxHeartbeats 24000000 in
/-- The stores of one run of the body, and the run: at the first step of the last row block, which waits for the chunks in
flight and starts none. -/
noncomputable def runD (c : Dev nD) (i : grid0.Coords) (b : Fin 16) (arg3 : Memref sig .tc .vmem S1x2048 .f32) (harg3 : arg3.IsWhole) (arg4 : Memref sig .tc .vmem S2048x1536 .bf16) (harg4 : arg4.IsWhole) (arg5 : Memref sig .tc .vmem S2048x1536 .bf16) (harg5 : arg5.IsWhole)
    (h1 : first i) (h2 : ¬start i) (m0 : ¬k0_cond3 i = 1#1) (m1 : ¬k0_cond4 i = 1#1) (m2 : ¬k0_cond5 i = 1#1) (m3 : ¬k0_cond6 i = 1#1) (m4 : ¬k0_cond7 i = 1#1) (m5 : ¬k0_cond8 i = 1#1) (m6 : ¬k0_cond9 i = 1#1) (m7 : ¬k0_cond10 i = 1#1)
    (x0 : Vec F S1x2048 .f32) (x1 : Vec F S2048x1536 .bf16) (X : Vec F S32768x2048 .f32) :
    (LO : List (View.Piece (Elt F) S2048x1536 .bf16)) ×' { LH : List (View.Piece (Elt F) S2048x2048 .bf16) //
      ∀ (W) (K : PUnit → sProp 𝕄),
        iprop(owns (c : Thread nD τ) arg3 fullShare x0
          ∗ owns (c : Thread nD τ) arg4 fullShare x1
          ∗ (∃ d, owns (c : Thread nD τ) arg5 fullShare d)
          ∗ (∃ d, owns (c : Thread nD τ) hM fullShare d)
          ∗ flight0 c X b
          ∗ flight1 c X b
          ∗ flight2 c X b
          ∗ flight3 c X b
          ∗ flight4 c X b
          ∗ flight5 c X b
          ∗ flight6 c X b
          ∗ flight7 c X b
          ∗ owes (c : Thread nD τ) 0 W
          ∗ (iprop(owns (c : Thread nD τ) arg3 fullShare x0
          ∗ owns (c : Thread nD τ) arg4 fullShare x1
          ∗ (∃ f, arg5.view.loc (c : Thread nD τ) ↦[arg5.view.set]{fullShare} arg5.view.writes (Elt F) f LO)
          ∗ (∃ f, hM.view.loc (c : Thread nD τ) ↦[hM.view.set]{fullShare} hM.view.writes (Elt F) f LH)
          ∗ held c xc0 (xbG (rows X b))
          ∗ held c xc1 (xbG (rows X b))
          ∗ held c xc2 (xbG (rows X b))
          ∗ held c xc3 (xbG (rows X b))
          ∗ held c xc4 (xbG (rows X b))
          ∗ held c xc5 (xbG (rows X b))
          ∗ held c xc6 (xbG (rows X b))
          ∗ held c xc7 (xbG (rows X b))
          ∗ held c (xs b 0) (xG X)
          ∗ held c (xs b 1) (xG X)
          ∗ held c (xs b 2) (xG X)
          ∗ held c (xs b 3) (xG X)
          ∗ held c (xs b 4) (xG X)
          ∗ held c (xs b 5) (xG X)
          ∗ held c (xs b 6) (xG X)
          ∗ held c (xs b 7) (xG X)
          ∗ cell0 c
          ∗ cell1 c
          ∗ cell2 c
          ∗ cell3 c
          ∗ cell4 c
          ∗ cell5 c
          ∗ cell6 c
          ∗ cell7 c
          ∗ (∃ W', owes (c : Thread nD τ) 0 W')) -∗ K ⟨⟩))
          ⊢ wp frame (wpE (defs₀ (F := F)) Variants.none c none) Set.univ (cc0_in_proj i xM (Memref.isWhole_whole _) arg3 harg3 arg4 harg4 arg5 harg5 hM (Memref.isWhole_whole _) xbM (Memref.isWhole_whole _) cc0_scratch2) K } := by
  refine ⟨?_, ?_, fun W K => ?run⟩
  case run =>
    simp only [cc0_in_proj_eq_skeleton]; unfold cc0_in_proj_skel
    simp only [k0_part1_eq_skeleton, k0_part2_eq_skeleton, k0_part3_eq_skeleton, k0_part4_eq_skeleton, k0_part5_eq_skeleton, k0_part6_eq_skeleton, k0_part7_eq_skeleton]
    unfold owns flight0 flight1 flight2 flight3 flight4 flight5 flight6 flight7 flight held
    iintro ⟨⟨%farg3, %hfarg3, Harg3⟩, ⟨%farg4, %hfarg4, Harg4⟩, ⟨%d5, %farg5, -, Harg5⟩, ⟨%d6, %farg6, -, Harg6⟩, Hc0, Hc1, Hc2, Hc3, Hc4, Hc5, Hc6, Hc7, HW, Hk⟩
    obtain rfl := harg3.eq_unread hfarg3; obtain rfl := harg4.eq_unread hfarg4
    sl_exec (disch := first | sl_exact h1 | sl_exact h2 | sl_exact m0 | sl_exact m1 | sl_exact m2 | sl_exact m3 | sl_exact m4 | sl_exact m5 | sl_exact m6 | sl_exact m7)
    sl_step
    iapply Hk
    isplitl [Harg3]
    · iexists _; isplitr; · ipureintro; exact harg3.read_unread _
      iexact Harg3
    isplitl [Harg4]
    · iexists _; isplitr; · ipureintro; exact harg4.read_unread _
      iexact Harg4
    isplitl [Harg5]; · iexists _; iexact Harg5
    isplitl [Harg6]; · iexists _; iexact Harg6
    isplitl [Hc0_dst]; · iexact Hc0_dst
    isplitl [Hc1_dst]; · iexact Hc1_dst
    isplitl [Hc2_dst]; · iexact Hc2_dst
    isplitl [Hc3_dst]; · iexact Hc3_dst
    isplitl [Hc4_dst]; · iexact Hc4_dst
    isplitl [Hc5_dst]; · iexact Hc5_dst
    isplitl [Hc6_dst]; · iexact Hc6_dst
    isplitl [Hc7_dst]; · iexact Hc7_dst
    isplitl [Hc0_src]; · iexact Hc0_src
    isplitl [Hc1_src]; · iexact Hc1_src
    isplitl [Hc2_src]; · iexact Hc2_src
    isplitl [Hc3_src]; · iexact Hc3_src
    isplitl [Hc4_src]; · iexact Hc4_src
    isplitl [Hc5_src]; · iexact Hc5_src
    isplitl [Hc6_src]; · iexact Hc6_src
    isplitl [Hc7_src]; · iexact Hc7_src
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    iexists _; iexact HW

end Cert.Kernel4Ideal.In

end
-- ==== Proof.Kernel4Ideal.Points.lean ====
module

public import proofs.«01_k».proof.Proof.Kernel4Ideal.RunA
public import proofs.«01_k».proof.Proof.Kernel4Ideal.RunB
public import proofs.«01_k».proof.Proof.Kernel4Ideal.RunC
public import proofs.«01_k».proof.Proof.Kernel4Ideal.RunD

@[expose] public section

set_option maxRecDepth 16384

noncomputable section

namespace Cert.Kernel4Ideal.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Window 0's current buffer is whole. -/
abbrev hst0 (t : Fin cfg0.N) : (st0_0 t).IsWhole := hstage0_0 ((cfg0.slots t 0).cast nbuf0_0)
/-- Window 1's current buffer is whole. -/
abbrev hst1 (t : Fin cfg0.N) : (st0_1 t).IsWhole := hstage0_1 ((cfg0.slots t 1).cast nbuf0_1)
/-- Window 2's current buffer is whole. -/
abbrev hst2 (t : Fin cfg0.N) : (st0_2 t).IsWhole := hstage0_2 ((cfg0.slots t 2).cast nbuf0_2)
/-- The block's row of the point `t`. -/
theorem row_val : ∀ t : Fin cfg0.N, ((grid0.coords t) 0).val = t.val / 7 :=
  (by decide +kernel : ∀ t : Fin grid0.N, ((grid0.coords t) 0).val = t.val / 7)
/-- Row block number `k`. -/
def blkF (k : ℕ) : Fin 16 := ⟨k % 16, Nat.mod_lt _ (by decide)⟩
/-- The row block after the point's is numbered one more. -/
theorem next_val (t : Fin cfg0.N) (hm : t.val < 105) : (blkF (t.val / 7 + 1)).val = ((grid0.coords t) 0).val + 1 := by
  rw [row_val t]
  show (t.val / 7 + 1) % 16 = _
  omega
/-- A first row block's points come before another's. -/
theorem low (t : Fin cfg0.N) (h2 : start (grid0.coords t)) : t.val < 105 := ((hstart t).mp h2).trans (by decide)
/-- The row block after the first is numbered one. -/
theorem one_val (t : Fin cfg0.N) (h2 : start (grid0.coords t)) : (1 : Fin 16).val = ((grid0.coords t) 0).val + 1 := by
  rw [row_val t, show t.val / 7 = 0 from Nat.div_eq_of_lt ((hstart t).mp h2)]; rfl
/-- The input rows on core `c`. -/
def XV (c : Dev nD) : Vec F S32768x2048 .f32 := xM.view.read (Elt F) (V m c main_arg0)

/-- The run at the first point, the point `t`. -/
abbrev atA (c : Dev nD) (t : Fin cfg0.N) (h1 : first (grid0.coords t)) (h2 : start (grid0.coords t)) :=
  runA c (grid0.coords t) (one_val t h2) (st0_0 t) (hst0 t) (st0_1 t) (hst1 t) (st0_2 t) (hst2 t) h1 h2 (hmore t (low t h2)).1 (hmore t (low t h2)).2.1 (hmore t (low t h2)).2.2.1 (hmore t (low t h2)).2.2.2.1 (hmore t (low t h2)).2.2.2.2.1 (hmore t (low t h2)).2.2.2.2.2.1 (hmore t (low t h2)).2.2.2.2.2.2.1 (hmore t (low t h2)).2.2.2.2.2.2.2 (iblk m c 0 t) (iblk m c 1 t) (XV m c)
/-- The run at the first step of a later row block that another follows, the point `t`. -/
abbrev atB (c : Dev nD) (t : Fin cfg0.N) (h1 : first (grid0.coords t)) (h2 : ¬start (grid0.coords t)) (hm : t.val < 105) :=
  runB c (grid0.coords t) (blkF (t.val / 7)) (blkF (t.val / 7 + 1)) (next_val t hm) (st0_0 t) (hst0 t) (st0_1 t) (hst1 t) (st0_2 t) (hst2 t) h1 h2 (hmore t hm).1 (hmore t hm).2.1 (hmore t hm).2.2.1 (hmore t hm).2.2.2.1 (hmore t hm).2.2.2.2.1 (hmore t hm).2.2.2.2.2.1 (hmore t hm).2.2.2.2.2.2.1 (hmore t hm).2.2.2.2.2.2.2 (iblk m c 0 t) (iblk m c 1 t) (XV m c)
/-- The run at the first step of the last row block, the point `t`. -/
abbrev atD (c : Dev nD) (t : Fin cfg0.N) (h1 : first (grid0.coords t)) (h2 : ¬start (grid0.coords t)) (hm : ¬t.val < 105) :=
  runD c (grid0.coords t) (blkF (t.val / 7)) (st0_0 t) (hst0 t) (st0_1 t) (hst1 t) (st0_2 t) (hst2 t) h1 h2 (hended t hm).1 (hended t hm).2.1 (hended t hm).2.2.1 (hended t hm).2.2.2.1 (hended t hm).2.2.2.2.1 (hended t hm).2.2.2.2.2.1 (hended t hm).2.2.2.2.2.2.1 (hended t hm).2.2.2.2.2.2.2 (iblk m c 0 t) (iblk m c 1 t) (XV m c)
/-- The run at a later step of a row block, the point `t`. -/
abbrev atC (c : Dev nD) (t : Fin cfg0.N) (h1 : ¬first (grid0.coords t)) (h : Vec F S2048x2048 .bf16) :=
  runC c (grid0.coords t) (st0_0 t) (hst0 t) (st0_1 t) (hst1 t) (st0_2 t) (hst2 t) h1 (iblk m c 0 t) (iblk m c 1 t) h

/-- Its stores into the output block cover it. -/
theorem coverA (c : Dev nD) (t : Fin cfg0.N) (h1 : first (grid0.coords t)) (h2 : start (grid0.coords t)) (y : S2048x1536.Idx) : ∃ pc ∈ (atA m c t h1 h2).1, y ∈ pc.1.set :=
  View.cover_of_tiledL (atA m c t h1 h2).1 S2048x512.size (by sl_kernel_rfl) y
/-- Its stores into the scratch of normalised rows cover it. -/
theorem coverHA (c : Dev nD) (t : Fin cfg0.N) (h1 : first (grid0.coords t)) (h2 : start (grid0.coords t)) (y : S2048x2048.Idx) : ∃ pc ∈ (atA m c t h1 h2).2.1, y ∈ pc.1.set :=
  View.cover_of_tiledL (atA m c t h1 h2).2.1 S256x2048.size (by sl_kernel_rfl) y
/-- Its stores into the output block cover it. -/
theorem coverB (c : Dev nD) (t : Fin cfg0.N) (h1 : first (grid0.coords t)) (h2 : ¬start (grid0.coords t)) (hm : t.val < 105) (y : S2048x1536.Idx) : ∃ pc ∈ (atB m c t h1 h2 hm).1, y ∈ pc.1.set :=
  View.cover_of_tiledL (atB m c t h1 h2 hm).1 S2048x512.size (by sl_kernel_rfl) y
/-- Its stores into the scratch of normalised rows cover it. -/
theorem coverHB (c : Dev nD) (t : Fin cfg0.N) (h1 : first (grid0.coords t)) (h2 : ¬start (grid0.coords t)) (hm : t.val < 105) (y : S2048x2048.Idx) : ∃ pc ∈ (atB m c t h1 h2 hm).2.1, y ∈ pc.1.set :=
  View.cover_of_tiledL (atB m c t h1 h2 hm).2.1 S256x2048.size (by sl_kernel_rfl) y
/-- Its stores into the output block cover it. -/
theorem coverD (c : Dev nD) (t : Fin cfg0.N) (h1 : first (grid0.coords t)) (h2 : ¬start (grid0.coords t)) (hm : ¬t.val < 105) (y : S2048x1536.Idx) : ∃ pc ∈ (atD m c t h1 h2 hm).1, y ∈ pc.1.set :=
  View.cover_of_tiledL (atD m c t h1 h2 hm).1 S2048x512.size (by sl_kernel_rfl) y
/-- Its stores into the scratch of normalised rows cover it. -/
theorem coverHD (c : Dev nD) (t : Fin cfg0.N) (h1 : first (grid0.coords t)) (h2 : ¬start (grid0.coords t)) (hm : ¬t.val < 105) (y : S2048x2048.Idx) : ∃ pc ∈ (atD m c t h1 h2 hm).2.1, y ∈ pc.1.set :=
  View.cover_of_tiledL (atD m c t h1 h2 hm).2.1 S256x2048.size (by sl_kernel_rfl) y
/-- Its stores into the output block cover it. -/
theorem coverC (c : Dev nD) (t : Fin cfg0.N) (h1 : ¬first (grid0.coords t)) (h : Vec F S2048x2048 .bf16) (y : S2048x1536.Idx) : ∃ pc ∈ (atC m c t h1 h).1, y ∈ pc.1.set :=
  View.cover_of_tiledL (atC m c t h1 h).1 S2048x512.size (by sl_kernel_rfl) y

end Cert.Kernel4Ideal.In

end
-- ==== Proof.Kernel4Ideal.Steps.lean ====
module

public import proofs.«01_k».proof.Proof.Kernel4Ideal.Points

@[expose] public section

set_option maxRecDepth 16384

noncomputable section

namespace Cert.Kernel4Ideal.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The contents of an output block that a list of stores covering it leaves. -/
def left5 (L : List (View.Piece (Elt F) S2048x1536 .bf16)) : Vec F S2048x1536 .bf16 :=
  (Memref.whole cc0_stg2_0 : Memref sig .tc .vmem S2048x1536 .bf16).view.read (Elt F)
    ((Memref.whole cc0_stg2_0 : Memref sig .tc .vmem S2048x1536 .bf16).view.writes (Elt F) (Memref.whole cc0_stg2_0 : Memref sig .tc .vmem S2048x1536 .bf16).view.junk L)
/-- The contents of the scratch of normalised rows that a list of stores covering it leaves. -/
def left8 (L : List (View.Piece (Elt F) S2048x2048 .bf16)) : Vec F S2048x2048 .bf16 :=
  hM.view.read (Elt F) (hM.view.writes (Elt F) hM.view.junk L)

/-- What the body leaves at the point `t` in the output block and the scratch of normalised rows, from what the latter held. -/
def stepAt (c : Dev nD) (t : Fin cfg0.N) (h : Vec F S2048x2048 .bf16) : Vec F S2048x1536 .bf16 × Vec F S2048x2048 .bf16 :=
  if h1 : first (grid0.coords t) then
    if h2 : start (grid0.coords t) then (left5 (atA m c t h1 h2).1, left8 (atA m c t h1 h2).2.1)
    else
      if hm : t.val < 105 then (left5 (atB m c t h1 h2 hm).1, left8 (atB m c t h1 h2 hm).2.1)
      else (left5 (atD m c t h1 h2 hm).1, left8 (atD m c t h1 h2 hm).2.1)
  else (left5 (atC m c t h1 h).1, h)

/-- The copies' scratch at some contents, the input rows whole, the semaphores at zero. -/
def rested (c : Dev nD) (X : Vec F S32768x2048 .f32) : sProp 𝕄 := iprop((∃ G, held c xbM G) ∗ held c xM (xG X) ∗ cell0 c ∗ cell1 c ∗ cell2 c ∗ cell3 c ∗ cell4 c ∗ cell5 c ∗ cell6 c ∗ cell7 c)
/-- The block of rows `b` on its way to its scratch in eight chunks, and the input rows outside it. -/
def flying (c : Dev nD) (X : Vec F S32768x2048 .f32) (b : Fin 16) : sProp 𝕄 := iprop(rest c X b ∗ flight0 c X b ∗ flight1 c X b ∗ flight2 c X b ∗ flight3 c X b ∗ flight4 c X b ∗ flight5 c X b ∗ flight6 c X b ∗ flight7 c X b)
/-- What the body keeps of its copies before position `n`, from the second on. -/
def between (c : Dev nD) (X : Vec F S32768x2048 .f32) (n : ℕ) : sProp 𝕄 :=
  if n ≤ 105 then flying c X (blkF ((n - 1) / 7 + 1)) else rested c X

/-- A chunk in flight, written out. -/
theorem flight_eq (c : Dev nD) (X : Vec F S32768x2048 .f32) (b : Fin 16) (r : Fin 8) (M : Memref sig .tc .vmem S256x2048 .f32) (G : M.view.ty.Contents (Elt F)) (σ : SemLoc sig) :
    flight c X b r M G σ = (Transfers.Flight countersEmb (c : Thread nD τ) σ () 65536 iprop(held c M G ∗ held c (xs b r) (xG X)) : sProp 𝕄) := rfl
/-- The next block's rows, named as the copies name them. -/
theorem rows_next (c : Dev nD) (X : Vec F S32768x2048 .f32) (i : grid0.Coords) (b : Fin 16) (hb : b.val = (i 0).val + 1) (h1 : first i) (hm : more i) :
    (rowsHeld c X b : sProp 𝕄) = iprop(held c (next0 i h1 hm.1) (xG X) ∗ held c (next1 i h1 hm.2.1) (xG X) ∗ held c (next2 i h1 hm.2.2.1) (xG X) ∗ held c (next3 i h1 hm.2.2.2.1) (xG X) ∗ held c (next4 i h1 hm.2.2.2.2.1) (xG X) ∗ held c (next5 i h1 hm.2.2.2.2.2.1) (xG X) ∗ held c (next6 i h1 hm.2.2.2.2.2.2.1) (xG X) ∗ held c (next7 i h1 hm.2.2.2.2.2.2.2) (xG X)) := by
  unfold rowsHeld
  rw [src_eq c X b 0 _ _ (src0 i b hb), src_eq c X b 1 _ _ (src1 i b hb), src_eq c X b 2 _ _ (src2 i b hb), src_eq c X b 3 _ _ (src3 i b hb), src_eq c X b 4 _ _ (src4 i b hb), src_eq c X b 5 _ _ (src5 i b hb), src_eq c X b 6 _ _ (src6 i b hb), src_eq c X b 7 _ _ (src7 i b hb)]
/-- The first block's rows, named as the copies name them. -/
theorem rows_zero (c : Dev nD) (X : Vec F S32768x2048 .f32) :
    (rowsHeld c X 0 : sProp 𝕄) = iprop(held c (xM.slice (Rect.unit (s := S32768x2048) ![0, 0] S256x2048.size inb_S32768x2048_S256x2048_0_0) (fun _ => rfl)) (xG X) ∗ held c (xM.slice (Rect.unit (s := S32768x2048) ![256, 0] S256x2048.size inb_S32768x2048_S256x2048_256_0) (fun _ => rfl)) (xG X) ∗ held c (xM.slice (Rect.unit (s := S32768x2048) ![512, 0] S256x2048.size inb_S32768x2048_S256x2048_512_0) (fun _ => rfl)) (xG X) ∗ held c (xM.slice (Rect.unit (s := S32768x2048) ![768, 0] S256x2048.size inb_S32768x2048_S256x2048_768_0) (fun _ => rfl)) (xG X) ∗ held c (xM.slice (Rect.unit (s := S32768x2048) ![1024, 0] S256x2048.size inb_S32768x2048_S256x2048_1024_0) (fun _ => rfl)) (xG X) ∗ held c (xM.slice (Rect.unit (s := S32768x2048) ![1280, 0] S256x2048.size inb_S32768x2048_S256x2048_1280_0) (fun _ => rfl)) (xG X) ∗ held c (xM.slice (Rect.unit (s := S32768x2048) ![1536, 0] S256x2048.size inb_S32768x2048_S256x2048_1536_0) (fun _ => rfl)) (xG X) ∗ held c (xM.slice (Rect.unit (s := S32768x2048) ![1792, 0] S256x2048.size inb_S32768x2048_S256x2048_1792_0) (fun _ => rfl)) (xG X)) := rfl

set_option maxHeartbeats 4000000 in
/-- The body at the first point. -/
theorem step_A (c : Dev nD) (t : Fin cfg0.N) (h1 : first (grid0.coords t)) (h2 : start (grid0.coords t)) (W) (K : PUnit → sProp 𝕄) :
    iprop(owns (c : Thread nD τ) (st0_0 t) fullShare (iblk m c 0 t) ∗ owns (c : Thread nD τ) (st0_1 t) fullShare (iblk m c 1 t) ∗ (∃ d, owns (c : Thread nD τ) (st0_2 t) fullShare d)
          ∗ (∃ d, owns (c : Thread nD τ) hM fullShare d) ∗ rested c (XV m c) ∗ owes (c : Thread nD τ) 0 W
          ∗ (iprop(owns (c : Thread nD τ) (st0_0 t) fullShare (iblk m c 0 t) ∗ owns (c : Thread nD τ) (st0_1 t) fullShare (iblk m c 1 t) ∗ owns (c : Thread nD τ) (st0_2 t) fullShare (left5 (atA m c t h1 h2).1)
          ∗ owns (c : Thread nD τ) hM fullShare (left8 (atA m c t h1 h2).2.1) ∗ flying c (XV m c) 1 ∗ (∃ W', owes (c : Thread nD τ) 0 W')) -∗ K ⟨⟩))
      ⊢ wp frame (wpE (defs₀ (F := F)) Variants.none c none) Set.univ (bodyAt0 t) K := by
  unfold bodyAt0
  unfold rested
  iintro ⟨H0, H1, H2, H3, ⟨⟨%G, HG⟩, HX, Hc0, Hc1, Hc2, Hc3, Hc4, Hc5, Hc6, Hc7⟩, HW, Hk⟩
  ihave HP := (Entails.of_eq (pieces c G)) $$ HG
  icases HP with ⟨Hb0, Hb1, Hb2, Hb3, Hb4, Hb5, Hb6, Hb7⟩
  ihave HA := (array_eq c (XV m c) 0).1 $$ HX
  icases HA with ⟨HR, HT⟩
  ihave HA := (Entails.of_eq (rows_zero c (XV m c))) $$ HR
  icases HA with ⟨Hz0, Hz1, Hz2, Hz3, Hz4, Hz5, Hz6, Hz7⟩
  ihave HA := (rest_eq c (XV m c) 0 1 (by decide)).1 $$ HT
  icases HA with ⟨HR, HT⟩
  ihave HA := (Entails.of_eq (rows_next c (XV m c) (grid0.coords t) 1 (one_val t h2) h1 (hmore t (low t h2)))) $$ HR
  icases HA with ⟨Hs0, Hs1, Hs2, Hs3, Hs4, Hs5, Hs6, Hs7⟩
  iapply ((atA m c t h1 h2).2.2 G W K)
  isplitl [H0]; · iexact H0
  isplitl [H1]; · iexact H1
  isplitl [H2]; · iexact H2
  isplitl [H3]; · iexact H3
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hb7]; · iexact Hb7
  isplitl [Hz0]; · iexact Hz0
  isplitl [Hz1]; · iexact Hz1
  isplitl [Hz2]; · iexact Hz2
  isplitl [Hz3]; · iexact Hz3
  isplitl [Hz4]; · iexact Hz4
  isplitl [Hz5]; · iexact Hz5
  isplitl [Hz6]; · iexact Hz6
  isplitl [Hz7]; · iexact Hz7
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [HW]; · iexact HW
  iintro ⟨H0, H1, ⟨%f5, H2⟩, ⟨%f8, H3⟩, Hc0, Hc1, Hc2, Hc3, Hc4, Hc5, Hc6, Hc7, Hz0, Hz1, Hz2, Hz3, Hz4, Hz5, Hz6, Hz7, HW⟩
  iapply Hk
  isplitl [H0]; · iexact H0
  isplitl [H1]; · iexact H1
  isplitl [H2]
  · unfold owns; iexists _; isplitr
    swap; · iexact H2
    ipureintro; exact View.read_writes_of_cover _ _ _ _ _ (coverA m c t h1 h2)
  isplitl [H3]
  · unfold owns; iexists _; isplitr
    swap; · iexact H3
    ipureintro; exact View.read_writes_of_cover _ _ _ _ _ (coverHA m c t h1 h2)
  isplitr [HW]
  · unfold flying
    isplitl [Hz0 Hz1 Hz2 Hz3 Hz4 Hz5 Hz6 Hz7 HT]
    · iapply (rest_eq c (XV m c) 1 0 (by decide)).2
      isplitr [HT]
      · iapply (Entails.of_eq (rows_zero c (XV m c)).symm)
        isplitl [Hz0]; · iexact Hz0
        isplitl [Hz1]; · iexact Hz1
        isplitl [Hz2]; · iexact Hz2
        isplitl [Hz3]; · iexact Hz3
        isplitl [Hz4]; · iexact Hz4
        isplitl [Hz5]; · iexact Hz5
        isplitl [Hz6]; · iexact Hz6
        iexact Hz7
      iapply (Entails.of_eq (rest2_comm c (XV m c) 0 1)); iexact HT
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  iexact HW

set_option maxHeartbeats 4000000 in
/-- The body at the first step of a later row block that another follows. -/
theorem step_B (c : Dev nD) (t : Fin cfg0.N) (h1 : first (grid0.coords t)) (h2 : ¬start (grid0.coords t)) (hm : t.val < 105) (W) (K : PUnit → sProp 𝕄) :
    iprop(owns (c : Thread nD τ) (st0_0 t) fullShare (iblk m c 0 t) ∗ owns (c : Thread nD τ) (st0_1 t) fullShare (iblk m c 1 t) ∗ (∃ d, owns (c : Thread nD τ) (st0_2 t) fullShare d)
          ∗ (∃ d, owns (c : Thread nD τ) hM fullShare d) ∗ flying c (XV m c) (blkF (t.val / 7)) ∗ owes (c : Thread nD τ) 0 W
          ∗ (iprop(owns (c : Thread nD τ) (st0_0 t) fullShare (iblk m c 0 t) ∗ owns (c : Thread nD τ) (st0_1 t) fullShare (iblk m c 1 t) ∗ owns (c : Thread nD τ) (st0_2 t) fullShare (left5 (atB m c t h1 h2 hm).1)
          ∗ owns (c : Thread nD τ) hM fullShare (left8 (atB m c t h1 h2 hm).2.1) ∗ flying c (XV m c) (blkF (t.val / 7 + 1)) ∗ (∃ W', owes (c : Thread nD τ) 0 W')) -∗ K ⟨⟩))
      ⊢ wp frame (wpE (defs₀ (F := F)) Variants.none c none) Set.univ (bodyAt0 t) K := by
  unfold bodyAt0
  unfold flying
  iintro ⟨H0, H1, H2, H3, ⟨HT, Hc0, Hc1, Hc2, Hc3, Hc4, Hc5, Hc6, Hc7⟩, HW, Hk⟩
  have hne : blkF (t.val / 7) ≠ blkF (t.val / 7 + 1) := fun h => by
    have e : t.val / 7 % 16 = (t.val / 7 + 1) % 16 := congrArg Fin.val h
    omega
  ihave HA := (rest_eq c (XV m c) _ _ hne).1 $$ HT
  icases HA with ⟨HR, HT⟩
  ihave HA := (Entails.of_eq (rows_next c (XV m c) (grid0.coords t) _ (next_val t hm) h1 (hmore t hm))) $$ HR
  icases HA with ⟨Hs0, Hs1, Hs2, Hs3, Hs4, Hs5, Hs6, Hs7⟩
  iapply ((atB m c t h1 h2 hm).2.2 W K)
  isplitl [H0]; · iexact H0
  isplitl [H1]; · iexact H1
  isplitl [H2]; · iexact H2
  isplitl [H3]; · iexact H3
  isplitl [Hc0]; · iapply (Entails.of_eq (flight_eq c (XV m c) _ _ _ _ _)); iexact Hc0
  isplitl [Hc1]; · iapply (Entails.of_eq (flight_eq c (XV m c) _ _ _ _ _)); iexact Hc1
  isplitl [Hc2]; · iapply (Entails.of_eq (flight_eq c (XV m c) _ _ _ _ _)); iexact Hc2
  isplitl [Hc3]; · iapply (Entails.of_eq (flight_eq c (XV m c) _ _ _ _ _)); iexact Hc3
  isplitl [Hc4]; · iapply (Entails.of_eq (flight_eq c (XV m c) _ _ _ _ _)); iexact Hc4
  isplitl [Hc5]; · iapply (Entails.of_eq (flight_eq c (XV m c) _ _ _ _ _)); iexact Hc5
  isplitl [Hc6]; · iapply (Entails.of_eq (flight_eq c (XV m c) _ _ _ _ _)); iexact Hc6
  isplitl [Hc7]; · iapply (Entails.of_eq (flight_eq c (XV m c) _ _ _ _ _)); iexact Hc7
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [HW]; · iexact HW
  iintro ⟨H0, H1, ⟨%f5, H2⟩, ⟨%f8, H3⟩, Hc0, Hc1, Hc2, Hc3, Hc4, Hc5, Hc6, Hc7, Hz0, Hz1, Hz2, Hz3, Hz4, Hz5, Hz6, Hz7, HW⟩
  iapply Hk
  isplitl [H0]; · iexact H0
  isplitl [H1]; · iexact H1
  isplitl [H2]
  · unfold owns; iexists _; isplitr
    swap; · iexact H2
    ipureintro; exact View.read_writes_of_cover _ _ _ _ _ (coverB m c t h1 h2 hm)
  isplitl [H3]
  · unfold owns; iexists _; isplitr
    swap; · iexact H3
    ipureintro; exact View.read_writes_of_cover _ _ _ _ _ (coverHB m c t h1 h2 hm)
  isplitr [HW]
  · isplitl [Hz0 Hz1 Hz2 Hz3 Hz4 Hz5 Hz6 Hz7 HT]
    · iapply (rest_eq c (XV m c) _ _ hne.symm).2
      isplitr [HT]
      · unfold rowsHeld
        isplitl [Hz0]; · iexact Hz0
        isplitl [Hz1]; · iexact Hz1
        isplitl [Hz2]; · iexact Hz2
        isplitl [Hz3]; · iexact Hz3
        isplitl [Hz4]; · iexact Hz4
        isplitl [Hz5]; · iexact Hz5
        isplitl [Hz6]; · iexact Hz6
        iexact Hz7
      iapply (Entails.of_eq (rest2_comm c (XV m c) _ _)); iexact HT
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  iexact HW

set_option maxHeartbeats 4000000 in
/-- The body at the first step of the last row block. -/
theorem step_D (c : Dev nD) (t : Fin cfg0.N) (h1 : first (grid0.coords t)) (h2 : ¬start (grid0.coords t)) (hm : ¬t.val < 105) (W) (K : PUnit → sProp 𝕄) :
    iprop(owns (c : Thread nD τ) (st0_0 t) fullShare (iblk m c 0 t) ∗ owns (c : Thread nD τ) (st0_1 t) fullShare (iblk m c 1 t) ∗ (∃ d, owns (c : Thread nD τ) (st0_2 t) fullShare d)
          ∗ (∃ d, owns (c : Thread nD τ) hM fullShare d) ∗ flying c (XV m c) (blkF (t.val / 7)) ∗ owes (c : Thread nD τ) 0 W
          ∗ (iprop(owns (c : Thread nD τ) (st0_0 t) fullShare (iblk m c 0 t) ∗ owns (c : Thread nD τ) (st0_1 t) fullShare (iblk m c 1 t) ∗ owns (c : Thread nD τ) (st0_2 t) fullShare (left5 (atD m c t h1 h2 hm).1)
          ∗ owns (c : Thread nD τ) hM fullShare (left8 (atD m c t h1 h2 hm).2.1) ∗ rested c (XV m c) ∗ (∃ W', owes (c : Thread nD τ) 0 W')) -∗ K ⟨⟩))
      ⊢ wp frame (wpE (defs₀ (F := F)) Variants.none c none) Set.univ (bodyAt0 t) K := by
  unfold bodyAt0
  unfold flying
  iintro ⟨H0, H1, H2, H3, ⟨HT, Hc0, Hc1, Hc2, Hc3, Hc4, Hc5, Hc6, Hc7⟩, HW, Hk⟩
  iapply ((atD m c t h1 h2 hm).2.2 W K)
  isplitl [H0]; · iexact H0
  isplitl [H1]; · iexact H1
  isplitl [H2]; · iexact H2
  isplitl [H3]; · iexact H3
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [HW]; · iexact HW
  iintro ⟨H0, H1, ⟨%f5, H2⟩, ⟨%f8, H3⟩, Hb0, Hb1, Hb2, Hb3, Hb4, Hb5, Hb6, Hb7, Hz0, Hz1, Hz2, Hz3, Hz4, Hz5, Hz6, Hz7, Hc0, Hc1, Hc2, Hc3, Hc4, Hc5, Hc6, Hc7, HW⟩
  iapply Hk
  isplitl [H0]; · iexact H0
  isplitl [H1]; · iexact H1
  isplitl [H2]
  · unfold owns; iexists _; isplitr
    swap; · iexact H2
    ipureintro; exact View.read_writes_of_cover _ _ _ _ _ (coverD m c t h1 h2 hm)
  isplitl [H3]
  · unfold owns; iexists _; isplitr
    swap; · iexact H3
    ipureintro; exact View.read_writes_of_cover _ _ _ _ _ (coverHD m c t h1 h2 hm)
  isplitr [HW]
  · unfold rested
    isplitl [Hb0 Hb1 Hb2 Hb3 Hb4 Hb5 Hb6 Hb7]
    · iexists _
      iapply (Entails.of_eq (pieces c (xbG (rows (XV m c) (blkF (t.val / 7))))).symm)
      isplitl [Hb0]; · iexact Hb0
      isplitl [Hb1]; · iexact Hb1
      isplitl [Hb2]; · iexact Hb2
      isplitl [Hb3]; · iexact Hb3
      isplitl [Hb4]; · iexact Hb4
      isplitl [Hb5]; · iexact Hb5
      isplitl [Hb6]; · iexact Hb6
      iexact Hb7
    isplitl [Hz0 Hz1 Hz2 Hz3 Hz4 Hz5 Hz6 Hz7 HT]
    · iapply (array_eq c (XV m c) (blkF (t.val / 7))).2
      isplitr [HT]
      · unfold rowsHeld
        isplitl [Hz0]; · iexact Hz0
        isplitl [Hz1]; · iexact Hz1
        isplitl [Hz2]; · iexact Hz2
        isplitl [Hz3]; · iexact Hz3
        isplitl [Hz4]; · iexact Hz4
        isplitl [Hz5]; · iexact Hz5
        isplitl [Hz6]; · iexact Hz6
        iexact Hz7
      iexact HT
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  iexact HW

set_option maxHeartbeats 4000000 in
/-- The body at a later step of a row block. -/
theorem step_C (c : Dev nD) (t : Fin cfg0.N) (h1 : ¬first (grid0.coords t)) (h : Vec F S2048x2048 .bf16) (K : PUnit → sProp 𝕄) :
    iprop(owns (c : Thread nD τ) (st0_0 t) fullShare (iblk m c 0 t) ∗ owns (c : Thread nD τ) (st0_1 t) fullShare (iblk m c 1 t) ∗ (∃ d, owns (c : Thread nD τ) (st0_2 t) fullShare d)
          ∗ owns (c : Thread nD τ) hM fullShare h
          ∗ (iprop(owns (c : Thread nD τ) (st0_0 t) fullShare (iblk m c 0 t) ∗ owns (c : Thread nD τ) (st0_1 t) fullShare (iblk m c 1 t) ∗ owns (c : Thread nD τ) (st0_2 t) fullShare (left5 (atC m c t h1 h).1)
          ∗ owns (c : Thread nD τ) hM fullShare h) -∗ K ⟨⟩))
      ⊢ wp frame (wpE (defs₀ (F := F)) Variants.none c none) Set.univ (bodyAt0 t) K := by
  unfold bodyAt0
  iintro ⟨H0, H1, H2, H3, Hk⟩
  iapply ((atC m c t h1 h).2 K)
  isplitl [H0]; · iexact H0
  isplitl [H1]; · iexact H1
  isplitl [H2]; · iexact H2
  isplitl [H3]; · iexact H3
  iintro ⟨H0, H1, ⟨%f5, H2⟩, H3⟩
  iapply Hk
  isplitl [H0]; · iexact H0
  isplitl [H1]; · iexact H1
  isplitl [H2]
  · unfold owns; iexists _; isplitr
    swap; · iexact H2
    ipureintro; exact View.read_writes_of_cover _ _ _ _ _ (coverC m c t h1 h)
  iexact H3

end Cert.Kernel4Ideal.In

end
-- ==== Proof.Kernel4Ideal.Store.lean ====
module

public import proofs.«01_k».proof.Proof.Kernel4Ideal.Steps
public import Idealize.ShloMosaic.Lib.Pipeline.ValueKit
public import Idealize.ShloMosaic.Lib.Pointwise

@[expose] public section

set_option maxRecDepth 16384

noncomputable section

namespace Cert.Kernel4Ideal.In

open Idealize.ShloMosaic Idealize.ShloMosaic.TcCoe Idealize.ShloMosaic.Tactic
open Idealize.SL.Sem
open Cert.Kernel4Ideal.Gen

variable {F : FTy → Type} [FloatOps F]

/-- A block's columns, 512 at a time. -/
theorem cr_inb : ∀ (n : Fin 3) (a : Fin 2), (![0, 512 * n.val] : Fin 2 → ℕ) a + S2048x512.size a ≤ S2048x1536.size a := by decide
abbrev cr (n : Fin 3) : Rect S2048x1536 := Rect.unit (s := S2048x1536) ![0, 512 * n.val] S2048x512.size (cr_inb n)
/-- The whole of a block of normalised rows. -/
abbrev wr : Rect S2048x2048 := Rect.unit (s := S2048x2048) ![0, 0] S2048x2048.size inb_S2048x2048_S2048x2048_0_0
/-- A store of 512 columns. -/
abbrev colP (n : Fin 3) (p : Vec F S2048x512 .bf16) : View.Piece (Elt F) S2048x1536 .bf16 := ⟨cr n, p⟩
/-- A store of 256 rows. -/
abbrev rowP (k : Fin 8) (p : Vec F S256x2048 .bf16) : View.Piece (Elt F) S2048x2048 .bf16 := ⟨xr k, p⟩
/-- A first step's stores into the scratch: eight times 256 rows, normalised. -/
def hL (x : Vec F S2048x2048 .f32) (g : Vec F S1x2048 .f32) : List (View.Piece (Elt F) S2048x2048 .bf16) :=
  [rowP 7 (k0_pay1 (View.ld x (xr 7)) g), rowP 6 (k0_pay1 (View.ld x (xr 6)) g), rowP 5 (k0_pay1 (View.ld x (xr 5)) g), rowP 4 (k0_pay1 (View.ld x (xr 4)) g), rowP 3 (k0_pay1 (View.ld x (xr 3)) g), rowP 2 (k0_pay1 (View.ld x (xr 2)) g), rowP 1 (k0_pay1 (View.ld x (xr 1)) g), rowP 0 (k0_pay1 (View.ld x (xr 0)) g)]
/-- A step's stores into the output block: the rows projected on 512 columns, three times. -/
def oL (h : Vec F S2048x2048 .bf16) (w : Vec F S2048x1536 .bf16) : List (View.Piece (Elt F) S2048x1536 .bf16) :=
  [colP 2 (k0_pay2 h (View.ld w (cr 2))), colP 1 (k0_pay2 h (View.ld w (cr 1))), colP 0 (k0_pay2 h (View.ld w (cr 0)))]

/-- The block's rows read back from the scratch they lie in. -/
theorem shown8_eq (h : Vec F S2048x2048 .bf16) : hM.view.read (Elt F) ((Memref.isWhole_whole cc0_scratch0).unread h) = h := (Memref.isWhole_whole cc0_scratch0).read_unread h
theorem shownX_eq (x : Vec F S2048x2048 .f32) : xbM.view.read (Elt F) (xbG x) = x := (Memref.isWhole_whole cc0_scratch1).read_unread x

/-- The eight payloads are one, and the three products are one. -/
theorem pay5 : @k0_pay5 F _ = k0_pay1 := rfl
theorem pay6 : @k0_pay6 F _ = k0_pay1 := rfl
theorem pay7 : @k0_pay7 F _ = k0_pay1 := rfl
theorem pay9 (x : Vec F S256x2048 .f32) (g : Vec F S1x2048 .f32) : k0_pay9 x (k0_pay8 x) (FloatOps.ofBits FTy.f32 897988541#32) g = k0_pay1 x g := rfl
theorem pay12 (x : Vec F S256x2048 .f32) (g : Vec F S1x2048 .f32) : k0_pay12 (k0_pay10 x) (k0_pay11 g) = k0_pay1 x g := rfl
theorem pay13 : @k0_pay13 F _ = k0_pay1 := rfl
theorem pay14 : @k0_pay14 F _ = k0_pay1 := rfl
theorem pay3 : @k0_pay3 F _ = k0_pay2 := rfl
theorem pay4 : @k0_pay4 F _ = k0_pay2 := rfl

variable (m : (ℓ : Loc nD τ sig) → Buf (Elt F) ℓ)

/-- The rows of chunk `k` of the first block lie inside the array. -/
theorem came_inb : ∀ (k : Fin 8) (a : Fin 2), (![256 * k.val, 0] : Fin 2 → ℕ) a + S256x2048.size a ≤ S32768x2048.size a := by decide
/-- A chunk of the scratch just after the first block's rows were copied into it. -/
def came (X : Vec F S32768x2048 .f32) (k : Fin 8) : Vec F S256x2048 .f32 :=
  View.ld ((View.whole cc0_scratch1).read (Elt F) (((View.whole cc0_scratch1).slice (xr k)).writes (Elt F) ((View.whole cc0_scratch1).slice (xr k)).junk
    [⟨Rect.whole S256x2048, ReadAs.same.apply (((View.whole main_arg0).slice (Rect.unit (s := S32768x2048) ![256 * k.val, 0] S256x2048.size (came_inb k))).read (Elt F) ((Memref.isWhole_whole main_arg0).unread X))⟩])) (xr k)
/-- It shows those rows. -/
theorem came_eq (X : Vec F S32768x2048 .f32) (k : Fin 8) : came X k = View.ld (rows X 0) (xr k) := by
  funext z
  refine Eq.trans (congrFun (View.read_writes_whole ((View.whole cc0_scratch1).slice (xr k)) _ _) z) ?_
  refine Eq.trans (chunk_read X 0 k _ (came_inb k) (by simp) z) ?_
  exact congrArg (fun x : Vec F S2048x2048 .f32 => View.ld x (xr k) z) (shownX_eq (rows X 0))
/-- The stores of the normalised rows over chunks of any contents. -/
def hC (y : Fin 8 → Vec F S256x2048 .f32) (g : Vec F S1x2048 .f32) : List (View.Piece (Elt F) S2048x2048 .bf16) :=
  [rowP 7 (k0_pay1 (y 7) g), rowP 6 (k0_pay1 (y 6) g), rowP 5 (k0_pay1 (y 5) g), rowP 4 (k0_pay1 (y 4) g), rowP 3 (k0_pay1 (y 3) g), rowP 2 (k0_pay1 (y 2) g), rowP 1 (k0_pay1 (y 1) g), rowP 0 (k0_pay1 (y 0) g)]
theorem hC_eq (X : Vec F S32768x2048 .f32) (g : Vec F S1x2048 .f32) : hC (came X) g = hL (rows X 0) g :=
  congrArg (fun y => hC y g) (funext (came_eq X))

/-- What the first point leaves in the scratch of normalised rows. -/
theorem h_A (c : Dev nD) (t : Fin cfg0.N) (h1 : first (grid0.coords t)) (h2 : start (grid0.coords t)) :
    left8 (atA m c t h1 h2).2.1 = View.canon (hL (rows (XV m c) 0) (iblk m c 0 t)) := by
  refine Eq.trans ?_ (congrArg View.canon (hC_eq (XV m c) (iblk m c 0 t)))
  unfold atA
  frame_out
  simp only [pay3, pay4, pay5, pay6, pay7, pay9, pay12, pay13, pay14]
  rfl
/-- And in the output block. -/
theorem o_A (c : Dev nD) (t : Fin cfg0.N) (h1 : first (grid0.coords t)) (h2 : start (grid0.coords t)) :
    left5 (atA m c t h1 h2).1 = View.canon (oL (hM.view.readCov (hL (rows (XV m c) 0) (iblk m c 0 t)) wr.toLoadRect) (iblk m c 1 t)) := by
  refine Eq.trans ?_ (congrArg (fun L => View.canon (oL (hM.view.readCov L wr.toLoadRect) (iblk m c 1 t))) (hC_eq (XV m c) (iblk m c 0 t)))
  unfold atA
  frame_out
  simp only [pay3, pay4, pay5, pay6, pay7, pay9, pay12, pay13, pay14]
  rfl
/-- What the first step of a later row block that another follows leaves in the scratch of normalised rows. -/
theorem h_B (c : Dev nD) (t : Fin cfg0.N) (h1 : first (grid0.coords t)) (h2 : ¬start (grid0.coords t)) (hm : t.val < 105) :
    left8 (atB m c t h1 h2 hm).2.1 = View.canon (hL (rows (XV m c) (blkF (t.val / 7))) (iblk m c 0 t)) := by
  refine Eq.trans ?_ (congrArg (fun x => View.canon (hL x (iblk m c 0 t))) (shownX_eq (rows (XV m c) (blkF (t.val / 7)))))
  unfold atB
  frame_out
  simp only [pay3, pay4, pay5, pay6, pay7, pay9, pay12, pay13, pay14]
  rfl
/-- And in the output block. -/
theorem o_B (c : Dev nD) (t : Fin cfg0.N) (h1 : first (grid0.coords t)) (h2 : ¬start (grid0.coords t)) (hm : t.val < 105) :
    left5 (atB m c t h1 h2 hm).1 = View.canon (oL (hM.view.readCov (hL (rows (XV m c) (blkF (t.val / 7))) (iblk m c 0 t)) wr.toLoadRect) (iblk m c 1 t)) := by
  refine Eq.trans ?_ (congrArg (fun x => View.canon (oL (hM.view.readCov (hL x (iblk m c 0 t)) wr.toLoadRect) (iblk m c 1 t))) (shownX_eq (rows (XV m c) (blkF (t.val / 7)))))
  unfold atB
  frame_out
  simp only [pay3, pay4, pay5, pay6, pay7, pay9, pay12, pay13, pay14]
  rfl
/-- What the first step of the last row block leaves in the scratch of normalised rows. -/
theorem h_D (c : Dev nD) (t : Fin cfg0.N) (h1 : first (grid0.coords t)) (h2 : ¬start (grid0.coords t)) (hm : ¬t.val < 105) :
    left8 (atD m c t h1 h2 hm).2.1 = View.canon (hL (rows (XV m c) (blkF (t.val / 7))) (iblk m c 0 t)) := by
  refine Eq.trans ?_ (congrArg (fun x => View.canon (hL x (iblk m c 0 t))) (shownX_eq (rows (XV m c) (blkF (t.val / 7)))))
  unfold atD
  frame_out
  simp only [pay3, pay4, pay5, pay6, pay7, pay9, pay12, pay13, pay14]
  rfl
/-- And in the output block. -/
theorem o_D (c : Dev nD) (t : Fin cfg0.N) (h1 : first (grid0.coords t)) (h2 : ¬start (grid0.coords t)) (hm : ¬t.val < 105) :
    left5 (atD m c t h1 h2 hm).1 = View.canon (oL (hM.view.readCov (hL (rows (XV m c) (blkF (t.val / 7))) (iblk m c 0 t)) wr.toLoadRect) (iblk m c 1 t)) := by
  refine Eq.trans ?_ (congrArg (fun x => View.canon (oL (hM.view.readCov (hL x (iblk m c 0 t)) wr.toLoadRect) (iblk m c 1 t))) (shownX_eq (rows (XV m c) (blkF (t.val / 7)))))
  unfold atD
  frame_out
  simp only [pay3, pay4, pay5, pay6, pay7, pay9, pay12, pay13, pay14]
  rfl
/-- What a later step leaves in the output block. -/
theorem o_C (c : Dev nD) (t : Fin cfg0.N) (h1 : ¬first (grid0.coords t)) (h : Vec F S2048x2048 .bf16) : left5 (atC m c t h1 h).1 = View.canon (oL h (iblk m c 1 t)) := by
  refine Eq.trans ?_ (congrArg (fun h => View.canon (oL h (iblk m c 1 t))) (shown8_eq h))
  unfold atC
  frame_out
  simp only [pay3, pay4]
  rfl

end Cert.Kernel4Ideal.In

end
-- ==== Proof.Kernel4Ideal.Frame.lean ====
module

public import proofs.«01_k».proof.Proof.Kernel4Ideal.Steps

@[expose] public section

set_option maxRecDepth 16384

noncomputable section

namespace Cert.Kernel4Ideal.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the output block and the scratch of normalised rows hold after the point `n`: the body's step from what the point
before left in the scratch (at the first point, from anything). -/
def outsAt (c : Dev nD) : (n : ℕ) → n < cfg0.N → Vec F S2048x1536 .bf16 × Vec F S2048x2048 .bf16
  | 0, hn => stepAt m c ⟨0, hn⟩ (left8 [])
  | n + 1, hn => stepAt m c ⟨n + 1, hn⟩ (outsAt c n (Nat.lt_of_succ_lt hn)).2

/-- A first step of a row block does not look at what the scratch held. -/
theorem outsAt_first (c : Dev nD) (t : Fin cfg0.N) (h1 : first (grid0.coords t)) (h : Vec F S2048x2048 .bf16) :
    outsAt m c t.val t.isLt = stepAt m c t h := by
  have e : ∀ h' : Vec F S2048x2048 .bf16, stepAt m c t h' = stepAt m c t h := fun h' => by unfold stepAt; rw [dif_pos h1, dif_pos h1]
  obtain ⟨n, hn⟩ := t
  cases n with
  | zero => exact e _
  | succ n => exact e _
/-- `outsAt` after a point that is not the first. -/
theorem outsAt_pos (c : Dev nD) (t : Fin cfg0.N) (hz : t.val ≠ 0) :
    outsAt m c t.val t.isLt = stepAt m c t (outsAt m c (t.val - 1) (Nat.lt_of_le_of_lt (Nat.sub_le _ _) t.isLt)).2 := by
  obtain ⟨n, hn⟩ := t
  cases n with
  | zero => exact absurd rfl hz
  | succ n => rfl

/-- The body's own semaphores: the eight chunks'. -/
abbrev osem : Fin 8 → SemLoc sig := ![SemLoc.dma ((cc0_scratch2.slice (Rect.unit (s := S8) ![0] S1.size inb_S8_S1_0)).squeeze S_ squeezes_S1_S_).sem, SemLoc.dma ((cc0_scratch2.slice (Rect.unit (s := S8) ![1] S1.size inb_S8_S1_1)).squeeze S_ squeezes_S1_S_).sem, SemLoc.dma ((cc0_scratch2.slice (Rect.unit (s := S8) ![2] S1.size inb_S8_S1_2)).squeeze S_ squeezes_S1_S_).sem, SemLoc.dma ((cc0_scratch2.slice (Rect.unit (s := S8) ![3] S1.size inb_S8_S1_3)).squeeze S_ squeezes_S1_S_).sem, SemLoc.dma ((cc0_scratch2.slice (Rect.unit (s := S8) ![4] S1.size inb_S8_S1_4)).squeeze S_ squeezes_S1_S_).sem, SemLoc.dma ((cc0_scratch2.slice (Rect.unit (s := S8) ![5] S1.size inb_S8_S1_5)).squeeze S_ squeezes_S1_S_).sem, SemLoc.dma ((cc0_scratch2.slice (Rect.unit (s := S8) ![6] S1.size inb_S8_S1_6)).squeeze S_ squeezes_S1_S_).sem, SemLoc.dma ((cc0_scratch2.slice (Rect.unit (s := S8) ![7] S1.size inb_S8_S1_7)).squeeze S_ squeezes_S1_S_).sem]
/-- They are scoped, distinct, and no window's. -/
theorem ownSemFacts : Pipeline.OwnSemFacts spec0 osem := by decide
/-- The array the body addresses itself: the input rows. -/
abbrev HR : Finset (Ref sig .tc) := {main_arg0}
theorem HR_sub : HR ⊆ Pipeline.restRefs sig spec0 := by
  intro b hb
  rw [Finset.mem_singleton.mp hb]
  exact Pipeline.mem_restRefs_of main_arg0 (by decide) (by decide)

/-- The body's semaphores at zero are the eight chunks'. -/
theorem ownSems_eq (c : Dev nD) :
    (Pipeline.ownSems0 (Ix := Unit) (Name := ℕ) (U := Pipeline.UD sig nD τ) (Lvl := ℕ) (Val := Elt F) (τ := τ) osem c : sProp 𝕄)
      = iprop(cell0 c ∗ cell1 c ∗ cell2 c ∗ cell3 c ∗ cell4 c ∗ cell5 c ∗ cell6 c ∗ cell7 c) :=
  Pipeline.ownSems0_eq_of_list c osem [0, 1, 2, 3, 4, 5, 6, 7] (by decide) (by decide)

/-- The input rows held whole are the array as the region finds it. -/
theorem array_held (c : Dev nD) :
    (held c xM (xG (XV m c)) : sProp 𝕄) = (((c : Thread nD τ).loc main_arg0) ↦{fullShare} V m c main_arg0) := by
  unfold held
  rw [show xG (XV m c) = V m c main_arg0 from ((Memref.isWhole_whole main_arg0).eq_unread rfl).symm, show xM.view.set = Finset.univ from View.set_whole _]
/-- The block scratch held at some contents is the buffer at some contents. -/
theorem block_held (c : Dev nD) (G : xbM.view.ty.Contents (Elt F)) :
    (held c xbM G : sProp 𝕄) = (((c : Thread nD τ).loc cc0_scratch1) ↦{fullShare} G) := by
  unfold held
  rw [show xbM.view.set = Finset.univ from View.set_whole _]

/-- What the launch hands over, as the body's first step takes it, and as the last leaves it. -/
theorem phi_eq (c : Dev nD) : (Pipeline.ΦD osem spec0 HR (V m) c : sProp 𝕄)
    ⊣⊢ iprop((∃ d, owns (c : Thread nD τ) hM fullShare d) ∗ rested c (XV m c) ∗ (∃ r, prngReg c r)) := by
  rw [Pipeline.ΦD_eq, scopedRest0_eq, ownSems_eq, bigSep_singleton]
  unfold rested
  rw [array_held m c]
  simp only [owns_whole, block_held]
  refine ⟨?_, ?_⟩
  · iintro ⟨⟨H8, HG⟩, Hg, HC, HX⟩
    isplitl [H8]; · iexact H8
    isplitr [Hg]
    · isplitl [HG]; · iexact HG
      isplitl [HX]; · iexact HX
      iexact HC
    iexact Hg
  · iintro ⟨H8, ⟨HG, HX, HC⟩, Hg⟩
    isplitl [H8 HG]
    · isplitl [H8]; · iexact H8
      iexact HG
    isplitl [Hg]; · iexact Hg
    isplitr [HX]; · iexact HC
    iexact HX

/-- Before a step the next block is in flight, up to the last row block's first step. -/
theorem between_fly (c : Dev nD) (X : Vec F S32768x2048 .f32) (n : ℕ) (h : n ≤ 105) : (between c X n : sProp 𝕄) = flying c X (blkF ((n - 1) / 7 + 1)) := if_pos h
/-- After it the copies are at rest. -/
theorem between_rest (c : Dev nD) (X : Vec F S32768x2048 .f32) (n : ℕ) (h : ¬n ≤ 105) : (between c X n : sProp 𝕄) = rested c X := if_neg h
/-- A later step of a row block leaves the copies as they are. -/
theorem between_same (c : Dev nD) (X : Vec F S32768x2048 .f32) (n : ℕ) (h : n % 7 ≠ 0) : (between c X (n + 1) : sProp 𝕄) = between c X n := by
  by_cases h' : n ≤ 105
  · rw [between_fly c X n h', between_fly c X (n + 1) (by omega), show (n + 1 - 1) / 7 = (n - 1) / 7 by omega]
  · rw [between_rest c X n h', between_rest c X (n + 1) (by omega)]

/-- The invariant before position `n`: the scratch of normalised rows at what the point before left, and what the body keeps
of its copies; before the first point what the launch hands over. -/
def PhiS (c : Dev nD) : (n : ℕ) → n ≤ cfg0.N → sProp 𝕄
  | 0, _ => Pipeline.ΦD osem spec0 HR (V m) c
  | n + 1, hn => iprop(owns (c : Thread nD τ) hM fullShare (outsAt m c n hn).2 ∗ between c (XV m c) (n + 1) ∗ (∃ r, prngReg c r))
theorem PhiS_zero (c : Dev nD) (n : ℕ) (h : n ≤ cfg0.N) (hz : n = 0) : PhiS m c n h = Pipeline.ΦD osem spec0 HR (V m) c := by
  subst hz; rfl
theorem PhiS_succ (c : Dev nD) (n : ℕ) (hn : n < cfg0.N) :
    PhiS m c (n + 1) hn = iprop(owns (c : Thread nD τ) hM fullShare (outsAt m c n hn).2 ∗ between c (XV m c) (n + 1) ∗ (∃ r, prngReg c r)) := rfl
theorem PhiS_pos (c : Dev nD) (n : ℕ) (h : n ≤ cfg0.N) (hz : n ≠ 0) :
    PhiS m c n h = iprop(owns (c : Thread nD τ) hM fullShare (outsAt m c (n - 1) (by omega)).2 ∗ between c (XV m c) n ∗ (∃ r, prngReg c r)) := by
  cases n with
  | zero => exact absurd rfl hz
  | succ n => rfl

/-- The pipeline's proof data on core `c`: each input's buffer ends a point at its block, the output's at `outsAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q _ := fullShare
  owed _ := 0

/-- The proof data's arrays are what the region finds. -/
theorem A_eq (c : Dev nD) (w : Fin cfg0.W) : (dats m 0 c).A w = V m c (Pipeline.arrRef spec0 w) := by
  dsimp only [dats]
/-- The invariant at a point's start, at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0 (c : Dev nD) (t : Fin cfg0.N) : (dats m 0 c).after 0 t = iblk m c 0 t := by dsimp only [dats]
/-- Window 0's buffer holds its block at every point. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem after1 (c : Dev nD) (t : Fin cfg0.N) : (dats m 0 c).after 1 t = iblk m c 1 t := by dsimp only [dats]
/-- Window 1's buffer holds its block at every point. -/
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem after2 (c : Dev nD) (t : Fin cfg0.N) : (dats m 0 c).after 2 t = (outsAt m c t.val t.isLt).1 := by dsimp only [dats]

set_option maxHeartbeats 4000000 in
/-- The body at any point, from what the pipeline hands it to what the pipeline takes back. -/
theorem sound_body (c : Dev nD) (t : Fin cfg0.N) :
    iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
      ⊢ wp frame (wpE (defs₀ (F := F)) Variants.none c none) Set.univ (bodyAt0 t) (fun _ =>
    iprop((dats m 0 c).Φ t.succ
    ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))) := by
  have hlt : t.val < 112 := t.isLt
  simp only [before0, before1]
  unfold Dat.owesAt Pipeline.owesWithin
  rw [show (dats m 0 c).owed t.castSucc = 0 from rfl, show (dats m 0 c).owed t.succ = 0 from rfl,
    after0, after1, after2]
  rw [show (dats m 0 c).Φ t.succ = PhiS m c (t.val + 1) t.isLt from rfl, PhiS_succ, PhiS_castSucc m c t]
  by_cases h1 : first (grid0.coords t)
  · have a1 := (hfirst t).mp h1
    rw [outsAt_first m c t h1 (left8 [])]
    by_cases h2 : start (grid0.coords t)
    · have hz : t.val = 0 := by have := (hstart t).mp h2; omega
      rw [show stepAt m c t _ = _ from (dif_pos h1).trans (dif_pos h2), PhiS_zero m c _ _ hz, between_fly c _ (t.val + 1) (by omega),
        show blkF ((t.val + 1 - 1) / 7 + 1) = 1 by rw [hz]; rfl]
      dsimp only
      iintro ⟨HP, ⟨%W, -, HW⟩, ⟨%d0, H0⟩, ⟨%d1, H1⟩, ⟨%d2, H2⟩⟩
      ihave HP' := (phi_eq m c).1 $$ HP
      icases HP' with ⟨H8, HM, Hg⟩
      iapply (step_A m c t h1 h2 W _)
      isplitl [H0]; · iexact H0
      isplitl [H1]; · iexact H1
      isplitl [H2]; · iexists _; iexact H2
      isplitl [H8]; · iexact H8
      isplitl [HM]; · iexact HM
      isplitl [HW]; · iexact HW
      iintro ⟨H0, H1, H2, H8, HM, ⟨%W', HW⟩⟩
      isplitl [H8 HM Hg]
      · isplitl [H8]; · iexact H8
        isplitl [HM]; · iexact HM
        iexact Hg
      isplitl [HW]
      · iexists W'; isplitr; · ipureintro; exact fun _ _ => Or.inl trivial
        iexact HW
      isplitl [H0]; · iexact H0
      isplitl [H1]; · iexact H1
      iexact H2
    · have hz : t.val ≠ 0 := fun hz => h2 ((hstart t).mpr (by omega))
      rw [PhiS_pos m c _ _ hz]
      have ez : (t.val - 1) / 7 + 1 = t.val / 7 := by omega
      rw [between_fly c _ t.val (by omega), ez]
      by_cases hm : t.val < 105
      · rw [show stepAt m c t _ = _ from (dif_pos h1).trans ((dif_neg h2).trans (dif_pos hm)), between_fly c _ (t.val + 1) (by omega), Nat.add_sub_cancel]
        dsimp only
        iintro ⟨⟨H8, HM, Hg⟩, ⟨%W, -, HW⟩, ⟨%d0, H0⟩, ⟨%d1, H1⟩, ⟨%d2, H2⟩⟩
        iapply (step_B m c t h1 h2 hm W _)
        isplitl [H0]; · iexact H0
        isplitl [H1]; · iexact H1
        isplitl [H2]; · iexists _; iexact H2
        isplitl [H8]; · iexists _; iexact H8
        isplitl [HM]; · iexact HM
        isplitl [HW]; · iexact HW
        iintro ⟨H0, H1, H2, H8, HM, ⟨%W', HW⟩⟩
        isplitl [H8 HM Hg]
        · isplitl [H8]; · iexact H8
          isplitl [HM]; · iexact HM
          iexact Hg
        isplitl [HW]
        · iexists W'; isplitr; · ipureintro; exact fun _ _ => Or.inl trivial
          iexact HW
        isplitl [H0]; · iexact H0
        isplitl [H1]; · iexact H1
        iexact H2
      · rw [show stepAt m c t _ = _ from (dif_pos h1).trans ((dif_neg h2).trans (dif_neg hm)), between_rest c _ (t.val + 1) (by omega)]
        dsimp only
        iintro ⟨⟨H8, HM, Hg⟩, ⟨%W, -, HW⟩, ⟨%d0, H0⟩, ⟨%d1, H1⟩, ⟨%d2, H2⟩⟩
        iapply (step_D m c t h1 h2 hm W _)
        isplitl [H0]; · iexact H0
        isplitl [H1]; · iexact H1
        isplitl [H2]; · iexists _; iexact H2
        isplitl [H8]; · iexists _; iexact H8
        isplitl [HM]; · iexact HM
        isplitl [HW]; · iexact HW
        iintro ⟨H0, H1, H2, H8, HM, ⟨%W', HW⟩⟩
        isplitl [H8 HM Hg]
        · isplitl [H8]; · iexact H8
          isplitl [HM]; · iexact HM
          iexact Hg
        isplitl [HW]
        · iexists W'; isplitr; · ipureintro; exact fun _ _ => Or.inl trivial
          iexact HW
        isplitl [H0]; · iexact H0
        isplitl [H1]; · iexact H1
        iexact H2
  · have a1 : t.val % 7 ≠ 0 := fun h => h1 ((hfirst t).mpr h)
    have hz : t.val ≠ 0 := fun hz => a1 (by rw [hz])
    rw [PhiS_pos m c _ _ hz, between_same c _ t.val a1, outsAt_pos m c t hz, show stepAt m c t _ = _ from dif_neg h1]
    dsimp only
    iintro ⟨⟨H8, HM, Hg⟩, ⟨%W, -, HW⟩, ⟨%d0, H0⟩, ⟨%d1, H1⟩, ⟨%d2, H2⟩⟩
    iapply (step_C m c t h1 _ _)
    isplitl [H0]; · iexact H0
    isplitl [H1]; · iexact H1
    isplitl [H2]; · iexists _; iexact H2
    isplitl [H8]; · iexact H8
    iintro ⟨H0, H1, H2, H8⟩
    isplitl [H8 HM Hg]
    · isplitl [H8]; · iexact H8
      isplitl [HM]; · iexact HM
      iexact Hg
    isplitl [HW]
    · iexists W; isplitr; · ipureintro; exact fun _ _ => Or.inl trivial
      iexact HW
    isplitl [H0]; · iexact H0
    isplitl [H1]; · iexact H1
    iexact H2

/-- The body table's row at point `t`'s slots is the body at `t`. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦD osem spec0 HR (V m) c ⊢ (dats m 0 c).Φ 0 := by
  rw [show (dats m 0 c).Φ 0 = PhiS m c 0 (Nat.zero_le _) from rfl, PhiS_zero m c 0 _ rfl]

/-- After the last point the invariant gives back what the launch handed over. -/
theorem hout (c : Dev nD) : (dats m 0 c).Φ (Fin.last cfg0.N) ⊢ Pipeline.ΦD osem spec0 HR (V m) c := by
  rw [show (dats m 0 c).Φ (Fin.last cfg0.N) = PhiS m c 112 (Nat.le_refl _) from rfl, PhiS_succ m c 111 (by decide),
    between_rest c _ (111 + 1) (by decide)]
  refine BIBase.Entails.trans ?_ (phi_eq m c).2
  iintro ⟨H8, HM, Hg⟩
  isplitl [H8]; · iexists _; iexact H8
  isplitl [HM]; · iexact HM
  iexact Hg

set_option backward.isDefEq.respectTransparency.types false in
/-- The launch: every fair execution terminates with the pipeline's arrays at what the proof data gives and every counter
at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem defs₀ Variants.none ownSemFacts HR HR_sub m ρ main
    (hbody := fun c => (body_obligation m c).loose) (hshare := fun c w => (dats m 0 c).share_full (fun _ => rfl) w)
    (howed := fun _ _ => rfl) (V := V m)
    (hmain := Pipeline.hmain_prefix cfgs 0 defs₀ Variants.none m main hostOps0 hostOps0_sub hostOps0_fresh main_chain)
    (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays after the run are as launched. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c)⟩

/-- The frame: from any memory every fair execution terminates with the argument arrays unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨args_kept m r h.1, h.2⟩) (run_main_quiescent m ρ)

end Cert.Kernel4Ideal.In

end
-- ==== Proof.Kernel4Ideal.Result.lean ====
module

public import proofs.«01_k».proof.Proof.Kernel4Ideal.Store
public import proofs.«01_k».proof.Proof.Kernel4Ideal.Frame
public import proofs.«01_k».proof.Proof.Math.Proj
public import Idealize.ShloMosaic.Lib.Pointwise

@[expose] public section

set_option maxRecDepth 16384

noncomputable section

namespace Cert.Kernel4Ideal.In

open Idealize.ShloMosaic Idealize.ShloMosaic.TcCoe Idealize.ShloMosaic.Tactic
open Idealize.SL.Sem
open Cert.Kernel4Ideal.Gen Cert.SquaredRelu Cert.Projections

/-- Column `l` of a block's columns number `n`. -/
abbrev cc (n : Fin 3) (l : Fin 512) : Fin 1536 := ⟨512 * n.val + l.val, by omega⟩
/-- Row `r` of a block's rows number `k`. -/
abbrev rc (k : Fin 8) (r : Fin 256) : Fin 2048 := ⟨256 * k.val + r.val, by omega⟩

theorem cr_idx (n : Fin 3) (r : Fin 2048) (l : Fin 512) : (cr n).emb (ix2 r l : S2048x512.Idx) = (ix2 r (cc n l) : S2048x1536.Idx) := by
  funext a
  match a with
  | ⟨0, _⟩ => exact Fin.ext (show 0 + 1 * r.val = r.val by omega)
  | ⟨1, _⟩ => exact Fin.ext (show 512 * n.val + 1 * l.val = 512 * n.val + l.val by omega)
theorem xr_idx (k : Fin 8) (r : Fin 256) (l : Fin 2048) : (xr k).emb (ix2 r l : S256x2048.Idx) = (ix2 (rc k r) l : S2048x2048.Idx) := by
  funext a
  match a with
  | ⟨0, _⟩ => exact Fin.ext (show 256 * k.val + 1 * r.val = 256 * k.val + r.val by omega)
  | ⟨1, _⟩ => exact Fin.ext (show 0 + 1 * l.val = l.val by omega)
theorem wr_idx (y : S2048x2048.Idx) : wr.emb y = y := by
  funext a
  match a with
  | ⟨0, _⟩ => exact Fin.ext (show 0 + 1 * (y 0).val = (y 0).val by omega)
  | ⟨1, _⟩ => exact Fin.ext (show 0 + 1 * (y 1).val = (y 1).val by omega)

/-- The last store of columns, read; and an earlier content, read beside it. -/
theorem col_hit (n : Fin 3) (p : Vec Ideal S2048x512 .bf16) (L : List (View.Piece (Elt Ideal) S2048x1536 .bf16)) (r : Fin 2048) (l : Fin 512) :
    View.canon (colP n p :: L) (ix2 r (cc n l)) = p (ix2 r l) :=
  (congrArg (View.canon (colP n p :: L)) (cr_idx n r l).symm).trans (View.canon_cons_emb (Val := Elt Ideal) (e := .bf16) (cr n) p L (ix2 r l : S2048x512.Idx))
theorem col_skip (n k : Fin 3) (h : n ≠ k) (p : Vec Ideal S2048x512 .bf16) (L : List (View.Piece (Elt Ideal) S2048x1536 .bf16)) (r : Fin 2048) (l : Fin 512) :
    View.canon (colP k p :: L) (ix2 r (cc n l)) = View.canon L (ix2 r (cc n l)) := by
  refine View.canon_cons_of_not_mem _ _ fun hm => ?_
  have hm' : (ix2 r (cc n l) : S2048x1536.Idx) ∈ (cr k).set := hm
  have h1 := Rect.mem_set_unit.mp hm' 1
  have e1 : 512 * k.val ≤ 512 * n.val + l.val ∧ 512 * n.val + l.val < 512 * k.val + 512 := h1
  exact h (Fin.ext (by omega))
/-- The same of a store of rows. -/
theorem row_hit (k : Fin 8) (p : Vec Ideal S256x2048 .bf16) (L : List (View.Piece (Elt Ideal) S2048x2048 .bf16)) (r : Fin 256) (l : Fin 2048) :
    View.canon (rowP k p :: L) (ix2 (rc k r) l) = p (ix2 r l) :=
  (congrArg (View.canon (rowP k p :: L)) (xr_idx k r l).symm).trans (View.canon_cons_emb (Val := Elt Ideal) (e := .bf16) (xr k) p L (ix2 r l : S256x2048.Idx))
theorem row_skip (q k : Fin 8) (h : q ≠ k) (p : Vec Ideal S256x2048 .bf16) (L : List (View.Piece (Elt Ideal) S2048x2048 .bf16)) (r : Fin 256) (l : Fin 2048) :
    View.canon (rowP k p :: L) (ix2 (rc q r) l) = View.canon L (ix2 (rc q r) l) := by
  refine View.canon_cons_of_not_mem _ _ fun hm => ?_
  have hm' : (ix2 (rc q r) l : S2048x2048.Idx) ∈ (xr k).set := hm
  have h1 := Rect.mem_set_unit.mp hm' 0
  have e1 : 256 * k.val ≤ 256 * q.val + r.val ∧ 256 * q.val + r.val < 256 * k.val + 256 := h1
  exact h (Fin.ext (by omega))

/-- The stores of columns leave, at a column of the columns number `n`, that store's payload; the stores of rows the same. -/
theorem oL_at (h : Vec Ideal S2048x2048 .bf16) (w : Vec Ideal S2048x1536 .bf16) (n : Fin 3) (r : Fin 2048) (l : Fin 512) :
    View.canon (oL h w) (ix2 r (cc n l)) = k0_pay2 h (View.ld w (cr n)) (ix2 r l) := by
  unfold oL
  match n with
  | 0 => rw [col_skip 0 2 (by decide), col_skip 0 1 (by decide), col_hit 0]
  | 1 => rw [col_skip 1 2 (by decide), col_hit 1]
  | 2 => rw [col_hit 2]
theorem hL_at (x : Vec Ideal S2048x2048 .f32) (g : Vec Ideal S1x2048 .f32) (q : Fin 8) (r : Fin 256) (l : Fin 2048) :
    View.canon (hL x g) (ix2 (rc q r) l) = k0_pay1 (View.ld x (xr q)) g (ix2 r l) := by
  unfold hL
  match q with
  | 0 => rw [row_skip 0 7 (by decide), row_skip 0 6 (by decide), row_skip 0 5 (by decide), row_skip 0 4 (by decide), row_skip 0 3 (by decide), row_skip 0 2 (by decide), row_skip 0 1 (by decide), row_hit 0]
  | 1 => rw [row_skip 1 7 (by decide), row_skip 1 6 (by decide), row_skip 1 5 (by decide), row_skip 1 4 (by decide), row_skip 1 3 (by decide), row_skip 1 2 (by decide), row_hit 1]
  | 2 => rw [row_skip 2 7 (by decide), row_skip 2 6 (by decide), row_skip 2 5 (by decide), row_skip 2 4 (by decide), row_skip 2 3 (by decide), row_hit 2]
  | 3 => rw [row_skip 3 7 (by decide), row_skip 3 6 (by decide), row_skip 3 5 (by decide), row_skip 3 4 (by decide), row_hit 3]
  | 4 => rw [row_skip 4 7 (by decide), row_skip 4 6 (by decide), row_skip 4 5 (by decide), row_hit 4]
  | 5 => rw [row_skip 5 7 (by decide), row_skip 5 6 (by decide), row_hit 5]
  | 6 => rw [row_skip 6 7 (by decide), row_hit 6]
  | 7 => rw [row_hit 7]

/-- The payloads at an index. -/
theorem nrm_at (x : Vec Ideal S256x2048 .f32) (g : Vec Ideal S1x2048 .f32) (r : Fin 256) (k : Fin 2048) :
    k0_pay1 x g (ix2 r k) = norm (fun k => x (ix2 r k)) (fun k => g (ix2 (0 : Fin 1) k)) k := by
  pointwise [k0_pay1]
  rfl
theorem mul_at (h : Vec Ideal S2048x2048 .bf16) (w : Vec Ideal S2048x512 .bf16) (r : Fin 2048) (l : Fin 512) :
    k0_pay2 h w (ix2 r l) = ∑ k, h (ix2 r k) * w (ix2 k l) := by
  pointwise [k0_pay2]

/-- An index of the block by its columns, or by its rows. -/
theorem split_col (l : Fin 1536) : l = cc ⟨l.val / 512, by omega⟩ ⟨l.val % 512, by omega⟩ :=
  Fin.ext (by show l.val = 512 * (l.val / 512) + l.val % 512; omega)
theorem split_row (r : Fin 2048) : r = rc ⟨r.val / 256, by omega⟩ ⟨r.val % 256, by omega⟩ :=
  Fin.ext (by show r.val = 256 * (r.val / 256) + r.val % 256; omega)

/-- The stores of rows leave the normalised rows, and the stores of columns the rows' projections. -/
theorem h_val (x : Vec Ideal S2048x2048 .f32) (g : Vec Ideal S1x2048 .f32) (r k : Fin 2048) :
    View.canon (hL x g) (ix2 r k) = norm (fun k => x (ix2 r k)) (fun k => g (ix2 (0 : Fin 1) k)) k := by
  rw [split_row r, hL_at, nrm_at]
  exact congrArg (fun f => norm f _ k) (funext fun l => congrArg x (xr_idx _ _ l))
theorem o_val (h : Vec Ideal S2048x2048 .bf16) (w : Vec Ideal S2048x1536 .bf16) (r : Fin 2048) (l : Fin 1536) :
    View.canon (oL h w) (ix2 r l) = ∑ k, h (ix2 r k) * w (ix2 k l) := by
  rw [split_col l, oL_at, mul_at]
  exact Finset.sum_congr rfl fun k _ => congrArg₂ (· * ·) rfl (congrArg w (cr_idx _ k _))
/-- The scratch read back whole holds what the stores of rows left. -/
theorem back_eq (x : Vec Ideal S2048x2048 .f32) (g : Vec Ideal S1x2048 .f32) :
    hM.view.readCov (hL x g) wr.toLoadRect = View.canon (hL x g) := by
  rw [View.readCov_eq_canon_ld hM.view (hL x g) wr (View.cover_of_tiledL (hL x g) S256x2048.size (by sl_kernel_rfl))]
  exact funext fun y => congrArg (View.canon (hL x g)) (wr_idx y)

variable (m : (ℓ : Loc nD τ sig) → Buf (Elt Ideal) ℓ)

/-- The arguments, by row and column. -/
def ax (c : Dev nD) (R : Fin 32768) (k : Fin 2048) : EReal := (m ((c : Thread nD τ).loc main_arg0) : FVec Ideal S32768x2048 .f32) (ix2 R k)
def ag (c : Dev nD) (k : Fin 2048) : EReal := (m ((c : Thread nD τ).loc main_arg1) : FVec Ideal S1x2048 .f32) (ix2 (0 : Fin 1) k)
def aw (c : Dev nD) (k : Fin 2048) (l : Fin 10752) : EReal := (m ((c : Thread nD τ).loc main_arg2) : FVec Ideal S1x2048x10752 .f32) (ix3 (0 : Fin 1) k l)

/-- The windows' block indices, at every step. -/
theorem idx : ∀ t : Fin cfg0.N, win0_0.index t = ![0, 0] ∧ win0_1.index t = ![0, t.val % 7] ∧ win0_2.index t = ![t.val / 7, t.val % 7] :=
  (by decide +kernel : ∀ t : Fin grid0.N, _)

theorem V_v1 (c : Dev nD) (k : Fin 2048) : (V m c main_v1 : FVec Ideal S1x2048 .f32) (ix2 (0 : Fin 1) k) = ag m c k := by
  entry_read; pointwise [ag]
theorem V_v3 (c : Dev nD) (k : Fin 2048) (l : Fin 10752) : (V m c main_v3 : FVec Ideal S2048x10752 .bf16) (ix2 k l) = aw m c k l := by
  entry_read; pointwise [aw]

/-- The row of the input that row `r` of block `b` is, and the column that column `l` of step `t`'s block is. -/
def tr (b : Fin 16) (r : Fin 2048) : Fin 32768 := ⟨2048 * b.val + r.val, by omega⟩
def tc (t : Fin cfg0.N) (l : Fin 1536) : Fin 10752 := ⟨1536 * (t.val % 7) + l.val, by omega⟩

/-- The steps' blocks, at an index. -/
theorem X0_at (c : Dev nD) (t : Fin cfg0.N) (k : Fin 2048) : (iblk m c 0 t : Vec Ideal S1x2048 .f32) (ix2 (0 : Fin 1) k) = ag m c k := by
  rw [← V_v1]
  show (V m c main_v1 : FVec Ideal S1x2048 .f32) _ = _
  refine congrArg (V m c main_v1 : FVec Ideal S1x2048 .f32) ?_
  blk_ext [idx t]
theorem X1_at (c : Dev nD) (t : Fin cfg0.N) (k : Fin 2048) (l : Fin 1536) : (iblk m c 1 t : Vec Ideal S2048x1536 .bf16) (ix2 k l) = aw m c k (tc t l) := by
  rw [← V_v3]
  show (V m c main_v3 : FVec Ideal S2048x10752 .bf16) _ = _
  refine congrArg (V m c main_v3 : FVec Ideal S2048x10752 .bf16) ?_
  blk_ext [idx t, tc]
theorem rows_XV (c : Dev nD) (b : Fin 16) (r k : Fin 2048) : rows (XV m c) b (ix2 r k) = ax m c (tr b r) k := by
  have e : (Rect.unit (s := S32768x2048) ![2048 * b.val, 0] S2048x2048.size (xrow_inb b)).emb (ix2 r k : S2048x2048.Idx) = (ix2 (tr b r) k : S32768x2048.Idx) := by
    funext a
    match a with
    | ⟨0, _⟩ => exact Fin.ext (show 2048 * b.val + 1 * r.val = 2048 * b.val + r.val by omega)
    | ⟨1, _⟩ => exact Fin.ext (show 0 + 1 * k.val = k.val by omega)
  have e2 : XV m c = (m ((c : Thread nD τ).loc main_arg0) : FVec Ideal S32768x2048 .f32) := V_main_arg0 m c
  unfold rows ax
  rw [e2]
  exact congrArg _ e

/-- The row block of a step. -/
abbrev bk (t : Fin cfg0.N) : Fin 16 := blkF (t.val / 7)

/-- After a step the scratch holds the row block's normalised rows, and the output block their projection. -/
def Held (c : Dev nD) (t : Fin cfg0.N) : Prop :=
  (∀ r k, (outsAt m c t.val t.isLt).2 (ix2 r k) = norm (ax m c (tr (bk t) r)) (ag m c) k)
  ∧ ∀ r l, (outsAt m c t.val t.isLt).1 (ix2 r l) = entering (ax m c) (ag m c) (aw m c) (tr (bk t) r) (tc t l)

/-- The projection of a row block's normalised rows. -/
theorem proj_val (c : Dev nD) (t : Fin cfg0.N) (h : Vec Ideal S2048x2048 .bf16) (hh : ∀ r k, h (ix2 r k) = norm (ax m c (tr (bk t) r)) (ag m c) k) (r : Fin 2048) (l : Fin 1536) :
    View.canon (oL h (iblk m c 1 t)) (ix2 r l) = entering (ax m c) (ag m c) (aw m c) (tr (bk t) r) (tc t l) := by
  rw [o_val]
  exact Finset.sum_congr rfl fun k _ => congrArg₂ (· * ·) (hh r k) (X1_at m c t k l)

/-- A row block's first step as one equation. -/
theorem step_first (c : Dev nD) (t : Fin cfg0.N) (h0 : t.val % 7 = 0) :
    outsAt m c t.val t.isLt = (View.canon (oL (View.canon (hL (rows (XV m c) (bk t)) (iblk m c 0 t))) (iblk m c 1 t)),
      View.canon (hL (rows (XV m c) (bk t)) (iblk m c 0 t))) := by
  have h1 := (hfirst t).mpr h0
  rw [outsAt_first m c t h1 (left8 [])]
  by_cases h2 : start (grid0.coords t)
  · have hz : bk t = 0 := by
      have := (hstart t).mp h2
      exact Fin.ext (show t.val / 7 % 16 = 0 by omega)
    rw [show stepAt m c t _ = _ from (dif_pos h1).trans (dif_pos h2), o_A, h_A, hz, back_eq]
  · by_cases hm : t.val < 105
    · rw [show stepAt m c t _ = _ from (dif_pos h1).trans ((dif_neg h2).trans (dif_pos hm)), o_B, h_B, back_eq]
    · rw [show stepAt m c t _ = _ from (dif_pos h1).trans ((dif_neg h2).trans (dif_neg hm)), o_D, h_D, back_eq]

theorem first_val (c : Dev nD) (t : Fin cfg0.N) (r k : Fin 2048) :
    View.canon (hL (rows (XV m c) (bk t)) (iblk m c 0 t)) (ix2 r k) = norm (ax m c (tr (bk t) r)) (ag m c) k := by
  rw [h_val]
  exact congrArg₂ (fun f g => norm f g k) (funext fun k => rows_XV m c _ r k) (funext fun k => X0_at m c t k)

theorem held_first (c : Dev nD) (t : Fin cfg0.N) (h0 : t.val % 7 = 0) : Held m c t := by
  have hh := first_val m c t
  have ho := proj_val m c t _ hh
  have hs := step_first m c t h0
  generalize View.canon (hL (rows (XV m c) (bk t)) (iblk m c 0 t)) = h at hh ho hs
  generalize View.canon (oL h (iblk m c 1 t)) = o at ho hs
  unfold Held
  rw [hs]
  exact ⟨hh, ho⟩

/-- The step before. -/
abbrev pv (t : Fin cfg0.N) : Fin cfg0.N := ⟨t.val - 1, Nat.lt_of_le_of_lt (Nat.sub_le _ _) t.isLt⟩

theorem step_next (c : Dev nD) (t : Fin cfg0.N) (h0 : t.val % 7 ≠ 0) :
    outsAt m c t.val t.isLt = (View.canon (oL (outsAt m c (pv t).val (pv t).isLt).2 (iblk m c 1 t)), (outsAt m c (pv t).val (pv t).isLt).2) := by
  have hz : t.val ≠ 0 := fun hz => h0 (by rw [hz])
  have h1 : ¬first (grid0.coords t) := fun h => h0 ((hfirst t).mp h)
  rw [outsAt_pos m c t hz, show stepAt m c t _ = _ from dif_neg h1, o_C]

theorem held_next (c : Dev nD) (t : Fin cfg0.N) (h0 : t.val % 7 ≠ 0) (hp : Held m c (pv t)) : Held m c t := by
  have eb : bk (pv t) = bk t := Fin.ext (show (t.val - 1) / 7 % 16 = t.val / 7 % 16 by omega)
  have ha : ∀ r k, (outsAt m c (pv t).val (pv t).isLt).2 (ix2 r k) = norm (ax m c (tr (bk (pv t)) r)) (ag m c) k := hp.1
  rw [eb] at ha
  have hs := step_next m c t h0
  generalize (outsAt m c (pv t).val (pv t).isLt).2 = h at ha hs
  have ho := proj_val m c t h ha
  generalize View.canon (oL h (iblk m c 1 t)) = o at ho hs
  unfold Held
  rw [hs]
  exact ⟨ha, ho⟩

theorem held_all : ∀ (n : ℕ) (c : Dev nD) (t : Fin cfg0.N), t.val = n → Held m c t
  | 0, c, t, h => held_first m c t (by rw [h])
  | n + 1, c, t, h => by
    by_cases h0 : t.val % 7 = 0
    · exact held_first m c t h0
    · exact held_next m c t h0 (held_all n c (pv t) (by show t.val - 1 = n; omega))

/-- The projection as an array. -/
def result (c : Dev nD) : FVec Ideal S32768x10752 .bf16 := fun y => entering (ax m c) (ag m c) (aw m c) (y 0) (y 1)

set_option maxHeartbeats 2000000 in
/-- The output array after the run. -/
theorem final (c : Dev nD) : (dats m 0 c).arrAt 2 cfg0.N = result m c := by
  refine (dats m 0 c).arrAt_eq_of_covers 2 _ (by decide +kernel) fun t hf y => ?_
  have htn : t.val < 112 := t.isLt
  have h := (held_all m _ c t rfl).2 (y 0) (y 1)
  rw [after2]
  blk_simp
  have ey : (y : S2048x1536.Idx) = ix2 (y 0 : Fin 2048) (y 1 : Fin 1536) := by
    funext a
    match a with
    | ⟨0, _⟩ => rfl
    | ⟨1, _⟩ => rfl
  refine (congrArg (outsAt m c t.val t.isLt).1 ey).trans (h.trans ?_)
  show entering _ _ _ _ _ = entering _ _ _ _ _
  congr 1
  · apply Fin.ext
    blk_simp [idx t]
    show 2048 * (t.val / 7 % 16) + (y 0).val = _
    omega
  · apply Fin.ext
    blk_simp [idx t]
    show 1536 * (t.val % 7) + (y 1).val = _
    omega

/-- The kernel ends with the output array at the projection, its arguments unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (θ_run_and (run_main m ρ) (frame m ρ))
  refine ⟨?_, h.2.1 c⟩
  exact ((h.1 c).1 2).trans (final m c)

end Cert.Kernel4Ideal.In

end
-- ==== Proof.Twin4.lean ====
module

public import proofs.«01_k».proof.Defs
public import proofs.«01_k».proof.Proof.Gen.Kernel4
public import proofs.«01_k».proof.Proof.Kernel4Ideal.Frame

@[expose] public section

set_option maxRecDepth 16384

noncomputable section

namespace Cert.Proof

open Idealize.ShloMosaic Idealize.SL.Sem

variable {F : FTy → Type} [FloatOps F]
/-- The two programs' bodies are the same. -/
theorem bodies4 : @Cert.Kernel4.defs₀ F _ Cert.Kernel4.Gen.facts = @Cert.Kernel4Ideal.defs₀ F _ Cert.Kernel4Ideal.Gen.facts := by
  unfold Cert.Kernel4.defs₀ Cert.Kernel4Ideal.defs₀
  refine congrArg Defs.onTc ?_
  funext l a
  match l, a with
  | ⟨0, _⟩, (t, sl) => rfl
/-- With their pipelines too. -/
theorem tables4 : @Cert.Kernel4.defs F _ Cert.Kernel4.Gen.facts = @Cert.Kernel4Ideal.defs F _ Cert.Kernel4Ideal.Gen.facts :=
  congrArg (Pipeline.defs (Cert.Kernel4Ideal.pcfgs (F := F))) bodies4

/-- The programs on every thread are the same. -/
theorem mains4 : @Cert.Kernel4.main F _ Cert.Kernel4.Gen.facts = @Cert.Kernel4Ideal.main F _ Cert.Kernel4Ideal.Gen.facts := rfl

/-- The frame of the kernel as printed. -/
theorem frame_kernel4 : Cert.quiescent_Kernel4 (hKernel4 := Cert.Kernel4.Gen.facts) := by
  intro m ρ _
  rw [tables4, mains4]
  exact Cert.Kernel4Ideal.In.frame (F := Bits) m ρ

end Cert.Proof

end
-- ==== Proof.Reference4.lean ====
module

public import proofs.«01_k».proof.Proof.Gen.Reference4Ideal.Run
public import proofs.«01_k».proof.Proof.Reference2
public import proofs.«01_k».proof.Proof.Math.Proj

@[expose] public section

set_option maxRecDepth 16384

noncomputable section

namespace Cert.Reference4Ideal.In

open Idealize.ShloMosaic Idealize.ShloMosaic.TcCoe Idealize.SL.Sem
open Cert.Reference4Ideal Cert.Reference4Ideal.Gen Cert.SquaredRelu Cert.Projections
open Cert.Reference2Ideal.Mlp (rms rms_at)

variable (x : FVec Ideal S32768x2048 .f32) (g : FVec Ideal S1x2048 .f32) (w : FVec Ideal S1x2048x10752 .f32)

/-- The projection of the rows `h`. -/
def proj (h : FVec Ideal S32768x2048 .f32) : FVec Ideal S32768x10752 .bf16 :=
  truncf .bf16 (Host.dotGeneral dot_S32768x2048_S2048x10752_S32768x10752_1_0_0_1_n_n none h (shapeCast _ w shapeCasts_S1x2048x10752_S2048x10752)) bitsLt_bf16_f32
/-- The reference's result. -/
def res : FVec Ideal S32768x10752 .bf16 := proj w (rms x g)

theorem proj_at (h : FVec Ideal S32768x2048 .f32) (R : Fin 32768) (l : Fin 10752) :
    proj w h (ix2 R l) = ∑ k, h (ix2 R k) * w (ix3 (0 : Fin 1) k l) := by
  pointwise [proj]
/-- The reference's result at an index. -/
theorem res_at (R : Fin 32768) (l : Fin 10752) :
    res x g w (ix2 R l) = entering (fun R k => x (ix2 R k)) (fun k => g (ix2 (0 : Fin 1) k)) (fun k l => w (ix3 (0 : Fin 1) k l)) R l := by
  unfold res entering
  rw [proj_at]
  simp only [rms_at]
/-- It is what the run leaves in the result. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = res (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.Reference4Ideal.Value.run (F := Ideal) m ρ

end Cert.Reference4Ideal.In

end
-- ==== Proof.lean ====
module

public import proofs.«01_k».proof.Defs
public import proofs.«01_k».proof.Proof.Twin1
public import proofs.«01_k».proof.Proof.KernelIdeal.Frame
public import proofs.«01_k».proof.Proof.KernelIdeal.Result
public import proofs.«01_k».proof.Proof.ReferenceIdeal.Value
public import proofs.«01_k».proof.Proof.Finite
public import proofs.«01_k».proof.Proof.Twin
public import proofs.«01_k».proof.Proof.Kernel2Ideal.Result
public import proofs.«01_k».proof.Proof.Reference2
public import proofs.«01_k».proof.Proof.Kernel3Ideal.Result
public import proofs.«01_k».proof.Proof.Twin3
public import proofs.«01_k».proof.Proof.Reference3
public import proofs.«01_k».proof.Proof.Kernel4Ideal.Result
public import proofs.«01_k».proof.Proof.Twin4
public import proofs.«01_k».proof.Proof.Reference4
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem

/-- The reference's frame: its run read at the arguments; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's: both are the gated projection of the attention. -/
theorem equal : Cert.algebraic_KernelIdeal_ReferenceIdeal_pre_finite (hKernelIdeal := Cert.KernelIdeal.Gen.facts)
    (hReferenceIdeal := Cert.ReferenceIdeal.Gen.facts) (hPre_finite := Cert.Finite.facts) := by
  intro m ρ m' ρ' hp hargs
  have hq := fun c => letI := Cert.Finite.facts; Cert.Finite.cols _ _ _ _ (hp c)
  have hs := fun c => letI := Cert.Finite.facts; Cert.Finite.sinks _ _ _ _ (hp c)
  refine ⟨fun c => Cert.KernelIdeal.Swa.result m c, Cert.KernelIdeal.Swa.run_value m ρ (fun c => ⟨hq c, hs c⟩), ?_⟩
  refine (θ_run Cert.ReferenceIdeal.defs _ _).mono (fun r h c => ⟨(h c).1.trans ?_, (h c).2⟩) (Cert.ReferenceIdeal.Value.run (F := Ideal) m' ρ')
  rw [Cert.ReferenceIdeal.Swa.res_eq, (hargs c).1, (hargs c).2.1, (hargs c).2.2.1, (hargs c).2.2.2]
  funext y
  obtain ⟨R, k, rfl⟩ : ∃ R k, y = ix2 R k := ⟨y 0, y 1, eq_ix2 y⟩
  exact Cert.ReferenceIdeal.Swa.res_at _ _ _ _ ⟨hq c⟩ (hs c) R k

/-- The squared-ReLU block's reference: its frame. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The squared-ReLU block's result is its reference's: both are the layer. -/
theorem equal2 : Cert.algebraic_Kernel2Ideal_Reference2Ideal (hKernel2Ideal := Cert.Kernel2Ideal.Gen.facts)
    (hReference2Ideal := Cert.Reference2Ideal.Gen.facts) := by
  intro m ρ m' ρ' _ hargs
  refine ⟨fun c => Cert.Kernel2Ideal.Mlp.result m c, Cert.Kernel2Ideal.Mlp.run_value m ρ, ?_⟩
  refine (θ_run Cert.Reference2Ideal.defs _ _).mono (fun r h c => ⟨(h c).1.trans ?_, (h c).2⟩) (Cert.Reference2Ideal.Value.run (F := Ideal) m' ρ')
  rw [Cert.Reference2Ideal.Mlp.res_out_eq, (hargs c).1, (hargs c).2.1, (hargs c).2.2.1, (hargs c).2.2.2.1, (hargs c).2.2.2.2]
  funext y
  obtain ⟨R, k, rfl⟩ : ∃ R k, y = ix2 R k := ⟨y 0, y 1, eq_ix2 y⟩
  exact Cert.Reference2Ideal.Mlp.res_at _ _ _ _ _ R k

/-- The output projection's reference: its frame. -/
theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Out.run m ρ)

/-- The output projection's result is its reference's. -/
theorem equal3 : Cert.algebraic_Kernel3Ideal_Reference3Ideal (hKernel3Ideal := Cert.Kernel3Ideal.Gen.facts)
    (hReference3Ideal := Cert.Reference3Ideal.Gen.facts) := by
  intro m ρ m' ρ' _ hargs
  refine ⟨fun c => Cert.Kernel3Ideal.Out.result m c, Cert.Kernel3Ideal.Out.run_value m ρ, ?_⟩
  refine (θ_run Cert.Reference3Ideal.defs _ _).mono (fun r h c => ⟨(h c).1.trans ?_, (h c).2⟩) (Cert.Reference3Ideal.Out.run m' ρ')
  rw [(hargs c).1, (hargs c).2.1, (hargs c).2.2.1, (hargs c).2.2.2.1, (hargs c).2.2.2.2]
  funext y
  obtain ⟨R, k, rfl⟩ : ∃ R k, y = ix2 R k := ⟨y 0, y 1, eq_ix2 y⟩
  exact Cert.Reference3Ideal.Out.res_at _ _ _ _ _ R k

/-- The normalised input projection's reference: its frame. -/
theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.In.run m ρ)

/-- The normalised input projection's result is its reference's. -/
theorem equal4 : Cert.algebraic_Kernel4Ideal_Reference4Ideal (hKernel4Ideal := Cert.Kernel4Ideal.Gen.facts)
    (hReference4Ideal := Cert.Reference4Ideal.Gen.facts) := by
  intro m ρ m' ρ' _ hargs
  refine ⟨fun c => Cert.Kernel4Ideal.In.result m c, Cert.Kernel4Ideal.In.run_value m ρ, ?_⟩
  refine (θ_run Cert.Reference4Ideal.defs _ _).mono (fun r h c => ⟨(h c).1.trans ?_, (h c).2⟩) (Cert.Reference4Ideal.In.run m' ρ')
  rw [(hargs c).1, (hargs c).2.1, (hargs c).2.2]
  funext y
  obtain ⟨R, k, rfl⟩ : ∃ R k, y = ix2 R k := ⟨y 0, y 1, eq_ix2 y⟩
  exact Cert.Reference4Ideal.In.res_at _ _ _ R k

/-- The certificate's claim. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Finite.facts,
    frame_kernel1,
    fun m ρ _ => Cert.KernelIdeal.Swa.frame m ρ,
    fun m ρ _ => Cert.KernelIdeal.Swa.frame m ρ,
    frame_reference,
    fun m ρ _ => frame_reference m ρ trivial,
    frame_kernel2,
    fun m ρ _ => Cert.Kernel2Ideal.Mlp.frame m ρ,
    frame_reference2,
    frame_kernel3,
    fun m ρ _ => Cert.Kernel3Ideal.Gen.frame m ρ,
    frame_reference3,
    frame_kernel4,
    fun m ρ _ => Cert.Kernel4Ideal.In.frame m ρ,
    frame_reference4,
    ⟨IdealRules.named_const.statement Cert.KernelIdeal.κ "freq_step" .f32 _ _ rfl,
      IdealRules.named_const.statement Cert.KernelIdeal.κ "scale_log2_e" .f32 _ _ rfl,
      IdealRules.named_const.statement Cert.KernelIdeal.κ "masked" .f32 _ _ rfl,
      IdealRules.named_const.statement Cert.KernelIdeal.κ "log2_e" .f32 _ _ rfl⟩,
    equal,
    trivial,
    equal2,
    trivial,
    equal3,
    trivial,
    equal4⟩

end Cert.Proof

end
